-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Reference (m : (ℓ : Loc Cert.Reference.nD Cert.Reference.τ Cert.Reference.sig) → Buf (Elt Bits) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FinalPrompt (m : (ℓ : Loc Cert.FinalPrompt.nD Cert.FinalPrompt.τ Cert.FinalPrompt.sig) → Buf (Elt Bits) ℓ) : Prop :=
  True

def Pre_FinalPromptIdeal (m : (ℓ : Loc Cert.FinalPromptIdeal.nD Cert.FinalPromptIdeal.τ Cert.FinalPromptIdeal.sig) → Buf (Elt Ideal) ℓ) : Prop :=
  True

def Pre_FinalPromptRefIdeal (m : (ℓ : Loc Cert.FinalPromptRefIdeal.nD Cert.FinalPromptRefIdeal.τ Cert.FinalPromptRefIdeal.sig) → Buf (Elt Ideal) ℓ) : Prop :=
  True

def Pre_FinalSample (m : (ℓ : Loc Cert.FinalSample.nD Cert.FinalSample.τ Cert.FinalSample.sig) → Buf (Elt Bits) ℓ) : Prop :=
  True

def Pre_FinalSampleIdeal (m : (ℓ : Loc Cert.FinalSampleIdeal.nD Cert.FinalSampleIdeal.τ Cert.FinalSampleIdeal.sig) → Buf (Elt Ideal) ℓ) : Prop :=
  True

def Pre_FinalSampleRefIdeal (m : (ℓ : Loc Cert.FinalSampleRefIdeal.nD Cert.FinalSampleRefIdeal.τ Cert.FinalSampleRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_InGates (m : (ℓ : Loc Cert.InGates.nD Cert.InGates.τ Cert.InGates.sig) → Buf (Elt Bits) ℓ) : Prop :=
  True

def Pre_InGatesIdeal (m : (ℓ : Loc Cert.InGatesIdeal.nD Cert.InGatesIdeal.τ Cert.InGatesIdeal.sig) → Buf (Elt Ideal) ℓ) : Prop :=
  True

def Pre_InGatesRefIdeal (m : (ℓ : Loc Cert.InGatesRefIdeal.nD Cert.InGatesRefIdeal.τ Cert.InGatesRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_CtxGlob (m : (ℓ : Loc Cert.CtxGlob.nD Cert.CtxGlob.τ Cert.CtxGlob.sig) → Buf (Elt Bits) ℓ) : Prop :=
  True

def Pre_CtxGlobIdeal (m : (ℓ : Loc Cert.CtxGlobIdeal.nD Cert.CtxGlobIdeal.τ Cert.CtxGlobIdeal.sig) → Buf (Elt Ideal) ℓ) : Prop :=
  True

def Pre_CtxGlobIdeal_finite_glob [hPre_finite_glob : Cert.Pre_finite_glob.Facts] (m : (ℓ : Loc Cert.CtxGlobIdeal.nD Cert.CtxGlobIdeal.τ Cert.CtxGlobIdeal.sig) → Buf (Elt Ideal) ℓ) : Prop :=
  ∀ c : Dev Cert.CtxGlobIdeal.nD,
    (Cert.Pre_finite_glob.fn (F := Ideal) (m ((c.tc : Thread Cert.CtxGlobIdeal.nD Cert.CtxGlobIdeal.τ).loc Cert.CtxGlobIdeal.main_arg0)) (m ((c.tc : Thread Cert.CtxGlobIdeal.nD Cert.CtxGlobIdeal.τ).loc Cert.CtxGlobIdeal.main_arg1)) (m ((c.tc : Thread Cert.CtxGlobIdeal.nD Cert.CtxGlobIdeal.τ).loc Cert.CtxGlobIdeal.main_arg2))) = (fun _ => 1#1)

def Pre_CtxGlobRefIdeal (m : (ℓ : Loc Cert.CtxGlobRefIdeal.nD Cert.CtxGlobRefIdeal.τ Cert.CtxGlobRefIdeal.sig) → Buf (Elt Ideal) ℓ) : Prop :=
  True

def Pre_CtxGlobRefIdeal_finite_glob [hPre_finite_glob : Cert.Pre_finite_glob.Facts] (m : (ℓ : Loc Cert.CtxGlobRefIdeal.nD Cert.CtxGlobRefIdeal.τ Cert.CtxGlobRefIdeal.sig) → Buf (Elt Ideal) ℓ) : Prop :=
  ∀ c : Dev Cert.CtxGlobRefIdeal.nD,
    (Cert.Pre_finite_glob.fn (F := Ideal) (m ((c.tc : Thread Cert.CtxGlobRefIdeal.nD Cert.CtxGlobRefIdeal.τ).loc Cert.CtxGlobRefIdeal.main_arg0)) (m ((c.tc : Thread Cert.CtxGlobRefIdeal.nD Cert.CtxGlobRefIdeal.τ).loc Cert.CtxGlobRefIdeal.main_arg1)) (m ((c.tc : Thread Cert.CtxGlobRefIdeal.nD Cert.CtxGlobRefIdeal.τ).loc Cert.CtxGlobRefIdeal.main_arg2))) = (fun _ => 1#1)

def Pre_CtxWin (m : (ℓ : Loc Cert.CtxWin.nD Cert.CtxWin.τ Cert.CtxWin.sig) → Buf (Elt Bits) ℓ) : Prop :=
  True

def Pre_CtxWinIdeal (m : (ℓ : Loc Cert.CtxWinIdeal.nD Cert.CtxWinIdeal.τ Cert.CtxWinIdeal.sig) → Buf (Elt Ideal) ℓ) : Prop :=
  True

def Pre_CtxWinIdeal_finite_win [hPre_finite_win : Cert.Pre_finite_win.Facts] (m : (ℓ : Loc Cert.CtxWinIdeal.nD Cert.CtxWinIdeal.τ Cert.CtxWinIdeal.sig) → Buf (Elt Ideal) ℓ) : Prop :=
  ∀ c : Dev Cert.CtxWinIdeal.nD,
    (Cert.Pre_finite_win.fn (F := Ideal) (m ((c.tc : Thread Cert.CtxWinIdeal.nD Cert.CtxWinIdeal.τ).loc Cert.CtxWinIdeal.main_arg0)) (m ((c.tc : Thread Cert.CtxWinIdeal.nD Cert.CtxWinIdeal.τ).loc Cert.CtxWinIdeal.main_arg1))) = (fun _ => 1#1)

def Pre_CtxWinRefIdeal (m : (ℓ : Loc Cert.CtxWinRefIdeal.nD Cert.CtxWinRefIdeal.τ Cert.CtxWinRefIdeal.sig) → Buf (Elt Ideal) ℓ) : Prop :=
  True

def Pre_CtxWinRefIdeal_finite_win [hPre_finite_win : Cert.Pre_finite_win.Facts] (m : (ℓ : Loc Cert.CtxWinRefIdeal.nD Cert.CtxWinRefIdeal.τ Cert.CtxWinRefIdeal.sig) → Buf (Elt Ideal) ℓ) : Prop :=
  ∀ c : Dev Cert.CtxWinRefIdeal.nD,
    (Cert.Pre_finite_win.fn (F := Ideal) (m ((c.tc : Thread Cert.CtxWinRefIdeal.nD Cert.CtxWinRefIdeal.τ).loc Cert.CtxWinRefIdeal.main_arg0)) (m ((c.tc : Thread Cert.CtxWinRefIdeal.nD Cert.CtxWinRefIdeal.τ).loc Cert.CtxWinRefIdeal.main_arg1))) = (fun _ => 1#1)

def Pre_LatWin (m : (ℓ : Loc Cert.LatWin.nD Cert.LatWin.τ Cert.LatWin.sig) → Buf (Elt Bits) ℓ) : Prop :=
  True

def Pre_LatWinIdeal (m : (ℓ : Loc Cert.LatWinIdeal.nD Cert.LatWinIdeal.τ Cert.LatWinIdeal.sig) → Buf (Elt Ideal) ℓ) : Prop :=
  True

def Pre_LatWinIdeal_finite_lat [hPre_finite_lat : Cert.Pre_finite_lat.Facts] (m : (ℓ : Loc Cert.LatWinIdeal.nD Cert.LatWinIdeal.τ Cert.LatWinIdeal.sig) → Buf (Elt Ideal) ℓ) : Prop :=
  ∀ c : Dev Cert.LatWinIdeal.nD,
    (Cert.Pre_finite_lat.fn (F := Ideal) (m ((c.tc : Thread Cert.LatWinIdeal.nD Cert.LatWinIdeal.τ).loc Cert.LatWinIdeal.main_arg0)) (m ((c.tc : Thread Cert.LatWinIdeal.nD Cert.LatWinIdeal.τ).loc Cert.LatWinIdeal.main_arg1)) (m ((c.tc : Thread Cert.LatWinIdeal.nD Cert.LatWinIdeal.τ).loc Cert.LatWinIdeal.main_arg2)) (m ((c.tc : Thread Cert.LatWinIdeal.nD Cert.LatWinIdeal.τ).loc Cert.LatWinIdeal.main_arg3)) (m ((c.tc : Thread Cert.LatWinIdeal.nD Cert.LatWinIdeal.τ).loc Cert.LatWinIdeal.main_arg4)) (m ((c.tc : Thread Cert.LatWinIdeal.nD Cert.LatWinIdeal.τ).loc Cert.LatWinIdeal.main_arg5)) (m ((c.tc : Thread Cert.LatWinIdeal.nD Cert.LatWinIdeal.τ).loc Cert.LatWinIdeal.main_arg6))) = (fun _ => 1#1)

def Pre_LatWinRefIdeal (m : (ℓ : Loc Cert.LatWinRefIdeal.nD Cert.LatWinRefIdeal.τ Cert.LatWinRefIdeal.sig) → Buf (Elt Ideal) ℓ) : Prop :=
  True

def Pre_LatWinRefIdeal_finite_lat [hPre_finite_lat : Cert.Pre_finite_lat.Facts] (m : (ℓ : Loc Cert.LatWinRefIdeal.nD Cert.LatWinRefIdeal.τ Cert.LatWinRefIdeal.sig) → Buf (Elt Ideal) ℓ) : Prop :=
  ∀ c : Dev Cert.LatWinRefIdeal.nD,
    (Cert.Pre_finite_lat.fn (F := Ideal) (m ((c.tc : Thread Cert.LatWinRefIdeal.nD Cert.LatWinRefIdeal.τ).loc Cert.LatWinRefIdeal.main_arg0)) (m ((c.tc : Thread Cert.LatWinRefIdeal.nD Cert.LatWinRefIdeal.τ).loc Cert.LatWinRefIdeal.main_arg1)) (m ((c.tc : Thread Cert.LatWinRefIdeal.nD Cert.LatWinRefIdeal.τ).loc Cert.LatWinRefIdeal.main_arg2)) (m ((c.tc : Thread Cert.LatWinRefIdeal.nD Cert.LatWinRefIdeal.τ).loc Cert.LatWinRefIdeal.main_arg3)) (m ((c.tc : Thread Cert.LatWinRefIdeal.nD Cert.LatWinRefIdeal.τ).loc Cert.LatWinRefIdeal.main_arg4)) (m ((c.tc : Thread Cert.LatWinRefIdeal.nD Cert.LatWinRefIdeal.τ).loc Cert.LatWinRefIdeal.main_arg5)) (m ((c.tc : Thread Cert.LatWinRefIdeal.nD Cert.LatWinRefIdeal.τ).loc Cert.LatWinRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_FinalPrompt [hFinalPrompt : Cert.FinalPrompt.Facts] : Prop :=
  ∀ (m : (ℓ : Loc Cert.FinalPrompt.nD Cert.FinalPrompt.τ Cert.FinalPrompt.sig) → Buf (Elt Bits) ℓ) (g : Dev Cert.FinalPrompt.nD → PrngReg), Pre_FinalPrompt m →
    θ_run (Cert.FinalPrompt.defs (F := Bits)) (onTc (τ := Cert.FinalPrompt.τ) (Cert.FinalPrompt.main (F := Bits))) ⟨m, fun _ => 0, g⟩ (fun r => (∀ c : Dev Cert.FinalPrompt.nD,
      r.2.mem ((c.tc : Thread Cert.FinalPrompt.nD Cert.FinalPrompt.τ).loc Cert.FinalPrompt.main_arg0) = m ((c.tc : Thread Cert.FinalPrompt.nD Cert.FinalPrompt.τ).loc Cert.FinalPrompt.main_arg0)
      ∧ r.2.mem ((c.tc : Thread Cert.FinalPrompt.nD Cert.FinalPrompt.τ).loc Cert.FinalPrompt.main_arg1) = m ((c.tc : Thread Cert.FinalPrompt.nD Cert.FinalPrompt.τ).loc Cert.FinalPrompt.main_arg1))
      ∧ r.2.sem = fun _ => 0)

def quiescent_FinalPromptIdeal [hFinalPromptIdeal : Cert.FinalPromptIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg), Pre_FinalPromptIdeal m →
    θ_run (Cert.FinalPromptIdeal.defs (F := Ideal)) (onTc (τ := Cert.FinalPromptIdeal.τ) (Cert.FinalPromptIdeal.main (F := Ideal))) ⟨m, fun _ => 0, g⟩ (fun r => (∀ c : Dev Cert.FinalPromptIdeal.nD,
      r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
      ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1))
      ∧ r.2.sem = fun _ => 0)

def quiescent_FinalPromptRefIdeal [hFinalPromptRefIdeal : Cert.FinalPromptRefIdeal.Facts] : Prop :=
  ∀ (m : (ℓ : Loc Cert.FinalPromptRefIdeal.nD Cert.FinalPromptRefIdeal.τ Cert.FinalPromptRefIdeal.sig) → Buf (Elt Ideal) ℓ) (g : Dev Cert.FinalPromptRefIdeal.nD → PrngReg), Pre_FinalPromptRefIdeal m →
    θ_run (Cert.FinalPromptRefIdeal.defs (F := Ideal)) (onTc (τ := Cert.FinalPromptRefIdeal.τ) (Cert.FinalPromptRefIdeal.main (F := Ideal))) ⟨m, fun _ => 0, g⟩ (fun r => (∀ c : Dev Cert.FinalPromptRefIdeal.nD,
      r.2.mem ((c.tc : Thread Cert.FinalPromptRefIdeal.nD Cert.FinalPromptRefIdeal.τ).loc Cert.FinalPromptRefIdeal.main_arg0) = m ((c.tc : Thread Cert.FinalPromptRefIdeal.nD Cert.FinalPromptRefIdeal.τ).loc Cert.FinalPromptRefIdeal.main_arg0)
      ∧ r.2.mem ((c.tc : Thread Cert.FinalPromptRefIdeal.nD Cert.FinalPromptRefIdeal.τ).loc Cert.FinalPromptRefIdeal.main_arg1) = m ((c.tc : Thread Cert.FinalPromptRefIdeal.nD Cert.FinalPromptRefIdeal.τ).loc Cert.FinalPromptRefIdeal.main_arg1))
      ∧ r.2.sem = fun _ => 0)

def quiescent_FinalSample [hFinalSample : Cert.FinalSample.Facts] : Prop :=
  ∀ (m : (ℓ : Loc Cert.FinalSample.nD Cert.FinalSample.τ Cert.FinalSample.sig) → Buf (Elt Bits) ℓ) (g : Dev Cert.FinalSample.nD → PrngReg), Pre_FinalSample m →
    θ_run (Cert.FinalSample.defs (F := Bits)) (onTc (τ := Cert.FinalSample.τ) (Cert.FinalSample.main (F := Bits))) ⟨m, fun _ => 0, g⟩ (fun r => (∀ c : Dev Cert.FinalSample.nD,
      r.2.mem ((c.tc : Thread Cert.FinalSample.nD Cert.FinalSample.τ).loc Cert.FinalSample.main_arg0) = m ((c.tc : Thread Cert.FinalSample.nD Cert.FinalSample.τ).loc Cert.FinalSample.main_arg0)
      ∧ r.2.mem ((c.tc : Thread Cert.FinalSample.nD Cert.FinalSample.τ).loc Cert.FinalSample.main_arg1) = m ((c.tc : Thread Cert.FinalSample.nD Cert.FinalSample.τ).loc Cert.FinalSample.main_arg1))
      ∧ r.2.sem = fun _ => 0)

def quiescent_FinalSampleIdeal [hFinalSampleIdeal : Cert.FinalSampleIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg), Pre_FinalSampleIdeal m →
    θ_run (Cert.FinalSampleIdeal.defs (F := Ideal)) (onTc (τ := Cert.FinalSampleIdeal.τ) (Cert.FinalSampleIdeal.main (F := Ideal))) ⟨m, fun _ => 0, g⟩ (fun r => (∀ c : Dev Cert.FinalSampleIdeal.nD,
      r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
      ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1))
      ∧ r.2.sem = fun _ => 0)

def quiescent_FinalSampleRefIdeal [hFinalSampleRefIdeal : Cert.FinalSampleRefIdeal.Facts] : Prop :=
  ∀ (m : (ℓ : Loc Cert.FinalSampleRefIdeal.nD Cert.FinalSampleRefIdeal.τ Cert.FinalSampleRefIdeal.sig) → Buf (Elt Ideal) ℓ) (g : Dev Cert.FinalSampleRefIdeal.nD → PrngReg), Pre_FinalSampleRefIdeal m →
    θ_run (Cert.FinalSampleRefIdeal.defs (F := Ideal)) (onTc (τ := Cert.FinalSampleRefIdeal.τ) (Cert.FinalSampleRefIdeal.main (F := Ideal))) ⟨m, fun _ => 0, g⟩ (fun r => (∀ c : Dev Cert.FinalSampleRefIdeal.nD,
      r.2.mem ((c.tc : Thread Cert.FinalSampleRefIdeal.nD Cert.FinalSampleRefIdeal.τ).loc Cert.FinalSampleRefIdeal.main_arg0) = m ((c.tc : Thread Cert.FinalSampleRefIdeal.nD Cert.FinalSampleRefIdeal.τ).loc Cert.FinalSampleRefIdeal.main_arg0)
      ∧ r.2.mem ((c.tc : Thread Cert.FinalSampleRefIdeal.nD Cert.FinalSampleRefIdeal.τ).loc Cert.FinalSampleRefIdeal.main_arg1) = m ((c.tc : Thread Cert.FinalSampleRefIdeal.nD Cert.FinalSampleRefIdeal.τ).loc Cert.FinalSampleRefIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def quiescent_InGates [hInGates : Cert.InGates.Facts] : Prop :=
  ∀ (m : (ℓ : Loc Cert.InGates.nD Cert.InGates.τ Cert.InGates.sig) → Buf (Elt Bits) ℓ) (g : Dev Cert.InGates.nD → PrngReg), Pre_InGates m →
    θ_run (Cert.InGates.defs (F := Bits)) (onTc (τ := Cert.InGates.τ) (Cert.InGates.main (F := Bits))) ⟨m, fun _ => 0, g⟩ (fun r => (∀ c : Dev Cert.InGates.nD,
      r.2.mem ((c.tc : Thread Cert.InGates.nD Cert.InGates.τ).loc Cert.InGates.main_arg0) = m ((c.tc : Thread Cert.InGates.nD Cert.InGates.τ).loc Cert.InGates.main_arg0)
      ∧ r.2.mem ((c.tc : Thread Cert.InGates.nD Cert.InGates.τ).loc Cert.InGates.main_arg1) = m ((c.tc : Thread Cert.InGates.nD Cert.InGates.τ).loc Cert.InGates.main_arg1))
      ∧ r.2.sem = fun _ => 0)

def quiescent_InGatesIdeal [hInGatesIdeal : Cert.InGatesIdeal.Facts] : Prop :=
  ∀ (m : (ℓ : Loc Cert.InGatesIdeal.nD Cert.InGatesIdeal.τ Cert.InGatesIdeal.sig) → Buf (Elt Ideal) ℓ) (g : Dev Cert.InGatesIdeal.nD → PrngReg), Pre_InGatesIdeal m →
    θ_run (Cert.InGatesIdeal.defs (F := Ideal)) (onTc (τ := Cert.InGatesIdeal.τ) (Cert.InGatesIdeal.main (F := Ideal))) ⟨m, fun _ => 0, g⟩ (fun r => (∀ c : Dev Cert.InGatesIdeal.nD,
      r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
      ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ r.2.sem = fun _ => 0)

def quiescent_InGatesRefIdeal [hInGatesRefIdeal : Cert.InGatesRefIdeal.Facts] : Prop :=
  ∀ (m : (ℓ : Loc Cert.InGatesRefIdeal.nD Cert.InGatesRefIdeal.τ Cert.InGatesRefIdeal.sig) → Buf (Elt Ideal) ℓ) (g : Dev Cert.InGatesRefIdeal.nD → PrngReg), Pre_InGatesRefIdeal m →
    θ_run (Cert.InGatesRefIdeal.defs (F := Ideal)) (onTc (τ := Cert.InGatesRefIdeal.τ) (Cert.InGatesRefIdeal.main (F := Ideal))) ⟨m, fun _ => 0, g⟩ (fun r => (∀ c : Dev Cert.InGatesRefIdeal.nD,
      r.2.mem ((c.tc : Thread Cert.InGatesRefIdeal.nD Cert.InGatesRefIdeal.τ).loc Cert.InGatesRefIdeal.main_arg0) = m ((c.tc : Thread Cert.InGatesRefIdeal.nD Cert.InGatesRefIdeal.τ).loc Cert.InGatesRefIdeal.main_arg0)
      ∧ r.2.mem ((c.tc : Thread Cert.InGatesRefIdeal.nD Cert.InGatesRefIdeal.τ).loc Cert.InGatesRefIdeal.main_arg1) = m ((c.tc : Thread Cert.InGatesRefIdeal.nD Cert.InGatesRefIdeal.τ).loc Cert.InGatesRefIdeal.main_arg1))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2)
      ∧ r.2.mem ((c.tc : Thread Cert.ModulationRefIdeal.nD Cert.ModulationRefIdeal.τ).loc Cert.ModulationRefIdeal.main_arg3) = m ((c.tc : Thread Cert.ModulationRefIdeal.nD Cert.ModulationRefIdeal.τ).loc Cert.ModulationRefIdeal.main_arg3))
      ∧ r.2.sem = fun _ => 0)

def quiescent_CtxGlob [hCtxGlob : Cert.CtxGlob.Facts] : Prop :=
  ∀ (m : (ℓ : Loc Cert.CtxGlob.nD Cert.CtxGlob.τ Cert.CtxGlob.sig) → Buf (Elt Bits) ℓ) (g : Dev Cert.CtxGlob.nD → PrngReg), Pre_CtxGlob m →
    θ_run (Cert.CtxGlob.defs (F := Bits)) (onTc (τ := Cert.CtxGlob.τ) (Cert.CtxGlob.main (F := Bits))) ⟨m, fun _ => 0, g⟩ (fun r => (∀ c : Dev Cert.CtxGlob.nD,
      r.2.mem ((c.tc : Thread Cert.CtxGlob.nD Cert.CtxGlob.τ).loc Cert.CtxGlob.main_arg0) = m ((c.tc : Thread Cert.CtxGlob.nD Cert.CtxGlob.τ).loc Cert.CtxGlob.main_arg0)
      ∧ r.2.mem ((c.tc : Thread Cert.CtxGlob.nD Cert.CtxGlob.τ).loc Cert.CtxGlob.main_arg1) = m ((c.tc : Thread Cert.CtxGlob.nD Cert.CtxGlob.τ).loc Cert.CtxGlob.main_arg1)
      ∧ r.2.mem ((c.tc : Thread Cert.CtxGlob.nD Cert.CtxGlob.τ).loc Cert.CtxGlob.main_arg2) = m ((c.tc : Thread Cert.CtxGlob.nD Cert.CtxGlob.τ).loc Cert.CtxGlob.main_arg2))
      ∧ r.2.sem = fun _ => 0)

def quiescent_CtxGlobIdeal [hCtxGlobIdeal : Cert.CtxGlobIdeal.Facts] : Prop :=
  ∀ (m : (ℓ : Loc Cert.CtxGlobIdeal.nD Cert.CtxGlobIdeal.τ Cert.CtxGlobIdeal.sig) → Buf (Elt Ideal) ℓ) (g : Dev Cert.CtxGlobIdeal.nD → PrngReg), Pre_CtxGlobIdeal m →
    θ_run (Cert.CtxGlobIdeal.defs (F := Ideal)) (onTc (τ := Cert.CtxGlobIdeal.τ) (Cert.CtxGlobIdeal.main (F := Ideal))) ⟨m, fun _ => 0, g⟩ (fun r => (∀ c : Dev Cert.CtxGlobIdeal.nD,
      r.2.mem ((c.tc : Thread Cert.CtxGlobIdeal.nD Cert.CtxGlobIdeal.τ).loc Cert.CtxGlobIdeal.main_arg0) = m ((c.tc : Thread Cert.CtxGlobIdeal.nD Cert.CtxGlobIdeal.τ).loc Cert.CtxGlobIdeal.main_arg0)
      ∧ r.2.mem ((c.tc : Thread Cert.CtxGlobIdeal.nD Cert.CtxGlobIdeal.τ).loc Cert.CtxGlobIdeal.main_arg1) = m ((c.tc : Thread Cert.CtxGlobIdeal.nD Cert.CtxGlobIdeal.τ).loc Cert.CtxGlobIdeal.main_arg1)
      ∧ r.2.mem ((c.tc : Thread Cert.CtxGlobIdeal.nD Cert.CtxGlobIdeal.τ).loc Cert.CtxGlobIdeal.main_arg2) = m ((c.tc : Thread Cert.CtxGlobIdeal.nD Cert.CtxGlobIdeal.τ).loc Cert.CtxGlobIdeal.main_arg2))
      ∧ r.2.sem = fun _ => 0)

def quiescent_CtxGlobIdeal_pre_finite_glob [hCtxGlobIdeal : Cert.CtxGlobIdeal.Facts] [hPre_finite_glob : Cert.Pre_finite_glob.Facts] : Prop :=
  ∀ (m : (ℓ : Loc Cert.CtxGlobIdeal.nD Cert.CtxGlobIdeal.τ Cert.CtxGlobIdeal.sig) → Buf (Elt Ideal) ℓ) (g : Dev Cert.CtxGlobIdeal.nD → PrngReg), Pre_CtxGlobIdeal_finite_glob m →
    θ_run (Cert.CtxGlobIdeal.defs (F := Ideal)) (onTc (τ := Cert.CtxGlobIdeal.τ) (Cert.CtxGlobIdeal.main (F := Ideal))) ⟨m, fun _ => 0, g⟩ (fun r => (∀ c : Dev Cert.CtxGlobIdeal.nD,
      r.2.mem ((c.tc : Thread Cert.CtxGlobIdeal.nD Cert.CtxGlobIdeal.τ).loc Cert.CtxGlobIdeal.main_arg0) = m ((c.tc : Thread Cert.CtxGlobIdeal.nD Cert.CtxGlobIdeal.τ).loc Cert.CtxGlobIdeal.main_arg0)
      ∧ r.2.mem ((c.tc : Thread Cert.CtxGlobIdeal.nD Cert.CtxGlobIdeal.τ).loc Cert.CtxGlobIdeal.main_arg1) = m ((c.tc : Thread Cert.CtxGlobIdeal.nD Cert.CtxGlobIdeal.τ).loc Cert.CtxGlobIdeal.main_arg1)
      ∧ r.2.mem ((c.tc : Thread Cert.CtxGlobIdeal.nD Cert.CtxGlobIdeal.τ).loc Cert.CtxGlobIdeal.main_arg2) = m ((c.tc : Thread Cert.CtxGlobIdeal.nD Cert.CtxGlobIdeal.τ).loc Cert.CtxGlobIdeal.main_arg2))
      ∧ r.2.sem = fun _ => 0)

def quiescent_CtxGlobRefIdeal [hCtxGlobRefIdeal : Cert.CtxGlobRefIdeal.Facts] : Prop :=
  ∀ (m : (ℓ : Loc Cert.CtxGlobRefIdeal.nD Cert.CtxGlobRefIdeal.τ Cert.CtxGlobRefIdeal.sig) → Buf (Elt Ideal) ℓ) (g : Dev Cert.CtxGlobRefIdeal.nD → PrngReg), Pre_CtxGlobRefIdeal m →
    θ_run (Cert.CtxGlobRefIdeal.defs (F := Ideal)) (onTc (τ := Cert.CtxGlobRefIdeal.τ) (Cert.CtxGlobRefIdeal.main (F := Ideal))) ⟨m, fun _ => 0, g⟩ (fun r => (∀ c : Dev Cert.CtxGlobRefIdeal.nD,
      r.2.mem ((c.tc : Thread Cert.CtxGlobRefIdeal.nD Cert.CtxGlobRefIdeal.τ).loc Cert.CtxGlobRefIdeal.main_arg0) = m ((c.tc : Thread Cert.CtxGlobRefIdeal.nD Cert.CtxGlobRefIdeal.τ).loc Cert.CtxGlobRefIdeal.main_arg0)
      ∧ r.2.mem ((c.tc : Thread Cert.CtxGlobRefIdeal.nD Cert.CtxGlobRefIdeal.τ).loc Cert.CtxGlobRefIdeal.main_arg1) = m ((c.tc : Thread Cert.CtxGlobRefIdeal.nD Cert.CtxGlobRefIdeal.τ).loc Cert.CtxGlobRefIdeal.main_arg1)
      ∧ r.2.mem ((c.tc : Thread Cert.CtxGlobRefIdeal.nD Cert.CtxGlobRefIdeal.τ).loc Cert.CtxGlobRefIdeal.main_arg2) = m ((c.tc : Thread Cert.CtxGlobRefIdeal.nD Cert.CtxGlobRefIdeal.τ).loc Cert.CtxGlobRefIdeal.main_arg2))
      ∧ r.2.sem = fun _ => 0)

def quiescent_CtxGlobRefIdeal_pre_finite_glob [hCtxGlobRefIdeal : Cert.CtxGlobRefIdeal.Facts] [hPre_finite_glob : Cert.Pre_finite_glob.Facts] : Prop :=
  ∀ (m : (ℓ : Loc Cert.CtxGlobRefIdeal.nD Cert.CtxGlobRefIdeal.τ Cert.CtxGlobRefIdeal.sig) → Buf (Elt Ideal) ℓ) (g : Dev Cert.CtxGlobRefIdeal.nD → PrngReg), Pre_CtxGlobRefIdeal_finite_glob m →
    θ_run (Cert.CtxGlobRefIdeal.defs (F := Ideal)) (onTc (τ := Cert.CtxGlobRefIdeal.τ) (Cert.CtxGlobRefIdeal.main (F := Ideal))) ⟨m, fun _ => 0, g⟩ (fun r => (∀ c : Dev Cert.CtxGlobRefIdeal.nD,
      r.2.mem ((c.tc : Thread Cert.CtxGlobRefIdeal.nD Cert.CtxGlobRefIdeal.τ).loc Cert.CtxGlobRefIdeal.main_arg0) = m ((c.tc : Thread Cert.CtxGlobRefIdeal.nD Cert.CtxGlobRefIdeal.τ).loc Cert.CtxGlobRefIdeal.main_arg0)
      ∧ r.2.mem ((c.tc : Thread Cert.CtxGlobRefIdeal.nD Cert.CtxGlobRefIdeal.τ).loc Cert.CtxGlobRefIdeal.main_arg1) = m ((c.tc : Thread Cert.CtxGlobRefIdeal.nD Cert.CtxGlobRefIdeal.τ).loc Cert.CtxGlobRefIdeal.main_arg1)
      ∧ r.2.mem ((c.tc : Thread Cert.CtxGlobRefIdeal.nD Cert.CtxGlobRefIdeal.τ).loc Cert.CtxGlobRefIdeal.main_arg2) = m ((c.tc : Thread Cert.CtxGlobRefIdeal.nD Cert.CtxGlobRefIdeal.τ).loc Cert.CtxGlobRefIdeal.main_arg2))
      ∧ r.2.sem = fun _ => 0)

def quiescent_CtxWin [hCtxWin : Cert.CtxWin.Facts] : Prop :=
  ∀ (m : (ℓ : Loc Cert.CtxWin.nD Cert.CtxWin.τ Cert.CtxWin.sig) → Buf (Elt Bits) ℓ) (g : Dev Cert.CtxWin.nD → PrngReg), Pre_CtxWin m →
    θ_run (Cert.CtxWin.defs (F := Bits)) (onTc (τ := Cert.CtxWin.τ) (Cert.CtxWin.main (F := Bits))) ⟨m, fun _ => 0, g⟩ (fun r => (∀ c : Dev Cert.CtxWin.nD,
      r.2.mem ((c.tc : Thread Cert.CtxWin.nD Cert.CtxWin.τ).loc Cert.CtxWin.main_arg0) = m ((c.tc : Thread Cert.CtxWin.nD Cert.CtxWin.τ).loc Cert.CtxWin.main_arg0)
      ∧ r.2.mem ((c.tc : Thread Cert.CtxWin.nD Cert.CtxWin.τ).loc Cert.CtxWin.main_arg1) = m ((c.tc : Thread Cert.CtxWin.nD Cert.CtxWin.τ).loc Cert.CtxWin.main_arg1))
      ∧ r.2.sem = fun _ => 0)

def quiescent_CtxWinIdeal [hCtxWinIdeal : Cert.CtxWinIdeal.Facts] : Prop :=
  ∀ (m : (ℓ : Loc Cert.CtxWinIdeal.nD Cert.CtxWinIdeal.τ Cert.CtxWinIdeal.sig) → Buf (Elt Ideal) ℓ) (g : Dev Cert.CtxWinIdeal.nD → PrngReg), Pre_CtxWinIdeal m →
    θ_run (Cert.CtxWinIdeal.defs (F := Ideal)) (onTc (τ := Cert.CtxWinIdeal.τ) (Cert.CtxWinIdeal.main (F := Ideal))) ⟨m, fun _ => 0, g⟩ (fun r => (∀ c : Dev Cert.CtxWinIdeal.nD,
      r.2.mem ((c.tc : Thread Cert.CtxWinIdeal.nD Cert.CtxWinIdeal.τ).loc Cert.CtxWinIdeal.main_arg0) = m ((c.tc : Thread Cert.CtxWinIdeal.nD Cert.CtxWinIdeal.τ).loc Cert.CtxWinIdeal.main_arg0)
      ∧ r.2.mem ((c.tc : Thread Cert.CtxWinIdeal.nD Cert.CtxWinIdeal.τ).loc Cert.CtxWinIdeal.main_arg1) = m ((c.tc : Thread Cert.CtxWinIdeal.nD Cert.CtxWinIdeal.τ).loc Cert.CtxWinIdeal.main_arg1))
      ∧ r.2.sem = fun _ => 0)

def quiescent_CtxWinIdeal_pre_finite_win [hCtxWinIdeal : Cert.CtxWinIdeal.Facts] [hPre_finite_win : Cert.Pre_finite_win.Facts] : Prop :=
  ∀ (m : (ℓ : Loc Cert.CtxWinIdeal.nD Cert.CtxWinIdeal.τ Cert.CtxWinIdeal.sig) → Buf (Elt Ideal) ℓ) (g : Dev Cert.CtxWinIdeal.nD → PrngReg), Pre_CtxWinIdeal_finite_win m →
    θ_run (Cert.CtxWinIdeal.defs (F := Ideal)) (onTc (τ := Cert.CtxWinIdeal.τ) (Cert.CtxWinIdeal.main (F := Ideal))) ⟨m, fun _ => 0, g⟩ (fun r => (∀ c : Dev Cert.CtxWinIdeal.nD,
      r.2.mem ((c.tc : Thread Cert.CtxWinIdeal.nD Cert.CtxWinIdeal.τ).loc Cert.CtxWinIdeal.main_arg0) = m ((c.tc : Thread Cert.CtxWinIdeal.nD Cert.CtxWinIdeal.τ).loc Cert.CtxWinIdeal.main_arg0)
      ∧ r.2.mem ((c.tc : Thread Cert.CtxWinIdeal.nD Cert.CtxWinIdeal.τ).loc Cert.CtxWinIdeal.main_arg1) = m ((c.tc : Thread Cert.CtxWinIdeal.nD Cert.CtxWinIdeal.τ).loc Cert.CtxWinIdeal.main_arg1))
      ∧ r.2.sem = fun _ => 0)

def quiescent_CtxWinRefIdeal [hCtxWinRefIdeal : Cert.CtxWinRefIdeal.Facts] : Prop :=
  ∀ (m : (ℓ : Loc Cert.CtxWinRefIdeal.nD Cert.CtxWinRefIdeal.τ Cert.CtxWinRefIdeal.sig) → Buf (Elt Ideal) ℓ) (g : Dev Cert.CtxWinRefIdeal.nD → PrngReg), Pre_CtxWinRefIdeal m →
    θ_run (Cert.CtxWinRefIdeal.defs (F := Ideal)) (onTc (τ := Cert.CtxWinRefIdeal.τ) (Cert.CtxWinRefIdeal.main (F := Ideal))) ⟨m, fun _ => 0, g⟩ (fun r => (∀ c : Dev Cert.CtxWinRefIdeal.nD,
      r.2.mem ((c.tc : Thread Cert.CtxWinRefIdeal.nD Cert.CtxWinRefIdeal.τ).loc Cert.CtxWinRefIdeal.main_arg0) = m ((c.tc : Thread Cert.CtxWinRefIdeal.nD Cert.CtxWinRefIdeal.τ).loc Cert.CtxWinRefIdeal.main_arg0)
      ∧ r.2.mem ((c.tc : Thread Cert.CtxWinRefIdeal.nD Cert.CtxWinRefIdeal.τ).loc Cert.CtxWinRefIdeal.main_arg1) = m ((c.tc : Thread Cert.CtxWinRefIdeal.nD Cert.CtxWinRefIdeal.τ).loc Cert.CtxWinRefIdeal.main_arg1))
      ∧ r.2.sem = fun _ => 0)

def quiescent_CtxWinRefIdeal_pre_finite_win [hCtxWinRefIdeal : Cert.CtxWinRefIdeal.Facts] [hPre_finite_win : Cert.Pre_finite_win.Facts] : Prop :=
  ∀ (m : (ℓ : Loc Cert.CtxWinRefIdeal.nD Cert.CtxWinRefIdeal.τ Cert.CtxWinRefIdeal.sig) → Buf (Elt Ideal) ℓ) (g : Dev Cert.CtxWinRefIdeal.nD → PrngReg), Pre_CtxWinRefIdeal_finite_win m →
    θ_run (Cert.CtxWinRefIdeal.defs (F := Ideal)) (onTc (τ := Cert.CtxWinRefIdeal.τ) (Cert.CtxWinRefIdeal.main (F := Ideal))) ⟨m, fun _ => 0, g⟩ (fun r => (∀ c : Dev Cert.CtxWinRefIdeal.nD,
      r.2.mem ((c.tc : Thread Cert.CtxWinRefIdeal.nD Cert.CtxWinRefIdeal.τ).loc Cert.CtxWinRefIdeal.main_arg0) = m ((c.tc : Thread Cert.CtxWinRefIdeal.nD Cert.CtxWinRefIdeal.τ).loc Cert.CtxWinRefIdeal.main_arg0)
      ∧ r.2.mem ((c.tc : Thread Cert.CtxWinRefIdeal.nD Cert.CtxWinRefIdeal.τ).loc Cert.CtxWinRefIdeal.main_arg1) = m ((c.tc : Thread Cert.CtxWinRefIdeal.nD Cert.CtxWinRefIdeal.τ).loc Cert.CtxWinRefIdeal.main_arg1))
      ∧ r.2.sem = fun _ => 0)

def quiescent_LatWin [hLatWin : Cert.LatWin.Facts] : Prop :=
  ∀ (m : (ℓ : Loc Cert.LatWin.nD Cert.LatWin.τ Cert.LatWin.sig) → Buf (Elt Bits) ℓ) (g : Dev Cert.LatWin.nD → PrngReg), Pre_LatWin m →
    θ_run (Cert.LatWin.defs (F := Bits)) (onTc (τ := Cert.LatWin.τ) (Cert.LatWin.main (F := Bits))) ⟨m, fun _ => 0, g⟩ (fun r => (∀ c : Dev Cert.LatWin.nD,
      r.2.mem ((c.tc : Thread Cert.LatWin.nD Cert.LatWin.τ).loc Cert.LatWin.main_arg0) = m ((c.tc : Thread Cert.LatWin.nD Cert.LatWin.τ).loc Cert.LatWin.main_arg0)
      ∧ r.2.mem ((c.tc : Thread Cert.LatWin.nD Cert.LatWin.τ).loc Cert.LatWin.main_arg1) = m ((c.tc : Thread Cert.LatWin.nD Cert.LatWin.τ).loc Cert.LatWin.main_arg1)
      ∧ r.2.mem ((c.tc : Thread Cert.LatWin.nD Cert.LatWin.τ).loc Cert.LatWin.main_arg2) = m ((c.tc : Thread Cert.LatWin.nD Cert.LatWin.τ).loc Cert.LatWin.main_arg2)
      ∧ r.2.mem ((c.tc : Thread Cert.LatWin.nD Cert.LatWin.τ).loc Cert.LatWin.main_arg3) = m ((c.tc : Thread Cert.LatWin.nD Cert.LatWin.τ).loc Cert.LatWin.main_arg3)
      ∧ r.2.mem ((c.tc : Thread Cert.LatWin.nD Cert.LatWin.τ).loc Cert.LatWin.main_arg4) = m ((c.tc : Thread Cert.LatWin.nD Cert.LatWin.τ).loc Cert.LatWin.main_arg4)
      ∧ r.2.mem ((c.tc : Thread Cert.LatWin.nD Cert.LatWin.τ).loc Cert.LatWin.main_arg5) = m ((c.tc : Thread Cert.LatWin.nD Cert.LatWin.τ).loc Cert.LatWin.main_arg5)
      ∧ r.2.mem ((c.tc : Thread Cert.LatWin.nD Cert.LatWin.τ).loc Cert.LatWin.main_arg6) = m ((c.tc : Thread Cert.LatWin.nD Cert.LatWin.τ).loc Cert.LatWin.main_arg6))
      ∧ r.2.sem = fun _ => 0)

def quiescent_LatWinIdeal [hLatWinIdeal : Cert.LatWinIdeal.Facts] : Prop :=
  ∀ (m : (ℓ : Loc Cert.LatWinIdeal.nD Cert.LatWinIdeal.τ Cert.LatWinIdeal.sig) → Buf (Elt Ideal) ℓ) (g : Dev Cert.LatWinIdeal.nD → PrngReg), Pre_LatWinIdeal m →
    θ_run (Cert.LatWinIdeal.defs (F := Ideal)) (onTc (τ := Cert.LatWinIdeal.τ) (Cert.LatWinIdeal.main (F := Ideal))) ⟨m, fun _ => 0, g⟩ (fun r => (∀ c : Dev Cert.LatWinIdeal.nD,
      r.2.mem ((c.tc : Thread Cert.LatWinIdeal.nD Cert.LatWinIdeal.τ).loc Cert.LatWinIdeal.main_arg0) = m ((c.tc : Thread Cert.LatWinIdeal.nD Cert.LatWinIdeal.τ).loc Cert.LatWinIdeal.main_arg0)
      ∧ r.2.mem ((c.tc : Thread Cert.LatWinIdeal.nD Cert.LatWinIdeal.τ).loc Cert.LatWinIdeal.main_arg1) = m ((c.tc : Thread Cert.LatWinIdeal.nD Cert.LatWinIdeal.τ).loc Cert.LatWinIdeal.main_arg1)
      ∧ r.2.mem ((c.tc : Thread Cert.LatWinIdeal.nD Cert.LatWinIdeal.τ).loc Cert.LatWinIdeal.main_arg2) = m ((c.tc : Thread Cert.LatWinIdeal.nD Cert.LatWinIdeal.τ).loc Cert.LatWinIdeal.main_arg2)
      ∧ r.2.mem ((c.tc : Thread Cert.LatWinIdeal.nD Cert.LatWinIdeal.τ).loc Cert.LatWinIdeal.main_arg3) = m ((c.tc : Thread Cert.LatWinIdeal.nD Cert.LatWinIdeal.τ).loc Cert.LatWinIdeal.main_arg3)
      ∧ r.2.mem ((c.tc : Thread Cert.LatWinIdeal.nD Cert.LatWinIdeal.τ).loc Cert.LatWinIdeal.main_arg4) = m ((c.tc : Thread Cert.LatWinIdeal.nD Cert.LatWinIdeal.τ).loc Cert.LatWinIdeal.main_arg4)
      ∧ r.2.mem ((c.tc : Thread Cert.LatWinIdeal.nD Cert.LatWinIdeal.τ).loc Cert.LatWinIdeal.main_arg5) = m ((c.tc : Thread Cert.LatWinIdeal.nD Cert.LatWinIdeal.τ).loc Cert.LatWinIdeal.main_arg5)
      ∧ r.2.mem ((c.tc : Thread Cert.LatWinIdeal.nD Cert.LatWinIdeal.τ).loc Cert.LatWinIdeal.main_arg6) = m ((c.tc : Thread Cert.LatWinIdeal.nD Cert.LatWinIdeal.τ).loc Cert.LatWinIdeal.main_arg6))
      ∧ r.2.sem = fun _ => 0)

def quiescent_LatWinIdeal_pre_finite_lat [hLatWinIdeal : Cert.LatWinIdeal.Facts] [hPre_finite_lat : Cert.Pre_finite_lat.Facts] : Prop :=
  ∀ (m : (ℓ : Loc Cert.LatWinIdeal.nD Cert.LatWinIdeal.τ Cert.LatWinIdeal.sig) → Buf (Elt Ideal) ℓ) (g : Dev Cert.LatWinIdeal.nD → PrngReg), Pre_LatWinIdeal_finite_lat m →
    θ_run (Cert.LatWinIdeal.defs (F := Ideal)) (onTc (τ := Cert.LatWinIdeal.τ) (Cert.LatWinIdeal.main (F := Ideal))) ⟨m, fun _ => 0, g⟩ (fun r => (∀ c : Dev Cert.LatWinIdeal.nD,
      r.2.mem ((c.tc : Thread Cert.LatWinIdeal.nD Cert.LatWinIdeal.τ).loc Cert.LatWinIdeal.main_arg0) = m ((c.tc : Thread Cert.LatWinIdeal.nD Cert.LatWinIdeal.τ).loc Cert.LatWinIdeal.main_arg0)
      ∧ r.2.mem ((c.tc : Thread Cert.LatWinIdeal.nD Cert.LatWinIdeal.τ).loc Cert.LatWinIdeal.main_arg1) = m ((c.tc : Thread Cert.LatWinIdeal.nD Cert.LatWinIdeal.τ).loc Cert.LatWinIdeal.main_arg1)
      ∧ r.2.mem ((c.tc : Thread Cert.LatWinIdeal.nD Cert.LatWinIdeal.τ).loc Cert.LatWinIdeal.main_arg2) = m ((c.tc : Thread Cert.LatWinIdeal.nD Cert.LatWinIdeal.τ).loc Cert.LatWinIdeal.main_arg2)
      ∧ r.2.mem ((c.tc : Thread Cert.LatWinIdeal.nD Cert.LatWinIdeal.τ).loc Cert.LatWinIdeal.main_arg3) = m ((c.tc : Thread Cert.LatWinIdeal.nD Cert.LatWinIdeal.τ).loc Cert.LatWinIdeal.main_arg3)
      ∧ r.2.mem ((c.tc : Thread Cert.LatWinIdeal.nD Cert.LatWinIdeal.τ).loc Cert.LatWinIdeal.main_arg4) = m ((c.tc : Thread Cert.LatWinIdeal.nD Cert.LatWinIdeal.τ).loc Cert.LatWinIdeal.main_arg4)
      ∧ r.2.mem ((c.tc : Thread Cert.LatWinIdeal.nD Cert.LatWinIdeal.τ).loc Cert.LatWinIdeal.main_arg5) = m ((c.tc : Thread Cert.LatWinIdeal.nD Cert.LatWinIdeal.τ).loc Cert.LatWinIdeal.main_arg5)
      ∧ r.2.mem ((c.tc : Thread Cert.LatWinIdeal.nD Cert.LatWinIdeal.τ).loc Cert.LatWinIdeal.main_arg6) = m ((c.tc : Thread Cert.LatWinIdeal.nD Cert.LatWinIdeal.τ).loc Cert.LatWinIdeal.main_arg6))
      ∧ r.2.sem = fun _ => 0)

def quiescent_LatWinRefIdeal [hLatWinRefIdeal : Cert.LatWinRefIdeal.Facts] : Prop :=
  ∀ (m : (ℓ : Loc Cert.LatWinRefIdeal.nD Cert.LatWinRefIdeal.τ Cert.LatWinRefIdeal.sig) → Buf (Elt Ideal) ℓ) (g : Dev Cert.LatWinRefIdeal.nD → PrngReg), Pre_LatWinRefIdeal m →
    θ_run (Cert.LatWinRefIdeal.defs (F := Ideal)) (onTc (τ := Cert.LatWinRefIdeal.τ) (Cert.LatWinRefIdeal.main (F := Ideal))) ⟨m, fun _ => 0, g⟩ (fun r => (∀ c : Dev Cert.LatWinRefIdeal.nD,
      r.2.mem ((c.tc : Thread Cert.LatWinRefIdeal.nD Cert.LatWinRefIdeal.τ).loc Cert.LatWinRefIdeal.main_arg0) = m ((c.tc : Thread Cert.LatWinRefIdeal.nD Cert.LatWinRefIdeal.τ).loc Cert.LatWinRefIdeal.main_arg0)
      ∧ r.2.mem ((c.tc : Thread Cert.LatWinRefIdeal.nD Cert.LatWinRefIdeal.τ).loc Cert.LatWinRefIdeal.main_arg1) = m ((c.tc : Thread Cert.LatWinRefIdeal.nD Cert.LatWinRefIdeal.τ).loc Cert.LatWinRefIdeal.main_arg1)
      ∧ r.2.mem ((c.tc : Thread Cert.LatWinRefIdeal.nD Cert.LatWinRefIdeal.τ).loc Cert.LatWinRefIdeal.main_arg2) = m ((c.tc : Thread Cert.LatWinRefIdeal.nD Cert.LatWinRefIdeal.τ).loc Cert.LatWinRefIdeal.main_arg2)
      ∧ r.2.mem ((c.tc : Thread Cert.LatWinRefIdeal.nD Cert.LatWinRefIdeal.τ).loc Cert.LatWinRefIdeal.main_arg3) = m ((c.tc : Thread Cert.LatWinRefIdeal.nD Cert.LatWinRefIdeal.τ).loc Cert.LatWinRefIdeal.main_arg3)
      ∧ r.2.mem ((c.tc : Thread Cert.LatWinRefIdeal.nD Cert.LatWinRefIdeal.τ).loc Cert.LatWinRefIdeal.main_arg4) = m ((c.tc : Thread Cert.LatWinRefIdeal.nD Cert.LatWinRefIdeal.τ).loc Cert.LatWinRefIdeal.main_arg4)
      ∧ r.2.mem ((c.tc : Thread Cert.LatWinRefIdeal.nD Cert.LatWinRefIdeal.τ).loc Cert.LatWinRefIdeal.main_arg5) = m ((c.tc : Thread Cert.LatWinRefIdeal.nD Cert.LatWinRefIdeal.τ).loc Cert.LatWinRefIdeal.main_arg5)
      ∧ r.2.mem ((c.tc : Thread Cert.LatWinRefIdeal.nD Cert.LatWinRefIdeal.τ).loc Cert.LatWinRefIdeal.main_arg6) = m ((c.tc : Thread Cert.LatWinRefIdeal.nD Cert.LatWinRefIdeal.τ).loc Cert.LatWinRefIdeal.main_arg6))
      ∧ r.2.sem = fun _ => 0)

def quiescent_LatWinRefIdeal_pre_finite_lat [hLatWinRefIdeal : Cert.LatWinRefIdeal.Facts] [hPre_finite_lat : Cert.Pre_finite_lat.Facts] : Prop :=
  ∀ (m : (ℓ : Loc Cert.LatWinRefIdeal.nD Cert.LatWinRefIdeal.τ Cert.LatWinRefIdeal.sig) → Buf (Elt Ideal) ℓ) (g : Dev Cert.LatWinRefIdeal.nD → PrngReg), Pre_LatWinRefIdeal_finite_lat m →
    θ_run (Cert.LatWinRefIdeal.defs (F := Ideal)) (onTc (τ := Cert.LatWinRefIdeal.τ) (Cert.LatWinRefIdeal.main (F := Ideal))) ⟨m, fun _ => 0, g⟩ (fun r => (∀ c : Dev Cert.LatWinRefIdeal.nD,
      r.2.mem ((c.tc : Thread Cert.LatWinRefIdeal.nD Cert.LatWinRefIdeal.τ).loc Cert.LatWinRefIdeal.main_arg0) = m ((c.tc : Thread Cert.LatWinRefIdeal.nD Cert.LatWinRefIdeal.τ).loc Cert.LatWinRefIdeal.main_arg0)
      ∧ r.2.mem ((c.tc : Thread Cert.LatWinRefIdeal.nD Cert.LatWinRefIdeal.τ).loc Cert.LatWinRefIdeal.main_arg1) = m ((c.tc : Thread Cert.LatWinRefIdeal.nD Cert.LatWinRefIdeal.τ).loc Cert.LatWinRefIdeal.main_arg1)
      ∧ r.2.mem ((c.tc : Thread Cert.LatWinRefIdeal.nD Cert.LatWinRefIdeal.τ).loc Cert.LatWinRefIdeal.main_arg2) = m ((c.tc : Thread Cert.LatWinRefIdeal.nD Cert.LatWinRefIdeal.τ).loc Cert.LatWinRefIdeal.main_arg2)
      ∧ r.2.mem ((c.tc : Thread Cert.LatWinRefIdeal.nD Cert.LatWinRefIdeal.τ).loc Cert.LatWinRefIdeal.main_arg3) = m ((c.tc : Thread Cert.LatWinRefIdeal.nD Cert.LatWinRefIdeal.τ).loc Cert.LatWinRefIdeal.main_arg3)
      ∧ r.2.mem ((c.tc : Thread Cert.LatWinRefIdeal.nD Cert.LatWinRefIdeal.τ).loc Cert.LatWinRefIdeal.main_arg4) = m ((c.tc : Thread Cert.LatWinRefIdeal.nD Cert.LatWinRefIdeal.τ).loc Cert.LatWinRefIdeal.main_arg4)
      ∧ r.2.mem ((c.tc : Thread Cert.LatWinRefIdeal.nD Cert.LatWinRefIdeal.τ).loc Cert.LatWinRefIdeal.main_arg5) = m ((c.tc : Thread Cert.LatWinRefIdeal.nD Cert.LatWinRefIdeal.τ).loc Cert.LatWinRefIdeal.main_arg5)
      ∧ r.2.mem ((c.tc : Thread Cert.LatWinRefIdeal.nD Cert.LatWinRefIdeal.τ).loc Cert.LatWinRefIdeal.main_arg6) = m ((c.tc : Thread Cert.LatWinRefIdeal.nD Cert.LatWinRefIdeal.τ).loc Cert.LatWinRefIdeal.main_arg6))
      ∧ r.2.sem = fun _ => 0)

def preserves_Kernel_KernelIdeal : Prop :=
  IdealRules.named_const.Statement Cert.KernelIdeal.κ "qscale" .f32 0x3E0293EE#32 ((((Real.sqrt 128) * (Real.log 2))⁻¹ : ℝ) : EReal)

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)) (v1 : (c : Dev Cert.InProjIdeal.nD) → Buf (Elt Ideal) ((c.tc : Thread Cert.InProjIdeal.nD Cert.InProjIdeal.τ).loc Cert.InProjIdeal.main_v2)) (v2 : (c : Dev Cert.InProjIdeal.nD) → Buf (Elt Ideal) ((c.tc : Thread Cert.InProjIdeal.nD Cert.InProjIdeal.τ).loc Cert.InProjIdeal.main_v4)) (v3 : (c : Dev Cert.InProjIdeal.nD) → Buf (Elt Ideal) ((c.tc : Thread Cert.InProjIdeal.nD Cert.InProjIdeal.τ).loc Cert.InProjIdeal.main_v6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_v2) = v1 c
          ∧ r.2.mem ((c.tc : Thread Cert.InProjIdeal.nD Cert.InProjIdeal.τ).loc Cert.InProjIdeal.main_v4) = v2 c
          ∧ r.2.mem ((c.tc : Thread Cert.InProjIdeal.nD Cert.InProjIdeal.τ).loc Cert.InProjIdeal.main_v6) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_v6) = v1 c
          ∧ r.2.mem ((c.tc : Thread Cert.InProjRefIdeal.nD Cert.InProjRefIdeal.τ).loc Cert.InProjRefIdeal.main_v8) = v2 c
          ∧ r.2.mem ((c.tc : Thread Cert.InProjRefIdeal.nD Cert.InProjRefIdeal.τ).loc Cert.InProjRefIdeal.main_v10) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v44) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v23) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_FinalPrompt_FinalPromptIdeal : Prop :=
  True

def algebraic_FinalPromptIdeal_FinalPromptRefIdeal [hFinalPromptIdeal : Cert.FinalPromptIdeal.Facts] [hFinalPromptRefIdeal : Cert.FinalPromptRefIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg)
    (m' : (ℓ : Loc Cert.FinalPromptRefIdeal.nD Cert.FinalPromptRefIdeal.τ Cert.FinalPromptRefIdeal.sig) → Buf (Elt Ideal) ℓ) (g' : Dev Cert.FinalPromptRefIdeal.nD → PrngReg), Pre_FinalPromptIdeal m →
    (∀ c : Dev Cert.FinalPromptIdeal.nD,
      m' ((c.tc : Thread Cert.FinalPromptRefIdeal.nD Cert.FinalPromptRefIdeal.τ).loc Cert.FinalPromptRefIdeal.main_arg0) = m ((c.tc : Thread Cert.FinalPromptIdeal.nD Cert.FinalPromptIdeal.τ).loc Cert.FinalPromptIdeal.main_arg0)
      ∧ m' ((c.tc : Thread Cert.FinalPromptRefIdeal.nD Cert.FinalPromptRefIdeal.τ).loc Cert.FinalPromptRefIdeal.main_arg1) = m ((c.tc : Thread Cert.FinalPromptIdeal.nD Cert.FinalPromptIdeal.τ).loc Cert.FinalPromptIdeal.main_arg1)) →
    ∃ (v0 : (c : Dev Cert.FinalPromptIdeal.nD) → Buf (Elt Ideal) ((c.tc : Thread Cert.FinalPromptIdeal.nD Cert.FinalPromptIdeal.τ).loc Cert.FinalPromptIdeal.main_v1)),
      θ_run (Cert.FinalPromptIdeal.defs (F := Ideal)) (onTc (τ := Cert.FinalPromptIdeal.τ) (Cert.FinalPromptIdeal.main (F := Ideal))) ⟨m, fun _ => 0, g⟩ (fun r => ∀ c : Dev Cert.FinalPromptIdeal.nD,
          r.2.mem ((c.tc : Thread Cert.FinalPromptIdeal.nD Cert.FinalPromptIdeal.τ).loc Cert.FinalPromptIdeal.main_v1) = v0 c
          ∧ r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
          ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1))
      ∧ θ_run (Cert.FinalPromptRefIdeal.defs (F := Ideal)) (onTc (τ := Cert.FinalPromptRefIdeal.τ) (Cert.FinalPromptRefIdeal.main (F := Ideal))) ⟨m', fun _ => 0, g'⟩ (fun r => ∀ c : Dev Cert.FinalPromptRefIdeal.nD,
          r.2.mem ((c.tc : Thread Cert.FinalPromptRefIdeal.nD Cert.FinalPromptRefIdeal.τ).loc Cert.FinalPromptRefIdeal.main_v13) = v0 c
          ∧ r.2.mem ((c.tc : Thread Cert.FinalPromptRefIdeal.nD Cert.FinalPromptRefIdeal.τ).loc Cert.FinalPromptRefIdeal.main_arg0) = m' ((c.tc : Thread Cert.FinalPromptRefIdeal.nD Cert.FinalPromptRefIdeal.τ).loc Cert.FinalPromptRefIdeal.main_arg0)
          ∧ r.2.mem ((c.tc : Thread Cert.FinalPromptRefIdeal.nD Cert.FinalPromptRefIdeal.τ).loc Cert.FinalPromptRefIdeal.main_arg1) = m' ((c.tc : Thread Cert.FinalPromptRefIdeal.nD Cert.FinalPromptRefIdeal.τ).loc Cert.FinalPromptRefIdeal.main_arg1))

def preserves_FinalSample_FinalSampleIdeal : Prop :=
  True

def algebraic_FinalSampleIdeal_FinalSampleRefIdeal [hFinalSampleIdeal : Cert.FinalSampleIdeal.Facts] [hFinalSampleRefIdeal : Cert.FinalSampleRefIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg)
    (m' : (ℓ : Loc Cert.FinalSampleRefIdeal.nD Cert.FinalSampleRefIdeal.τ Cert.FinalSampleRefIdeal.sig) → Buf (Elt Ideal) ℓ) (g' : Dev Cert.FinalSampleRefIdeal.nD → PrngReg), Pre_FinalSampleIdeal m →
    (∀ c : Dev Cert.FinalSampleIdeal.nD,
      m' ((c.tc : Thread Cert.FinalSampleRefIdeal.nD Cert.FinalSampleRefIdeal.τ).loc Cert.FinalSampleRefIdeal.main_arg0) = m ((c.tc : Thread Cert.FinalSampleIdeal.nD Cert.FinalSampleIdeal.τ).loc Cert.FinalSampleIdeal.main_arg0)
      ∧ m' ((c.tc : Thread Cert.FinalSampleRefIdeal.nD Cert.FinalSampleRefIdeal.τ).loc Cert.FinalSampleRefIdeal.main_arg1) = m ((c.tc : Thread Cert.FinalSampleIdeal.nD Cert.FinalSampleIdeal.τ).loc Cert.FinalSampleIdeal.main_arg1)) →
    ∃ (v0 : (c : Dev Cert.FinalSampleIdeal.nD) → Buf (Elt Ideal) ((c.tc : Thread Cert.FinalSampleIdeal.nD Cert.FinalSampleIdeal.τ).loc Cert.FinalSampleIdeal.main_v1)),
      θ_run (Cert.FinalSampleIdeal.defs (F := Ideal)) (onTc (τ := Cert.FinalSampleIdeal.τ) (Cert.FinalSampleIdeal.main (F := Ideal))) ⟨m, fun _ => 0, g⟩ (fun r => ∀ c : Dev Cert.FinalSampleIdeal.nD,
          r.2.mem ((c.tc : Thread Cert.FinalSampleIdeal.nD Cert.FinalSampleIdeal.τ).loc Cert.FinalSampleIdeal.main_v1) = v0 c
          ∧ r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
          ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1))
      ∧ θ_run (Cert.FinalSampleRefIdeal.defs (F := Ideal)) (onTc (τ := Cert.FinalSampleRefIdeal.τ) (Cert.FinalSampleRefIdeal.main (F := Ideal))) ⟨m', fun _ => 0, g'⟩ (fun r => ∀ c : Dev Cert.FinalSampleRefIdeal.nD,
          r.2.mem ((c.tc : Thread Cert.FinalSampleRefIdeal.nD Cert.FinalSampleRefIdeal.τ).loc Cert.FinalSampleRefIdeal.main_v13) = v0 c
          ∧ r.2.mem ((c.tc : Thread Cert.FinalSampleRefIdeal.nD Cert.FinalSampleRefIdeal.τ).loc Cert.FinalSampleRefIdeal.main_arg0) = m' ((c.tc : Thread Cert.FinalSampleRefIdeal.nD Cert.FinalSampleRefIdeal.τ).loc Cert.FinalSampleRefIdeal.main_arg0)
          ∧ r.2.mem ((c.tc : Thread Cert.FinalSampleRefIdeal.nD Cert.FinalSampleRefIdeal.τ).loc Cert.FinalSampleRefIdeal.main_arg1) = m' ((c.tc : Thread Cert.FinalSampleRefIdeal.nD Cert.FinalSampleRefIdeal.τ).loc Cert.FinalSampleRefIdeal.main_arg1))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v1) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v44) = v0 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2))

def preserves_InGates_InGatesIdeal : Prop :=
  True

def algebraic_InGatesIdeal_InGatesRefIdeal [hInGatesIdeal : Cert.InGatesIdeal.Facts] [hInGatesRefIdeal : Cert.InGatesRefIdeal.Facts] : Prop :=
  ∀ (m : (ℓ : Loc Cert.InGatesIdeal.nD Cert.InGatesIdeal.τ Cert.InGatesIdeal.sig) → Buf (Elt Ideal) ℓ) (g : Dev Cert.InGatesIdeal.nD → PrngReg)
    (m' : (ℓ : Loc Cert.InGatesRefIdeal.nD Cert.InGatesRefIdeal.τ Cert.InGatesRefIdeal.sig) → Buf (Elt Ideal) ℓ) (g' : Dev Cert.InGatesRefIdeal.nD → PrngReg), Pre_InGatesIdeal m →
    (∀ c : Dev Cert.InGatesIdeal.nD,
      m' ((c.tc : Thread Cert.InGatesRefIdeal.nD Cert.InGatesRefIdeal.τ).loc Cert.InGatesRefIdeal.main_arg0) = m ((c.tc : Thread Cert.InGatesIdeal.nD Cert.InGatesIdeal.τ).loc Cert.InGatesIdeal.main_arg0)
      ∧ m' ((c.tc : Thread Cert.InGatesRefIdeal.nD Cert.InGatesRefIdeal.τ).loc Cert.InGatesRefIdeal.main_arg1) = m ((c.tc : Thread Cert.InGatesIdeal.nD Cert.InGatesIdeal.τ).loc Cert.InGatesIdeal.main_arg1)) →
    ∃ (v0 : (c : Dev Cert.InGatesIdeal.nD) → Buf (Elt Ideal) ((c.tc : Thread Cert.InGatesIdeal.nD Cert.InGatesIdeal.τ).loc Cert.InGatesIdeal.main_v0)),
      θ_run (Cert.InGatesIdeal.defs (F := Ideal)) (onTc (τ := Cert.InGatesIdeal.τ) (Cert.InGatesIdeal.main (F := Ideal))) ⟨m, fun _ => 0, g⟩ (fun r => ∀ c : Dev Cert.InGatesIdeal.nD,
          r.2.mem ((c.tc : Thread Cert.InGatesIdeal.nD Cert.InGatesIdeal.τ).loc Cert.InGatesIdeal.main_v0) = v0 c
          ∧ r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
          ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ θ_run (Cert.InGatesRefIdeal.defs (F := Ideal)) (onTc (τ := Cert.InGatesRefIdeal.τ) (Cert.InGatesRefIdeal.main (F := Ideal))) ⟨m', fun _ => 0, g'⟩ (fun r => ∀ c : Dev Cert.InGatesRefIdeal.nD,
          r.2.mem ((c.tc : Thread Cert.InGatesRefIdeal.nD Cert.InGatesRefIdeal.τ).loc Cert.InGatesRefIdeal.main_v2) = v0 c
          ∧ r.2.mem ((c.tc : Thread Cert.InGatesRefIdeal.nD Cert.InGatesRefIdeal.τ).loc Cert.InGatesRefIdeal.main_arg0) = m' ((c.tc : Thread Cert.InGatesRefIdeal.nD Cert.InGatesRefIdeal.τ).loc Cert.InGatesRefIdeal.main_arg0)
          ∧ r.2.mem ((c.tc : Thread Cert.InGatesRefIdeal.nD Cert.InGatesRefIdeal.τ).loc Cert.InGatesRefIdeal.main_arg1) = m' ((c.tc : Thread Cert.InGatesRefIdeal.nD Cert.InGatesRefIdeal.τ).loc Cert.InGatesRefIdeal.main_arg1))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)
      ∧ m' ((c.tc : Thread Cert.ModulationRefIdeal.nD Cert.ModulationRefIdeal.τ).loc Cert.ModulationRefIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v4)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v4) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v8) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2)
          ∧ r.2.mem ((c.tc : Thread Cert.ModulationRefIdeal.nD Cert.ModulationRefIdeal.τ).loc Cert.ModulationRefIdeal.main_arg3) = m' ((c.tc : Thread Cert.ModulationRefIdeal.nD Cert.ModulationRefIdeal.τ).loc Cert.ModulationRefIdeal.main_arg3))

def preserves_CtxGlob_CtxGlobIdeal : Prop :=
  IdealRules.named_const.Statement Cert.CtxGlobIdeal.κ "qscale" .f32 0x3E0293EE#32 ((((Real.sqrt 128) * (Real.log 2))⁻¹ : ℝ) : EReal)

def algebraic_CtxGlobIdeal_CtxGlobRefIdeal_pre_finite_glob [hCtxGlobIdeal : Cert.CtxGlobIdeal.Facts] [hCtxGlobRefIdeal : Cert.CtxGlobRefIdeal.Facts] [hPre_finite_glob : Cert.Pre_finite_glob.Facts] : Prop :=
  ∀ (m : (ℓ : Loc Cert.CtxGlobIdeal.nD Cert.CtxGlobIdeal.τ Cert.CtxGlobIdeal.sig) → Buf (Elt Ideal) ℓ) (g : Dev Cert.CtxGlobIdeal.nD → PrngReg)
    (m' : (ℓ : Loc Cert.CtxGlobRefIdeal.nD Cert.CtxGlobRefIdeal.τ Cert.CtxGlobRefIdeal.sig) → Buf (Elt Ideal) ℓ) (g' : Dev Cert.CtxGlobRefIdeal.nD → PrngReg), Pre_CtxGlobIdeal_finite_glob m →
    (∀ c : Dev Cert.CtxGlobIdeal.nD,
      m' ((c.tc : Thread Cert.CtxGlobRefIdeal.nD Cert.CtxGlobRefIdeal.τ).loc Cert.CtxGlobRefIdeal.main_arg0) = m ((c.tc : Thread Cert.CtxGlobIdeal.nD Cert.CtxGlobIdeal.τ).loc Cert.CtxGlobIdeal.main_arg0)
      ∧ m' ((c.tc : Thread Cert.CtxGlobRefIdeal.nD Cert.CtxGlobRefIdeal.τ).loc Cert.CtxGlobRefIdeal.main_arg1) = m ((c.tc : Thread Cert.CtxGlobIdeal.nD Cert.CtxGlobIdeal.τ).loc Cert.CtxGlobIdeal.main_arg1)
      ∧ m' ((c.tc : Thread Cert.CtxGlobRefIdeal.nD Cert.CtxGlobRefIdeal.τ).loc Cert.CtxGlobRefIdeal.main_arg2) = m ((c.tc : Thread Cert.CtxGlobIdeal.nD Cert.CtxGlobIdeal.τ).loc Cert.CtxGlobIdeal.main_arg2)) →
    ∃ (v0 : (c : Dev Cert.CtxGlobIdeal.nD) → Buf (Elt Ideal) ((c.tc : Thread Cert.CtxGlobIdeal.nD Cert.CtxGlobIdeal.τ).loc Cert.CtxGlobIdeal.main_v3)) (v1 : (c : Dev Cert.CtxGlobIdeal.nD) → Buf (Elt Ideal) ((c.tc : Thread Cert.CtxGlobIdeal.nD Cert.CtxGlobIdeal.τ).loc Cert.CtxGlobIdeal.main_v4)),
      θ_run (Cert.CtxGlobIdeal.defs (F := Ideal)) (onTc (τ := Cert.CtxGlobIdeal.τ) (Cert.CtxGlobIdeal.main (F := Ideal))) ⟨m, fun _ => 0, g⟩ (fun r => ∀ c : Dev Cert.CtxGlobIdeal.nD,
          r.2.mem ((c.tc : Thread Cert.CtxGlobIdeal.nD Cert.CtxGlobIdeal.τ).loc Cert.CtxGlobIdeal.main_v3) = v0 c
          ∧ r.2.mem ((c.tc : Thread Cert.CtxGlobIdeal.nD Cert.CtxGlobIdeal.τ).loc Cert.CtxGlobIdeal.main_v4) = v1 c
          ∧ r.2.mem ((c.tc : Thread Cert.CtxGlobIdeal.nD Cert.CtxGlobIdeal.τ).loc Cert.CtxGlobIdeal.main_arg0) = m ((c.tc : Thread Cert.CtxGlobIdeal.nD Cert.CtxGlobIdeal.τ).loc Cert.CtxGlobIdeal.main_arg0)
          ∧ r.2.mem ((c.tc : Thread Cert.CtxGlobIdeal.nD Cert.CtxGlobIdeal.τ).loc Cert.CtxGlobIdeal.main_arg1) = m ((c.tc : Thread Cert.CtxGlobIdeal.nD Cert.CtxGlobIdeal.τ).loc Cert.CtxGlobIdeal.main_arg1)
          ∧ r.2.mem ((c.tc : Thread Cert.CtxGlobIdeal.nD Cert.CtxGlobIdeal.τ).loc Cert.CtxGlobIdeal.main_arg2) = m ((c.tc : Thread Cert.CtxGlobIdeal.nD Cert.CtxGlobIdeal.τ).loc Cert.CtxGlobIdeal.main_arg2))
      ∧ θ_run (Cert.CtxGlobRefIdeal.defs (F := Ideal)) (onTc (τ := Cert.CtxGlobRefIdeal.τ) (Cert.CtxGlobRefIdeal.main (F := Ideal))) ⟨m', fun _ => 0, g'⟩ (fun r => ∀ c : Dev Cert.CtxGlobRefIdeal.nD,
          r.2.mem ((c.tc : Thread Cert.CtxGlobRefIdeal.nD Cert.CtxGlobRefIdeal.τ).loc Cert.CtxGlobRefIdeal.main_v58) = v0 c
          ∧ r.2.mem ((c.tc : Thread Cert.CtxGlobRefIdeal.nD Cert.CtxGlobRefIdeal.τ).loc Cert.CtxGlobRefIdeal.main_v34) = v1 c
          ∧ r.2.mem ((c.tc : Thread Cert.CtxGlobRefIdeal.nD Cert.CtxGlobRefIdeal.τ).loc Cert.CtxGlobRefIdeal.main_arg0) = m' ((c.tc : Thread Cert.CtxGlobRefIdeal.nD Cert.CtxGlobRefIdeal.τ).loc Cert.CtxGlobRefIdeal.main_arg0)
          ∧ r.2.mem ((c.tc : Thread Cert.CtxGlobRefIdeal.nD Cert.CtxGlobRefIdeal.τ).loc Cert.CtxGlobRefIdeal.main_arg1) = m' ((c.tc : Thread Cert.CtxGlobRefIdeal.nD Cert.CtxGlobRefIdeal.τ).loc Cert.CtxGlobRefIdeal.main_arg1)
          ∧ r.2.mem ((c.tc : Thread Cert.CtxGlobRefIdeal.nD Cert.CtxGlobRefIdeal.τ).loc Cert.CtxGlobRefIdeal.main_arg2) = m' ((c.tc : Thread Cert.CtxGlobRefIdeal.nD Cert.CtxGlobRefIdeal.τ).loc Cert.CtxGlobRefIdeal.main_arg2))

def preserves_CtxWin_CtxWinIdeal : Prop :=
  IdealRules.named_const.Statement Cert.CtxWinIdeal.κ "qscale" .f32 0x3E0293EE#32 ((((Real.sqrt 128) * (Real.log 2))⁻¹ : ℝ) : EReal)
  ∧ IdealRules.named_const.Statement Cert.CtxWinIdeal.κ "log2e" .f32 0x3FB8AA3B#32 (((Real.log 2)⁻¹ : ℝ) : EReal)

def algebraic_CtxWinIdeal_CtxWinRefIdeal_pre_finite_win [hCtxWinIdeal : Cert.CtxWinIdeal.Facts] [hCtxWinRefIdeal : Cert.CtxWinRefIdeal.Facts] [hPre_finite_win : Cert.Pre_finite_win.Facts] : Prop :=
  ∀ (m : (ℓ : Loc Cert.CtxWinIdeal.nD Cert.CtxWinIdeal.τ Cert.CtxWinIdeal.sig) → Buf (Elt Ideal) ℓ) (g : Dev Cert.CtxWinIdeal.nD → PrngReg)
    (m' : (ℓ : Loc Cert.CtxWinRefIdeal.nD Cert.CtxWinRefIdeal.τ Cert.CtxWinRefIdeal.sig) → Buf (Elt Ideal) ℓ) (g' : Dev Cert.CtxWinRefIdeal.nD → PrngReg), Pre_CtxWinIdeal_finite_win m →
    (∀ c : Dev Cert.CtxWinIdeal.nD,
      m' ((c.tc : Thread Cert.CtxWinRefIdeal.nD Cert.CtxWinRefIdeal.τ).loc Cert.CtxWinRefIdeal.main_arg0) = m ((c.tc : Thread Cert.CtxWinIdeal.nD Cert.CtxWinIdeal.τ).loc Cert.CtxWinIdeal.main_arg0)
      ∧ m' ((c.tc : Thread Cert.CtxWinRefIdeal.nD Cert.CtxWinRefIdeal.τ).loc Cert.CtxWinRefIdeal.main_arg1) = m ((c.tc : Thread Cert.CtxWinIdeal.nD Cert.CtxWinIdeal.τ).loc Cert.CtxWinIdeal.main_arg1)) →
    ∃ (v0 : (c : Dev Cert.CtxWinIdeal.nD) → Buf (Elt Ideal) ((c.tc : Thread Cert.CtxWinIdeal.nD Cert.CtxWinIdeal.τ).loc Cert.CtxWinIdeal.main_v1)),
      θ_run (Cert.CtxWinIdeal.defs (F := Ideal)) (onTc (τ := Cert.CtxWinIdeal.τ) (Cert.CtxWinIdeal.main (F := Ideal))) ⟨m, fun _ => 0, g⟩ (fun r => ∀ c : Dev Cert.CtxWinIdeal.nD,
          r.2.mem ((c.tc : Thread Cert.CtxWinIdeal.nD Cert.CtxWinIdeal.τ).loc Cert.CtxWinIdeal.main_v1) = v0 c
          ∧ r.2.mem ((c.tc : Thread Cert.CtxWinIdeal.nD Cert.CtxWinIdeal.τ).loc Cert.CtxWinIdeal.main_arg0) = m ((c.tc : Thread Cert.CtxWinIdeal.nD Cert.CtxWinIdeal.τ).loc Cert.CtxWinIdeal.main_arg0)
          ∧ r.2.mem ((c.tc : Thread Cert.CtxWinIdeal.nD Cert.CtxWinIdeal.τ).loc Cert.CtxWinIdeal.main_arg1) = m ((c.tc : Thread Cert.CtxWinIdeal.nD Cert.CtxWinIdeal.τ).loc Cert.CtxWinIdeal.main_arg1))
      ∧ θ_run (Cert.CtxWinRefIdeal.defs (F := Ideal)) (onTc (τ := Cert.CtxWinRefIdeal.τ) (Cert.CtxWinRefIdeal.main (F := Ideal))) ⟨m', fun _ => 0, g'⟩ (fun r => ∀ c : Dev Cert.CtxWinRefIdeal.nD,
          r.2.mem ((c.tc : Thread Cert.CtxWinRefIdeal.nD Cert.CtxWinRefIdeal.τ).loc Cert.CtxWinRefIdeal.main_v37) = v0 c
          ∧ r.2.mem ((c.tc : Thread Cert.CtxWinRefIdeal.nD Cert.CtxWinRefIdeal.τ).loc Cert.CtxWinRefIdeal.main_arg0) = m' ((c.tc : Thread Cert.CtxWinRefIdeal.nD Cert.CtxWinRefIdeal.τ).loc Cert.CtxWinRefIdeal.main_arg0)
          ∧ r.2.mem ((c.tc : Thread Cert.CtxWinRefIdeal.nD Cert.CtxWinRefIdeal.τ).loc Cert.CtxWinRefIdeal.main_arg1) = m' ((c.tc : Thread Cert.CtxWinRefIdeal.nD Cert.CtxWinRefIdeal.τ).loc Cert.CtxWinRefIdeal.main_arg1))

def preserves_LatWin_LatWinIdeal : Prop :=
  IdealRules.named_const.Statement Cert.LatWinIdeal.κ "qscale" .f32 0x3E0293EE#32 ((((Real.sqrt 128) * (Real.log 2))⁻¹ : ℝ) : EReal)
  ∧ IdealRules.named_const.Statement Cert.LatWinIdeal.κ "log2e" .f32 0x3FB8AA3B#32 (((Real.log 2)⁻¹ : ℝ) : EReal)
  ∧ IdealRules.named_const.Statement Cert.LatWinIdeal.κ "mask" .f32 0xF149F2CA#32 ⊥

def algebraic_LatWinIdeal_LatWinRefIdeal_pre_finite_lat [hLatWinIdeal : Cert.LatWinIdeal.Facts] [hLatWinRefIdeal : Cert.LatWinRefIdeal.Facts] [hPre_finite_lat : Cert.Pre_finite_lat.Facts] : Prop :=
  ∀ (m : (ℓ : Loc Cert.LatWinIdeal.nD Cert.LatWinIdeal.τ Cert.LatWinIdeal.sig) → Buf (Elt Ideal) ℓ) (g : Dev Cert.LatWinIdeal.nD → PrngReg)
    (m' : (ℓ : Loc Cert.LatWinRefIdeal.nD Cert.LatWinRefIdeal.τ Cert.LatWinRefIdeal.sig) → Buf (Elt Ideal) ℓ) (g' : Dev Cert.LatWinRefIdeal.nD → PrngReg), Pre_LatWinIdeal_finite_lat m →
    (∀ c : Dev Cert.LatWinIdeal.nD,
      m' ((c.tc : Thread Cert.LatWinRefIdeal.nD Cert.LatWinRefIdeal.τ).loc Cert.LatWinRefIdeal.main_arg0) = m ((c.tc : Thread Cert.LatWinIdeal.nD Cert.LatWinIdeal.τ).loc Cert.LatWinIdeal.main_arg0)
      ∧ m' ((c.tc : Thread Cert.LatWinRefIdeal.nD Cert.LatWinRefIdeal.τ).loc Cert.LatWinRefIdeal.main_arg1) = m ((c.tc : Thread Cert.LatWinIdeal.nD Cert.LatWinIdeal.τ).loc Cert.LatWinIdeal.main_arg1)
      ∧ m' ((c.tc : Thread Cert.LatWinRefIdeal.nD Cert.LatWinRefIdeal.τ).loc Cert.LatWinRefIdeal.main_arg2) = m ((c.tc : Thread Cert.LatWinIdeal.nD Cert.LatWinIdeal.τ).loc Cert.LatWinIdeal.main_arg2)
      ∧ m' ((c.tc : Thread Cert.LatWinRefIdeal.nD Cert.LatWinRefIdeal.τ).loc Cert.LatWinRefIdeal.main_arg3) = m ((c.tc : Thread Cert.LatWinIdeal.nD Cert.LatWinIdeal.τ).loc Cert.LatWinIdeal.main_arg3)
      ∧ m' ((c.tc : Thread Cert.LatWinRefIdeal.nD Cert.LatWinRefIdeal.τ).loc Cert.LatWinRefIdeal.main_arg4) = m ((c.tc : Thread Cert.LatWinIdeal.nD Cert.LatWinIdeal.τ).loc Cert.LatWinIdeal.main_arg4)
      ∧ m' ((c.tc : Thread Cert.LatWinRefIdeal.nD Cert.LatWinRefIdeal.τ).loc Cert.LatWinRefIdeal.main_arg5) = m ((c.tc : Thread Cert.LatWinIdeal.nD Cert.LatWinIdeal.τ).loc Cert.LatWinIdeal.main_arg5)
      ∧ m' ((c.tc : Thread Cert.LatWinRefIdeal.nD Cert.LatWinRefIdeal.τ).loc Cert.LatWinRefIdeal.main_arg6) = m ((c.tc : Thread Cert.LatWinIdeal.nD Cert.LatWinIdeal.τ).loc Cert.LatWinIdeal.main_arg6)) →
    ∃ (v0 : (c : Dev Cert.LatWinIdeal.nD) → Buf (Elt Ideal) ((c.tc : Thread Cert.LatWinIdeal.nD Cert.LatWinIdeal.τ).loc Cert.LatWinIdeal.main_v5)),
      θ_run (Cert.LatWinIdeal.defs (F := Ideal)) (onTc (τ := Cert.LatWinIdeal.τ) (Cert.LatWinIdeal.main (F := Ideal))) ⟨m, fun _ => 0, g⟩ (fun r => ∀ c : Dev Cert.LatWinIdeal.nD,
          r.2.mem ((c.tc : Thread Cert.LatWinIdeal.nD Cert.LatWinIdeal.τ).loc Cert.LatWinIdeal.main_v5) = v0 c
          ∧ r.2.mem ((c.tc : Thread Cert.LatWinIdeal.nD Cert.LatWinIdeal.τ).loc Cert.LatWinIdeal.main_arg0) = m ((c.tc : Thread Cert.LatWinIdeal.nD Cert.LatWinIdeal.τ).loc Cert.LatWinIdeal.main_arg0)
          ∧ r.2.mem ((c.tc : Thread Cert.LatWinIdeal.nD Cert.LatWinIdeal.τ).loc Cert.LatWinIdeal.main_arg1) = m ((c.tc : Thread Cert.LatWinIdeal.nD Cert.LatWinIdeal.τ).loc Cert.LatWinIdeal.main_arg1)
          ∧ r.2.mem ((c.tc : Thread Cert.LatWinIdeal.nD Cert.LatWinIdeal.τ).loc Cert.LatWinIdeal.main_arg2) = m ((c.tc : Thread Cert.LatWinIdeal.nD Cert.LatWinIdeal.τ).loc Cert.LatWinIdeal.main_arg2)
          ∧ r.2.mem ((c.tc : Thread Cert.LatWinIdeal.nD Cert.LatWinIdeal.τ).loc Cert.LatWinIdeal.main_arg3) = m ((c.tc : Thread Cert.LatWinIdeal.nD Cert.LatWinIdeal.τ).loc Cert.LatWinIdeal.main_arg3)
          ∧ r.2.mem ((c.tc : Thread Cert.LatWinIdeal.nD Cert.LatWinIdeal.τ).loc Cert.LatWinIdeal.main_arg4) = m ((c.tc : Thread Cert.LatWinIdeal.nD Cert.LatWinIdeal.τ).loc Cert.LatWinIdeal.main_arg4)
          ∧ r.2.mem ((c.tc : Thread Cert.LatWinIdeal.nD Cert.LatWinIdeal.τ).loc Cert.LatWinIdeal.main_arg5) = m ((c.tc : Thread Cert.LatWinIdeal.nD Cert.LatWinIdeal.τ).loc Cert.LatWinIdeal.main_arg5)
          ∧ r.2.mem ((c.tc : Thread Cert.LatWinIdeal.nD Cert.LatWinIdeal.τ).loc Cert.LatWinIdeal.main_arg6) = m ((c.tc : Thread Cert.LatWinIdeal.nD Cert.LatWinIdeal.τ).loc Cert.LatWinIdeal.main_arg6))
      ∧ θ_run (Cert.LatWinRefIdeal.defs (F := Ideal)) (onTc (τ := Cert.LatWinRefIdeal.τ) (Cert.LatWinRefIdeal.main (F := Ideal))) ⟨m', fun _ => 0, g'⟩ (fun r => ∀ c : Dev Cert.LatWinRefIdeal.nD,
          r.2.mem ((c.tc : Thread Cert.LatWinRefIdeal.nD Cert.LatWinRefIdeal.τ).loc Cert.LatWinRefIdeal.main_v95) = v0 c
          ∧ r.2.mem ((c.tc : Thread Cert.LatWinRefIdeal.nD Cert.LatWinRefIdeal.τ).loc Cert.LatWinRefIdeal.main_arg0) = m' ((c.tc : Thread Cert.LatWinRefIdeal.nD Cert.LatWinRefIdeal.τ).loc Cert.LatWinRefIdeal.main_arg0)
          ∧ r.2.mem ((c.tc : Thread Cert.LatWinRefIdeal.nD Cert.LatWinRefIdeal.τ).loc Cert.LatWinRefIdeal.main_arg1) = m' ((c.tc : Thread Cert.LatWinRefIdeal.nD Cert.LatWinRefIdeal.τ).loc Cert.LatWinRefIdeal.main_arg1)
          ∧ r.2.mem ((c.tc : Thread Cert.LatWinRefIdeal.nD Cert.LatWinRefIdeal.τ).loc Cert.LatWinRefIdeal.main_arg2) = m' ((c.tc : Thread Cert.LatWinRefIdeal.nD Cert.LatWinRefIdeal.τ).loc Cert.LatWinRefIdeal.main_arg2)
          ∧ r.2.mem ((c.tc : Thread Cert.LatWinRefIdeal.nD Cert.LatWinRefIdeal.τ).loc Cert.LatWinRefIdeal.main_arg3) = m' ((c.tc : Thread Cert.LatWinRefIdeal.nD Cert.LatWinRefIdeal.τ).loc Cert.LatWinRefIdeal.main_arg3)
          ∧ r.2.mem ((c.tc : Thread Cert.LatWinRefIdeal.nD Cert.LatWinRefIdeal.τ).loc Cert.LatWinRefIdeal.main_arg4) = m' ((c.tc : Thread Cert.LatWinRefIdeal.nD Cert.LatWinRefIdeal.τ).loc Cert.LatWinRefIdeal.main_arg4)
          ∧ r.2.mem ((c.tc : Thread Cert.LatWinRefIdeal.nD Cert.LatWinRefIdeal.τ).loc Cert.LatWinRefIdeal.main_arg5) = m' ((c.tc : Thread Cert.LatWinRefIdeal.nD Cert.LatWinRefIdeal.τ).loc Cert.LatWinRefIdeal.main_arg5)
          ∧ r.2.mem ((c.tc : Thread Cert.LatWinRefIdeal.nD Cert.LatWinRefIdeal.τ).loc Cert.LatWinRefIdeal.main_arg6) = m' ((c.tc : Thread Cert.LatWinRefIdeal.nD Cert.LatWinRefIdeal.τ).loc Cert.LatWinRefIdeal.main_arg6))

def Claim : Prop :=
  ∃ (hKernel : Cert.Kernel.Facts) (hKernelIdeal : Cert.KernelIdeal.Facts) (hReferenceIdeal : Cert.ReferenceIdeal.Facts) (hReference : Cert.Reference.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hFinalPrompt : Cert.FinalPrompt.Facts) (hFinalPromptIdeal : Cert.FinalPromptIdeal.Facts) (hFinalPromptRefIdeal : Cert.FinalPromptRefIdeal.Facts) (hFinalSample : Cert.FinalSample.Facts) (hFinalSampleIdeal : Cert.FinalSampleIdeal.Facts) (hFinalSampleRefIdeal : Cert.FinalSampleRefIdeal.Facts) (hPrep : Cert.Prep.Facts) (hPrepIdeal : Cert.PrepIdeal.Facts) (hPrepRefIdeal : Cert.PrepRefIdeal.Facts) (hInGates : Cert.InGates.Facts) (hInGatesIdeal : Cert.InGatesIdeal.Facts) (hInGatesRefIdeal : Cert.InGatesRefIdeal.Facts) (hModulation : Cert.Modulation.Facts) (hModulationIdeal : Cert.ModulationIdeal.Facts) (hModulationRefIdeal : Cert.ModulationRefIdeal.Facts) (hCtxGlob : Cert.CtxGlob.Facts) (hCtxGlobIdeal : Cert.CtxGlobIdeal.Facts) (hCtxGlobRefIdeal : Cert.CtxGlobRefIdeal.Facts) (hCtxWin : Cert.CtxWin.Facts) (hCtxWinIdeal : Cert.CtxWinIdeal.Facts) (hCtxWinRefIdeal : Cert.CtxWinRefIdeal.Facts) (hLatWin : Cert.LatWin.Facts) (hLatWinIdeal : Cert.LatWinIdeal.Facts) (hLatWinRefIdeal : Cert.LatWinRefIdeal.Facts) (hPre_finite : Cert.Pre_finite.Facts) (hPre_finite_glob : Cert.Pre_finite_glob.Facts) (hPre_finite_win : Cert.Pre_finite_win.Facts) (hPre_finite_lat : Cert.Pre_finite_lat.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FinalPrompt (hFinalPrompt := hFinalPrompt)
    ∧ quiescent_FinalPromptIdeal (hFinalPromptIdeal := hFinalPromptIdeal)
    ∧ quiescent_FinalPromptRefIdeal (hFinalPromptRefIdeal := hFinalPromptRefIdeal)
    ∧ quiescent_FinalSample (hFinalSample := hFinalSample)
    ∧ quiescent_FinalSampleIdeal (hFinalSampleIdeal := hFinalSampleIdeal)
    ∧ quiescent_FinalSampleRefIdeal (hFinalSampleRefIdeal := hFinalSampleRefIdeal)
    ∧ quiescent_Prep (hPrep := hPrep)
    ∧ quiescent_PrepIdeal (hPrepIdeal := hPrepIdeal)
    ∧ quiescent_PrepRefIdeal (hPrepRefIdeal := hPrepRefIdeal)
    ∧ quiescent_InGates (hInGates := hInGates)
    ∧ quiescent_InGatesIdeal (hInGatesIdeal := hInGatesIdeal)
    ∧ quiescent_InGatesRefIdeal (hInGatesRefIdeal := hInGatesRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_CtxGlob (hCtxGlob := hCtxGlob)
    ∧ quiescent_CtxGlobIdeal (hCtxGlobIdeal := hCtxGlobIdeal)
    ∧ quiescent_CtxGlobIdeal_pre_finite_glob (hCtxGlobIdeal := hCtxGlobIdeal) (hPre_finite_glob := hPre_finite_glob)
    ∧ quiescent_CtxGlobRefIdeal (hCtxGlobRefIdeal := hCtxGlobRefIdeal)
    ∧ quiescent_CtxGlobRefIdeal_pre_finite_glob (hCtxGlobRefIdeal := hCtxGlobRefIdeal) (hPre_finite_glob := hPre_finite_glob)
    ∧ quiescent_CtxWin (hCtxWin := hCtxWin)
    ∧ quiescent_CtxWinIdeal (hCtxWinIdeal := hCtxWinIdeal)
    ∧ quiescent_CtxWinIdeal_pre_finite_win (hCtxWinIdeal := hCtxWinIdeal) (hPre_finite_win := hPre_finite_win)
    ∧ quiescent_CtxWinRefIdeal (hCtxWinRefIdeal := hCtxWinRefIdeal)
    ∧ quiescent_CtxWinRefIdeal_pre_finite_win (hCtxWinRefIdeal := hCtxWinRefIdeal) (hPre_finite_win := hPre_finite_win)
    ∧ quiescent_LatWin (hLatWin := hLatWin)
    ∧ quiescent_LatWinIdeal (hLatWinIdeal := hLatWinIdeal)
    ∧ quiescent_LatWinIdeal_pre_finite_lat (hLatWinIdeal := hLatWinIdeal) (hPre_finite_lat := hPre_finite_lat)
    ∧ quiescent_LatWinRefIdeal (hLatWinRefIdeal := hLatWinRefIdeal)
    ∧ quiescent_LatWinRefIdeal_pre_finite_lat (hLatWinRefIdeal := hLatWinRefIdeal) (hPre_finite_lat := hPre_finite_lat)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_FinalPrompt_FinalPromptIdeal
    ∧ algebraic_FinalPromptIdeal_FinalPromptRefIdeal (hFinalPromptIdeal := hFinalPromptIdeal) (hFinalPromptRefIdeal := hFinalPromptRefIdeal)
    ∧ preserves_FinalSample_FinalSampleIdeal
    ∧ algebraic_FinalSampleIdeal_FinalSampleRefIdeal (hFinalSampleIdeal := hFinalSampleIdeal) (hFinalSampleRefIdeal := hFinalSampleRefIdeal)
    ∧ preserves_Prep_PrepIdeal
    ∧ algebraic_PrepIdeal_PrepRefIdeal (hPrepIdeal := hPrepIdeal) (hPrepRefIdeal := hPrepRefIdeal)
    ∧ preserves_InGates_InGatesIdeal
    ∧ algebraic_InGatesIdeal_InGatesRefIdeal (hInGatesIdeal := hInGatesIdeal) (hInGatesRefIdeal := hInGatesRefIdeal)
    ∧ preserves_Modulation_ModulationIdeal
    ∧ algebraic_ModulationIdeal_ModulationRefIdeal (hModulationIdeal := hModulationIdeal) (hModulationRefIdeal := hModulationRefIdeal)
    ∧ preserves_CtxGlob_CtxGlobIdeal
    ∧ algebraic_CtxGlobIdeal_CtxGlobRefIdeal_pre_finite_glob (hCtxGlobIdeal := hCtxGlobIdeal) (hCtxGlobRefIdeal := hCtxGlobRefIdeal) (hPre_finite_glob := hPre_finite_glob)
    ∧ preserves_CtxWin_CtxWinIdeal
    ∧ algebraic_CtxWinIdeal_CtxWinRefIdeal_pre_finite_win (hCtxWinIdeal := hCtxWinIdeal) (hCtxWinRefIdeal := hCtxWinRefIdeal) (hPre_finite_win := hPre_finite_win)
    ∧ preserves_LatWin_LatWinIdeal
    ∧ algebraic_LatWinIdeal_LatWinRefIdeal_pre_finite_lat (hLatWinIdeal := hLatWinIdeal) (hLatWinRefIdeal := hLatWinRefIdeal) (hPre_finite_lat := hPre_finite_lat)
-- ==== Pre_finite.lean ====
abbrev S36864x30720 : Shape := ⟨2, ![36864, 30720]⟩
abbrev S36864x2048 : Shape := ⟨2, ![36864, 2048]⟩
abbrev S8x4x256x4x128 : Shape := ⟨5, ![8, 4, 256, 4, 128]⟩
abbrev S128 : Shape := ⟨1, ![128]⟩
abbrev S4096x64 : Shape := ⟨2, ![4096, 64]⟩
abbrev S32768x3072 : Shape := ⟨2, ![32768, 3072]⟩
abbrev S_ : Shape := ⟨0, ![]⟩
abbrev S8x1x256x4x128 : Shape := ⟨5, ![8, 1, 256, 4, 128]⟩
abbrev S8x256x4x128 : Shape := ⟨4, ![8, 256, 4, 128]⟩

class Facts : Prop where
  slices_S36864x30720_S32768x3072_4096_13312 : S36864x30720.Slices ![4096, 13312] S32768x3072
  bcast_S_S32768x3072 : S_.BroadcastsInDim S32768x3072 (![] : Fin 0 → Fin S32768x3072.rank)
  reducesTo_S32768x3072_S_d0_1 : S32768x3072.ReducesTo [0, 1] S_
  h_S_ : 0 < S_.numel
  slices_S8x4x256x4x128_S8x1x256x4x128_0_0_0_0_0 : S8x4x256x4x128.Slices ![0, 0, 0, 0, 0] S8x1x256x4x128
  shapeCasts_S8x1x256x4x128_S8x256x4x128 : S8x1x256x4x128.ShapeCasts S8x256x4x128
  bcast_S_S8x256x4x128 : S_.BroadcastsInDim S8x256x4x128 (![] : Fin 0 → Fin S8x256x4x128.rank)
  reducesTo_S8x256x4x128_S_d0_1_2_3 : S8x256x4x128.ReducesTo [0, 1, 2, 3] S_
  bcast_S_S128 : S_.BroadcastsInDim S128 (![] : Fin 0 → Fin S128.rank)
  reducesTo_S128_S_d0 : S128.ReducesTo [0] S_
  bcast_S_S4096x64 : S_.BroadcastsInDim S4096x64 (![] : Fin 0 → Fin S4096x64.rank)
  reducesTo_S4096x64_S_d0_1 : S4096x64.ReducesTo [0, 1] S_

variable [Facts]

def fn_part2 {F : FTy → Type} [FloatOps F] (main_v33 : IVec S_ 1) (main_v34 : FVec F S4096x64 .f32) (main_cst_10 : FVec F S_ .f32) : IVec S_ 1 :=
  let main_v35 : FVec F S4096x64 .f32 := broadcastInDim S4096x64 ![] bcast_S_S4096x64 main_cst_10
  let main_v36 : IVec S4096x64 1 := cmpf .olt main_v34 main_v35
  let main_c_11 : IVec S_ 1 := constantI S_ 1 1#1
  let main_v37 : IVec S_ 1 := (fun x v => Host.reduce IntOp.andi x v reducesTo_S4096x64_S_d0_1 h_S_) main_v36 main_c_11
  let main_v38 : IVec S_ 1 := andi main_v33 main_v37
  main_v38

def fn_part1 {F : FTy → Type} [FloatOps F] (main_arg4 : FVec F S128 .f32) (main_arg5 : FVec F S128 .f32) (main_arg6 : FVec F S4096x64 .f32) (main_arg7 : FVec F S4096x64 .f32) (main_v11 : IVec S_ 1) (main_v17 : IVec S_ 1) : IVec S_ 1 :=
  let main_v18 : IVec S_ 1 := andi main_v11 main_v17
  let main_v19 : FVec F S128 .f32 := Host.absf main_arg4
  let main_cst_4 : FVec F S_ .f32 := constant S_ .f32 0x7F800000#32
  let main_v20 : FVec F S128 .f32 := broadcastInDim S128 ![] bcast_S_S128 main_cst_4
  let main_v21 : IVec S128 1 := cmpf .olt main_v19 main_v20
  let main_c_5 : IVec S_ 1 := constantI S_ 1 1#1
  let main_v22 : IVec S_ 1 := (fun x v => Host.reduce IntOp.andi x v reducesTo_S128_S_d0 h_S_) main_v21 main_c_5
  let main_v23 : IVec S_ 1 := andi main_v18 main_v22
  let main_v24 : FVec F S128 .f32 := Host.absf main_arg5
  let main_cst_6 : FVec F S_ .f32 := constant S_ .f32 0x7F800000#32
  let main_v25 : FVec F S128 .f32 := broadcastInDim S128 ![] bcast_S_S128 main_cst_6
  let main_v26 : IVec S128 1 := cmpf .olt main_v24 main_v25
  let main_c_7 : IVec S_ 1 := constantI S_ 1 1#1
  let main_v27 : IVec S_ 1 := (fun x v => Host.reduce IntOp.andi x v reducesTo_S128_S_d0 h_S_) main_v26 main_c_7
  let main_v28 : IVec S_ 1 := andi main_v23 main_v27
  let main_v29 : FVec F S4096x64 .f32 := Host.absf main_arg6
  let main_cst_8 : FVec F S_ .f32 := constant S_ .f32 0x7F800000#32
  let main_v30 : FVec F S4096x64 .f32 := broadcastInDim S4096x64 ![] bcast_S_S4096x64 main_cst_8
  let main_v31 : IVec S4096x64 1 := cmpf .olt main_v29 main_v30
  let main_c_9 : IVec S_ 1 := constantI S_ 1 1#1
  let main_v32 : IVec S_ 1 := (fun x v => Host.reduce IntOp.andi x v reducesTo_S4096x64_S_d0_1 h_S_) main_v31 main_c_9
  let main_v33 : IVec S_ 1 := andi main_v28 main_v32
  let main_v34 : FVec F S4096x64 .f32 := Host.absf main_arg7
  let main_cst_10 : FVec F S_ .f32 := constant S_ .f32 0x7F800000#32
  fn_part2 (F := F) main_v33 main_v34 main_cst_10

def fn {F : FTy → Type} [FloatOps F] (main_arg0 : FVec F S36864x30720 .f32) (main_arg1 : FVec F S36864x2048 .bf16) (main_arg2 : FVec F S8x4x256x4x128 .f32) (main_arg3 : FVec F S8x4x256x4x128 .f32) (main_arg4 : FVec F S128 .f32) (main_arg5 : FVec F S128 .f32) (main_arg6 : FVec F S4096x64 .f32) (main_arg7 : FVec F S4096x64 .f32) : IVec S_ 1 :=
  let main_v0 : FVec F S32768x3072 .f32 := (extractStridedSlice S32768x3072 ![4096, 13312] · slices_S36864x30720_S32768x3072_4096_13312) main_arg0
  let main_v1 : FVec F S32768x3072 .f32 := Host.absf main_v0
  let main_cst : FVec F S_ .f32 := constant S_ .f32 0x7F800000#32
  let main_v2 : FVec F S32768x3072 .f32 := broadcastInDim S32768x3072 ![] bcast_S_S32768x3072 main_cst
  let main_v3 : IVec S32768x3072 1 := cmpf .olt main_v1 main_v2
  let main_c : IVec S_ 1 := constantI S_ 1 1#1
  let main_v4 : IVec S_ 1 := (fun x v => Host.reduce IntOp.andi x v reducesTo_S32768x3072_S_d0_1 h_S_) main_v3 main_c
  let main_v5 : FVec F S8x1x256x4x128 .f32 := (extractStridedSlice S8x1x256x4x128 ![0, 0, 0, 0, 0] · slices_S8x4x256x4x128_S8x1x256x4x128_0_0_0_0_0) main_arg2
  let main_v6 : FVec F S8x256x4x128 .f32 := shapeCast S8x256x4x128 main_v5 shapeCasts_S8x1x256x4x128_S8x256x4x128
  let main_v7 : FVec F S8x256x4x128 .f32 := Host.absf main_v6
  let main_cst_0 : FVec F S_ .f32 := constant S_ .f32 0x7F800000#32
  let main_v8 : FVec F S8x256x4x128 .f32 := broadcastInDim S8x256x4x128 ![] bcast_S_S8x256x4x128 main_cst_0
  let main_v9 : IVec S8x256x4x128 1 := cmpf .olt main_v7 main_v8
  let main_c_1 : IVec S_ 1 := constantI S_ 1 1#1
  let main_v10 : IVec S_ 1 := (fun x v => Host.reduce IntOp.andi x v reducesTo_S8x256x4x128_S_d0_1_2_3 h_S_) main_v9 main_c_1
  let main_v11 : IVec S_ 1 := andi main_v4 main_v10
  let main_v12 : FVec F S8x1x256x4x128 .f32 := (extractStridedSlice S8x1x256x4x128 ![0, 0, 0, 0, 0] · slices_S8x4x256x4x128_S8x1x256x4x128_0_0_0_0_0) main_arg3
  let main_v13 : FVec F S8x256x4x128 .f32 := shapeCast S8x256x4x128 main_v12 shapeCasts_S8x1x256x4x128_S8x256x4x128
  let main_v14 : FVec F S8x256x4x128 .f32 := Host.absf main_v13
  let main_cst_2 : FVec F S_ .f32 := constant S_ .f32 0x7F800000#32
  let main_v15 : FVec F S8x256x4x128 .f32 := broadcastInDim S8x256x4x128 ![] bcast_S_S8x256x4x128 main_cst_2
  let main_v16 : IVec S8x256x4x128 1 := cmpf .olt main_v14 main_v15
  let main_c_3 : IVec S_ 1 := constantI S_ 1 1#1
  let main_v17 : IVec S_ 1 := (fun x v => Host.reduce IntOp.andi x v reducesTo_S8x256x4x128_S_d0_1_2_3 h_S_) main_v16 main_c_3
  fn_part1 (F := F) main_arg4 main_arg5 main_arg6 main_arg7 main_v11 main_v17
-- ==== Pre_finite_glob.lean ====
abbrev S36864x30720 : Shape := ⟨2, ![36864, 30720]⟩
abbrev S128 : Shape := ⟨1, ![128]⟩
abbrev S4096x3072 : Shape := ⟨2, ![4096, 3072]⟩
abbrev S_ : Shape := ⟨0, ![]⟩

class Facts : Prop where
  slices_S36864x30720_S4096x3072_0_13312 : S36864x30720.Slices ![0, 13312] S4096x3072
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S36864x30720 .f32) (main_arg1 : FVec F S128 .f32) (main_arg2 : FVec F S128 .f32) : IVec S_ 1 :=
  let main_v0 : FVec F S4096x3072 .f32 := (extractStridedSlice S4096x3072 ![0, 13312] · slices_S36864x30720_S4096x3072_0_13312) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_v5 : FVec F S128 .f32 := Host.absf main_arg1
  let main_cst_0 : FVec F S_ .f32 := constant S_ .f32 0x7F800000#32
  let main_v6 : FVec F S128 .f32 := broadcastInDim S128 ![] bcast_S_S128 main_cst_0
  let main_v7 : IVec S128 1 := cmpf .olt main_v5 main_v6
  let main_c_1 : IVec S_ 1 := constantI S_ 1 1#1
  let main_v8 : IVec S_ 1 := (fun x v => Host.reduce IntOp.andi x v reducesTo_S128_S_d0 h_S_) main_v7 main_c_1
  let main_v9 : IVec S_ 1 := andi main_v4 main_v8
  let main_v10 : FVec F S128 .f32 := Host.absf main_arg2
  let main_cst_2 : FVec F S_ .f32 := constant S_ .f32 0x7F800000#32
  let main_v11 : FVec F S128 .f32 := broadcastInDim S128 ![] bcast_S_S128 main_cst_2
  let main_v12 : IVec S128 1 := cmpf .olt main_v10 main_v11
  let main_c_3 : IVec S_ 1 := constantI S_ 1 1#1
  let main_v13 : IVec S_ 1 := (fun x v => Host.reduce IntOp.andi x v reducesTo_S128_S_d0 h_S_) main_v12 main_c_3
  let main_v14 : IVec S_ 1 := andi main_v9 main_v13
  main_v14
-- ==== Pre_finite_lat.lean ====
abbrev S36864x30720 : Shape := ⟨2, ![36864, 30720]⟩
abbrev S36864x2048 : Shape := ⟨2, ![36864, 2048]⟩
abbrev S8x4x256x4x128 : Shape := ⟨5, ![8, 4, 256, 4, 128]⟩
abbrev S16 : Shape := ⟨1, ![16]⟩
abbrev S4096x64 : Shape := ⟨2, ![4096, 64]⟩
abbrev S32768x3072 : Shape := ⟨2, ![32768, 3072]⟩
abbrev S_ : Shape := ⟨0, ![]⟩
abbrev S8x1x256x4x128 : Shape := ⟨5, ![8, 1, 256, 4, 128]⟩
abbrev S8x256x4x128 : Shape := ⟨4, ![8, 256, 4, 128]⟩

class Facts : Prop where
  slices_S36864x30720_S32768x3072_4096_8192 : S36864x30720.Slices ![4096, 8192] S32768x3072
  bcast_S_S32768x3072 : S_.BroadcastsInDim S32768x3072 (![] : Fin 0 → Fin S32768x3072.rank)
  reducesTo_S32768x3072_S_d0_1 : S32768x3072.ReducesTo [0, 1] S_
  h_S_ : 0 < S_.numel
  slices_S8x4x256x4x128_S8x1x256x4x128_0_0_0_0_0 : S8x4x256x4x128.Slices ![0, 0, 0, 0, 0] S8x1x256x4x128
  shapeCasts_S8x1x256x4x128_S8x256x4x128 : S8x1x256x4x128.ShapeCasts S8x256x4x128
  bcast_S_S8x256x4x128 : S_.BroadcastsInDim S8x256x4x128 (![] : Fin 0 → Fin S8x256x4x128.rank)
  reducesTo_S8x256x4x128_S_d0_1_2_3 : S8x256x4x128.ReducesTo [0, 1, 2, 3] S_
  bcast_S_S16 : S_.BroadcastsInDim S16 (![] : Fin 0 → Fin S16.rank)
  reducesTo_S16_S_d0 : S16.ReducesTo [0] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_arg4 : FVec F S16 .f32) (main_arg5 : FVec F S4096x64 .f32) (main_arg6 : FVec F S4096x64 .f32) (main_v11 : IVec S_ 1) (main_v17 : IVec S_ 1) : IVec S_ 1 :=
  let main_v18 : IVec S_ 1 := andi main_v11 main_v17
  let main_v19 : FVec F S16 .f32 := Host.absf main_arg4
  let main_cst_4 : FVec F S_ .f32 := constant S_ .f32 0x7F800000#32
  let main_v20 : FVec F S16 .f32 := broadcastInDim S16 ![] bcast_S_S16 main_cst_4
  let main_v21 : IVec S16 1 := cmpf .olt main_v19 main_v20
  let main_c_5 : IVec S_ 1 := constantI S_ 1 1#1
  let main_v22 : IVec S_ 1 := (fun x v => Host.reduce IntOp.andi x v reducesTo_S16_S_d0 h_S_) main_v21 main_c_5
  let main_v23 : IVec S_ 1 := andi main_v18 main_v22
  let main_v24 : FVec F S4096x64 .f32 := Host.absf main_arg5
  let main_cst_6 : FVec F S_ .f32 := constant S_ .f32 0x7F800000#32
  let main_v25 : FVec F S4096x64 .f32 := broadcastInDim S4096x64 ![] bcast_S_S4096x64 main_cst_6
  let main_v26 : IVec S4096x64 1 := cmpf .olt main_v24 main_v25
  let main_c_7 : IVec S_ 1 := constantI S_ 1 1#1
  let main_v27 : IVec S_ 1 := (fun x v => Host.reduce IntOp.andi x v reducesTo_S4096x64_S_d0_1 h_S_) main_v26 main_c_7
  let main_v28 : IVec S_ 1 := andi main_v23 main_v27
  let main_v29 : FVec F S4096x64 .f32 := Host.absf main_arg6
  let main_cst_8 : FVec F S_ .f32 := constant S_ .f32 0x7F800000#32
  let main_v30 : FVec F S4096x64 .f32 := broadcastInDim S4096x64 ![] bcast_S_S4096x64 main_cst_8
  let main_v31 : IVec S4096x64 1 := cmpf .olt main_v29 main_v30
  let main_c_9 : IVec S_ 1 := constantI S_ 1 1#1
  let main_v32 : IVec S_ 1 := (fun x v => Host.reduce IntOp.andi x v reducesTo_S4096x64_S_d0_1 h_S_) main_v31 main_c_9
  let main_v33 : IVec S_ 1 := andi main_v28 main_v32
  main_v33

def fn {F : FTy → Type} [FloatOps F] (main_arg0 : FVec F S36864x30720 .f32) (main_arg1 : FVec F S36864x2048 .bf16) (main_arg2 : FVec F S8x4x256x4x128 .f32) (main_arg3 : FVec F S8x4x256x4x128 .f32) (main_arg4 : FVec F S16 .f32) (main_arg5 : FVec F S4096x64 .f32) (main_arg6 : FVec F S4096x64 .f32) : IVec S_ 1 :=
  let main_v0 : FVec F S32768x3072 .f32 := (extractStridedSlice S32768x3072 ![4096, 8192] · slices_S36864x30720_S32768x3072_4096_8192) main_arg0
  let main_v1 : FVec F S32768x3072 .f32 := Host.absf main_v0
  let main_cst : FVec F S_ .f32 := constant S_ .f32 0x7F800000#32
  let main_v2 : FVec F S32768x3072 .f32 := broadcastInDim S32768x3072 ![] bcast_S_S32768x3072 main_cst
  let main_v3 : IVec S32768x3072 1 := cmpf .olt main_v1 main_v2
  let main_c : IVec S_ 1 := constantI S_ 1 1#1
  let main_v4 : IVec S_ 1 := (fun x v => Host.reduce IntOp.andi x v reducesTo_S32768x3072_S_d0_1 h_S_) main_v3 main_c
  let main_v5 : FVec F S8x1x256x4x128 .f32 := (extractStridedSlice S8x1x256x4x128 ![0, 0, 0, 0, 0] · slices_S8x4x256x4x128_S8x1x256x4x128_0_0_0_0_0) main_arg2
  let main_v6 : FVec F S8x256x4x128 .f32 := shapeCast S8x256x4x128 main_v5 shapeCasts_S8x1x256x4x128_S8x256x4x128
  let main_v7 : FVec F S8x256x4x128 .f32 := Host.absf main_v6
  let main_cst_0 : FVec F S_ .f32 := constant S_ .f32 0x7F800000#32
  let main_v8 : FVec F S8x256x4x128 .f32 := broadcastInDim S8x256x4x128 ![] bcast_S_S8x256x4x128 main_cst_0
  let main_v9 : IVec S8x256x4x128 1 := cmpf .olt main_v7 main_v8
  let main_c_1 : IVec S_ 1 := constantI S_ 1 1#1
  let main_v10 : IVec S_ 1 := (fun x v => Host.reduce IntOp.andi x v reducesTo_S8x256x4x128_S_d0_1_2_3 h_S_) main_v9 main_c_1
  let main_v11 : IVec S_ 1 := andi main_v4 main_v10
  let main_v12 : FVec F S8x1x256x4x128 .f32 := (extractStridedSlice S8x1x256x4x128 ![0, 0, 0, 0, 0] · slices_S8x4x256x4x128_S8x1x256x4x128_0_0_0_0_0) main_arg3
  let main_v13 : FVec F S8x256x4x128 .f32 := shapeCast S8x256x4x128 main_v12 shapeCasts_S8x1x256x4x128_S8x256x4x128
  let main_v14 : FVec F S8x256x4x128 .f32 := Host.absf main_v13
  let main_cst_2 : FVec F S_ .f32 := constant S_ .f32 0x7F800000#32
  let main_v15 : FVec F S8x256x4x128 .f32 := broadcastInDim S8x256x4x128 ![] bcast_S_S8x256x4x128 main_cst_2
  let main_v16 : IVec S8x256x4x128 1 := cmpf .olt main_v14 main_v15
  let main_c_3 : IVec S_ 1 := constantI S_ 1 1#1
  let main_v17 : IVec S_ 1 := (fun x v => Host.reduce IntOp.andi x v reducesTo_S8x256x4x128_S_d0_1_2_3 h_S_) main_v16 main_c_3
  fn_part1 (F := F) main_arg4 main_arg5 main_arg6 main_v11 main_v17
-- ==== Pre_finite_win.lean ====
abbrev S36864x30720 : Shape := ⟨2, ![36864, 30720]⟩
abbrev S16 : Shape := ⟨1, ![16]⟩
abbrev S4096x3072 : Shape := ⟨2, ![4096, 3072]⟩
abbrev S_ : Shape := ⟨0, ![]⟩

class Facts : Prop where
  slices_S36864x30720_S4096x3072_0_8192 : S36864x30720.Slices ![0, 8192] S4096x3072
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S36864x30720 .f32) (main_arg1 : FVec F S16 .f32) : IVec S_ 1 :=
  let main_v0 : FVec F S4096x3072 .f32 := (extractStridedSlice S4096x3072 ![0, 8192] · slices_S36864x30720_S4096x3072_0_8192) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_v5 : FVec F S16 .f32 := Host.absf main_arg1
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  main_v9
-- ==== Kernel.lean ====
abbrev S36864x30720 : Shape := ⟨2, ![36864, 30720]⟩
abbrev S36864x2048 : Shape := ⟨2, ![36864, 2048]⟩
abbrev S8x4x256x4x128 : Shape := ⟨5, ![8, 4, 256, 4, 128]⟩
abbrev S128 : Shape := ⟨1, ![128]⟩
abbrev S4096x64 : Shape := ⟨2, ![4096, 64]⟩
abbrev S4096x128 : Shape := ⟨2, ![4096, 128]⟩
abbrev S8x4x256x512 : Shape := ⟨4, ![8, 4, 256, 512]⟩
abbrev S1x128 : Shape := ⟨2, ![1, 128]⟩
abbrev S512x512 : Shape := ⟨2, ![512, 512]⟩
abbrev S1x1x256x128 : Shape := ⟨4, ![1, 1, 256, 128]⟩
abbrev S512x128 : Shape := ⟨2, ![512, 128]⟩
abbrev S4352x128 : Shape := ⟨2, ![4352, 128]⟩
abbrev S4352x256 : Shape := ⟨2, ![4352, 256]⟩
abbrev S4096 : Shape := ⟨1, ![4096]⟩
abbrev S4096x1 : Shape := ⟨2, ![4096, 1]⟩
abbrev S256x128 : Shape := ⟨2, ![256, 128]⟩
abbrev S128x128 : Shape := ⟨2, ![128, 128]⟩
abbrev S128x1 : Shape := ⟨2, ![128, 1]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 16
  | .vmem => 24
  | .smem => 0
  | _ => 0

abbrev bufTy : (tb : Table) → Fin (tcTables nBuf tb) → BufTy
  | .hbm, ⟨0, _⟩ => ⟨S36864x30720, .f32⟩
  | .hbm, ⟨1, _⟩ => ⟨S36864x2048, .bf16⟩
  | .hbm, ⟨2, _⟩ => ⟨S8x4x256x4x128, .f32⟩
  | .hbm, ⟨3, _⟩ => ⟨S8x4x256x4x128, .f32⟩
  | .hbm, ⟨4, _⟩ => ⟨S128, .f32⟩
  | .hbm, ⟨5, _⟩ => ⟨S128, .f32⟩
  | .hbm, ⟨6, _⟩ => ⟨S4096x64, .f32⟩
  | .hbm, ⟨7, _⟩ => ⟨S4096x64, .f32⟩
  | .hbm, ⟨8, _⟩ => ⟨S4096x128, .f32⟩
  | .hbm, ⟨9, _⟩ => ⟨S4096x64, .f32⟩
  | .hbm, ⟨10, _⟩ => ⟨S4096x128, .f32⟩
  | .hbm, ⟨11, _⟩ => ⟨S8x4x256x512, .f32⟩
  | .hbm, ⟨12, _⟩ => ⟨S8x4x256x512, .f32⟩
  | .hbm, ⟨13, _⟩ => ⟨S1x128, .f32⟩
  | .hbm, ⟨14, _⟩ => ⟨S1x128, .f32⟩
  | .hbm, ⟨15, _⟩ => ⟨S36864x2048, .bf16⟩
  | .local _ .vmem, ⟨0, _⟩ => ⟨S512x512, .f32⟩
  | .local _ .vmem, ⟨1, _⟩ => ⟨S512x512, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x512, .f32⟩
  | .local _ .vmem, ⟨7, _⟩ => ⟨S512x512, .f32⟩
  | .local _ .vmem, ⟨8, _⟩ => ⟨S1x1x256x128, .f32⟩
  | .local _ .vmem, ⟨9, _⟩ => ⟨S1x1x256x128, .f32⟩
  | .local _ .vmem, ⟨10, _⟩ => ⟨S1x1x256x128, .f32⟩
  | .local _ .vmem, ⟨11, _⟩ => ⟨S1x1x256x128, .f32⟩
  | .local _ .vmem, ⟨12, _⟩ => ⟨S1x128, .f32⟩
  | .local _ .vmem, ⟨13, _⟩ => ⟨S1x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S4096x128, .f32⟩
  | .local _ .vmem, ⟨19, _⟩ => ⟨S4096x128, .f32⟩
  | .local _ .vmem, ⟨20, _⟩ => ⟨S512x512, .bf16⟩
  | .local _ .vmem, ⟨21, _⟩ => ⟨S512x512, .bf16⟩
  | .local _ .vmem, ⟨22, _⟩ => ⟨S4352x128, .bf16⟩
  | .local _ .vmem, ⟨23, _⟩ => ⟨S4352x256, .bf16⟩
  | _, _ => ⟨S36864x30720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c8_i32_0 : BitVec 32 := 8#32
  let v1 : BitVec 32 := Scalar.addi c8_i32_0 v0
  let v2 : BitVec 32 := Scalar.addi v1 arg2
  let c26_i32 : BitVec 32 := 26#32
  let v3 : BitVec 32 := Scalar.addi c26_i32 arg1
  let c0_i32 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c120_i32 : BitVec 32 := 120#32
  let v1 : BitVec 32 := Scalar.addi c120_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c124_i32 : BitVec 32 := 124#32
  let v1 : BitVec 32 := Scalar.addi c124_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c8_i32_0 : BitVec 32 := 8#32
  let v1 : BitVec 32 := Scalar.addi c8_i32_0 v0
  let v2 : BitVec 32 := Scalar.addi v1 arg2
  let c32_i32 : BitVec 32 := 32#32
  let v3 : BitVec 32 := Scalar.addi c32_i32 arg1
  let c0_i32 : BitVec 32 := 0#32
  ![v2.toNat, v3.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c8_i32_0 : BitVec 32 := 8#32
  let v1 : BitVec 32 := Scalar.addi c8_i32_0 v0
  let v2 : BitVec 32 := Scalar.addi v1 arg2
  let c0_i32 : BitVec 32 := 0#32
  ![v2.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 1 → Memref sig .tc .vmem S4096x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== KernelIdeal.lean ====
variable {F : FTy → Type} [FloatOps F] [Named F]
def κ : String → Option EReal := fun
  | "qscale" => some ((((Real.sqrt 128) * (Real.log 2))⁻¹ : ℝ) : EReal)
  | _ => none
-- ==== Reference.lean ====
abbrev S36864x30720 : Shape := ⟨2, ![36864, 30720]⟩
abbrev S36864x2048 : Shape := ⟨2, ![36864, 2048]⟩
abbrev S8x4x256x4x128 : Shape := ⟨5, ![8, 4, 256, 4, 128]⟩
abbrev S128 : Shape := ⟨1, ![128]⟩
abbrev S4096x64 : Shape := ⟨2, ![4096, 64]⟩
abbrev S32768x30720 : Shape := ⟨2, ![32768, 30720]⟩
abbrev S8x4096x30720 : Shape := ⟨3, ![8, 4096, 30720]⟩
abbrev S8x4096x2048 : Shape := ⟨3, ![8, 4096, 2048]⟩
abbrev S8x4096x16x128 : Shape := ⟨4, ![8, 4096, 16, 128]⟩
abbrev S_ : Shape := ⟨0, ![]⟩
abbrev S8x4096x16 : Shape := ⟨3, ![8, 4096, 16]⟩
abbrev S8x4096x16x1 : Shape := ⟨4, ![8, 4096, 16, 1]⟩
abbrev S1x1x1x128 : Shape := ⟨4, ![1, 1, 1, 128]⟩
abbrev S8x4096x16x64 : Shape := ⟨4, ![8, 4096, 16, 64]⟩
abbrev S1x4096x1x64 : Shape := ⟨4, ![1, 4096, 1, 64]⟩
abbrev S8x4096x512 : Shape := ⟨3, ![8, 4096, 512]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S8x4096x4x64 : Shape := ⟨4, ![8, 4096, 4, 64]⟩
abbrev S8x1x256x4x128 : Shape := ⟨5, ![8, 1, 256, 4, 128]⟩
abbrev S8x256x4x128 : Shape := ⟨4, ![8, 256, 4, 128]⟩
abbrev S8x4352x4x128 : Shape := ⟨4, ![8, 4352, 4, 128]⟩
abbrev S8x4096x4x4x128 : Shape := ⟨5, ![8, 4096, 4, 4, 128]⟩
abbrev S8x4x4352x4096x4 : Shape := ⟨5, ![8, 4, 4352, 4096, 4]⟩
abbrev S8x4x4x4096x4352 : Shape := ⟨5, ![8, 4, 4, 4096, 4352]⟩
abbrev S8x4x4x4096 : Shape := ⟨4, ![8, 4, 4, 4096]⟩
abbrev S8x4x4x4096x1 : Shape := ⟨5, ![8, 4, 4, 4096, 1]⟩
abbrev S8x4x128x4x4096 : Shape := ⟨5, ![8, 4, 128, 4, 4096]⟩
abbrev S32768x2048 : Shape := ⟨2, ![32768, 2048]⟩
abbrev S4096x2048 : Shape := ⟨2, ![4096, 2048]⟩

abbrev nBuf : Space → Nat
  | .hbm => 123
  | .vmem => 0
  | .smem => 0
  | _ => 0

abbrev bufTy : (tb : Table) → Fin (tcTables nBuf tb) → BufTy
  | .hbm, ⟨0, _⟩ => ⟨S36864x30720, .f32⟩
  | .hbm, ⟨1, _⟩ => ⟨S36864x2048, .bf16⟩
  | .hbm, ⟨2, _⟩ => ⟨S8x4x256x4x128, .f32⟩
  | .hbm, ⟨3, _⟩ => ⟨S8x4x256x4x128, .f32⟩
  | .hbm, ⟨4, _⟩ => ⟨S128, .f32⟩
  | .hbm, ⟨5, _⟩ => ⟨S128, .f32⟩
  | .hbm, ⟨6, _⟩ => ⟨S4096x64, .f32⟩
  | .hbm, ⟨7, _⟩ => ⟨S4096x64, .f32⟩
  | .hbm, ⟨8, _⟩ => ⟨S32768x30720, .f32⟩
  | .hbm, ⟨9, _⟩ => ⟨S8x4096x30720, .f32⟩
  | .hbm, ⟨10, _⟩ => ⟨S8x4096x2048, .f32⟩
  | .hbm, ⟨11, _⟩ => ⟨S8x4096x16x128, .f32⟩
  | .hbm, ⟨12, _⟩ => ⟨S8x4096x16x128, .f32⟩
  | .hbm, ⟨13, _⟩ => ⟨S_, .f32⟩
  | .hbm, ⟨14, _⟩ => ⟨S8x4096x16, .f32⟩
  | .hbm, ⟨15, _⟩ => ⟨S8x4096x16x1, .f32⟩
  | .hbm, ⟨16, _⟩ => ⟨S_, .f32⟩
  | .hbm, ⟨17, _⟩ => ⟨S8x4096x16x1, .f32⟩
  | .hbm, ⟨18, _⟩ => ⟨S8x4096x16x1, .f32⟩
  | .hbm, ⟨19, _⟩ => ⟨S_, .f32⟩
  | .hbm, ⟨20, _⟩ => ⟨S8x4096x16x1, .f32⟩
  | .hbm, ⟨21, _⟩ => ⟨S8x4096x16x1, .f32⟩
  | .hbm, ⟨22, _⟩ => ⟨S8x4096x16x1, .f32⟩
  | .hbm, ⟨23, _⟩ => ⟨S8x4096x16x128, .f32⟩
  | .hbm, ⟨24, _⟩ => ⟨S8x4096x16x128, .f32⟩
  | .hbm, ⟨25, _⟩ => ⟨S1x1x1x128, .f32⟩
  | .hbm, ⟨26, _⟩ => ⟨S8x4096x16x128, .f32⟩
  | .hbm, ⟨27, _⟩ => ⟨S8x4096x16x128, .f32⟩
  | .hbm, ⟨28, _⟩ => ⟨S8x4096x16x64, .f32⟩
  | .hbm, ⟨29, _⟩ => ⟨S8x4096x16x64, .f32⟩
  | .hbm, ⟨30, _⟩ => ⟨S1x4096x1x64, .f32⟩
  | .hbm, ⟨31, _⟩ => ⟨S1x4096x1x64, .f32⟩
  | .hbm, ⟨32, _⟩ => ⟨S8x4096x16x64, .f32⟩
  | .hbm, ⟨33, _⟩ => ⟨S8x4096x16x64, .f32⟩
  | .hbm, ⟨34, _⟩ => ⟨S8x4096x16x64, .f32⟩
  | .hbm, ⟨35, _⟩ => ⟨S8x4096x16x64, .f32⟩
  | .hbm, ⟨36, _⟩ => ⟨S8x4096x16x64, .f32⟩
  | .hbm, ⟨37, _⟩ => ⟨S8x4096x16x64, .f32⟩
  | .hbm, ⟨38, _⟩ => ⟨S8x4096x16x64, .f32⟩
  | .hbm, ⟨39, _⟩ => ⟨S8x4096x16x64, .f32⟩
  | .hbm, ⟨40, _⟩ => ⟨S8x4096x16x64, .f32⟩
  | .hbm, ⟨41, _⟩ => ⟨S8x4096x16x64, .f32⟩
  | .hbm, ⟨42, _⟩ => ⟨S8x4096x16x128, .f32⟩
  | .hbm, ⟨43, _⟩ => ⟨S8x4096x512, .f32⟩
  | .hbm, ⟨44, _⟩ => ⟨S8x4096x4x128, .f32⟩
  | .hbm, ⟨45, _⟩ => ⟨S8x4096x4x128, .f32⟩
  | .hbm, ⟨46, _⟩ => ⟨S_, .f32⟩
  | .hbm, ⟨47, _⟩ => ⟨S8x4096x4, .f32⟩
  | .hbm, ⟨48, _⟩ => ⟨S8x4096x4x1, .f32⟩
  | .hbm, ⟨49, _⟩ => ⟨S_, .f32⟩
  | .hbm, ⟨50, _⟩ => ⟨S8x4096x4x1, .f32⟩
  | .hbm, ⟨51, _⟩ => ⟨S8x4096x4x1, .f32⟩
  | .hbm, ⟨52, _⟩ => ⟨S_, .f32⟩
  | .hbm, ⟨53, _⟩ => ⟨S8x4096x4x1, .f32⟩
  | .hbm, ⟨54, _⟩ => ⟨S8x4096x4x1, .f32⟩
  | .hbm, ⟨55, _⟩ => ⟨S8x4096x4x1, .f32⟩
  | .hbm, ⟨56, _⟩ => ⟨S8x4096x4x128, .f32⟩
  | .hbm, ⟨57, _⟩ => ⟨S8x4096x4x128, .f32⟩
  | .hbm, ⟨58, _⟩ => ⟨S1x1x1x128, .f32⟩
  | .hbm, ⟨59, _⟩ => ⟨S8x4096x4x128, .f32⟩
  | .hbm, ⟨60, _⟩ => ⟨S8x4096x4x128, .f32⟩
  | .hbm, ⟨61, _⟩ => ⟨S8x4096x4x64, .f32⟩
  | .hbm, ⟨62, _⟩ => ⟨S8x4096x4x64, .f32⟩
  | .hbm, ⟨63, _⟩ => ⟨S1x4096x1x64, .f32⟩
  | .hbm, ⟨64, _⟩ => ⟨S1x4096x1x64, .f32⟩
  | .hbm, ⟨65, _⟩ => ⟨S8x4096x4x64, .f32⟩
  | .hbm, ⟨66, _⟩ => ⟨S8x4096x4x64, .f32⟩
  | .hbm, ⟨67, _⟩ => ⟨S8x4096x4x64, .f32⟩
  | .hbm, ⟨68, _⟩ => ⟨S8x4096x4x64, .f32⟩
  | .hbm, ⟨69, _⟩ => ⟨S8x4096x4x64, .f32⟩
  | .hbm, ⟨70, _⟩ => ⟨S8x4096x4x64, .f32⟩
  | .hbm, ⟨71, _⟩ => ⟨S8x4096x4x64, .f32⟩
  | .hbm, ⟨72, _⟩ => ⟨S8x4096x4x64, .f32⟩
  | .hbm, ⟨73, _⟩ => ⟨S8x4096x4x64, .f32⟩
  | .hbm, ⟨74, _⟩ => ⟨S8x4096x4x64, .f32⟩
  | .hbm, ⟨75, _⟩ => ⟨S8x4096x4x128, .f32⟩
  | .hbm, ⟨76, _⟩ => ⟨S8x4096x512, .f32⟩
  | .hbm, ⟨77, _⟩ => ⟨S8x4096x4x128, .f32⟩
  | .hbm, ⟨78, _⟩ => ⟨S8x4096x2048, .f32⟩
  | .hbm, ⟨79, _⟩ => ⟨S8x1x256x4x128, .f32⟩
  | .hbm, ⟨80, _⟩ => ⟨S8x256x4x128, .f32⟩
  | .hbm, ⟨81, _⟩ => ⟨S8x4352x4x128, .f32⟩
  | .hbm, ⟨82, _⟩ => ⟨S8x1x256x4x128, .f32⟩
  | .hbm, ⟨83, _⟩ => ⟨S8x256x4x128, .f32⟩
  | .hbm, ⟨84, _⟩ => ⟨S8x4352x4x128, .f32⟩
  | .hbm, ⟨85, _⟩ => ⟨S8x4096x4x4x128, .f32⟩
  | .hbm, ⟨86, _⟩ => ⟨S8x4x4352x4096x4, .f32⟩
  | .hbm, ⟨87, _⟩ => ⟨S8x4x4x4096x4352, .f32⟩
  | .hbm, ⟨88, _⟩ => ⟨S_, .f32⟩
  | .hbm, ⟨89, _⟩ => ⟨S_, .f32⟩
  | .hbm, ⟨90, _⟩ => ⟨S8x4x4x4096x4352, .f32⟩
  | .hbm, ⟨91, _⟩ => ⟨S8x4x4x4096x4352, .f32⟩
  | .hbm, ⟨92, _⟩ => ⟨S_, .f32⟩
  | .hbm, ⟨93, _⟩ => ⟨S8x4x4x4096, .f32⟩
  | .hbm, ⟨94, _⟩ => ⟨S_, .f32⟩
  | .hbm, ⟨95, _⟩ => ⟨S8x4x4x4096, .f32⟩
  | .hbm, ⟨96, _⟩ => ⟨S8x4x4x4096, .f32⟩
  | .hbm, ⟨97, _⟩ => ⟨S8x4x4x4096x1, .f32⟩
  | .hbm, ⟨98, _⟩ => ⟨S8x4x4x4096x4352, .f32⟩
  | .hbm, ⟨99, _⟩ => ⟨S8x4x4x4096x4352, .f32⟩
  | .hbm, ⟨100, _⟩ => ⟨S8x4x4x4096x4352, .f32⟩
  | .hbm, ⟨101, _⟩ => ⟨S_, .f32⟩
  | .hbm, ⟨102, _⟩ => ⟨S8x4x4x4096, .f32⟩
  | .hbm, ⟨103, _⟩ => ⟨S8x4x4x4096x1, .f32⟩
  | .hbm, ⟨104, _⟩ => ⟨S8x4x4x4096x4352, .f32⟩
  | .hbm, ⟨105, _⟩ => ⟨S8x4x4x4096x4352, .f32⟩
  | .hbm, ⟨106, _⟩ => ⟨S8x4x128x4x4096, .f32⟩
  | .hbm, ⟨107, _⟩ => ⟨S8x4096x4x4x128, .f32⟩
  | .hbm, ⟨108, _⟩ => ⟨S8x4096x2048, .f32⟩
  | .hbm, ⟨109, _⟩ => ⟨S8x4096x2048, .f32⟩
  | .hbm, ⟨110, _⟩ => ⟨S8x4096x2048, .f32⟩
  | .hbm, ⟨111, _⟩ => ⟨S_, .f32⟩
  | .hbm, ⟨112, _⟩ => ⟨S8x4096x2048, .f32⟩
  | .hbm, ⟨113, _⟩ => ⟨S8x4096x2048, .f32⟩
  | .hbm, ⟨114, _⟩ => ⟨S_, .f32⟩
  | .hbm, ⟨115, _⟩ => ⟨S8x4096x2048, .f32⟩
  | .hbm, ⟨116, _⟩ => ⟨S8x4096x2048, .f32⟩
  | .hbm, ⟨117, _⟩ => ⟨S8x4096x2048, .f32⟩
  | .hbm, ⟨118, _⟩ => ⟨S8x4096x2048, .f32⟩
  | .hbm, ⟨119, _⟩ => ⟨S32768x2048, .f32⟩
  | .hbm, ⟨120, _⟩ => ⟨S32768x2048, .bf16⟩
  | .hbm, ⟨121, _⟩ => ⟨S4096x2048, .bf16⟩
  | .hbm, ⟨122, _⟩ => ⟨S36864x2048, .bf16⟩
  | _, _ => ⟨S36864x30720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_5 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_6 : Ref sig .tc := ⟨.hbm, 92, rfl⟩
abbrev main_v77 : Ref sig .tc := ⟨.hbm, 93, rfl⟩
abbrev main_cst_7 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_8 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_call0_v0 : Ref sig .tc := ⟨.hbm, 109, rfl⟩
abbrev main_call0_v1 : Ref sig .tc := ⟨.hbm, 110, rfl⟩
abbrev main_call0_cst : Ref sig .tc := ⟨.hbm, 111, rfl⟩
abbrev main_call0_v2 : Ref sig .tc := ⟨.hbm, 112, rfl⟩
abbrev main_call0_v3 : Ref sig .tc := ⟨.hbm, 113, rfl⟩
abbrev main_call0_cst_0 : Ref sig .tc := ⟨.hbm, 114, rfl⟩
abbrev main_call0_v4 : Ref sig .tc := ⟨.hbm, 115, rfl⟩
abbrev main_call0_v5 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩

abbrev nD : Nat := 1
abbrev τ : Topo := Topo.v7x

variable {F : FTy → Type} [FloatOps F]
-- ==== InProj.lean ====
abbrev S36864x4096 : Shape := ⟨2, ![36864, 4096]⟩
abbrev S4096x30720 : Shape := ⟨2, ![4096, 30720]⟩
abbrev S36864x30720 : Shape := ⟨2, ![36864, 30720]⟩
abbrev S1024x4096 : Shape := ⟨2, ![1024, 4096]⟩
abbrev S4096x1024 : Shape := ⟨2, ![4096, 1024]⟩
abbrev S1024x1024 : Shape := ⟨2, ![1024, 1024]⟩
abbrev S4096x512 : Shape := ⟨2, ![4096, 512]⟩
abbrev S16x256x4x128 : Shape := ⟨4, ![16, 256, 4, 128]⟩

abbrev nBuf : Space → Nat
  | .hbm => 9
  | .vmem => 6
  | .smem => 0
  | _ => 0

abbrev bufTy : (tb : Table) → Fin (tcTables nBuf tb) → BufTy
  | .hbm, ⟨0, _⟩ => ⟨S36864x4096, .bf16⟩
  | .hbm, ⟨1, _⟩ => ⟨S4096x30720, .bf16⟩
  | .hbm, ⟨2, _⟩ => ⟨S36864x30720, .f32⟩
  | .hbm, ⟨3, _⟩ => ⟨S4096x512, .f32⟩
  | .hbm, ⟨4, _⟩ => ⟨S16x256x4x128, .f32⟩
  | .hbm, ⟨5, _⟩ => ⟨S4096x512, .f32⟩
  | .hbm, ⟨6, _⟩ => ⟨S16x256x4x128, .f32⟩
  | .hbm, ⟨7, _⟩ => ⟨S4096x512, .f32⟩
  | .hbm, ⟨8, _⟩ => ⟨S16x256x4x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S36864x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![36, 30], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S36864x4096 : Shape := ⟨2, ![36864, 4096]⟩
abbrev S4096x30720 : Shape := ⟨2, ![4096, 30720]⟩
abbrev S36864x30720 : Shape := ⟨2, ![36864, 30720]⟩
abbrev S16x256x30720 : Shape := ⟨3, ![16, 256, 30720]⟩
abbrev S16x256x512 : Shape := ⟨3, ![16, 256, 512]⟩
abbrev S16x256x4x128 : Shape := ⟨4, ![16, 256, 4, 128]⟩

abbrev nBuf : Space → Nat
  | .hbm => 13
  | .vmem => 0
  | .smem => 0
  | _ => 0

abbrev bufTy : (tb : Table) → Fin (tcTables nBuf tb) → BufTy
  | .hbm, ⟨0, _⟩ => ⟨S36864x4096, .bf16⟩
  | .hbm, ⟨1, _⟩ => ⟨S4096x30720, .bf16⟩
  | .hbm, ⟨2, _⟩ => ⟨S36864x4096, .f32⟩
  | .hbm, ⟨3, _⟩ => ⟨S4096x30720, .f32⟩
  | .hbm, ⟨4, _⟩ => ⟨S36864x30720, .f32⟩
  | .hbm, ⟨5, _⟩ => ⟨S4096x30720, .f32⟩
  | .hbm, ⟨6, _⟩ => ⟨S16x256x30720, .f32⟩
  | .hbm, ⟨7, _⟩ => ⟨S16x256x512, .f32⟩
  | .hbm, ⟨8, _⟩ => ⟨S16x256x4x128, .f32⟩
  | .hbm, ⟨9, _⟩ => ⟨S16x256x512, .f32⟩
  | .hbm, ⟨10, _⟩ => ⟨S16x256x4x128, .f32⟩
  | .hbm, ⟨11, _⟩ => ⟨S16x256x512, .f32⟩
  | .hbm, ⟨12, _⟩ => ⟨S16x256x4x128, .f32⟩
  | _, _ => ⟨S36864x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Merge.lean ====
abbrev S36864x2048 : Shape := ⟨2, ![36864, 2048]⟩
abbrev S3x2048x4096 : Shape := ⟨3, ![3, 2048, 4096]⟩
abbrev S36864x30720 : Shape := ⟨2, ![36864, 30720]⟩
abbrev S36864x4096 : Shape := ⟨2, ![36864, 4096]⟩
abbrev S1024x2048 : Shape := ⟨2, ![1024, 2048]⟩
abbrev S3x2048x512 : Shape := ⟨3, ![3, 2048, 512]⟩
abbrev S1024x512 : Shape := ⟨2, ![1024, 512]⟩
abbrev S1x2048x512 : Shape := ⟨3, ![1, 2048, 512]⟩
abbrev S2048x512 : Shape := ⟨2, ![2048, 512]⟩

abbrev nBuf : Space → Nat
  | .hbm => 6
  | .vmem => 16
  | .smem => 0
  | _ => 0

abbrev bufTy : (tb : Table) → Fin (tcTables nBuf tb) → BufTy
  | .hbm, ⟨0, _⟩ => ⟨S36864x2048, .bf16⟩
  | .hbm, ⟨1, _⟩ => ⟨S36864x2048, .bf16⟩
  | .hbm, ⟨2, _⟩ => ⟨S36864x2048, .bf16⟩
  | .hbm, ⟨3, _⟩ => ⟨S3x2048x4096, .bf16⟩
  | .hbm, ⟨4, _⟩ => ⟨S36864x30720, .f32⟩
  | .hbm, ⟨5, _⟩ => ⟨S36864x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S3x2048x512, .bf16⟩
  | .local _ .vmem, ⟨7, _⟩ => ⟨S3x2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![36, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S36864x2048 : Shape := ⟨2, ![36864, 2048]⟩
abbrev S3x2048x4096 : Shape := ⟨3, ![3, 2048, 4096]⟩
abbrev S36864x30720 : Shape := ⟨2, ![36864, 30720]⟩
abbrev S36864x12288 : Shape := ⟨2, ![36864, 12288]⟩
abbrev S36864x4096 : Shape := ⟨2, ![36864, 4096]⟩
abbrev S_ : Shape := ⟨0, ![]⟩
abbrev S1x2048x4096 : Shape := ⟨3, ![1, 2048, 4096]⟩
abbrev S2048x4096 : Shape := ⟨2, ![2048, 4096]⟩

abbrev nBuf : Space → Nat
  | .hbm => 57
  | .vmem => 0
  | .smem => 0
  | _ => 0

abbrev bufTy : (tb : Table) → Fin (tcTables nBuf tb) → BufTy
  | .hbm, ⟨0, _⟩ => ⟨S36864x2048, .bf16⟩
  | .hbm, ⟨1, _⟩ => ⟨S36864x2048, .bf16⟩
  | .hbm, ⟨2, _⟩ => ⟨S36864x2048, .bf16⟩
  | .hbm, ⟨3, _⟩ => ⟨S3x2048x4096, .bf16⟩
  | .hbm, ⟨4, _⟩ => ⟨S36864x30720, .f32⟩
  | .hbm, ⟨5, _⟩ => ⟨S36864x12288, .f32⟩
  | .hbm, ⟨6, _⟩ => ⟨S36864x4096, .f32⟩
  | .hbm, ⟨7, _⟩ => ⟨S36864x4096, .f32⟩
  | .hbm, ⟨8, _⟩ => ⟨S36864x4096, .f32⟩
  | .hbm, ⟨9, _⟩ => ⟨S36864x4096, .f32⟩
  | .hbm, ⟨10, _⟩ => ⟨S36864x4096, .f32⟩
  | .hbm, ⟨11, _⟩ => ⟨S_, .f32⟩
  | .hbm, ⟨12, _⟩ => ⟨S36864x4096, .f32⟩
  | .hbm, ⟨13, _⟩ => ⟨S36864x4096, .f32⟩
  | .hbm, ⟨14, _⟩ => ⟨S_, .f32⟩
  | .hbm, ⟨15, _⟩ => ⟨S36864x4096, .f32⟩
  | .hbm, ⟨16, _⟩ => ⟨S36864x4096, .f32⟩
  | .hbm, ⟨17, _⟩ => ⟨S36864x2048, .f32⟩
  | .hbm, ⟨18, _⟩ => ⟨S1x2048x4096, .bf16⟩
  | .hbm, ⟨19, _⟩ => ⟨S2048x4096, .bf16⟩
  | .hbm, ⟨20, _⟩ => ⟨S2048x4096, .f32⟩
  | .hbm, ⟨21, _⟩ => ⟨S36864x4096, .f32⟩
  | .hbm, ⟨22, _⟩ => ⟨S36864x4096, .f32⟩
  | .hbm, ⟨23, _⟩ => ⟨S_, .f32⟩
  | .hbm, ⟨24, _⟩ => ⟨S36864x4096, .f32⟩
  | .hbm, ⟨25, _⟩ => ⟨S36864x4096, .f32⟩
  | .hbm, ⟨26, _⟩ => ⟨S36864x4096, .f32⟩
  | .hbm, ⟨27, _⟩ => ⟨S36864x4096, .f32⟩
  | .hbm, ⟨28, _⟩ => ⟨S_, .f32⟩
  | .hbm, ⟨29, _⟩ => ⟨S36864x4096, .f32⟩
  | .hbm, ⟨30, _⟩ => ⟨S36864x4096, .f32⟩
  | .hbm, ⟨31, _⟩ => ⟨S_, .f32⟩
  | .hbm, ⟨32, _⟩ => ⟨S36864x4096, .f32⟩
  | .hbm, ⟨33, _⟩ => ⟨S36864x4096, .f32⟩
  | .hbm, ⟨34, _⟩ => ⟨S36864x2048, .f32⟩
  | .hbm, ⟨35, _⟩ => ⟨S1x2048x4096, .bf16⟩
  | .hbm, ⟨36, _⟩ => ⟨S2048x4096, .bf16⟩
  | .hbm, ⟨37, _⟩ => ⟨S2048x4096, .f32⟩
  | .hbm, ⟨38, _⟩ => ⟨S36864x4096, .f32⟩
  | .hbm, ⟨39, _⟩ => ⟨S36864x4096, .f32⟩
  | .hbm, ⟨40, _⟩ => ⟨S36864x4096, .f32⟩
  | .hbm, ⟨41, _⟩ => ⟨S36864x4096, .f32⟩
  | .hbm, ⟨42, _⟩ => ⟨S36864x4096, .f32⟩
  | .hbm, ⟨43, _⟩ => ⟨S_, .f32⟩
  | .hbm, ⟨44, _⟩ => ⟨S36864x4096, .f32⟩
  | .hbm, ⟨45, _⟩ => ⟨S36864x4096, .f32⟩
  | .hbm, ⟨46, _⟩ => ⟨S_, .f32⟩
  | .hbm, ⟨47, _⟩ => ⟨S36864x4096, .f32⟩
  | .hbm, ⟨48, _⟩ => ⟨S36864x4096, .f32⟩
  | .hbm, ⟨49, _⟩ => ⟨S36864x2048, .f32⟩
  | .hbm, ⟨50, _⟩ => ⟨S1x2048x4096, .bf16⟩
  | .hbm, ⟨51, _⟩ => ⟨S2048x4096, .bf16⟩
  | .hbm, ⟨52, _⟩ => ⟨S2048x4096, .f32⟩
  | .hbm, ⟨53, _⟩ => ⟨S36864x4096, .f32⟩
  | .hbm, ⟨54, _⟩ => ⟨S36864x4096, .f32⟩
  | .hbm, ⟨55, _⟩ => ⟨S36864x4096, .f32⟩
  | .hbm, ⟨56, _⟩ => ⟨S36864x4096, .bf16⟩
  | _, _ => ⟨S36864x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== OutProj.lean ====
abbrev S36864x4096 : Shape := ⟨2, ![36864, 4096]⟩
abbrev S4096x4096 : Shape := ⟨2, ![4096, 4096]⟩
abbrev S16x3x4096 : Shape := ⟨3, ![16, 3, 4096]⟩
abbrev S1024x4096 : Shape := ⟨2, ![1024, 4096]⟩
abbrev S4096x1024 : Shape := ⟨2, ![4096, 1024]⟩
abbrev S1024x1024 : Shape := ⟨2, ![1024, 1024]⟩
abbrev S1x3x1024 : Shape := ⟨3, ![1, 3, 1024]⟩
abbrev S1x1x1024 : Shape := ⟨3, ![1, 1, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S36864x4096, .bf16⟩
  | .hbm, ⟨1, _⟩ => ⟨S4096x4096, .bf16⟩
  | .hbm, ⟨2, _⟩ => ⟨S36864x4096, .f32⟩
  | .hbm, ⟨3, _⟩ => ⟨S16x3x4096, .f32⟩
  | .hbm, ⟨4, _⟩ => ⟨S36864x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x3x1024, .f32⟩
  | .local _ .vmem, ⟨7, _⟩ => ⟨S1x3x1024, .f32⟩
  | .local _ .vmem, ⟨8, _⟩ => ⟨S1024x1024, .f32⟩
  | .local _ .vmem, ⟨9, _⟩ => ⟨S1024x1024, .f32⟩
  | _, _ => ⟨S36864x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![36, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c4096_i32_1 : BitVec 32 := 4096#32
  let v3 : BitVec 32 := Scalar.divsi v2 c4096_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4096_i32_1 c0_i32_3
  let v10 : BitVec 32 := Scalar.extui v9
  let c0_i32_4 : BitVec 32 := 0#32
  let v11 : BitVec 1 := Scalar.cmpi .slt c4096_i32_1 c0_i32_4
  let v12 : BitVec 32 := Scalar.extui v11
  let v13 : BitVec 32 := Scalar.subi v10 v12
  let v14 : BitVec 1 := Scalar.cmpi .ne v8 v13
  let v15 : BitVec 32 := Scalar.remsi v2 c4096_i32_1
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c0_i32_6 : BitVec 32 := 0#32
  let c0_i32_7 : BitVec 32 := 0#32
  ![v20.toNat, c0_i32_6.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S36864x4096 : Shape := ⟨2, ![36864, 4096]⟩
abbrev S4096x4096 : Shape := ⟨2, ![4096, 4096]⟩
abbrev S16x3x4096 : Shape := ⟨3, ![16, 3, 4096]⟩
abbrev S16x1x4096 : Shape := ⟨3, ![16, 1, 4096]⟩
abbrev S16x4096 : Shape := ⟨2, ![16, 4096]⟩
abbrev S1x4096 : Shape := ⟨2, ![1, 4096]⟩
abbrev S4096 : Shape := ⟨1, ![4096]⟩
abbrev S32768x4096 : Shape := ⟨2, ![32768, 4096]⟩
abbrev S8x4096x4096 : Shape := ⟨3, ![8, 4096, 4096]⟩
abbrev S8x4096 : Shape := ⟨2, ![8, 4096]⟩
abbrev S8x1x4096 : Shape := ⟨3, ![8, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S36864x4096, .bf16⟩
  | .hbm, ⟨1, _⟩ => ⟨S4096x4096, .bf16⟩
  | .hbm, ⟨2, _⟩ => ⟨S36864x4096, .f32⟩
  | .hbm, ⟨3, _⟩ => ⟨S16x3x4096, .f32⟩
  | .hbm, ⟨4, _⟩ => ⟨S36864x4096, .f32⟩
  | .hbm, ⟨5, _⟩ => ⟨S4096x4096, .f32⟩
  | .hbm, ⟨6, _⟩ => ⟨S36864x4096, .f32⟩
  | .hbm, ⟨7, _⟩ => ⟨S16x1x4096, .f32⟩
  | .hbm, ⟨8, _⟩ => ⟨S16x4096, .f32⟩
  | .hbm, ⟨9, _⟩ => ⟨S4096x4096, .f32⟩
  | .hbm, ⟨10, _⟩ => ⟨S1x4096, .f32⟩
  | .hbm, ⟨11, _⟩ => ⟨S4096, .f32⟩
  | .hbm, ⟨12, _⟩ => ⟨S4096x4096, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S32768x4096, .f32⟩
  | .hbm, ⟨18, _⟩ => ⟨S8x4096x4096, .f32⟩
  | .hbm, ⟨19, _⟩ => ⟨S8x4096, .f32⟩
  | .hbm, ⟨20, _⟩ => ⟨S8x1x4096, .f32⟩
  | .hbm, ⟨21, _⟩ => ⟨S32768x4096, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S32768x4096, .f32⟩
  | .hbm, ⟨27, _⟩ => ⟨S36864x4096, .f32⟩
  | _, _ => ⟨S36864x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== FinalPrompt.lean ====
abbrev S36864x4096 : Shape := ⟨2, ![36864, 4096]⟩
abbrev S4096 : Shape := ⟨1, ![4096]⟩
abbrev S1x4096 : Shape := ⟨2, ![1, 4096]⟩
abbrev S4096x4096 : Shape := ⟨2, ![4096, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S36864x4096, .f32⟩
  | .hbm, ⟨1, _⟩ => ⟨S4096, .f32⟩
  | .hbm, ⟨2, _⟩ => ⟨S1x4096, .f32⟩
  | .hbm, ⟨3, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S36864x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalPromptRefIdeal.lean ====
abbrev S36864x4096 : Shape := ⟨2, ![36864, 4096]⟩
abbrev S4096 : Shape := ⟨1, ![4096]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S36864x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | _, _ => ⟨S36864x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FinalSample.lean ====
abbrev S36864x4096 : Shape := ⟨2, ![36864, 4096]⟩
abbrev S4096 : Shape := ⟨1, ![4096]⟩
abbrev S1x4096 : Shape := ⟨2, ![1, 4096]⟩
abbrev S32768x4096 : Shape := ⟨2, ![32768, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S36864x4096, .f32⟩
  | .hbm, ⟨1, _⟩ => ⟨S4096, .f32⟩
  | .hbm, ⟨2, _⟩ => ⟨S1x4096, .f32⟩
  | .hbm, ⟨3, _⟩ => ⟨S32768x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S36864x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalSampleRefIdeal.lean ====
abbrev S36864x4096 : Shape := ⟨2, ![36864, 4096]⟩
abbrev S4096 : Shape := ⟨1, ![4096]⟩
abbrev S32768x4096 : Shape := ⟨2, ![32768, 4096]⟩
abbrev S_ : Shape := ⟨0, ![]⟩
abbrev S32768 : Shape := ⟨1, ![32768]⟩
abbrev S32768x1 : Shape := ⟨2, ![32768, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S36864x4096, .f32⟩
  | .hbm, ⟨1, _⟩ => ⟨S4096, .f32⟩
  | .hbm, ⟨2, _⟩ => ⟨S32768x4096, .f32⟩
  | .hbm, ⟨3, _⟩ => ⟨S32768x4096, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x4096, .f32⟩
  | .hbm, ⟨15, _⟩ => ⟨S32768x4096, .f32⟩
  | .hbm, ⟨16, _⟩ => ⟨S1x4096, .f32⟩
  | .hbm, ⟨17, _⟩ => ⟨S32768x4096, .f32⟩
  | .hbm, ⟨18, _⟩ => ⟨S32768x4096, .f32⟩
  | _, _ => ⟨S36864x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Prep.lean ====
abbrev S36864x4096 : Shape := ⟨2, ![36864, 4096]⟩
abbrev S16x3x4096 : Shape := ⟨3, ![16, 3, 4096]⟩
abbrev S4096 : Shape := ⟨1, ![4096]⟩
abbrev S1x4096 : Shape := ⟨2, ![1, 4096]⟩
abbrev S256x4096 : Shape := ⟨2, ![256, 4096]⟩
abbrev S1x3x4096 : Shape := ⟨3, ![1, 3, 4096]⟩
abbrev S256 : Shape := ⟨1, ![256]⟩
abbrev S256x1 : Shape := ⟨2, ![256, 1]⟩
abbrev S1x1x4096 : Shape := ⟨3, ![1, 1, 4096]⟩

abbrev nBuf : Space → Nat
  | .hbm => 5
  | .vmem => 7
  | .smem => 0
  | _ => 0

abbrev bufTy : (tb : Table) → Fin (tcTables nBuf tb) → BufTy
  | .hbm, ⟨0, _⟩ => ⟨S36864x4096, .f32⟩
  | .hbm, ⟨1, _⟩ => ⟨S16x3x4096, .f32⟩
  | .hbm, ⟨2, _⟩ => ⟨S4096, .f32⟩
  | .hbm, ⟨3, _⟩ => ⟨S1x4096, .f32⟩
  | .hbm, ⟨4, _⟩ => ⟨S36864x4096, .bf16⟩
  | .local _ .vmem, ⟨0, _⟩ => ⟨S256x4096, .f32⟩
  | .local _ .vmem, ⟨1, _⟩ => ⟨S256x4096, .f32⟩
  | .local _ .vmem, ⟨2, _⟩ => ⟨S1x3x4096, .f32⟩
  | .local _ .vmem, ⟨3, _⟩ => ⟨S1x3x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S36864x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![144], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c4096_i32_1 : BitVec 32 := 4096#32
  let v3 : BitVec 32 := Scalar.divsi v2 c4096_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4096_i32_1 c0_i32_3
  let v10 : BitVec 32 := Scalar.extui v9
  let c0_i32_4 : BitVec 32 := 0#32
  let v11 : BitVec 1 := Scalar.cmpi .slt c4096_i32_1 c0_i32_4
  let v12 : BitVec 32 := Scalar.extui v11
  let v13 : BitVec 32 := Scalar.subi v10 v12
  let v14 : BitVec 1 := Scalar.cmpi .ne v8 v13
  let v15 : BitVec 32 := Scalar.remsi v2 c4096_i32_1
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c0_i32_6 : BitVec 32 := 0#32
  let c0_i32_7 : BitVec 32 := 0#32
  let c0_i32_8 : BitVec 32 := 0#32
  ![v20.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PrepRefIdeal.lean ====
abbrev S36864x4096 : Shape := ⟨2, ![36864, 4096]⟩
abbrev S16x3x4096 : Shape := ⟨3, ![16, 3, 4096]⟩
abbrev S4096 : Shape := ⟨1, ![4096]⟩
abbrev S_ : Shape := ⟨0, ![]⟩
abbrev S36864 : Shape := ⟨1, ![36864]⟩
abbrev S36864x1 : Shape := ⟨2, ![36864, 1]⟩
abbrev S1x4096 : Shape := ⟨2, ![1, 4096]⟩
abbrev S16x1x4096 : Shape := ⟨3, ![16, 1, 4096]⟩
abbrev S16x4096 : Shape := ⟨2, ![16, 4096]⟩
abbrev S4096x4096 : Shape := ⟨2, ![4096, 4096]⟩
abbrev S32768x4096 : Shape := ⟨2, ![32768, 4096]⟩
abbrev S8x4096x4096 : Shape := ⟨3, ![8, 4096, 4096]⟩
abbrev S8x4096 : Shape := ⟨2, ![8, 4096]⟩
abbrev S8x1x4096 : Shape := ⟨3, ![8, 1, 4096]⟩

abbrev nBuf : Space → Nat
  | .hbm => 53
  | .vmem => 0
  | .smem => 0
  | _ => 0

abbrev bufTy : (tb : Table) → Fin (tcTables nBuf tb) → BufTy
  | .hbm, ⟨0, _⟩ => ⟨S36864x4096, .f32⟩
  | .hbm, ⟨1, _⟩ => ⟨S16x3x4096, .f32⟩
  | .hbm, ⟨2, _⟩ => ⟨S4096, .f32⟩
  | .hbm, ⟨3, _⟩ => ⟨S36864x4096, .f32⟩
  | .hbm, ⟨4, _⟩ => ⟨S_, .f32⟩
  | .hbm, ⟨5, _⟩ => ⟨S36864, .f32⟩
  | .hbm, ⟨6, _⟩ => ⟨S36864x1, .f32⟩
  | .hbm, ⟨7, _⟩ => ⟨S_, .f32⟩
  | .hbm, ⟨8, _⟩ => ⟨S36864x1, .f32⟩
  | .hbm, ⟨9, _⟩ => ⟨S36864x1, .f32⟩
  | .hbm, ⟨10, _⟩ => ⟨S_, .f32⟩
  | .hbm, ⟨11, _⟩ => ⟨S36864x1, .f32⟩
  | .hbm, ⟨12, _⟩ => ⟨S36864x1, .f32⟩
  | .hbm, ⟨13, _⟩ => ⟨S36864x1, .f32⟩
  | .hbm, ⟨14, _⟩ => ⟨S36864x4096, .f32⟩
  | .hbm, ⟨15, _⟩ => ⟨S36864x4096, .f32⟩
  | .hbm, ⟨16, _⟩ => ⟨S1x4096, .f32⟩
  | .hbm, ⟨17, _⟩ => ⟨S36864x4096, .f32⟩
  | .hbm, ⟨18, _⟩ => ⟨S36864x4096, .f32⟩
  | .hbm, ⟨19, _⟩ => ⟨S16x1x4096, .f32⟩
  | .hbm, ⟨20, _⟩ => ⟨S16x4096, .f32⟩
  | .hbm, ⟨21, _⟩ => ⟨S16x1x4096, .f32⟩
  | .hbm, ⟨22, _⟩ => ⟨S16x4096, .f32⟩
  | .hbm, ⟨23, _⟩ => ⟨S4096x4096, .f32⟩
  | .hbm, ⟨24, _⟩ => ⟨S1x4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S1x4096, .f32⟩
  | .hbm, ⟨33, _⟩ => ⟨S4096, .f32⟩
  | .hbm, ⟨34, _⟩ => ⟨S1x4096, .f32⟩
  | .hbm, ⟨35, _⟩ => ⟨S4096x4096, .f32⟩
  | .hbm, ⟨36, _⟩ => ⟨S4096x4096, .f32⟩
  | .hbm, ⟨37, _⟩ => ⟨S32768x4096, .f32⟩
  | .hbm, ⟨38, _⟩ => ⟨S8x4096x4096, .f32⟩
  | .hbm, ⟨39, _⟩ => ⟨S8x4096, .f32⟩
  | .hbm, ⟨40, _⟩ => ⟨S8x1x4096, .f32⟩
  | .hbm, ⟨41, _⟩ => ⟨S_, .f32⟩
  | .hbm, ⟨42, _⟩ => ⟨S8x1x4096, .f32⟩
  | .hbm, ⟨43, _⟩ => ⟨S8x1x4096, .f32⟩
  | .hbm, ⟨44, _⟩ => ⟨S8x4096x4096, .f32⟩
  | .hbm, ⟨45, _⟩ => ⟨S8x4096x4096, .f32⟩
  | .hbm, ⟨46, _⟩ => ⟨S8x4096, .f32⟩
  | .hbm, ⟨47, _⟩ => ⟨S8x1x4096, .f32⟩
  | .hbm, ⟨48, _⟩ => ⟨S8x4096x4096, .f32⟩
  | .hbm, ⟨49, _⟩ => ⟨S8x4096x4096, .f32⟩
  | .hbm, ⟨50, _⟩ => ⟨S32768x4096, .f32⟩
  | .hbm, ⟨51, _⟩ => ⟨S36864x4096, .f32⟩
  | .hbm, ⟨52, _⟩ => ⟨S36864x4096, .bf16⟩
  | _, _ => ⟨S36864x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== InGates.lean ====
abbrev S36864x4096 : Shape := ⟨2, ![36864, 4096]⟩
abbrev S4096x128 : Shape := ⟨2, ![4096, 128]⟩
abbrev S36864x128 : Shape := ⟨2, ![36864, 128]⟩
abbrev S1024x4096 : Shape := ⟨2, ![1024, 4096]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S36864x4096, .bf16⟩
  | .hbm, ⟨1, _⟩ => ⟨S4096x128, .bf16⟩
  | .hbm, ⟨2, _⟩ => ⟨S36864x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S36864x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![36, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGatesRefIdeal.lean ====
abbrev S36864x4096 : Shape := ⟨2, ![36864, 4096]⟩
abbrev S4096x128 : Shape := ⟨2, ![4096, 128]⟩
abbrev S36864x128 : Shape := ⟨2, ![36864, 128]⟩

abbrev nBuf : Space → Nat
  | .hbm => 5
  | .vmem => 0
  | .smem => 0
  | _ => 0

abbrev bufTy : (tb : Table) → Fin (tcTables nBuf tb) → BufTy
  | .hbm, ⟨0, _⟩ => ⟨S36864x4096, .bf16⟩
  | .hbm, ⟨1, _⟩ => ⟨S4096x128, .bf16⟩
  | .hbm, ⟨2, _⟩ => ⟨S36864x4096, .f32⟩
  | .hbm, ⟨3, _⟩ => ⟨S4096x128, .f32⟩
  | .hbm, ⟨4, _⟩ => ⟨S36864x128, .f32⟩
  | _, _ => ⟨S36864x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Modulation.lean ====
abbrev S8x4096 : Shape := ⟨2, ![8, 4096]⟩
abbrev S4096 : Shape := ⟨1, ![4096]⟩
abbrev S4x4096x12288 : Shape := ⟨3, ![4, 4096, 12288]⟩
abbrev S4x12288 : Shape := ⟨2, ![4, 12288]⟩
abbrev S1x4096 : Shape := ⟨2, ![1, 4096]⟩
abbrev S_ : Shape := ⟨0, ![]⟩
abbrev S7x4096 : Shape := ⟨2, ![7, 4096]⟩
abbrev S16x4096 : Shape := ⟨2, ![16, 4096]⟩
abbrev S4x1x12288 : Shape := ⟨3, ![4, 1, 12288]⟩
abbrev S4x16x12288 : Shape := ⟨3, ![4, 16, 12288]⟩
abbrev S16x256 : Shape := ⟨2, ![16, 256]⟩
abbrev S1x256x12288 : Shape := ⟨3, ![1, 256, 12288]⟩
abbrev S1x1x12288 : Shape := ⟨3, ![1, 1, 12288]⟩
abbrev S1x16x12288 : Shape := ⟨3, ![1, 16, 12288]⟩
abbrev S1x12288 : Shape := ⟨2, ![1, 12288]⟩
abbrev S16x12288 : Shape := ⟨2, ![16, 12288]⟩
abbrev S256x12288 : Shape := ⟨2, ![256, 12288]⟩

abbrev nBuf : Space → Nat
  | .hbm => 10
  | .vmem => 8
  | .smem => 0
  | _ => 0

abbrev bufTy : (tb : Table) → Fin (tcTables nBuf tb) → BufTy
  | .hbm, ⟨0, _⟩ => ⟨S8x4096, .f32⟩
  | .hbm, ⟨1, _⟩ => ⟨S4096, .f32⟩
  | .hbm, ⟨2, _⟩ => ⟨S4x4096x12288, .f32⟩
  | .hbm, ⟨3, _⟩ => ⟨S4x12288, .f32⟩
  | .hbm, ⟨4, _⟩ => ⟨S1x4096, .f32⟩
  | .hbm, ⟨5, _⟩ => ⟨S_, .f32⟩
  | .hbm, ⟨6, _⟩ => ⟨S7x4096, .f32⟩
  | .hbm, ⟨7, _⟩ => ⟨S16x4096, .f32⟩
  | .hbm, ⟨8, _⟩ => ⟨S4x1x12288, .f32⟩
  | .hbm, ⟨9, _⟩ => ⟨S4x16x12288, .f32⟩
  | .local _ .vmem, ⟨0, _⟩ => ⟨S16x256, .f32⟩
  | .local _ .vmem, ⟨1, _⟩ => ⟨S16x256, .f32⟩
  | .local _ .vmem, ⟨2, _⟩ => ⟨S1x256x12288, .f32⟩
  | .local _ .vmem, ⟨3, _⟩ => ⟨S1x256x12288, .f32⟩
  | .local _ .vmem, ⟨4, _⟩ => ⟨S1x1x12288, .f32⟩
  | .local _ .vmem, ⟨5, _⟩ => ⟨S1x1x12288, .f32⟩
  | .local _ .vmem, ⟨6, _⟩ => ⟨S1x16x12288, .f32⟩
  | .local _ .vmem, ⟨7, _⟩ => ⟨S1x16x12288, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x12288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ModulationRefIdeal.lean ====
abbrev S8x4096 : Shape := ⟨2, ![8, 4096]⟩
abbrev S4096 : Shape := ⟨1, ![4096]⟩
abbrev S4x4096x12288 : Shape := ⟨3, ![4, 4096, 12288]⟩
abbrev S4x12288 : Shape := ⟨2, ![4, 12288]⟩
abbrev S1x4096 : Shape := ⟨2, ![1, 4096]⟩
abbrev S_ : Shape := ⟨0, ![]⟩
abbrev S7x4096 : Shape := ⟨2, ![7, 4096]⟩
abbrev S16x4096 : Shape := ⟨2, ![16, 4096]⟩
abbrev S4x12288x16 : Shape := ⟨3, ![4, 12288, 16]⟩
abbrev S4x16x12288 : Shape := ⟨3, ![4, 16, 12288]⟩
abbrev S4x1x12288 : Shape := ⟨3, ![4, 1, 12288]⟩

abbrev nBuf : Space → Nat
  | .hbm => 22
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4096, .f32⟩
  | .hbm, ⟨2, _⟩ => ⟨S4x4096x12288, .f32⟩
  | .hbm, ⟨3, _⟩ => ⟨S4x12288, .f32⟩
  | .hbm, ⟨4, _⟩ => ⟨S1x4096, .f32⟩
  | .hbm, ⟨5, _⟩ => ⟨S_, .f32⟩
  | .hbm, ⟨6, _⟩ => ⟨S7x4096, .f32⟩
  | .hbm, ⟨7, _⟩ => ⟨S16x4096, .f32⟩
  | .hbm, ⟨8, _⟩ => ⟨S16x4096, .f32⟩
  | .hbm, ⟨9, _⟩ => ⟨S16x4096, .f32⟩
  | .hbm, ⟨10, _⟩ => ⟨S_, .f32⟩
  | .hbm, ⟨11, _⟩ => ⟨S16x4096, .f32⟩
  | .hbm, ⟨12, _⟩ => ⟨S16x4096, .f32⟩
  | .hbm, ⟨13, _⟩ => ⟨S_, .f32⟩
  | .hbm, ⟨14, _⟩ => ⟨S16x4096, .f32⟩
  | .hbm, ⟨15, _⟩ => ⟨S16x4096, .f32⟩
  | .hbm, ⟨16, _⟩ => ⟨S16x4096, .f32⟩
  | .hbm, ⟨17, _⟩ => ⟨S4x12288x16, .f32⟩
  | .hbm, ⟨18, _⟩ => ⟨S4x16x12288, .f32⟩
  | .hbm, ⟨19, _⟩ => ⟨S4x1x12288, .f32⟩
  | .hbm, ⟨20, _⟩ => ⟨S4x16x12288, .f32⟩
  | .hbm, ⟨21, _⟩ => ⟨S4x16x12288, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== CtxGlob.lean ====
abbrev S36864x30720 : Shape := ⟨2, ![36864, 30720]⟩
abbrev S128 : Shape := ⟨1, ![128]⟩
abbrev S1x128 : Shape := ⟨2, ![1, 128]⟩
abbrev S36864x2048 : Shape := ⟨2, ![36864, 2048]⟩
abbrev S16x256x512 : Shape := ⟨3, ![16, 256, 512]⟩
abbrev S256x512 : Shape := ⟨2, ![256, 512]⟩
abbrev S256x128 : Shape := ⟨2, ![256, 128]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩
abbrev S4096x2048 : Shape := ⟨2, ![4096, 2048]⟩
abbrev S16x256x4x128 : Shape := ⟨4, ![16, 256, 4, 128]⟩

abbrev nBuf : Space → Nat
  | .hbm => 9
  | .vmem => 16
  | .smem => 0
  | _ => 0

abbrev bufTy : (tb : Table) → Fin (tcTables nBuf tb) → BufTy
  | .hbm, ⟨0, _⟩ => ⟨S36864x30720, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S36864x2048, .bf16⟩
  | .hbm, ⟨6, _⟩ => ⟨S16x256x512, .f32⟩
  | .hbm, ⟨7, _⟩ => ⟨S4096x2048, .bf16⟩
  | .hbm, ⟨8, _⟩ => ⟨S16x256x4x128, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | .local _ .vmem, ⟨8, _⟩ => ⟨S1x128, .f32⟩
  | .local _ .vmem, ⟨9, _⟩ => ⟨S1x128, .f32⟩
  | .local _ .vmem, ⟨10, _⟩ => ⟨S256x512, .bf16⟩
  | .local _ .vmem, ⟨11, _⟩ => ⟨S256x512, .bf16⟩
  | .local _ .vmem, ⟨12, _⟩ => ⟨S1x256x128, .f32⟩
  | .local _ .vmem, ⟨13, _⟩ => ⟨S1x256x128, .f32⟩
  | .local _ .vmem, ⟨14, _⟩ => ⟨S256x128, .bf16⟩
  | .local _ .vmem, ⟨15, _⟩ => ⟨S256x256, .bf16⟩
  | _, _ => ⟨S36864x30720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 4, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c26_i32 : BitVec 32 := 26#32
  let v3 : BitVec 32 := Scalar.addi c26_i32 arg1
  let c0_i32_0 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c120_i32 : BitVec 32 := 120#32
  let v1 : BitVec 32 := Scalar.addi c120_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c124_i32 : BitVec 32 := 124#32
  let v1 : BitVec 32 := Scalar.addi c124_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c32_i32 : BitVec 32 := 32#32
  let v3 : BitVec 32 := Scalar.addi c32_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== CtxGlobIdeal.lean ====
variable {F : FTy → Type} [FloatOps F] [Named F]
def κ : String → Option EReal := fun
  | "qscale" => some ((((Real.sqrt 128) * (Real.log 2))⁻¹ : ℝ) : EReal)
  | _ => none
-- ==== CtxGlobRefIdeal.lean ====
abbrev S36864x30720 : Shape := ⟨2, ![36864, 30720]⟩
abbrev S128 : Shape := ⟨1, ![128]⟩
abbrev S4096x30720 : Shape := ⟨2, ![4096, 30720]⟩
abbrev S16x256x30720 : Shape := ⟨3, ![16, 256, 30720]⟩
abbrev S16x256x2048 : Shape := ⟨3, ![16, 256, 2048]⟩
abbrev S16x256x512 : Shape := ⟨3, ![16, 256, 512]⟩
abbrev S16x256x16x128 : Shape := ⟨4, ![16, 256, 16, 128]⟩
abbrev S16x256x4x128 : Shape := ⟨4, ![16, 256, 4, 128]⟩
abbrev S_ : Shape := ⟨0, ![]⟩
abbrev S16x256x16 : Shape := ⟨3, ![16, 256, 16]⟩
abbrev S16x256x16x1 : Shape := ⟨4, ![16, 256, 16, 1]⟩
abbrev S1x1x1x128 : Shape := ⟨4, ![1, 1, 1, 128]⟩
abbrev S16x256x4 : Shape := ⟨3, ![16, 256, 4]⟩
abbrev S16x256x4x1 : Shape := ⟨4, ![16, 256, 4, 1]⟩
abbrev S16x256x4x4x128 : Shape := ⟨5, ![16, 256, 4, 4, 128]⟩
abbrev S16x4x256x256x4 : Shape := ⟨5, ![16, 4, 256, 256, 4]⟩
abbrev S16x4x4x256x256 : Shape := ⟨5, ![16, 4, 4, 256, 256]⟩
abbrev S16x4x4x256 : Shape := ⟨4, ![16, 4, 4, 256]⟩
abbrev S16x4x4x256x1 : Shape := ⟨5, ![16, 4, 4, 256, 1]⟩
abbrev S16x4x128x4x256 : Shape := ⟨5, ![16, 4, 128, 4, 256]⟩
abbrev S4096x2048 : Shape := ⟨2, ![4096, 2048]⟩

abbrev nBuf : Space → Nat
  | .hbm => 80
  | .vmem => 0
  | .smem => 0
  | _ => 0

abbrev bufTy : (tb : Table) → Fin (tcTables nBuf tb) → BufTy
  | .hbm, ⟨0, _⟩ => ⟨S36864x30720, .f32⟩
  | .hbm, ⟨1, _⟩ => ⟨S128, .f32⟩
  | .hbm, ⟨2, _⟩ => ⟨S128, .f32⟩
  | .hbm, ⟨3, _⟩ => ⟨S4096x30720, .f32⟩
  | .hbm, ⟨4, _⟩ => ⟨S16x256x30720, .f32⟩
  | .hbm, ⟨5, _⟩ => ⟨S16x256x2048, .f32⟩
  | .hbm, ⟨6, _⟩ => ⟨S16x256x512, .f32⟩
  | .hbm, ⟨7, _⟩ => ⟨S16x256x512, .f32⟩
  | .hbm, ⟨8, _⟩ => ⟨S16x256x16x128, .f32⟩
  | .hbm, ⟨9, _⟩ => ⟨S16x256x4x128, .f32⟩
  | .hbm, ⟨10, _⟩ => ⟨S16x256x4x128, .f32⟩
  | .hbm, ⟨11, _⟩ => ⟨S16x256x2048, .f32⟩
  | .hbm, ⟨12, _⟩ => ⟨S16x256x16x128, .f32⟩
  | .hbm, ⟨13, _⟩ => ⟨S_, .f32⟩
  | .hbm, ⟨14, _⟩ => ⟨S16x256x16, .f32⟩
  | .hbm, ⟨15, _⟩ => ⟨S16x256x16x1, .f32⟩
  | .hbm, ⟨16, _⟩ => ⟨S_, .f32⟩
  | .hbm, ⟨17, _⟩ => ⟨S16x256x16x1, .f32⟩
  | .hbm, ⟨18, _⟩ => ⟨S16x256x16x1, .f32⟩
  | .hbm, ⟨19, _⟩ => ⟨S_, .f32⟩
  | .hbm, ⟨20, _⟩ => ⟨S16x256x16x1, .f32⟩
  | .hbm, ⟨21, _⟩ => ⟨S16x256x16x1, .f32⟩
  | .hbm, ⟨22, _⟩ => ⟨S16x256x16x1, .f32⟩
  | .hbm, ⟨23, _⟩ => ⟨S16x256x16x128, .f32⟩
  | .hbm, ⟨24, _⟩ => ⟨S16x256x16x128, .f32⟩
  | .hbm, ⟨25, _⟩ => ⟨S1x1x1x128, .f32⟩
  | .hbm, ⟨26, _⟩ => ⟨S16x256x16x128, .f32⟩
  | .hbm, ⟨27, _⟩ => ⟨S16x256x16x128, .f32⟩
  | .hbm, ⟨28, _⟩ => ⟨S16x256x4x128, .f32⟩
  | .hbm, ⟨29, _⟩ => ⟨S_, .f32⟩
  | .hbm, ⟨30, _⟩ => ⟨S16x256x4, .f32⟩
  | .hbm, ⟨31, _⟩ => ⟨S16x256x4x1, .f32⟩
  | .hbm, ⟨32, _⟩ => ⟨S_, .f32⟩
  | .hbm, ⟨33, _⟩ => ⟨S16x256x4x1, .f32⟩
  | .hbm, ⟨34, _⟩ => ⟨S16x256x4x1, .f32⟩
  | .hbm, ⟨35, _⟩ => ⟨S_, .f32⟩
  | .hbm, ⟨36, _⟩ => ⟨S16x256x4x1, .f32⟩
  | .hbm, ⟨37, _⟩ => ⟨S16x256x4x1, .f32⟩
  | .hbm, ⟨38, _⟩ => ⟨S16x256x4x1, .f32⟩
  | .hbm, ⟨39, _⟩ => ⟨S16x256x4x128, .f32⟩
  | .hbm, ⟨40, _⟩ => ⟨S16x256x4x128, .f32⟩
  | .hbm, ⟨41, _⟩ => ⟨S1x1x1x128, .f32⟩
  | .hbm, ⟨42, _⟩ => ⟨S16x256x4x128, .f32⟩
  | .hbm, ⟨43, _⟩ => ⟨S16x256x4x128, .f32⟩
  | .hbm, ⟨44, _⟩ => ⟨S16x256x4x4x128, .f32⟩
  | .hbm, ⟨45, _⟩ => ⟨S16x4x256x256x4, .f32⟩
  | .hbm, ⟨46, _⟩ => ⟨S16x4x4x256x256, .f32⟩
  | .hbm, ⟨47, _⟩ => ⟨S_, .f32⟩
  | .hbm, ⟨48, _⟩ => ⟨S_, .f32⟩
  | .hbm, ⟨49, _⟩ => ⟨S16x4x4x256x256, .f32⟩
  | .hbm, ⟨50, _⟩ => ⟨S16x4x4x256x256, .f32⟩
  | .hbm, ⟨51, _⟩ => ⟨S_, .f32⟩
  | .hbm, ⟨52, _⟩ => ⟨S16x4x4x256, .f32⟩
  | .hbm, ⟨53, _⟩ => ⟨S_, .f32⟩
  | .hbm, ⟨54, _⟩ => ⟨S16x4x4x256, .f32⟩
  | .hbm, ⟨55, _⟩ => ⟨S16x4x4x256, .f32⟩
  | .hbm, ⟨56, _⟩ => ⟨S16x4x4x256x1, .f32⟩
  | .hbm, ⟨57, _⟩ => ⟨S16x4x4x256x256, .f32⟩
  | .hbm, ⟨58, _⟩ => ⟨S16x4x4x256x256, .f32⟩
  | .hbm, ⟨59, _⟩ => ⟨S16x4x4x256x256, .f32⟩
  | .hbm, ⟨60, _⟩ => ⟨S_, .f32⟩
  | .hbm, ⟨61, _⟩ => ⟨S16x4x4x256, .f32⟩
  | .hbm, ⟨62, _⟩ => ⟨S16x4x4x256x1, .f32⟩
  | .hbm, ⟨63, _⟩ => ⟨S16x4x4x256x256, .f32⟩
  | .hbm, ⟨64, _⟩ => ⟨S16x4x4x256x256, .f32⟩
  | .hbm, ⟨65, _⟩ => ⟨S16x4x128x4x256, .f32⟩
  | .hbm, ⟨66, _⟩ => ⟨S16x256x4x4x128, .f32⟩
  | .hbm, ⟨67, _⟩ => ⟨S16x256x2048, .f32⟩
  | .hbm, ⟨68, _⟩ => ⟨S16x256x2048, .f32⟩
  | .hbm, ⟨69, _⟩ => ⟨S16x256x2048, .f32⟩
  | .hbm, ⟨70, _⟩ => ⟨S_, .f32⟩
  | .hbm, ⟨71, _⟩ => ⟨S16x256x2048, .f32⟩
  | .hbm, ⟨72, _⟩ => ⟨S16x256x2048, .f32⟩
  | .hbm, ⟨73, _⟩ => ⟨S_, .f32⟩
  | .hbm, ⟨74, _⟩ => ⟨S16x256x2048, .f32⟩
  | .hbm, ⟨75, _⟩ => ⟨S16x256x2048, .f32⟩
  | .hbm, ⟨76, _⟩ => ⟨S16x256x2048, .f32⟩
  | .hbm, ⟨77, _⟩ => ⟨S16x256x2048, .f32⟩
  | .hbm, ⟨78, _⟩ => ⟨S4096x2048, .f32⟩
  | .hbm, ⟨79, _⟩ => ⟨S4096x2048, .bf16⟩
  | _, _ => ⟨S36864x30720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== CtxWin.lean ====
abbrev S36864x30720 : Shape := ⟨2, ![36864, 30720]⟩
abbrev S16 : Shape := ⟨1, ![16]⟩
abbrev S36864x2048 : Shape := ⟨2, ![36864, 2048]⟩
abbrev S256x512 : Shape := ⟨2, ![256, 512]⟩
abbrev S256x128 : Shape := ⟨2, ![256, 128]⟩
abbrev S256x256 : Shape := ⟨2, ![256, 256]⟩
abbrev S1024x128 : Shape := ⟨2, ![1024, 128]⟩
abbrev S1024x1 : Shape := ⟨2, ![1024, 1]⟩
abbrev S1 : Shape := ⟨1, ![1]⟩
abbrev S1024x256 : Shape := ⟨2, ![1024, 256]⟩
abbrev S1024 : Shape := ⟨1, ![1024]⟩
abbrev S4096x2048 : Shape := ⟨2, ![4096, 2048]⟩

abbrev nBuf : Space → Nat
  | .hbm => 4
  | .vmem => 12
  | .smem => 1
  | _ => 0

abbrev bufTy : (tb : Table) → Fin (tcTables nBuf tb) → BufTy
  | .hbm, ⟨0, _⟩ => ⟨S36864x30720, .f32⟩
  | .hbm, ⟨1, _⟩ => ⟨S16, .f32⟩
  | .hbm, ⟨2, _⟩ => ⟨S36864x2048, .bf16⟩
  | .hbm, ⟨3, _⟩ => ⟨S4096x2048, .bf16⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x128, .bf16⟩
  | .local _ .vmem, ⟨11, _⟩ => ⟨S256x256, .bf16⟩
  | .local _ .smem, ⟨0, _⟩ => ⟨S16, .f32⟩
  | _, _ => ⟨S36864x30720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 4, 1], ![false, false, false]⟩

def k0_off1 (i : grid0.Coords) (c0_i32_10 : BitVec 32) : Fin 1 → Nat :=
  let arg1 : BitVec 32 := BitVec.ofNat 32 (i 1).val
  let c4_i32 : BitVec 32 := 4#32
  let v24 : BitVec 32 := Scalar.muli arg1 c4_i32
  let v25 : BitVec 32 := Scalar.addi v24 c0_i32_10
  let v26 : Index := Scalar.indexCast v25
  ![v26.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c16_i32 : BitVec 32 := 16#32
  let v3 : BitVec 32 := Scalar.addi c16_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c80_i32 : BitVec 32 := 80#32
  let v1 : BitVec 32 := Scalar.addi c80_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c84_i32 : BitVec 32 := 84#32
  let v1 : BitVec 32 := Scalar.addi c84_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c22_i32 : BitVec 32 := 22#32
  let v3 : BitVec 32 := Scalar.addi c22_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== CtxWinIdeal.lean ====
variable {F : FTy → Type} [FloatOps F] [Named F]
def κ : String → Option EReal := fun
  | "log2e" => some (((Real.log 2)⁻¹ : ℝ) : EReal)
  | "qscale" => some ((((Real.sqrt 128) * (Real.log 2))⁻¹ : ℝ) : EReal)
  | _ => none
-- ==== CtxWinRefIdeal.lean ====
abbrev S36864x30720 : Shape := ⟨2, ![36864, 30720]⟩
abbrev S16 : Shape := ⟨1, ![16]⟩
abbrev S4096x30720 : Shape := ⟨2, ![4096, 30720]⟩
abbrev S16x256x30720 : Shape := ⟨3, ![16, 256, 30720]⟩
abbrev S16x256x2048 : Shape := ⟨3, ![16, 256, 2048]⟩
abbrev S16x256x512 : Shape := ⟨3, ![16, 256, 512]⟩
abbrev S16x256x16x128 : Shape := ⟨4, ![16, 256, 16, 128]⟩
abbrev S16x256x4x128 : Shape := ⟨4, ![16, 256, 4, 128]⟩
abbrev S16x256x4x4x128 : Shape := ⟨5, ![16, 256, 4, 4, 128]⟩
abbrev S16x4x256x256x4 : Shape := ⟨5, ![16, 4, 256, 256, 4]⟩
abbrev S16x4x4x256x256 : Shape := ⟨5, ![16, 4, 4, 256, 256]⟩
abbrev S_ : Shape := ⟨0, ![]⟩
abbrev S1x4x4x1x1 : Shape := ⟨5, ![1, 4, 4, 1, 1]⟩
abbrev S16x4x4x256 : Shape := ⟨4, ![16, 4, 4, 256]⟩
abbrev S16x4x4x256x1 : Shape := ⟨5, ![16, 4, 4, 256, 1]⟩
abbrev S16x4x128x4x256 : Shape := ⟨5, ![16, 4, 128, 4, 256]⟩
abbrev S4096x2048 : Shape := ⟨2, ![4096, 2048]⟩

abbrev nBuf : Space → Nat
  | .hbm => 51
  | .vmem => 0
  | .smem => 0
  | _ => 0

abbrev bufTy : (tb : Table) → Fin (tcTables nBuf tb) → BufTy
  | .hbm, ⟨0, _⟩ => ⟨S36864x30720, .f32⟩
  | .hbm, ⟨1, _⟩ => ⟨S16, .f32⟩
  | .hbm, ⟨2, _⟩ => ⟨S4096x30720, .f32⟩
  | .hbm, ⟨3, _⟩ => ⟨S16x256x30720, .f32⟩
  | .hbm, ⟨4, _⟩ => ⟨S16x256x2048, .f32⟩
  | .hbm, ⟨5, _⟩ => ⟨S16x256x512, .f32⟩
  | .hbm, ⟨6, _⟩ => ⟨S16x256x512, .f32⟩
  | .hbm, ⟨7, _⟩ => ⟨S16x256x16x128, .f32⟩
  | .hbm, ⟨8, _⟩ => ⟨S16x256x4x128, .f32⟩
  | .hbm, ⟨9, _⟩ => ⟨S16x256x4x128, .f32⟩
  | .hbm, ⟨10, _⟩ => ⟨S16x256x2048, .f32⟩
  | .hbm, ⟨11, _⟩ => ⟨S16x256x4x4x128, .f32⟩
  | .hbm, ⟨12, _⟩ => ⟨S16x4x256x256x4, .f32⟩
  | .hbm, ⟨13, _⟩ => ⟨S16x4x4x256x256, .f32⟩
  | .hbm, ⟨14, _⟩ => ⟨S_, .f32⟩
  | .hbm, ⟨15, _⟩ => ⟨S_, .f32⟩
  | .hbm, ⟨16, _⟩ => ⟨S16x4x4x256x256, .f32⟩
  | .hbm, ⟨17, _⟩ => ⟨S16x4x4x256x256, .f32⟩
  | .hbm, ⟨18, _⟩ => ⟨S1x4x4x1x1, .f32⟩
  | .hbm, ⟨19, _⟩ => ⟨S_, .f32⟩
  | .hbm, ⟨20, _⟩ => ⟨S16x4x4x256, .f32⟩
  | .hbm, ⟨21, _⟩ => ⟨S16x4x4x256x1, .f32⟩
  | .hbm, ⟨22, _⟩ => ⟨S16x4x4x256x1, .f32⟩
  | .hbm, ⟨23, _⟩ => ⟨S16x4x4x256x1, .f32⟩
  | .hbm, ⟨24, _⟩ => ⟨S16x4x4x256x256, .f32⟩
  | .hbm, ⟨25, _⟩ => ⟨S16x4x4x256x256, .f32⟩
  | .hbm, ⟨26, _⟩ => ⟨S16x4x4x256x256, .f32⟩
  | .hbm, ⟨27, _⟩ => ⟨S_, .f32⟩
  | .hbm, ⟨28, _⟩ => ⟨S16x4x4x256, .f32⟩
  | .hbm, ⟨29, _⟩ => ⟨S16x4x4x256x1, .f32⟩
  | .hbm, ⟨30, _⟩ => ⟨S16x4x4x256x1, .f32⟩
  | .hbm, ⟨31, _⟩ => ⟨S16x4x4x256x1, .f32⟩
  | .hbm, ⟨32, _⟩ => ⟨S16x4x4x256x1, .f32⟩
  | .hbm, ⟨33, _⟩ => ⟨S16x4x4x256x1, .f32⟩
  | .hbm, ⟨34, _⟩ => ⟨S16x4x4x256x256, .f32⟩
  | .hbm, ⟨35, _⟩ => ⟨S16x4x4x256x256, .f32⟩
  | .hbm, ⟨36, _⟩ => ⟨S16x4x128x4x256, .f32⟩
  | .hbm, ⟨37, _⟩ => ⟨S16x256x4x4x128, .f32⟩
  | .hbm, ⟨38, _⟩ => ⟨S16x256x2048, .f32⟩
  | .hbm, ⟨39, _⟩ => ⟨S16x256x2048, .f32⟩
  | .hbm, ⟨40, _⟩ => ⟨S16x256x2048, .f32⟩
  | .hbm, ⟨41, _⟩ => ⟨S_, .f32⟩
  | .hbm, ⟨42, _⟩ => ⟨S16x256x2048, .f32⟩
  | .hbm, ⟨43, _⟩ => ⟨S16x256x2048, .f32⟩
  | .hbm, ⟨44, _⟩ => ⟨S_, .f32⟩
  | .hbm, ⟨45, _⟩ => ⟨S16x256x2048, .f32⟩
  | .hbm, ⟨46, _⟩ => ⟨S16x256x2048, .f32⟩
  | .hbm, ⟨47, _⟩ => ⟨S16x256x2048, .f32⟩
  | .hbm, ⟨48, _⟩ => ⟨S16x256x2048, .f32⟩
  | .hbm, ⟨49, _⟩ => ⟨S4096x2048, .f32⟩
  | .hbm, ⟨50, _⟩ => ⟨S4096x2048, .bf16⟩
  | _, _ => ⟨S36864x30720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== LatWin.lean ====
abbrev S36864x30720 : Shape := ⟨2, ![36864, 30720]⟩
abbrev S36864x2048 : Shape := ⟨2, ![36864, 2048]⟩
abbrev S8x4x256x4x128 : Shape := ⟨5, ![8, 4, 256, 4, 128]⟩
abbrev S16 : Shape := ⟨1, ![16]⟩
abbrev S4096x64 : Shape := ⟨2, ![4096, 64]⟩
abbrev S4096x128 : Shape := ⟨2, ![4096, 128]⟩
abbrev S8x4x256x512 : Shape := ⟨4, ![8, 4, 256, 512]⟩
abbrev S512x512 : Shape := ⟨2, ![512, 512]⟩
abbrev S1x1x256x128 : Shape := ⟨4, ![1, 1, 256, 128]⟩
abbrev S512x128 : Shape := ⟨2, ![512, 128]⟩
abbrev S4608x128 : Shape := ⟨2, ![4608, 128]⟩
abbrev S4608x256 : Shape := ⟨2, ![4608, 256]⟩
abbrev S128x128 : Shape := ⟨2, ![128, 128]⟩
abbrev S128x256 : Shape := ⟨2, ![128, 256]⟩
abbrev S256x128 : Shape := ⟨2, ![256, 128]⟩
abbrev S512x384 : Shape := ⟨2, ![512, 384]⟩
abbrev S512x1 : Shape := ⟨2, ![512, 1]⟩
abbrev S1 : Shape := ⟨1, ![1]⟩
abbrev S512x256 : Shape := ⟨2, ![512, 256]⟩
abbrev S384x128 : Shape := ⟨2, ![384, 128]⟩
abbrev S512 : Shape := ⟨1, ![512]⟩
abbrev S384x256 : Shape := ⟨2, ![384, 256]⟩
abbrev S256x256 : Shape := ⟨2, ![256, 256]⟩

abbrev nBuf : Space → Nat
  | .hbm => 13
  | .vmem => 22
  | .smem => 1
  | _ => 0

abbrev bufTy : (tb : Table) → Fin (tcTables nBuf tb) → BufTy
  | .hbm, ⟨0, _⟩ => ⟨S36864x30720, .f32⟩
  | .hbm, ⟨1, _⟩ => ⟨S36864x2048, .bf16⟩
  | .hbm, ⟨2, _⟩ => ⟨S8x4x256x4x128, .f32⟩
  | .hbm, ⟨3, _⟩ => ⟨S8x4x256x4x128, .f32⟩
  | .hbm, ⟨4, _⟩ => ⟨S16, .f32⟩
  | .hbm, ⟨5, _⟩ => ⟨S4096x64, .f32⟩
  | .hbm, ⟨6, _⟩ => ⟨S4096x64, .f32⟩
  | .hbm, ⟨7, _⟩ => ⟨S4096x128, .f32⟩
  | .hbm, ⟨8, _⟩ => ⟨S4096x64, .f32⟩
  | .hbm, ⟨9, _⟩ => ⟨S4096x128, .f32⟩
  | .hbm, ⟨10, _⟩ => ⟨S8x4x256x512, .f32⟩
  | .hbm, ⟨11, _⟩ => ⟨S8x4x256x512, .f32⟩
  | .hbm, ⟨12, _⟩ => ⟨S36864x2048, .bf16⟩
  | .local _ .vmem, ⟨0, _⟩ => ⟨S512x512, .f32⟩
  | .local _ .vmem, ⟨1, _⟩ => ⟨S512x512, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x512, .f32⟩
  | .local _ .vmem, ⟨7, _⟩ => ⟨S512x512, .f32⟩
  | .local _ .vmem, ⟨8, _⟩ => ⟨S1x1x256x128, .f32⟩
  | .local _ .vmem, ⟨9, _⟩ => ⟨S1x1x256x128, .f32⟩
  | .local _ .vmem, ⟨10, _⟩ => ⟨S1x1x256x128, .f32⟩
  | .local _ .vmem, ⟨11, _⟩ => ⟨S1x1x256x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S4096x128, .f32⟩
  | .local _ .vmem, ⟨17, _⟩ => ⟨S4096x128, .f32⟩
  | .local _ .vmem, ⟨18, _⟩ => ⟨S512x512, .bf16⟩
  | .local _ .vmem, ⟨19, _⟩ => ⟨S512x512, .bf16⟩
  | .local _ .vmem, ⟨20, _⟩ => ⟨S4608x128, .bf16⟩
  | .local _ .vmem, ⟨21, _⟩ => ⟨S4608x256, .bf16⟩
  | .local _ .smem, ⟨0, _⟩ => ⟨S16, .f32⟩
  | _, _ => ⟨S36864x30720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c4_i32 : BitVec 32 := 4#32
  let v13 : BitVec 32 := Scalar.muli arg2 c4_i32
  let c0_i32_2 : BitVec 32 := 0#32
  let v14 : BitVec 32 := Scalar.addi v13 c0_i32_2
  let c128_i32_29 : BitVec 32 := 128#32
  let v64 : BitVec 32 := Scalar.muli v14 c128_i32_29
  v64
def k0_off1 (i : grid0.Coords) (c0_i32_35 : BitVec 32) : Fin 1 → Nat :=
  let arg1 : BitVec 32 := BitVec.ofNat 32 (i 1).val
  let c4_i32_34 : BitVec 32 := 4#32
  let v79 : BitVec 32 := Scalar.muli arg1 c4_i32_34
  let v80 : BitVec 32 := Scalar.addi v79 c0_i32_35
  let v81 : Index := Scalar.indexCast v80
  ![v81.toNat]
def k0_off2 (i : grid0.Coords) (c0_i32_2 : BitVec 32) : Fin 2 → Nat :=
  let arg2 : BitVec 32 := BitVec.ofNat 32 (i 2).val
  let c4_i32 : BitVec 32 := 4#32
  let v13 : BitVec 32 := Scalar.muli arg2 c4_i32
  let v14 : BitVec 32 := Scalar.addi v13 c0_i32_2
  let c128_i32_29 : BitVec 32 := 128#32
  let v64 : BitVec 32 := Scalar.muli v14 c128_i32_29
  let v65 : BitVec 32 := v64
  let v119 : Index := Scalar.indexCast v65
  let c0_47 : Index := 0#32
  ![v119.toNat, 0]
def k0_off3 (i : grid0.Coords) (c0_i32_2 : BitVec 32) : Fin 2 → Nat :=
  let arg2 : BitVec 32 := BitVec.ofNat 32 (i 2).val
  let c4_i32 : BitVec 32 := 4#32
  let v13 : BitVec 32 := Scalar.muli arg2 c4_i32
  let v14 : BitVec 32 := Scalar.addi v13 c0_i32_2
  let c128_i32_29 : BitVec 32 := 128#32
  let v64 : BitVec 32 := Scalar.muli v14 c128_i32_29
  let v65 : BitVec 32 := v64
  let v131 : Index := Scalar.indexCast v65
  let c0_51 : Index := 0#32
  ![v131.toNat, 0]
def k0_mult2 (i : grid0.Coords) : BitVec 32 :=
  let arg2 : BitVec 32 := BitVec.ofNat 32 (i 2).val
  let c4_i32_75 : BitVec 32 := 4#32
  let v187 : BitVec 32 := Scalar.muli arg2 c4_i32_75
  let c1_i32_76 : BitVec 32 := 1#32
  let v188 : BitVec 32 := Scalar.addi v187 c1_i32_76
  let c128_i32_109 : BitVec 32 := 128#32
  let v238 : BitVec 32 := Scalar.muli v188 c128_i32_109
  v238
def k0_mult3 (i : grid0.Coords) : BitVec 32 :=
  let arg2 : BitVec 32 := BitVec.ofNat 32 (i 2).val
  let c4_i32_162 : BitVec 32 := 4#32
  let v361 : BitVec 32 := Scalar.muli arg2 c4_i32_162
  let c2_i32_163 : BitVec 32 := 2#32
  let v362 : BitVec 32 := Scalar.addi v361 c2_i32_163
  let c128_i32_196 : BitVec 32 := 128#32
  let v412 : BitVec 32 := Scalar.muli v362 c128_i32_196
  v412
def k0_mult4 (i : grid0.Coords) : BitVec 32 :=
  let arg2 : BitVec 32 := BitVec.ofNat 32 (i 2).val
  let c4_i32_249 : BitVec 32 := 4#32
  let v535 : BitVec 32 := Scalar.muli arg2 c4_i32_249
  let c3_i32_250 : BitVec 32 := 3#32
  let v536 : BitVec 32 := Scalar.addi v535 c3_i32_250
  let c128_i32_283 : BitVec 32 := 128#32
  let v586 : BitVec 32 := Scalar.muli v536 c128_i32_283
  v586
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c8_i32_0 : BitVec 32 := 8#32
  let v1 : BitVec 32 := Scalar.addi c8_i32_0 v0
  let v2 : BitVec 32 := Scalar.addi v1 arg2
  let c16_i32 : BitVec 32 := 16#32
  let v3 : BitVec 32 := Scalar.addi c16_i32 arg1
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c80_i32 : BitVec 32 := 80#32
  let v1 : BitVec 32 := Scalar.addi c80_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c84_i32 : BitVec 32 := 84#32
  let v1 : BitVec 32 := Scalar.addi c84_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c8_i32_0 : BitVec 32 := 8#32
  let v1 : BitVec 32 := Scalar.addi c8_i32_0 v0
  let v2 : BitVec 32 := Scalar.addi v1 arg2
  let c22_i32 : BitVec 32 := 22#32
  let v3 : BitVec 32 := Scalar.addi c22_i32 arg1
  let c0_i32 : BitVec 32 := 0#32
  ![v2.toNat, v3.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c8_i32_0 : BitVec 32 := 8#32
  let v1 : BitVec 32 := Scalar.addi c8_i32_0 v0
  let v2 : BitVec 32 := Scalar.addi v1 arg2
  let c0_i32 : BitVec 32 := 0#32
  ![v2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S4096x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== LatWinIdeal.lean ====
variable {F : FTy → Type} [FloatOps F] [Named F]
def κ : String → Option EReal := fun
  | "log2e" => some (((Real.log 2)⁻¹ : ℝ) : EReal)
  | "mask" => some ⊥
  | "qscale" => some ((((Real.sqrt 128) * (Real.log 2))⁻¹ : ℝ) : EReal)
  | _ => none
-- ==== LatWinRefIdeal.lean ====
abbrev S36864x30720 : Shape := ⟨2, ![36864, 30720]⟩
abbrev S36864x2048 : Shape := ⟨2, ![36864, 2048]⟩
abbrev S8x4x256x4x128 : Shape := ⟨5, ![8, 4, 256, 4, 128]⟩
abbrev S16 : Shape := ⟨1, ![16]⟩
abbrev S4096x64 : Shape := ⟨2, ![4096, 64]⟩
abbrev S32768x30720 : Shape := ⟨2, ![32768, 30720]⟩
abbrev S8x4096x30720 : Shape := ⟨3, ![8, 4096, 30720]⟩
abbrev S8x4096x2048 : Shape := ⟨3, ![8, 4096, 2048]⟩
abbrev S8x4096x16x128 : Shape := ⟨4, ![8, 4096, 16, 128]⟩
abbrev S8x4096x16x64 : Shape := ⟨4, ![8, 4096, 16, 64]⟩
abbrev S1x4096x1x64 : Shape := ⟨4, ![1, 4096, 1, 64]⟩
abbrev S8x4096x512 : Shape := ⟨3, ![8, 4096, 512]⟩
abbrev S8x4096x4x128 : Shape := ⟨4, ![8, 4096, 4, 128]⟩
abbrev S8x4096x4x64 : Shape := ⟨4, ![8, 4096, 4, 64]⟩
abbrev S8x4096x4x4x128 : Shape := ⟨5, ![8, 4096, 4, 4, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x4x4096x4096x4 : Shape := ⟨5, ![8, 4, 4096, 4096, 4]⟩
abbrev S8x4x4x4096x4096 : Shape := ⟨5, ![8, 4, 4, 4096, 4096]⟩
abbrev S1x1x1x4096x4096 : Shape := ⟨5, ![1, 1, 1, 4096, 4096]⟩
abbrev S8x1x256x4x128 : Shape := ⟨5, ![8, 1, 256, 4, 128]⟩
abbrev S8x256x4x128 : Shape := ⟨4, ![8, 256, 4, 128]⟩
abbrev S8x4x256x4096x4 : Shape := ⟨5, ![8, 4, 256, 4096, 4]⟩
abbrev S8x4x4x4096x256 : Shape := ⟨5, ![8, 4, 4, 4096, 256]⟩
abbrev S8x4x4x4096x4352 : Shape := ⟨5, ![8, 4, 4, 4096, 4352]⟩
abbrev S1x4x4x1x1 : Shape := ⟨5, ![1, 4, 4, 1, 1]⟩
abbrev S8x4x4x4096 : Shape := ⟨4, ![8, 4, 4, 4096]⟩
abbrev S8x4x4x4096x1 : Shape := ⟨5, ![8, 4, 4, 4096, 1]⟩
abbrev S8x4x128x4x4096 : Shape := ⟨5, ![8, 4, 128, 4, 4096]⟩
abbrev S32768x2048 : Shape := ⟨2, ![32768, 2048]⟩
abbrev S4096x2048 : Shape := ⟨2, ![4096, 2048]⟩

abbrev nBuf : Space → Nat
  | .hbm => 120
  | .vmem => 0
  | .smem => 0
  | _ => 0

abbrev bufTy : (tb : Table) → Fin (tcTables nBuf tb) → BufTy
  | .hbm, ⟨0, _⟩ => ⟨S36864x30720, .f32⟩
  | .hbm, ⟨1, _⟩ => ⟨S36864x2048, .bf16⟩
  | .hbm, ⟨2, _⟩ => ⟨S8x4x256x4x128, .f32⟩
  | .hbm, ⟨3, _⟩ => ⟨S8x4x256x4x128, .f32⟩
  | .hbm, ⟨4, _⟩ => ⟨S16, .f32⟩
  | .hbm, ⟨5, _⟩ => ⟨S4096x64, .f32⟩
  | .hbm, ⟨6, _⟩ => ⟨S4096x64, .f32⟩
  | .hbm, ⟨7, _⟩ => ⟨S32768x30720, .f32⟩
  | .hbm, ⟨8, _⟩ => ⟨S8x4096x30720, .f32⟩
  | .hbm, ⟨9, _⟩ => ⟨S8x4096x2048, .f32⟩
  | .hbm, ⟨10, _⟩ => ⟨S8x4096x16x128, .f32⟩
  | .hbm, ⟨11, _⟩ => ⟨S8x4096x16x64, .f32⟩
  | .hbm, ⟨12, _⟩ => ⟨S8x4096x16x64, .f32⟩
  | .hbm, ⟨13, _⟩ => ⟨S1x4096x1x64, .f32⟩
  | .hbm, ⟨14, _⟩ => ⟨S1x4096x1x64, .f32⟩
  | .hbm, ⟨15, _⟩ => ⟨S8x4096x16x64, .f32⟩
  | .hbm, ⟨16, _⟩ => ⟨S8x4096x16x64, .f32⟩
  | .hbm, ⟨17, _⟩ => ⟨S8x4096x16x64, .f32⟩
  | .hbm, ⟨18, _⟩ => ⟨S8x4096x16x64, .f32⟩
  | .hbm, ⟨19, _⟩ => ⟨S8x4096x16x64, .f32⟩
  | .hbm, ⟨20, _⟩ => ⟨S8x4096x16x64, .f32⟩
  | .hbm, ⟨21, _⟩ => ⟨S8x4096x16x64, .f32⟩
  | .hbm, ⟨22, _⟩ => ⟨S8x4096x16x64, .f32⟩
  | .hbm, ⟨23, _⟩ => ⟨S8x4096x16x64, .f32⟩
  | .hbm, ⟨24, _⟩ => ⟨S8x4096x16x64, .f32⟩
  | .hbm, ⟨25, _⟩ => ⟨S8x4096x16x128, .f32⟩
  | .hbm, ⟨26, _⟩ => ⟨S8x4096x512, .f32⟩
  | .hbm, ⟨27, _⟩ => ⟨S8x4096x4x128, .f32⟩
  | .hbm, ⟨28, _⟩ => ⟨S8x4096x4x64, .f32⟩
  | .hbm, ⟨29, _⟩ => ⟨S8x4096x4x64, .f32⟩
  | .hbm, ⟨30, _⟩ => ⟨S1x4096x1x64, .f32⟩
  | .hbm, ⟨31, _⟩ => ⟨S1x4096x1x64, .f32⟩
  | .hbm, ⟨32, _⟩ => ⟨S8x4096x4x64, .f32⟩
  | .hbm, ⟨33, _⟩ => ⟨S8x4096x4x64, .f32⟩
  | .hbm, ⟨34, _⟩ => ⟨S8x4096x4x64, .f32⟩
  | .hbm, ⟨35, _⟩ => ⟨S8x4096x4x64, .f32⟩
  | .hbm, ⟨36, _⟩ => ⟨S8x4096x4x64, .f32⟩
  | .hbm, ⟨37, _⟩ => ⟨S8x4096x4x64, .f32⟩
  | .hbm, ⟨38, _⟩ => ⟨S8x4096x4x64, .f32⟩
  | .hbm, ⟨39, _⟩ => ⟨S8x4096x4x64, .f32⟩
  | .hbm, ⟨40, _⟩ => ⟨S8x4096x4x64, .f32⟩
  | .hbm, ⟨41, _⟩ => ⟨S8x4096x4x64, .f32⟩
  | .hbm, ⟨42, _⟩ => ⟨S8x4096x4x128, .f32⟩
  | .hbm, ⟨43, _⟩ => ⟨S8x4096x512, .f32⟩
  | .hbm, ⟨44, _⟩ => ⟨S8x4096x4x128, .f32⟩
  | .hbm, ⟨45, _⟩ => ⟨S8x4096x2048, .f32⟩
  | .hbm, ⟨46, _⟩ => ⟨S8x4096x4x4x128, .f32⟩
  | .hbm, ⟨47, _⟩ => ⟨S4096, .i32⟩
  | .hbm, ⟨48, _⟩ => ⟨S4096x1, .i32⟩
  | .hbm, ⟨49, _⟩ => ⟨S1x4096, .i32⟩
  | .hbm, ⟨50, _⟩ => ⟨S4096x4096, .i32⟩
  | .hbm, ⟨51, _⟩ => ⟨S4096x4096, .i32⟩
  | .hbm, ⟨52, _⟩ => ⟨S4096x4096, .i32⟩
  | .hbm, ⟨53, _⟩ => ⟨S4096x4096, .i32⟩
  | .hbm, ⟨54, _⟩ => ⟨S_, .i32⟩
  | .hbm, ⟨55, _⟩ => ⟨S4096x4096, .i32⟩
  | .hbm, ⟨56, _⟩ => ⟨S4096x4096, .i1⟩
  | .hbm, ⟨57, _⟩ => ⟨S8x4x4096x4096x4, .f32⟩
  | .hbm, ⟨58, _⟩ => ⟨S8x4x4x4096x4096, .f32⟩
  | .hbm, ⟨59, _⟩ => ⟨S_, .f32⟩
  | .hbm, ⟨60, _⟩ => ⟨S_, .f32⟩
  | .hbm, ⟨61, _⟩ => ⟨S8x4x4x4096x4096, .f32⟩
  | .hbm, ⟨62, _⟩ => ⟨S8x4x4x4096x4096, .f32⟩
  | .hbm, ⟨63, _⟩ => ⟨S1x1x1x4096x4096, .i1⟩
  | .hbm, ⟨64, _⟩ => ⟨S_, .f32⟩
  | .hbm, ⟨65, _⟩ => ⟨S_, .f32⟩
  | .hbm, ⟨66, _⟩ => ⟨S8x4x4x4096x4096, .i1⟩
  | .hbm, ⟨67, _⟩ => ⟨S8x4x4x4096x4096, .f32⟩
  | .hbm, ⟨68, _⟩ => ⟨S8x4x4x4096x4096, .f32⟩
  | .hbm, ⟨69, _⟩ => ⟨S8x1x256x4x128, .f32⟩
  | .hbm, ⟨70, _⟩ => ⟨S8x256x4x128, .f32⟩
  | .hbm, ⟨71, _⟩ => ⟨S8x4x256x4096x4, .f32⟩
  | .hbm, ⟨72, _⟩ => ⟨S8x4x4x4096x256, .f32⟩
  | .hbm, ⟨73, _⟩ => ⟨S_, .f32⟩
  | .hbm, ⟨74, _⟩ => ⟨S_, .f32⟩
  | .hbm, ⟨75, _⟩ => ⟨S8x4x4x4096x256, .f32⟩
  | .hbm, ⟨76, _⟩ => ⟨S8x4x4x4096x256, .f32⟩
  | .hbm, ⟨77, _⟩ => ⟨S8x4x4x4096x4352, .f32⟩
  | .hbm, ⟨78, _⟩ => ⟨S1x4x4x1x1, .f32⟩
  | .hbm, ⟨79, _⟩ => ⟨S_, .f32⟩
  | .hbm, ⟨80, _⟩ => ⟨S8x4x4x4096, .f32⟩
  | .hbm, ⟨81, _⟩ => ⟨S8x4x4x4096x1, .f32⟩
  | .hbm, ⟨82, _⟩ => ⟨S8x4x4x4096x1, .f32⟩
  | .hbm, ⟨83, _⟩ => ⟨S8x4x4x4096x1, .f32⟩
  | .hbm, ⟨84, _⟩ => ⟨S8x4x4x4096x4352, .f32⟩
  | .hbm, ⟨85, _⟩ => ⟨S8x4x4x4096x4352, .f32⟩
  | .hbm, ⟨86, _⟩ => ⟨S8x4x4x4096x4352, .f32⟩
  | .hbm, ⟨87, _⟩ => ⟨S_, .f32⟩
  | .hbm, ⟨88, _⟩ => ⟨S8x4x4x4096, .f32⟩
  | .hbm, ⟨89, _⟩ => ⟨S8x4x4x4096x1, .f32⟩
  | .hbm, ⟨90, _⟩ => ⟨S8x4x4x4096x1, .f32⟩
  | .hbm, ⟨91, _⟩ => ⟨S8x4x4x4096x1, .f32⟩
  | .hbm, ⟨92, _⟩ => ⟨S8x4x4x4096x1, .f32⟩
  | .hbm, ⟨93, _⟩ => ⟨S8x4x4x4096x1, .f32⟩
  | .hbm, ⟨94, _⟩ => ⟨S8x4x4x4096x4352, .f32⟩
  | .hbm, ⟨95, _⟩ => ⟨S8x4x4x4096x4352, .f32⟩
  | .hbm, ⟨96, _⟩ => ⟨S8x4x4x4096x4096, .f32⟩
  | .hbm, ⟨97, _⟩ => ⟨S8x4x128x4x4096, .f32⟩
  | .hbm, ⟨98, _⟩ => ⟨S8x4096x4x4x128, .f32⟩
  | .hbm, ⟨99, _⟩ => ⟨S8x4x4x4096x256, .f32⟩
  | .hbm, ⟨100, _⟩ => ⟨S8x1x256x4x128, .f32⟩
  | .hbm, ⟨101, _⟩ => ⟨S8x256x4x128, .f32⟩
  | .hbm, ⟨102, _⟩ => ⟨S8x4x128x4x4096, .f32⟩
  | .hbm, ⟨103, _⟩ => ⟨S8x4096x4x4x128, .f32⟩
  | .hbm, ⟨104, _⟩ => ⟨S8x4096x4x4x128, .f32⟩
  | .hbm, ⟨105, _⟩ => ⟨S8x4096x2048, .f32⟩
  | .hbm, ⟨106, _⟩ => ⟨S8x4096x2048, .f32⟩
  | .hbm, ⟨107, _⟩ => ⟨S8x4096x2048, .f32⟩
  | .hbm, ⟨108, _⟩ => ⟨S_, .f32⟩
  | .hbm, ⟨109, _⟩ => ⟨S8x4096x2048, .f32⟩
  | .hbm, ⟨110, _⟩ => ⟨S8x4096x2048, .f32⟩
  | .hbm, ⟨111, _⟩ => ⟨S_, .f32⟩
  | .hbm, ⟨112, _⟩ => ⟨S8x4096x2048, .f32⟩
  | .hbm, ⟨113, _⟩ => ⟨S8x4096x2048, .f32⟩
  | .hbm, ⟨114, _⟩ => ⟨S8x4096x2048, .f32⟩
  | .hbm, ⟨115, _⟩ => ⟨S8x4096x2048, .f32⟩
  | .hbm, ⟨116, _⟩ => ⟨S32768x2048, .f32⟩
  | .hbm, ⟨117, _⟩ => ⟨S32768x2048, .bf16⟩
  | .hbm, ⟨118, _⟩ => ⟨S4096x2048, .bf16⟩
  | .hbm, ⟨119, _⟩ => ⟨S36864x2048, .bf16⟩
  | _, _ => ⟨S36864x30720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_c : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_0 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_1 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_2 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_3 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_call1_v0 : Ref sig .tc := ⟨.hbm, 106, rfl⟩
abbrev main_call1_v1 : Ref sig .tc := ⟨.hbm, 107, rfl⟩
abbrev main_call1_cst : Ref sig .tc := ⟨.hbm, 108, rfl⟩
abbrev main_call1_v2 : Ref sig .tc := ⟨.hbm, 109, rfl⟩
abbrev main_call1_v3 : Ref sig .tc := ⟨.hbm, 110, rfl⟩
abbrev main_call1_cst_0 : Ref sig .tc := ⟨.hbm, 111, rfl⟩
abbrev main_call1_v4 : Ref sig .tc := ⟨.hbm, 112, rfl⟩
abbrev main_call1_v5 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩

abbrev nD : Nat := 1
abbrev τ : Topo := Topo.v7x

variable {F : FTy → Type} [FloatOps F]
-- ==== Proof.InProjValue.lean ====
/- The input projection: each block of the kernel's result is the product of a block of rows by a block of
   columns, so the array is the product of the arrays. -/
module

public import proofs.«01_k».proof.Proof.Gen.InProjIdeal.Frame
public import proofs.«01_k».proof.Proof.Gen.InProjRefIdeal.Run
public import Idealize.ShloMosaic.Lib.Pipeline.FrameSuffix
public import Idealize.ShloMosaic.Lib.Pipeline.ValueKit

@[expose] public section

set_option maxRecDepth 16384

noncomputable section

namespace Cert.InProjIdeal.Product

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- The product of the whole arrays. -/
abbrev product (h : FVec Ideal S36864x4096 .bf16) (w : FVec Ideal S4096x30720 .bf16) : FVec Ideal S36864x30720 .f32 :=
  Host.dotGeneral Cert.InProjRefIdeal.dot_S36864x4096_S4096x30720_S36864x30720_1_0_0_1_n_n none
    (extf .f32 h Cert.InProjRefIdeal.Gen.bitsLt_bf16_f32) (extf .f32 w Cert.InProjRefIdeal.Gen.bitsLt_bf16_f32)

/-- The blocks a point works on. -/
theorem blocks : ∀ t : Fin cfg0.N, win0_0.index t = ![t.val / 30, 0] ∧ win0_1.index t = ![0, t.val % 30]
    ∧ win0_2.index t = ![t.val / 30, t.val % 30] :=
  (by decide +kernel : ∀ t : Fin grid0.N, _)

/-- What a point stores is its block of the product. -/
theorem point (c : Dev nD) (t : Fin cfg0.N) (y : S1024x1024.Idx) :
    k0_pay1 (iblk m c 0 t) (iblk m c 1 t) y
      = product (m ((c.tc : Thread nD τ).loc main_arg0)) (m ((c.tc : Thread nD τ).loc main_arg1)) (((cfg0.win 2).blk t).view.emb y) := by
  pointwise [k0_pay1, product]
  blk_point [iblk, V, blocks t]

/-- The result array at the end of the run. -/
theorem final (c : Dev nD) : (dats m 0 c).arrAt 2 (cfgs 0).N
    = product (m ((c.tc : Thread nD τ).loc main_arg0)) (m ((c.tc : Thread nD τ).loc main_arg1)) := by
  refine (dats m 0 c).arrAt_eq_of_covers 2 _ (by decide +kernel) fun t _ y => ?_
  blk_simp; rw [after0_2]; frame_out; exact point m c t y

/-- The prompt's 512 columns from `o` on, as heads. -/
abbrev slab (o : ℕ) (hs : S36864x30720.Slices ![0, o] S4096x512) (p : FVec Ideal S36864x30720 .f32) : FVec Ideal S16x256x4x128 .f32 :=
  shapeCast S16x256x4x128 (extractStridedSlice S4096x512 ![0, o] p hs) shapeCasts_S4096x512_S16x256x4x128

/-- What the region leaves, read by the lines after it. -/
theorem left (c : Dev nD) : Pipeline.withArrays (cfgs 0).spec c (V0 m c) (fun w => (dats m 0 c).arrAt w (cfgs 0).N) (Proc.devRef .tc main_v0)
    = product (m ((c.tc : Thread nD τ).loc main_arg0)) (m ((c.tc : Thread nD τ).loc main_arg1)) :=
  (Pipeline.withArrays_arr spec0 (by decide) c _ _ 2).trans (final m c)

/-- The reference takes the prompt first, then its columns: the same elements. -/
theorem slab_eq (o : ℕ) (hs : S36864x30720.Slices ![0, o] S4096x512)
    (hr : Cert.InProjRefIdeal.S16x256x30720.Slices ![0, 0, o] Cert.InProjRefIdeal.S16x256x512) (p : FVec Ideal S36864x30720 .f32) :
    shapeCast Cert.InProjRefIdeal.S16x256x4x128 (extractStridedSlice Cert.InProjRefIdeal.S16x256x512 ![0, 0, o]
      (shapeCast Cert.InProjRefIdeal.S16x256x30720 (extractStridedSlice Cert.InProjRefIdeal.S4096x30720 ![0, 0] p
        Cert.InProjRefIdeal.Gen.slices_S36864x30720_S4096x30720_0_0) Cert.InProjRefIdeal.Gen.shapeCasts_S4096x30720_S16x256x30720) hr)
      Cert.InProjRefIdeal.Gen.shapeCasts_S16x256x512_S16x256x4x128 = slab o hs p := by
  funext i
  pointwise [slab]

/-- What the lines after the region leave: the prompt's window keys. -/
theorem slab_bk (c : Dev nD) : Pipeline.afterTail₀ cfgs (dats m) 0 (V0 m) [hostOps1] c main_v2
    = slab 10240 slices_S36864x30720_S4096x512_0_10240 (product (m ((c.tc : Thread nD τ).loc main_arg0)) (m ((c.tc : Thread nD τ).loc main_arg1))) := by
  rw [← left m c]
  unfold Pipeline.afterTail₀
  simp only [List.flatten_cons, List.flatten_nil, List.append_nil]
  after_results
  rfl

/-- What the lines after the region leave: the prompt's window values. -/
theorem slab_bv (c : Dev nD) : Pipeline.afterTail₀ cfgs (dats m) 0 (V0 m) [hostOps1] c main_v4
    = slab 10752 slices_S36864x30720_S4096x512_0_10752 (product (m ((c.tc : Thread nD τ).loc main_arg0)) (m ((c.tc : Thread nD τ).loc main_arg1))) := by
  rw [← left m c]
  unfold Pipeline.afterTail₀
  simp only [List.flatten_cons, List.flatten_nil, List.append_nil]
  after_results
  rfl

/-- What the lines after the region leave: the prompt's global values. -/
theorem slab_cv (c : Dev nD) : Pipeline.afterTail₀ cfgs (dats m) 0 (V0 m) [hostOps1] c main_v6
    = slab 15872 slices_S36864x30720_S4096x512_0_15872 (product (m ((c.tc : Thread nD τ).loc main_arg0)) (m ((c.tc : Thread nD τ).loc main_arg1))) := by
  rw [← left m c]
  unfold Pipeline.afterTail₀
  simp only [List.flatten_cons, List.flatten_nil, List.append_nil]
  after_results
  rfl

end Cert.InProjIdeal.Product

end
-- ==== Proof.MergeValue.lean ====
/- The merge of the three branches: each block is the gated sum of three products of blocks. -/
module

public import proofs.«01_k».proof.Proof.Gen.MergeIdeal.Frame
public import proofs.«01_k».proof.Proof.Gen.MergeRefIdeal.Run
public import Idealize.ShloMosaic.Lib.Pipeline.ValueKit

@[expose] public section

set_option maxRecDepth 16384

noncomputable section

namespace Cert.MergeIdeal.Mixed

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The gated sum of the three products, whole. -/
abbrev mixed (ya : FVec Ideal S36864x2048 .bf16) (yb : FVec Ideal S36864x2048 .bf16) (yc : FVec Ideal S36864x2048 .bf16) (w : FVec Ideal S3x2048x4096 .bf16) (p : FVec Ideal S36864x30720 .f32) : FVec Ideal S36864x4096 .bf16 :=
  truncf .bf16 (addf (addf (addf (broadcastInDim Cert.MergeRefIdeal.S36864x4096 ![] Cert.MergeRefIdeal.Gen.bcast_S_S36864x4096 (constant Cert.MergeRefIdeal.S_ .f32 0x00000000#32)) (mulf (Host.divf (broadcastInDim Cert.MergeRefIdeal.S36864x4096 ![] Cert.MergeRefIdeal.Gen.bcast_S_S36864x4096 (constant Cert.MergeRefIdeal.S_ .f32 0x3F800000#32)) (addf (broadcastInDim Cert.MergeRefIdeal.S36864x4096 ![] Cert.MergeRefIdeal.Gen.bcast_S_S36864x4096 (constant Cert.MergeRefIdeal.S_ .f32 0x3F800000#32)) (Host.exp (Host.negf (extractStridedSlice Cert.MergeRefIdeal.S36864x4096 ![0, 0] (extractStridedSlice Cert.MergeRefIdeal.S36864x12288 ![0, 18432] p Cert.MergeRefIdeal.Gen.slices_S36864x30720_S36864x12288_0_18432) Cert.MergeRefIdeal.Gen.slices_S36864x12288_S36864x4096_0_0))))) (Host.dotGeneral Cert.MergeRefIdeal.dot_S36864x2048_S2048x4096_S36864x4096_1_0_0_1_n_n none (extf .f32 ya Cert.MergeRefIdeal.Gen.bitsLt_bf16_f32) (extf .f32 (shapeCast _ (extractStridedSlice Cert.MergeRefIdeal.S1x2048x4096 ![0, 0, 0] w Cert.MergeRefIdeal.Gen.slices_S3x2048x4096_S1x2048x4096_0_0_0) Cert.MergeRefIdeal.Gen.shapeCasts_S1x2048x4096_S2048x4096) Cert.MergeRefIdeal.Gen.bitsLt_bf16_f32)))) (mulf (Host.divf (broadcastInDim Cert.MergeRefIdeal.S36864x4096 ![] Cert.MergeRefIdeal.Gen.bcast_S_S36864x4096 (constant Cert.MergeRefIdeal.S_ .f32 0x3F800000#32)) (addf (broadcastInDim Cert.MergeRefIdeal.S36864x4096 ![] Cert.MergeRefIdeal.Gen.bcast_S_S36864x4096 (constant Cert.MergeRefIdeal.S_ .f32 0x3F800000#32)) (Host.exp (Host.negf (extractStridedSlice Cert.MergeRefIdeal.S36864x4096 ![0, 4096] (extractStridedSlice Cert.MergeRefIdeal.S36864x12288 ![0, 18432] p Cert.MergeRefIdeal.Gen.slices_S36864x30720_S36864x12288_0_18432) Cert.MergeRefIdeal.Gen.slices_S36864x12288_S36864x4096_0_4096))))) (Host.dotGeneral Cert.MergeRefIdeal.dot_S36864x2048_S2048x4096_S36864x4096_1_0_0_1_n_n none (extf .f32 yb Cert.MergeRefIdeal.Gen.bitsLt_bf16_f32) (extf .f32 (shapeCast _ (extractStridedSlice Cert.MergeRefIdeal.S1x2048x4096 ![1, 0, 0] w Cert.MergeRefIdeal.Gen.slices_S3x2048x4096_S1x2048x4096_1_0_0) Cert.MergeRefIdeal.Gen.shapeCasts_S1x2048x4096_S2048x4096) Cert.MergeRefIdeal.Gen.bitsLt_bf16_f32)))) (mulf (Host.divf (broadcastInDim Cert.MergeRefIdeal.S36864x4096 ![] Cert.MergeRefIdeal.Gen.bcast_S_S36864x4096 (constant Cert.MergeRefIdeal.S_ .f32 0x3F800000#32)) (addf (broadcastInDim Cert.MergeRefIdeal.S36864x4096 ![] Cert.MergeRefIdeal.Gen.bcast_S_S36864x4096 (constant Cert.MergeRefIdeal.S_ .f32 0x3F800000#32)) (Host.exp (Host.negf (extractStridedSlice Cert.MergeRefIdeal.S36864x4096 ![0, 8192] (extractStridedSlice Cert.MergeRefIdeal.S36864x12288 ![0, 18432] p Cert.MergeRefIdeal.Gen.slices_S36864x30720_S36864x12288_0_18432) Cert.MergeRefIdeal.Gen.slices_S36864x12288_S36864x4096_0_8192))))) (Host.dotGeneral Cert.MergeRefIdeal.dot_S36864x2048_S2048x4096_S36864x4096_1_0_0_1_n_n none (extf .f32 yc Cert.MergeRefIdeal.Gen.bitsLt_bf16_f32) (extf .f32 (shapeCast _ (extractStridedSlice Cert.MergeRefIdeal.S1x2048x4096 ![2, 0, 0] w Cert.MergeRefIdeal.Gen.slices_S3x2048x4096_S1x2048x4096_2_0_0) Cert.MergeRefIdeal.Gen.shapeCasts_S1x2048x4096_S2048x4096) Cert.MergeRefIdeal.Gen.bitsLt_bf16_f32)))) Cert.MergeRefIdeal.Gen.bitsLt_bf16_f32

/-- The blocks a point works on. -/
theorem blocks : ∀ t : Fin cfg0.N, win0_0.index t = ![t.val / 8, 0] ∧ win0_1.index t = ![t.val / 8, 0] ∧ win0_2.index t = ![t.val / 8, 0] ∧ win0_3.index t = ![0, 0, t.val % 8]
    ∧ win0_4.index t = ![t.val / 8, 36 + t.val % 8] ∧ win0_5.index t = ![t.val / 8, 44 + t.val % 8] ∧ win0_6.index t = ![t.val / 8, 52 + t.val % 8]
    ∧ win0_7.index t = ![t.val / 8, t.val % 8] :=
  (by decide +kernel : ∀ t : Fin grid0.N, _)

/-- What a point stores is its block of the result. -/
theorem point (c : Dev nD) (t : Fin cfg0.N) (y : S1024x512.Idx) :
    k0_pay1 (iblk m c 4 t) (iblk m c 0 t) (View.ld (iblk m c 3 t) r0_2) (iblk m c 5 t) (iblk m c 1 t) (View.ld (iblk m c 3 t) r0_3) (iblk m c 6 t) (iblk m c 2 t) (View.ld (iblk m c 3 t) r0_4) y
      = mixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (((cfg0.win 7).blk t).view.emb y) := by
  pointwise [k0_pay1, mixed]
  simp only [Ideal.logistic]
  blk_point [iblk, V, blocks t]

/-- The result array at the end of the run. -/
theorem final (c : Dev nD) : (dats m 0 c).arrAt 7 (cfgs 0).N
    = mixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t _ y => ?_
  blk_simp; rw [after0_7]; frame_out; exact point m c t y

end Cert.MergeIdeal.Mixed

end
-- ==== Proof.OutProjValue.lean ====
/- The output projection: each block is the residual plus the modulation times a product of blocks. -/
module

public import proofs.«01_k».proof.Proof.Gen.OutProjIdeal.Frame
public import proofs.«01_k».proof.Proof.Gen.OutProjRefIdeal.Run
public import Idealize.ShloMosaic.Lib.Pipeline.ValueKit

@[expose] public section

set_option maxRecDepth 16384

noncomputable section

namespace Cert.OutProjIdeal.Residual

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ)

/-- The residual plus the modulated product, whole. -/
abbrev residual (mixed : FVec Ideal S36864x4096 .bf16) (w : FVec Ideal S4096x4096 .bf16) (x : FVec Ideal S36864x4096 .f32) (md : FVec Ideal S16x3x4096 .f32) : FVec Ideal S36864x4096 .f32 :=
  concatenate Cert.OutProjRefIdeal.S36864x4096 0 [⟨Cert.OutProjRefIdeal.S4096x4096, (addf (extractStridedSlice Cert.OutProjRefIdeal.S4096x4096 ![0, 0] x Cert.OutProjRefIdeal.Gen.slices_S36864x4096_S4096x4096_0_0) (mulf (broadcastInDim Cert.OutProjRefIdeal.S4096x4096 ![0, 1] Cert.OutProjRefIdeal.Gen.bcast_S1x4096_S4096x4096_0_1 (broadcastInDim Cert.OutProjRefIdeal.S1x4096 ![1] Cert.OutProjRefIdeal.Gen.bcast_S4096_S1x4096_1 (shapeCast _ (extractStridedSlice Cert.OutProjRefIdeal.S1x4096 ![8, 0] (shapeCast _ (extractStridedSlice Cert.OutProjRefIdeal.S16x1x4096 ![0, 2, 0] md Cert.OutProjRefIdeal.Gen.slices_S16x3x4096_S16x1x4096_0_2_0) Cert.OutProjRefIdeal.Gen.shapeCasts_S16x1x4096_S16x4096) Cert.OutProjRefIdeal.Gen.slices_S16x4096_S1x4096_8_0) Cert.OutProjRefIdeal.Gen.shapeCasts_S1x4096_S4096))) (extractStridedSlice Cert.OutProjRefIdeal.S4096x4096 ![0, 0] (Host.dotGeneral Cert.OutProjRefIdeal.dot_S36864x4096_S4096x4096_S36864x4096_1_0_0_1_n_n none (extf .f32 mixed Cert.OutProjRefIdeal.Gen.bitsLt_bf16_f32) (extf .f32 w Cert.OutProjRefIdeal.Gen.bitsLt_bf16_f32)) Cert.OutProjRefIdeal.Gen.slices_S36864x4096_S4096x4096_0_0)))⟩, ⟨Cert.OutProjRefIdeal.S32768x4096, (shapeCast _ (addf (shapeCast _ (extractStridedSlice Cert.OutProjRefIdeal.S32768x4096 ![4096, 0] x Cert.OutProjRefIdeal.Gen.slices_S36864x4096_S32768x4096_4096_0) Cert.OutProjRefIdeal.Gen.shapeCasts_S32768x4096_S8x4096x4096) (mulf (broadcastInDim Cert.OutProjRefIdeal.S8x4096x4096 ![0, 1, 2] Cert.OutProjRefIdeal.Gen.bcast_S8x1x4096_S8x4096x4096_0_1_2 (broadcastInDim Cert.OutProjRefIdeal.S8x1x4096 ![0, 2] Cert.OutProjRefIdeal.Gen.bcast_S8x4096_S8x1x4096_0_2 (extractStridedSlice Cert.OutProjRefIdeal.S8x4096 ![0, 0] (shapeCast _ (extractStridedSlice Cert.OutProjRefIdeal.S16x1x4096 ![0, 2, 0] md Cert.OutProjRefIdeal.Gen.slices_S16x3x4096_S16x1x4096_0_2_0) Cert.OutProjRefIdeal.Gen.shapeCasts_S16x1x4096_S16x4096) Cert.OutProjRefIdeal.Gen.slices_S16x4096_S8x4096_0_0))) (shapeCast _ (extractStridedSlice Cert.OutProjRefIdeal.S32768x4096 ![4096, 0] (Host.dotGeneral Cert.OutProjRefIdeal.dot_S36864x4096_S4096x4096_S36864x4096_1_0_0_1_n_n none (extf .f32 mixed Cert.OutProjRefIdeal.Gen.bitsLt_bf16_f32) (extf .f32 w Cert.OutProjRefIdeal.Gen.bitsLt_bf16_f32)) Cert.OutProjRefIdeal.Gen.slices_S36864x4096_S32768x4096_4096_0) Cert.OutProjRefIdeal.Gen.shapeCasts_S32768x4096_S8x4096x4096))) Cert.OutProjRefIdeal.Gen.shapeCasts_S8x4096x4096_S32768x4096)⟩] Cert.OutProjRefIdeal.Gen.concatenates_S4096x4096_S32768x4096_S36864x4096_d0

/-- The blocks a point works on. -/
theorem blocks : ∀ t : Fin cfg0.N, win0_0.index t = ![t.val / 4, 0] ∧ win0_1.index t = ![0, t.val % 4] ∧ win0_2.index t = ![t.val / 4, t.val % 4]
    ∧ win0_3.index t = ![if t.val / 4 < 4 then 8 else t.val / 16 - 1, 0, t.val % 4] ∧ win0_4.index t = ![t.val / 4, t.val % 4] :=
  (by decide +kernel : ∀ t : Fin grid0.N, _)

/-- The row an element of a point's block sits at. -/
theorem row (t : Fin cfg0.N) (y : S1024x1024.Idx) :
    (((View.whole main_v0).slice ((win0 4).rect t)).emb y 0 : ℕ) = t.val / 4 * 1024 + (y 0).val := by
  have h : ((((cfg0.win 4).blk t).view.emb y) 0 : ℕ) = t.val / 4 * 1024 + (y 0).val := by blk_simp [blocks t]
  exact h

/-- What a point stores is its block of the result. -/
theorem point (c : Dev nD) (t : Fin cfg0.N) (y : S1024x1024.Idx) :
    k0_pay1 (iblk m c 2 t) (View.ld (iblk m c 3 t) r0_1) (iblk m c 0 t) (iblk m c 1 t) y
      = residual (m ((c.tc : Thread nD τ).loc main_arg0)) (m ((c.tc : Thread nD τ).loc main_arg1)) (m ((c.tc : Thread nD τ).loc main_arg2)) (m ((c.tc : Thread nD τ).loc main_arg3)) (((cfg0.win 4).blk t).view.emb y) := by
  pointwise [k0_pay1, residual]
  blk_point [iblk, V, blocks t]
  all_goals
    have hr := row t y
    try split_ifs
    all_goals (try simp only [Fin.isValue, Fin.coe_ofNat_eq_mod]) <;> omega

/-- The result array at the end of the run. -/
theorem final (c : Dev nD) : (dats m 0 c).arrAt 4 (cfgs 0).N
    = residual (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp; rw [after0_4]; frame_out; exact point m c t y

end Cert.OutProjIdeal.Residual

end
-- ==== Proof.FinalPromptValue.lean ====
/- The last normalisation of the prompt rows: each block of rows by itself. -/
module

public import proofs.«01_k».proof.Proof.Gen.FinalPromptIdeal.Frame
public import proofs.«01_k».proof.Proof.Gen.FinalPromptRefIdeal.Run
public import Idealize.ShloMosaic.Lib.Pipeline.ValueKit

@[expose] public section

set_option maxRecDepth 16384

noncomputable section

namespace Cert.FinalPromptIdeal.Norm

open Cert.FinalPromptIdeal Cert.FinalPromptIdeal.Gen Idealize.ShloMosaic Idealize.ShloMosaic.TcCoe Idealize.SL.Sem
open Idealize.ShloMosaic.Pipeline (Dat)

variable (m : (ℓ : Loc nD τ sig) → Buf (Elt Ideal) ℓ)

/-- The normalised rows, whole. -/
abbrev norm (x : FVec Ideal S36864x4096 .f32) (g : FVec Ideal S4096 .f32) : FVec Ideal S4096x4096 .f32 :=
  mulf (mulf (extractStridedSlice Cert.FinalPromptRefIdeal.S4096x4096 ![0, 0] x Cert.FinalPromptRefIdeal.Gen.slices_S36864x4096_S4096x4096_0_0) (broadcastInDim Cert.FinalPromptRefIdeal.S4096x4096 ![0, 1] Cert.FinalPromptRefIdeal.Gen.bcast_S4096x1_S4096x4096_0_1 (Host.rsqrt (addf (Host.divf (broadcastInDim Cert.FinalPromptRefIdeal.S4096x1 ![0] Cert.FinalPromptRefIdeal.Gen.bcast_S4096_S4096x1_0 (Host.reduceAdd (mulf (extractStridedSlice Cert.FinalPromptRefIdeal.S4096x4096 ![0, 0] x Cert.FinalPromptRefIdeal.Gen.slices_S36864x4096_S4096x4096_0_0) (extractStridedSlice Cert.FinalPromptRefIdeal.S4096x4096 ![0, 0] x Cert.FinalPromptRefIdeal.Gen.slices_S36864x4096_S4096x4096_0_0)) (constant Cert.FinalPromptRefIdeal.S_ .f32 0x00000000#32) Cert.FinalPromptRefIdeal.Gen.reducesTo_S4096x4096_S4096_d1 Cert.FinalPromptRefIdeal.Gen.h_S_)) (broadcastInDim Cert.FinalPromptRefIdeal.S4096x1 ![] Cert.FinalPromptRefIdeal.Gen.bcast_S_S4096x1 (constant Cert.FinalPromptRefIdeal.S_ .f32 0x45800000#32))) (broadcastInDim Cert.FinalPromptRefIdeal.S4096x1 ![] Cert.FinalPromptRefIdeal.Gen.bcast_S_S4096x1 (constant Cert.FinalPromptRefIdeal.S_ .f32 0x358637BD#32)))))) (broadcastInDim Cert.FinalPromptRefIdeal.S4096x4096 ![0, 1] Cert.FinalPromptRefIdeal.Gen.bcast_S1x4096_S4096x4096_0_1 (broadcastInDim Cert.FinalPromptRefIdeal.S1x4096 ![1] Cert.FinalPromptRefIdeal.Gen.bcast_S4096_S1x4096_1 g))

/-- The blocks a point works on. -/
theorem blocks : ∀ t : Fin cfg0.N, win0_0.index t = ![t.val, 0] ∧ win0_1.index t = ![0, 0] ∧ win0_2.index t = ![t.val, 0] :=
  (by decide +kernel : ∀ t : Fin grid0.N, _)

/-- What a point stores is its block of the result. -/
theorem point (c : Dev nD) (t : Fin cfg0.N) (y : S256x4096.Idx) :
    k0_pay1 (iblk m c 0 t) (iblk m c 1 t) y
      = norm (m ((c.tc : Thread nD τ).loc main_arg0)) (m ((c.tc : Thread nD τ).loc main_arg1)) (((cfg0.win 2).blk t).view.emb y) := by
  pointwise [k0_pay1, norm]
  blk_point [iblk, V, blocks t]

/-- The result array at the end of the run. -/
theorem final (c : Dev nD) : (dats m 0 c).arrAt 2 (cfgs 0).N
    = norm (m ((c.tc : Thread nD τ).loc main_arg0)) (m ((c.tc : Thread nD τ).loc main_arg1)) := by
  refine (dats m 0 c).arrAt_eq_of_covers 2 _ (by decide +kernel) fun t _ y => ?_
  blk_simp; rw [after0_2]; frame_out; exact point m c t y

end Cert.FinalPromptIdeal.Norm

end
-- ==== Proof.FinalSampleValue.lean ====
/- The last normalisation of the sample rows: each block of rows by itself. -/
module

public import proofs.«01_k».proof.Proof.Gen.FinalSampleIdeal.Frame
public import proofs.«01_k».proof.Proof.Gen.FinalSampleRefIdeal.Run
public import Idealize.ShloMosaic.Lib.Pipeline.ValueKit

@[expose] public section

set_option maxRecDepth 16384

noncomputable section

namespace Cert.FinalSampleIdeal.Norm

open Cert.FinalSampleIdeal Cert.FinalSampleIdeal.Gen Idealize.ShloMosaic Idealize.ShloMosaic.TcCoe Idealize.SL.Sem
open Idealize.ShloMosaic.Pipeline (Dat)

variable (m : (ℓ : Loc nD τ sig) → Buf (Elt Ideal) ℓ)

/-- The normalised rows, whole. -/
abbrev norm (x : FVec Ideal S36864x4096 .f32) (g : FVec Ideal S4096 .f32) : FVec Ideal S32768x4096 .f32 :=
  mulf (mulf (extractStridedSlice Cert.FinalSampleRefIdeal.S32768x4096 ![4096, 0] x Cert.FinalSampleRefIdeal.Gen.slices_S36864x4096_S32768x4096_4096_0) (broadcastInDim Cert.FinalSampleRefIdeal.S32768x4096 ![0, 1] Cert.FinalSampleRefIdeal.Gen.bcast_S32768x1_S32768x4096_0_1 (Host.rsqrt (addf (Host.divf (broadcastInDim Cert.FinalSampleRefIdeal.S32768x1 ![0] Cert.FinalSampleRefIdeal.Gen.bcast_S32768_S32768x1_0 (Host.reduceAdd (mulf (extractStridedSlice Cert.FinalSampleRefIdeal.S32768x4096 ![4096, 0] x Cert.FinalSampleRefIdeal.Gen.slices_S36864x4096_S32768x4096_4096_0) (extractStridedSlice Cert.FinalSampleRefIdeal.S32768x4096 ![4096, 0] x Cert.FinalSampleRefIdeal.Gen.slices_S36864x4096_S32768x4096_4096_0)) (constant Cert.FinalSampleRefIdeal.S_ .f32 0x00000000#32) Cert.FinalSampleRefIdeal.Gen.reducesTo_S32768x4096_S32768_d1 Cert.FinalSampleRefIdeal.Gen.h_S_)) (broadcastInDim Cert.FinalSampleRefIdeal.S32768x1 ![] Cert.FinalSampleRefIdeal.Gen.bcast_S_S32768x1 (constant Cert.FinalSampleRefIdeal.S_ .f32 0x45800000#32))) (broadcastInDim Cert.FinalSampleRefIdeal.S32768x1 ![] Cert.FinalSampleRefIdeal.Gen.bcast_S_S32768x1 (constant Cert.FinalSampleRefIdeal.S_ .f32 0x358637BD#32)))))) (broadcastInDim Cert.FinalSampleRefIdeal.S32768x4096 ![0, 1] Cert.FinalSampleRefIdeal.Gen.bcast_S1x4096_S32768x4096_0_1 (broadcastInDim Cert.FinalSampleRefIdeal.S1x4096 ![1] Cert.FinalSampleRefIdeal.Gen.bcast_S4096_S1x4096_1 g))

/-- The blocks a point works on. -/
theorem blocks : ∀ t : Fin cfg0.N, win0_0.index t = ![16 + t.val, 0] ∧ win0_1.index t = ![0, 0] ∧ win0_2.index t = ![t.val, 0] :=
  (by decide +kernel : ∀ t : Fin grid0.N, _)

/-- What a point stores is its block of the result. -/
theorem point (c : Dev nD) (t : Fin cfg0.N) (y : S256x4096.Idx) :
    k0_pay1 (iblk m c 0 t) (iblk m c 1 t) y
      = norm (m ((c.tc : Thread nD τ).loc main_arg0)) (m ((c.tc : Thread nD τ).loc main_arg1)) (((cfg0.win 2).blk t).view.emb y) := by
  pointwise [k0_pay1, norm]
  blk_point [iblk, V, blocks t]

/-- The result array at the end of the run. -/
theorem final (c : Dev nD) : (dats m 0 c).arrAt 2 (cfgs 0).N
    = norm (m ((c.tc : Thread nD τ).loc main_arg0)) (m ((c.tc : Thread nD τ).loc main_arg1)) := by
  refine (dats m 0 c).arrAt_eq_of_covers 2 _ (by decide +kernel) fun t _ y => ?_
  blk_simp; rw [after0_2]; frame_out; exact point m c t y

end Cert.FinalSampleIdeal.Norm

end
-- ==== Proof.Calls.lean ====
/- The claims about the five calls whose result is read off one block at a time: each kernel's run leaves the
   reference's composed term, each reference's run leaves the arguments alone. -/
module

public import proofs.«01_k».proof.Defs
public import proofs.«01_k».proof.Proof.InProjValue
public import proofs.«01_k».proof.Proof.Gen.InProj.Frame
public import proofs.«01_k».proof.Proof.MergeValue
public import proofs.«01_k».proof.Proof.Gen.Merge.Frame
public import proofs.«01_k».proof.Proof.OutProjValue
public import proofs.«01_k».proof.Proof.Gen.OutProj.Frame
public import proofs.«01_k».proof.Proof.FinalPromptValue
public import proofs.«01_k».proof.Proof.Gen.FinalPrompt.Frame
public import proofs.«01_k».proof.Proof.FinalSampleValue
public import proofs.«01_k».proof.Proof.Gen.FinalSample.Frame
public import Idealize.ShloMosaic.Adequacy
public import Idealize.ShloMosaic.Init

@[expose] public section

noncomputable section

namespace Cert.Calls

open Idealize.ShloMosaic Idealize.SL.Sem

/-! ## InProj -/

theorem frame_InProj : Cert.quiescent_InProj := fun m ρ _ => Cert.InProj.Gen.frame m ρ

theorem frame_InProjIdeal : Cert.quiescent_InProjIdeal := fun m ρ _ => Cert.InProjIdeal.Gen.frame m ρ

theorem frame_InProjRefIdeal : Cert.quiescent_InProjRefIdeal := fun m ρ _ =>
  (θ_run Cert.InProjRefIdeal.defs _ _).mono (fun r h => ⟨fun c => (h c).2.2.2.2, sem_eq_zero_of_no_sems (by decide) r.2⟩)
    (Cert.InProjRefIdeal.Value.run (F := Ideal) m ρ)

theorem algebraic_InProj : Cert.algebraic_InProjIdeal_InProjRefIdeal := by
  pair_intro
  · run_from Cert.InProjIdeal.Gen.run_main m g
  · run_from Cert.InProjRefIdeal.Value.run m' g'
    · exact (Cert.InProjIdeal.Product.final m c).symm
    · exact (Cert.InProjIdeal.Product.slab_eq 10240 _ _ _).trans (Cert.InProjIdeal.Product.slab_bk m c).symm
    · exact (Cert.InProjIdeal.Product.slab_eq 10752 _ _ _).trans (Cert.InProjIdeal.Product.slab_bv m c).symm
    · exact (Cert.InProjIdeal.Product.slab_eq 15872 _ _ _).trans (Cert.InProjIdeal.Product.slab_cv m c).symm

/-! ## Merge -/

theorem frame_Merge : Cert.quiescent_Merge := fun m ρ _ => Cert.Merge.Gen.frame m ρ

theorem frame_MergeIdeal : Cert.quiescent_MergeIdeal := fun m ρ _ => Cert.MergeIdeal.Gen.frame m ρ

theorem frame_MergeRefIdeal : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem algebraic_Merge : Cert.algebraic_MergeIdeal_MergeRefIdeal := by
  pair_intro
  · run_from Cert.MergeIdeal.Gen.run_main m g
  · run_from Cert.MergeRefIdeal.Value.run m' g'
    exact (Cert.MergeIdeal.Mixed.final m c).symm

/-! ## OutProj -/

theorem frame_OutProj : Cert.quiescent_OutProj := fun m ρ _ => Cert.OutProj.Gen.frame m ρ

theorem frame_OutProjIdeal : Cert.quiescent_OutProjIdeal := fun m ρ _ => Cert.OutProjIdeal.Gen.frame m ρ

theorem frame_OutProjRefIdeal : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem algebraic_OutProj : Cert.algebraic_OutProjIdeal_OutProjRefIdeal := by
  pair_intro
  · run_from Cert.OutProjIdeal.Gen.run_main m g
  · run_from Cert.OutProjRefIdeal.Value.run m' g'
    refine Eq.trans ?_ (Cert.OutProjIdeal.Residual.final m c).symm
    exact congrArg (Cert.OutProjIdeal.Residual.residual (m ((c.tc : Thread _ _).loc Cert.OutProjIdeal.main_arg0))
      (m ((c.tc : Thread _ _).loc Cert.OutProjIdeal.main_arg1)) (m ((c.tc : Thread _ _).loc Cert.OutProjIdeal.main_arg2))) (hagree c).2.2.2

/-! ## FinalPrompt -/

theorem frame_FinalPrompt : Cert.quiescent_FinalPrompt := fun m ρ _ => Cert.FinalPrompt.Gen.frame m ρ

theorem frame_FinalPromptIdeal : Cert.quiescent_FinalPromptIdeal := fun m ρ _ => Cert.FinalPromptIdeal.Gen.frame m ρ

theorem frame_FinalPromptRefIdeal : Cert.quiescent_FinalPromptRefIdeal := fun m ρ _ =>
  (θ_run Cert.FinalPromptRefIdeal.defs _ _).mono (fun r h => ⟨fun c => (h c).2, sem_eq_zero_of_no_sems (by decide) r.2⟩)
    (Cert.FinalPromptRefIdeal.Value.run (F := Ideal) m ρ)

theorem algebraic_FinalPrompt : Cert.algebraic_FinalPromptIdeal_FinalPromptRefIdeal := by
  pair_intro
  · run_from Cert.FinalPromptIdeal.Gen.run_main m g
  · run_from Cert.FinalPromptRefIdeal.Value.run m' g'
    exact (Cert.FinalPromptIdeal.Norm.final m c).symm

/-! ## FinalSample -/

theorem frame_FinalSample : Cert.quiescent_FinalSample := fun m ρ _ => Cert.FinalSample.Gen.frame m ρ

theorem frame_FinalSampleIdeal : Cert.quiescent_FinalSampleIdeal := fun m ρ _ => Cert.FinalSampleIdeal.Gen.frame m ρ

theorem frame_FinalSampleRefIdeal : Cert.quiescent_FinalSampleRefIdeal := fun m ρ _ =>
  (θ_run Cert.FinalSampleRefIdeal.defs _ _).mono (fun r h => ⟨fun c => (h c).2, sem_eq_zero_of_no_sems (by decide) r.2⟩)
    (Cert.FinalSampleRefIdeal.Value.run (F := Ideal) m ρ)

theorem algebraic_FinalSample : Cert.algebraic_FinalSampleIdeal_FinalSampleRefIdeal := by
  pair_intro
  · run_from Cert.FinalSampleIdeal.Gen.run_main m g
  · run_from Cert.FinalSampleRefIdeal.Value.run m' g'
    exact (Cert.FinalSampleIdeal.Norm.final m c).symm

end Cert.Calls

end
-- ==== Proof.PrepValue.lean ====
/- The norm and the modulation before the projection: each block of the kernel's result is its rows, normalised, scaled
   and shifted by their sample's modulation, so the array is the reference's. -/
module

public import proofs.«01_k».proof.Proof.Gen.PrepIdeal.Frame
public import proofs.«01_k».proof.Proof.Gen.PrepRefIdeal.Run
public import proofs.«01_k».proof.Proof.Gen.PrepRefIdeal.Read
public import Idealize.ShloMosaic.Lib.Pipeline.ValueKit
public import Idealize.ShloMosaic.Lib.ValueLayout

@[expose] public section

set_option maxRecDepth 16384

noncomputable section

namespace Cert.PrepIdeal.Modulated

open Cert.PrepIdeal Cert.PrepIdeal.Gen Idealize.ShloMosaic Idealize.ShloMosaic.TcCoe Idealize.SL.Sem
open Idealize.ShloMosaic.Pipeline (Dat)
open Cert.PrepRefIdeal.Read

variable (m : (ℓ : Loc nD τ sig) → Buf (Elt Ideal) ℓ)

/-- The blocks a point works on. -/
theorem blocks : ∀ t : Fin cfg0.N, win0_0.index t = ![t.val, 0] ∧ win0_1.index t = ![if t.val < 16 then 8 else t.val / 16 - 1, 0, 0]
    ∧ win0_2.index t = ![0, 0] ∧ win0_3.index t = ![t.val, 0] :=
  (by decide +kernel : ∀ t : Fin grid0.N, _)

/-- The row an element of a point's block sits at. -/
theorem row (t : Fin cfg0.N) (y : S256x4096.Idx) :
    (((View.whole main_v1).slice ((win0 3).rect t)).emb y 0 : ℕ) = t.val * 256 + (y 0).val := by
  have h : ((((cfg0.win 3).blk t).view.emb y) 0 : ℕ) = t.val * 256 + (y 0).val := by blk_simp [blocks t]
  exact h

/-- The weight's block is the weight. -/
theorem weight (t : Fin cfg0.N) (j : Fin 4096) :
    ((Shape.reshapeEquiv shapeCasts_S4096_S1x4096) (((View.whole main_v0).slice (win0_2.rect t)).emb (ix2 0 j)) 0 : ℕ) = j.val := by
  have e : ((View.whole main_v0).slice (win0_2.rect t)).emb (ix2 0 j) = (ix2 0 j : S1x4096.Idx) := by
    funext a
    apply Fin.ext
    have h : ((((cfg0.win 2).blk t).view.emb (ix2 0 j : S1x4096.Idx)) a : ℕ) = ((ix2 0 j : S1x4096.Idx) a).val := by
      fin_cases a <;> blk_simp [blocks t]
    exact h
  rw [e]
  exact congrArg (fun i : S4096.Idx => (i 0).val) (Idealize.ShloMosaic.ValueIdx.shapeCast_a_1a_apply (fun i => i) shapeCasts_S4096_S1x4096 0 j)

/-- What a point stores is its block of the result. -/
theorem point (c : Dev nD) (t : Fin cfg0.N) (y : S256x4096.Idx) :
    k0_pay1 (iblk m c 0 t) (iblk m c 2 t) (View.ld (iblk m c 1 t) r0_2) (View.ld (iblk m c 1 t) r0_3) y
      = val_main_v44 (F := Ideal) (m ((c.tc : Thread nD τ).loc main_arg0)) (m ((c.tc : Thread nD τ).loc main_arg1)) (m ((c.tc : Thread nD τ).loc main_arg2)) (((cfg0.win 3).blk t).view.emb y) := by
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_v18, val_main_v19, val_main_cst_2, val_main_v20, val_main_v21, val_main_v22, val_main_v23, val_main_v24, val_main_v25, val_main_v26, val_main_v27, val_main_v28, val_main_v29, val_main_v30, val_main_v31, val_main_v32, val_main_v33, val_main_cst_3, val_main_v34, val_main_v35, val_main_v36, val_main_v37, val_main_v38, val_main_v39, val_main_v40, val_main_v41, val_main_v42, val_main_v43, val_main_v44]
  blk_point [iblk, V, blocks t]
  all_goals first
    | (have hr := row t y
       try split_ifs
       all_goals (try simp only [Fin.isValue, Fin.coe_ofNat_eq_mod]) <;> omega)
    | exact (weight t (y 1)).symm

/-- The result array at the end of the run. -/
theorem final (c : Dev nD) : (dats m 0 c).arrAt 3 (cfgs 0).N
    = val_main_v44 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp; rw [after0_3]; frame_out; exact point m c t y

end Cert.PrepIdeal.Modulated

end
-- ==== Proof.InGatesValue.lean ====
/- The recurrence's gates: each block of the kernel's result is the product of a block of rows by the gates' columns,
   so the array is the product of the arrays. -/
module

public import proofs.«01_k».proof.Proof.Gen.InGatesIdeal.Frame
public import proofs.«01_k».proof.Proof.Gen.InGatesRefIdeal.Run
public import Idealize.ShloMosaic.Lib.Pipeline.ValueKit

@[expose] public section

set_option maxRecDepth 16384

noncomputable section

namespace Cert.InGatesIdeal.Product

open Cert.InGatesIdeal Cert.InGatesIdeal.Gen Idealize.ShloMosaic Idealize.ShloMosaic.TcCoe Idealize.SL.Sem
open Idealize.ShloMosaic.Pipeline (Dat)

variable (m : (ℓ : Loc nD τ sig) → Buf (Elt Ideal) ℓ)

/-- The product of the whole arrays. -/
abbrev product (h : FVec Ideal S36864x4096 .bf16) (w : FVec Ideal S4096x128 .bf16) : FVec Ideal S36864x128 .f32 :=
  Host.dotGeneral Cert.InGatesRefIdeal.dot_S36864x4096_S4096x128_S36864x128_1_0_0_1_n_n none
    (extf .f32 h Cert.InGatesRefIdeal.Gen.bitsLt_bf16_f32) (extf .f32 w Cert.InGatesRefIdeal.Gen.bitsLt_bf16_f32)

/-- The blocks a point works on. -/
theorem blocks : ∀ t : Fin cfg0.N, win0_0.index t = ![t.val, 0] ∧ win0_1.index t = ![0, 0] ∧ win0_2.index t = ![t.val, 0] :=
  (by decide +kernel : ∀ t : Fin grid0.N, _)

/-- What a point stores is its block of the product. -/
theorem point (c : Dev nD) (t : Fin cfg0.N) (y : S1024x128.Idx) :
    k0_pay1 (iblk m c 0 t) (iblk m c 1 t) y
      = product (m ((c.tc : Thread nD τ).loc main_arg0)) (m ((c.tc : Thread nD τ).loc main_arg1)) (((cfg0.win 2).blk t).view.emb y) := by
  pointwise [k0_pay1, product]
  blk_point [iblk, V, blocks t]

/-- The result array at the end of the run. -/
theorem final (c : Dev nD) : (dats m 0 c).arrAt 2 (cfgs 0).N
    = product (m ((c.tc : Thread nD τ).loc main_arg0)) (m ((c.tc : Thread nD τ).loc main_arg1)) := by
  refine (dats m 0 c).arrAt_eq_of_covers 2 _ (by decide +kernel) fun t _ y => ?_
  blk_simp; rw [after0_2]; frame_out; exact point m c t y

end Cert.InGatesIdeal.Product

end
-- ==== Proof.ModulationValue.lean ====
/- The modulation: the sixteen steps of a layer's blocks add up to the product of the conditions' activations by the
   layer's weight, over the bias, so the array is the reference's. -/
module

public import proofs.«01_k».proof.Proof.Gen.ModulationIdeal.Frame
public import proofs.«01_k».proof.Proof.Gen.ModulationIdeal.Value
public import proofs.«01_k».proof.Proof.Gen.ModulationRefIdeal.Run
public import proofs.«01_k».proof.Proof.Gen.ModulationRefIdeal.Read
public import Idealize.ShloMosaic.Lib.Pipeline.ValueKit

@[expose] public section

set_option maxRecDepth 16384

noncomputable section

namespace Cert.ModulationIdeal.Steps

open Cert.ModulationIdeal Cert.ModulationIdeal.Gen Cert.ModulationIdeal.Value Idealize.ShloMosaic Idealize.ShloMosaic.TcCoe Idealize.SL.Sem
open Idealize.ShloMosaic.Pipeline (Dat)
open Cert.ModulationRefIdeal.Read

variable (m : (ℓ : Loc nD τ sig) → Buf (Elt Ideal) ℓ)

/-- The blocks a point works on. -/
theorem blocks : ∀ t : Fin cfg0.N, win0_0.index t = ![0, t.val % 16] ∧ win0_1.index t = ![t.val / 16, t.val % 16, 0]
    ∧ win0_2.index t = ![t.val / 16, 0, 0] ∧ win0_3.index t = ![t.val / 16, 0, 0] :=
  (by decide +kernel : ∀ t : Fin grid0.N, _)

/-- The conditions' rows, as the reference builds them. -/
abbrev rows (c : Dev nD) : FVec Ideal Cert.ModulationRefIdeal.S16x4096 .f32 :=
  val_main_v2 (F := Ideal) (m ((c.tc : Thread nD τ).loc main_arg0)) (m ((c.tc : Thread nD τ).loc main_arg1))

/-- The bias. -/
abbrev bias (c : Dev nD) : FVec Ideal S4x12288 .f32 := m ((c.tc : Thread nD τ).loc main_arg3)

/-- The weights. -/
abbrev weight (c : Dev nD) : FVec Ideal S4x4096x12288 .f32 := m ((c.tc : Thread nD τ).loc main_arg2)

/-- The activations of the conditions' rows. -/
abbrev act (c : Dev nD) : FVec Ideal Cert.ModulationRefIdeal.S16x4096 .f32 :=
  val_main_v3 (F := Ideal) (m ((c.tc : Thread nD τ).loc main_arg0)) (m ((c.tc : Thread nD τ).loc main_arg1))

theorem act_apply (c : Dev nD) (i : S16x4096.Idx) : act m c i = rows m c i * Ideal.logistic (rows m c i) := by
  pointwise [act, val_main_v3, val_main_call0_v5, val_main_call0_v4, val_main_call0_cst_0, val_main_call0_v3, val_main_call0_v2, val_main_call0_cst, val_main_call0_v1, val_main_call0_v0]
  rfl

/-- The lines before the region build those rows and lay the bias out. -/
theorem before_rows (c : Dev nD) : V m c main_v2 = rows m c := by
  unfold V
  after_results
  rfl

theorem before_bias (c : Dev nD) : V m c main_v3 = shapeCast S4x1x12288 (m ((c.tc : Thread nD τ).loc main_arg3)) shapeCasts_S4x12288_S4x1x12288 := by
  unfold V
  after_results
  rfl

theorem emb_rows (t : Fin cfg0.N) (y : S16x256.Idx) : (((cfg0.win 0).blk t).view.emb y 0 : ℕ) = (y 0).val
    ∧ (((cfg0.win 0).blk t).view.emb y 1 : ℕ) = t.val % 16 * 256 + (y 1).val := by
  constructor <;> blk_simp [blocks t]

theorem emb_weight (t : Fin cfg0.N) (y : S1x256x12288.Idx) : (((cfg0.win 1).blk t).view.emb y 0 : ℕ) = t.val / 16 + (y 0).val
    ∧ (((cfg0.win 1).blk t).view.emb y 1 : ℕ) = t.val % 16 * 256 + (y 1).val ∧ (((cfg0.win 1).blk t).view.emb y 2 : ℕ) = (y 2).val := by
  refine ⟨?_, ?_, ?_⟩ <;> blk_simp [blocks t]

theorem emb_bias (t : Fin cfg0.N) (y : S1x1x12288.Idx) : (((cfg0.win 2).blk t).view.emb y 0 : ℕ) = t.val / 16 + (y 0).val
    ∧ (((cfg0.win 2).blk t).view.emb y 1 : ℕ) = (y 1).val ∧ (((cfg0.win 2).blk t).view.emb y 2 : ℕ) = (y 2).val := by
  refine ⟨?_, ?_, ?_⟩ <;> blk_simp [blocks t]

/-- The bias laid out under a unit axis. -/
theorem laid (b : FVec Ideal S4x12288 .f32) (l : Fin 4) (e : Fin 12288) :
    shapeCast S4x1x12288 b shapeCasts_S4x12288_S4x1x12288 (ix3 l 0 e) = b (ix2 l e) := by
  exact shapeCast_apply b shapeCasts_S4x12288_S4x1x12288 _ _ (by
    rw [Shape.rowMajor_val_three, Shape.rowMajor_val_two]
    show l.val * 12288 + e.val = (l.val * 1 + 0) * 12288 + e.val
    omega)

theorem read_rows (c : Dev nD) (t : Fin cfg0.N) (r : Fin 16) (k : Fin 256) :
    iblk m c 0 t (ix2 r k) = rows m c (ix2 r ⟨t.val % 16 * 256 + k.val, by omega⟩) := by
  show V m c main_v2 _ = _
  rw [before_rows]
  have h := emb_rows t (ix2 r k)
  refine congrArg (rows m c) (funext fun a => Fin.ext ?_)
  fin_cases a
  exacts [h.1, h.2]

theorem read_weight (c : Dev nD) (t : Fin cfg0.N) (l : Fin 4) (hl : l.val = t.val / 16) (k : Fin 256) (e : Fin 12288) :
    iblk m c 1 t (ix3 0 k e) = weight m c (ix3 l ⟨t.val % 16 * 256 + k.val, by omega⟩ e) := by
  show V m c main_arg2 _ = _
  rw [V_main_arg2]
  have h := emb_weight t (ix3 0 k e)
  refine congrArg (weight m c) (funext fun a => Fin.ext ?_)
  fin_cases a
  exacts [h.1.trans hl.symm, h.2.1, h.2.2]

theorem read_bias (c : Dev nD) (t : Fin cfg0.N) (l : Fin 4) (hl : l.val = t.val / 16) (e : Fin 12288) :
    iblk m c 2 t (ix3 0 0 e) = bias m c (ix2 l e) := by
  show V m c main_v3 _ = _
  rw [before_bias]
  show shapeCast S4x1x12288 (bias m c) shapeCasts_S4x12288_S4x1x12288 _ = _
  generalize bias m c = b
  have h := emb_bias t (ix3 0 0 e)
  have hi : ((cfg0.win 2).blk t).view.emb (ix3 0 0 e) = (ix3 l 0 e : S4x1x12288.Idx) := by
    funext a
    apply Fin.ext
    fin_cases a
    exacts [h.1.trans hl.symm, h.2.1, h.2.2]
  exact (congrArg (shapeCast S4x1x12288 b shapeCasts_S4x12288_S4x1x12288) hi).trans (laid b l e)

/-- A product summed by the steps. -/
def part (c : Dev nD) (l : Fin 4) (r : Fin 16) (e : Fin 12288) (k : ℕ) : EReal :=
  if h : k < 4096 then act m c (ix2 r ⟨k, h⟩) * weight m c (ix3 l ⟨k, h⟩ e) else 0

/-- What a point adds. -/
theorem step (c : Dev nD) (t : Fin cfg0.N) (acc : FVec Ideal S1x16x12288 .f32) (r : Fin 16) (e : Fin 12288) (l : Fin 4)
    (hl : l.val = t.val / 16) :
    k0_pay2 (iblk m c 0 t) acc (iblk m c 1 t) (ix3 0 r e)
      = acc (ix3 0 r e) + ∑ k : Fin 256, part m c l r e (t.val % 16 * 256 + k.val) := by
  have hp : ∀ k : Fin 256, part m c l r e (t.val % 16 * 256 + k.val)
      = act m c (ix2 r ⟨t.val % 16 * 256 + k.val, by omega⟩)
        * weight m c (ix3 l ⟨t.val % 16 * 256 + k.val, by omega⟩ e) := fun k => dif_pos (by omega)
  simp only [hp, act_apply]
  generalize hx : iblk m c 0 t = x
  generalize hw : iblk m c 1 t = w
  pointwise [k0_pay2]
  refine congrArg (acc (ix3 0 r e) + ·) (Finset.sum_congr rfl fun k _ => ?_)
  rw [← hx, ← hw, read_rows m c t r k, read_weight m c t l hl k e]

/-- A layer's steps start from the bias, the same for every row. -/
theorem bias_row (b : FVec Ideal S1x1x12288 .f32) (r : Fin 16) (e : Fin 12288) : k0_pay1 b (ix3 0 r e) = b (ix3 0 0 e) := by
  pointwise [k0_pay1]

/-- Sixteen sums of 256 are the sum of 4096. -/
theorem regroup (f : ℕ → EReal) : ∑ s ∈ Finset.range 16, ∑ k : Fin 256, f (s * 256 + k.val) = ∑ k : Fin 4096, f k.val := by
  rw [Fin.sum_univ_eq_sum_range f 4096]
  simp only [fun s => Fin.sum_univ_eq_sum_range (fun k => f (s * 256 + k)) 256]
  have h : ∀ n, ∑ s ∈ Finset.range n, ∑ k ∈ Finset.range 256, f (s * 256 + k) = ∑ k ∈ Finset.range (n * 256), f k := by
    intro n
    induction n with
    | zero => simp
    | succ n ih => rw [Finset.sum_range_succ, ih, Nat.succ_mul, Finset.sum_range_add]
  exact h 16

/-- The reference at an index. -/
theorem plain (c : Dev nD) (l : Fin 4) (r : Fin 16) (e : Fin 12288) :
    val_main_v8 (F := Ideal) (m ((c.tc : Thread nD τ).loc main_arg0)) (m ((c.tc : Thread nD τ).loc main_arg1))
      (m ((c.tc : Thread nD τ).loc main_arg2)) (m ((c.tc : Thread nD τ).loc main_arg3)) (ix3 l r e)
      = bias m c (ix2 l e) + ∑ k : Fin 4096, part m c l r e k.val := by
  have hp : ∀ k : Fin 4096, part m c l r e k.val
      = weight m c (ix3 l k e) * act m c (ix2 r k) := fun k => by
    rw [mul_comm]; exact dif_pos k.isLt
  simp only [hp]
  rw [add_comm]
  pointwise [val_main_v8, val_main_v7, val_main_v6, val_main_v5, val_main_v4]

theorem N64 : cfg0.N = 64 := N_0

/-- A layer's block after its first `j + 1` steps. -/
theorem steps (c : Dev nD) (l : Fin 4) (r : Fin 16) (e : Fin 12288) :
    ∀ j, j ≤ 15 → ∀ hj : 16 * l.val + j < cfg0.N, Pipeline.accAt (reset3 m c) (step3 m c) (16 * l.val) j hj (ix3 0 r e)
      = bias m c (ix2 l e) + ∑ s ∈ Finset.range (j + 1), ∑ k : Fin 256, part m c l r e (s * 256 + k.val) := by
  intro j
  induction j with
  | zero =>
    intro _ hj
    rw [Pipeline.accAt_zero]
    unfold reset3
    rw [step m c ⟨16 * l.val, _⟩ _ r e l (by show _ = 16 * l.val / 16; omega), Finset.sum_range_one, bias_row,
      read_bias m c ⟨16 * l.val, _⟩ l (by show _ = 16 * l.val / 16; omega) e]
    simp only [Nat.mul_mod_right]
  | succ j ih =>
    intro hle hj
    rw [Pipeline.accAt_succ]
    refine (step m c ⟨16 * l.val + (j + 1), _⟩ _ r e l (by show _ = (16 * l.val + (j + 1)) / 16; omega)).trans ?_
    rw [ih (by omega), Finset.sum_range_succ _ (j + 1), add_assoc]
    simp only [show (16 * l.val + (j + 1)) % 16 = j + 1 by omega]

theorem run_at (l : Fin 4) (r : Fin 16) (e : Fin 12288) : run3Of (ix3 l r e) = l.val := by
  have hr := r.isLt
  have he := e.isLt
  show 1 * (l.val / 1 - 0) + 1 * (r.val / 16 - 0) + 1 * (e.val / 12288 - 0) = l.val
  rw [Nat.div_eq_of_lt hr, Nat.div_eq_of_lt he, Nat.div_one]
  omega

theorem loc_at (l : Fin 4) (r : Fin 16) (e : Fin 12288) : loc3Of (ix3 l r e) = ix3 0 r e := by
  funext a
  apply Fin.ext
  fin_cases a
  · exact Nat.mod_one _
  · exact Nat.mod_eq_of_lt r.isLt
  · exact Nat.mod_eq_of_lt e.isLt

theorem fold_at (c : Dev nD) (l : Fin 4) (r : Fin 16) (e : Fin 12288) :
    G3 m c (ix3 l r e) = bias m c (ix2 l e) + ∑ s ∈ Finset.range 16, ∑ k : Fin 256, part m c l r e (s * 256 + k.val) := by
  have hlt : 16 * l.val + 15 < cfg0.N := by rw [N64]; omega
  have key : ∀ (n : ℕ) (h : 16 * n + 15 < cfg0.N) (y : S1x16x12288.Idx), n = l.val → y = ix3 0 r e →
      Pipeline.accAt (reset3 m c) (step3 m c) (16 * n) 15 h y
        = bias m c (ix2 l e) + ∑ s ∈ Finset.range 16, ∑ k : Fin 256, part m c l r e (s * 256 + k.val) := by
    rintro n h y rfl rfl
    exact steps m c l r e 15 le_rfl h
  exact (dif_pos (show 16 * run3Of (ix3 l r e) + 15 < cfg0.N from (run_at l r e).symm ▸ hlt)).trans
    (key _ _ _ (run_at l r e) (loc_at l r e))

/-- The result array at the end of the run. -/
theorem final (c : Dev nD) : G3 m c
    = val_main_v8 (F := Ideal) (m ((c.tc : Thread nD τ).loc main_arg0)) (m ((c.tc : Thread nD τ).loc main_arg1))
      (m ((c.tc : Thread nD τ).loc main_arg2)) (m ((c.tc : Thread nD τ).loc main_arg3)) := by
  funext i
  obtain ⟨l, r, e, rfl⟩ : ∃ (l : Fin 4) (r : Fin 16) (e : Fin 12288), i = ix3 l r e :=
    ⟨i 0, i 1, i 2, by funext a; fin_cases a <;> rfl⟩
  exact (fold_at m c l r e).trans ((congrArg (bias m c (ix2 l e) + ·) (regroup (part m c l r e))).trans (plain m c l r e).symm)

end Cert.ModulationIdeal.Steps

end
-- ==== Proof.Further.lean ====
/- The claims about the other calls of the layer: their frames, and the values of the norm before the projection, of the
   recurrence's gates and of the modulation. -/
module

public import proofs.«01_k».proof.Defs
public import proofs.«01_k».proof.Proof.Gen.Prep.Frame
public import proofs.«01_k».proof.Proof.Gen.PrepIdeal.Frame
public import proofs.«01_k».proof.Proof.Gen.PrepRefIdeal.Run
public import proofs.«01_k».proof.Proof.Gen.InGates.Frame
public import proofs.«01_k».proof.Proof.Gen.InGatesIdeal.Frame
public import proofs.«01_k».proof.Proof.Gen.InGatesRefIdeal.Run
public import proofs.«01_k».proof.Proof.Gen.Modulation.Frame
public import proofs.«01_k».proof.Proof.Gen.ModulationIdeal.Frame
public import proofs.«01_k».proof.Proof.Gen.ModulationRefIdeal.Run
public import proofs.«01_k».proof.Proof.Gen.CtxGlob.Frame
public import proofs.«01_k».proof.Proof.Gen.CtxGlobIdeal.Frame
public import proofs.«01_k».proof.Proof.Gen.CtxGlobRefIdeal.Run
public import proofs.«01_k».proof.Proof.Gen.CtxWin.Frame
public import proofs.«01_k».proof.Proof.Gen.CtxWinIdeal.Frame
public import proofs.«01_k».proof.Proof.Gen.CtxWinRefIdeal.Run
public import proofs.«01_k».proof.Proof.Gen.LatWin.Frame
public import proofs.«01_k».proof.Proof.Gen.LatWinIdeal.Frame
public import proofs.«01_k».proof.Proof.Gen.LatWinRefIdeal.Run
public import proofs.«01_k».proof.Proof.PrepValue
public import proofs.«01_k».proof.Proof.InGatesValue
public import proofs.«01_k».proof.Proof.ModulationValue
public import Idealize.ShloMosaic.Adequacy
public import Idealize.ShloMosaic.Init

@[expose] public section

noncomputable section

namespace Cert.Further

open Idealize.ShloMosaic Idealize.SL.Sem

/-! ## Prep -/

theorem frame_Prep : Cert.quiescent_Prep := fun m ρ _ => Cert.Prep.Gen.frame m ρ

theorem frame_PrepIdeal : Cert.quiescent_PrepIdeal := fun m ρ _ => Cert.PrepIdeal.Gen.frame m ρ

theorem frame_PrepRefIdeal : Cert.quiescent_PrepRefIdeal := fun m ρ _ =>
  (θ_run Cert.PrepRefIdeal.defs _ _).mono (fun r h => ⟨fun c => (h c).2, sem_eq_zero_of_no_sems (by decide) r.2⟩)
    (Cert.PrepRefIdeal.Value.run (F := Ideal) m ρ)

theorem algebraic_Prep : Cert.algebraic_PrepIdeal_PrepRefIdeal := by
  pair_intro
  · run_from Cert.PrepIdeal.Gen.run_main m g
  · run_from Cert.PrepRefIdeal.Value.run m' g'
    refine Eq.trans ?_ (Cert.PrepIdeal.Modulated.final m c).symm
    rw [(hagree c).2.2]
    exact Cert.PrepRefIdeal.Read.val_main_v44_eq _ _ _

/-! ## InGates -/

theorem frame_InGates : Cert.quiescent_InGates := fun m ρ _ => Cert.InGates.Gen.frame m ρ

theorem frame_InGatesIdeal : Cert.quiescent_InGatesIdeal := fun m ρ _ => Cert.InGatesIdeal.Gen.frame m ρ

theorem frame_InGatesRefIdeal : Cert.quiescent_InGatesRefIdeal := fun m ρ _ =>
  (θ_run Cert.InGatesRefIdeal.defs _ _).mono (fun r h => ⟨fun c => (h c).2, sem_eq_zero_of_no_sems (by decide) r.2⟩)
    (Cert.InGatesRefIdeal.Value.run (F := Ideal) m ρ)

theorem algebraic_InGates : Cert.algebraic_InGatesIdeal_InGatesRefIdeal := by
  pair_intro
  · run_from Cert.InGatesIdeal.Gen.run_main m g
  · run_from Cert.InGatesRefIdeal.Value.run m' g'
    exact (Cert.InGatesIdeal.Product.final m c).symm

/-! ## Modulation -/

theorem frame_Modulation : Cert.quiescent_Modulation := fun m ρ _ => Cert.Modulation.Gen.frame m ρ

theorem frame_ModulationIdeal : Cert.quiescent_ModulationIdeal := fun m ρ _ => Cert.ModulationIdeal.Gen.frame m ρ

theorem frame_ModulationRefIdeal : Cert.quiescent_ModulationRefIdeal := fun m ρ _ =>
  (θ_run Cert.ModulationRefIdeal.defs _ _).mono (fun r h => ⟨fun c => (h c).2, sem_eq_zero_of_no_sems (by decide) r.2⟩)
    (Cert.ModulationRefIdeal.Value.run (F := Ideal) m ρ)

theorem algebraic_Modulation : Cert.algebraic_ModulationIdeal_ModulationRefIdeal := by
  intro m g m' g' hpre hagree
  refine ⟨fun c => Cert.ModulationIdeal.Value.G3 m c, ?_, ?_⟩
  · exact Cert.ModulationIdeal.Value.run m g
  · refine (θ_run Cert.ModulationRefIdeal.defs _ _).mono (fun r h c => ?_)
      (Cert.ModulationRefIdeal.Value.run (F := Ideal) m' g')
    refine ⟨(h c).1.trans ?_, (h c).2⟩
    obtain ⟨h0, h1, h2, h3⟩ := hagree c
    rw [Cert.ModulationRefIdeal.Read.val_main_v8_eq, h0, h1, h2, h3]
    exact (Cert.ModulationIdeal.Steps.final m c).symm

/-! ## CtxGlob -/

theorem frame_CtxGlob : Cert.quiescent_CtxGlob := fun m ρ _ => Cert.CtxGlob.Gen.frame m ρ

theorem frame_CtxGlobIdeal : Cert.quiescent_CtxGlobIdeal := fun m ρ _ => Cert.CtxGlobIdeal.Gen.frame m ρ

theorem frame_CtxGlobRefIdeal : Cert.quiescent_CtxGlobRefIdeal := fun m ρ _ =>
  (θ_run Cert.CtxGlobRefIdeal.defs _ _).mono (fun r h => ⟨fun c => (h c).2.2, sem_eq_zero_of_no_sems (by decide) r.2⟩)
    (Cert.CtxGlobRefIdeal.Value.run (F := Ideal) m ρ)

/-! ## CtxWin -/

theorem frame_CtxWin : Cert.quiescent_CtxWin := fun m ρ _ => Cert.CtxWin.Gen.frame m ρ

theorem frame_CtxWinIdeal : Cert.quiescent_CtxWinIdeal := fun m ρ _ => Cert.CtxWinIdeal.Gen.frame m ρ

theorem frame_CtxWinRefIdeal : Cert.quiescent_CtxWinRefIdeal := fun m ρ _ =>
  (θ_run Cert.CtxWinRefIdeal.defs _ _).mono (fun r h => ⟨fun c => (h c).2, sem_eq_zero_of_no_sems (by decide) r.2⟩)
    (Cert.CtxWinRefIdeal.Value.run (F := Ideal) m ρ)

/-! ## LatWin -/

theorem frame_LatWin : Cert.quiescent_LatWin := fun m ρ _ => Cert.LatWin.Gen.frame m ρ

theorem frame_LatWinIdeal : Cert.quiescent_LatWinIdeal := fun m ρ _ => Cert.LatWinIdeal.Gen.frame m ρ

theorem frame_LatWinRefIdeal : Cert.quiescent_LatWinRefIdeal := fun m ρ _ =>
  (θ_run Cert.LatWinRefIdeal.defs _ _).mono (fun r h => ⟨fun c => (h c).2, sem_eq_zero_of_no_sems (by decide) r.2⟩)
    (Cert.LatWinRefIdeal.Value.run (F := Ideal) m ρ)

end Cert.Further

end
-- ==== Proof.Running.lean ====
module

public import Idealize.ShloMosaic.PureOps
public import Idealize.ShloMosaic.PureOps.Ideal.Laws

/-! The softmax-weighted mean of reals, and the two ways it is computed: by a running maximum, whose partial sums are
    carried to each new maximum in powers of two, and by one maximum subtracted from every score. Neither maximum
    matters, as the weights' common factor cancels. -/

@[expose] public section

noncomputable section

namespace Cert.Mean

open Idealize.ShloMosaic

/-- The mean of the first `n` values under the weights `exp (T j)`. -/
def avg (n : ℕ) (T W : ℕ → ℝ) : ℝ :=
  (∑ j ∈ Finset.range n, Real.exp (T j) * W j) / ∑ j ∈ Finset.range n, Real.exp (T j)

/-- The first `n` values summed under the weights `2 ^ (S j - μ)`. -/
def upto (n : ℕ) (S W : ℕ → ℝ) (μ : ℝ) : ℝ := ∑ j ∈ Finset.range n, (2 : ℝ) ^ (S j - μ) * W j

/-- A partial sum carried to another maximum, and `k` more values added. -/
theorem upto_add (n k : ℕ) (S W : ℕ → ℝ) (μ ν : ℝ) :
    (2 : ℝ) ^ (μ - ν) * upto n S W μ + ∑ i : Fin k, (2 : ℝ) ^ (S (n + i) - ν) * W (n + i) = upto (n + k) S W ν := by
  unfold upto
  rw [Finset.sum_range_add, Finset.mul_sum, Fin.sum_univ_eq_sum_range (fun i => (2 : ℝ) ^ (S (n + i) - ν) * W (n + i)) k]
  refine congrArg (· + _) (Finset.sum_congr rfl fun j _ => ?_)
  rw [← mul_assoc, ← Real.rpow_add two_pos]; ring_nf

/-- A partial sum is the common factor times the sum under `exp`. -/
theorem upto_eq (n : ℕ) (S W : ℕ → ℝ) (μ : ℝ) :
    upto n S W μ = (2 : ℝ) ^ (-μ) * ∑ j ∈ Finset.range n, Real.exp (Real.log 2 * S j) * W j := by
  unfold upto
  rw [Finset.mul_sum]
  refine Finset.sum_congr rfl fun j _ => ?_
  rw [← mul_assoc, ← Real.rpow_def_of_pos two_pos, ← Real.rpow_add two_pos]; ring_nf

/-- The weights' sum is positive. -/
theorem sum_pos {n : ℕ} (hn : 0 < n) (T : ℕ → ℝ) : 0 < ∑ j ∈ Finset.range n, Real.exp (T j) :=
  Finset.sum_pos (fun _ _ => Real.exp_pos _) ⟨0, Finset.mem_range.2 hn⟩

/-- The sum of the weights alone, not zero. -/
theorem upto_one_ne {n : ℕ} (hn : 0 < n) (S : ℕ → ℝ) (μ : ℝ) : upto n S (fun _ => 1) μ ≠ 0 := by
  rw [upto_eq]
  simp only [mul_one]
  exact mul_ne_zero (Real.rpow_pos_of_pos two_pos _).ne' (sum_pos hn _).ne'

/-- The quotient of the partial sums is the mean. -/
theorem upto_div {n : ℕ} (S W : ℕ → ℝ) (μ : ℝ) :
    upto n S W μ / upto n S (fun _ => 1) μ = avg n (fun j => Real.log 2 * S j) W := by
  rw [upto_eq, upto_eq, mul_div_mul_left _ _ (Real.rpow_pos_of_pos two_pos _).ne']
  simp only [mul_one, avg]

/-- The mean, from one maximum subtracted from every score and each weight divided by their sum. -/
theorem avg_shift (n : ℕ) (T W : ℕ → ℝ) (μ : ℝ) :
    ∑ j : Fin n, Real.exp (T j - μ) / (∑ i : Fin n, Real.exp (T i - μ)) * W j = avg n T W := by
  rw [Fin.sum_univ_eq_sum_range (fun i => Real.exp (T i - μ)) n,
    Fin.sum_univ_eq_sum_range (fun j => Real.exp (T j - μ) / (∑ i ∈ Finset.range n, Real.exp (T i - μ)) * W j) n, avg]
  have h1 : ∑ i ∈ Finset.range n, Real.exp (T i) / Real.exp μ = (∑ i ∈ Finset.range n, Real.exp (T i)) / Real.exp μ :=
    (Finset.sum_div (Finset.range n) (fun i => Real.exp (T i)) (Real.exp μ)).symm
  simp only [Real.exp_sub, h1]
  rw [Finset.sum_div (Finset.range n) (fun j => Real.exp (T j) * W j)]
  refine Finset.sum_congr rfl fun j _ => ?_
  have h := (Real.exp_pos μ).ne'
  rw [div_div_div_cancel_right₀ h, div_mul_eq_mul_div]

/-- The maximum of finitely many reals, from `⊥`, is real. -/
theorem fold_max {n : ℕ} (hn : 0 < n) (f : Fin n → EReal) (hf : ∀ j, ∃ x : ℝ, f j = x) :
    ∃ μ : ℝ, (Finset.univ : Finset (Fin n)).fold max ⊥ f = μ := by
  have h : ∀ s : Finset (Fin n), s.Nonempty → ∃ μ : ℝ, s.fold max ⊥ f = μ := by
    intro s
    induction s using Finset.cons_induction with
    | empty => intro h; exact absurd h (by simp)
    | cons a s ha ih =>
      intro _
      obtain ⟨x, hx⟩ := hf a
      rw [Finset.fold_cons, hx]
      rcases s.eq_empty_or_nonempty with rfl | hs
      · exact ⟨x, by simp⟩
      · obtain ⟨μ, hμ⟩ := ih hs
        rw [hμ]
        exact ⟨max x μ, (EReal.coe_strictMono.monotone.map_max).symm⟩
  exact h _ ⟨⟨0, hn⟩, Finset.mem_univ _⟩

/-- A finite sum of reals is real. -/
theorem coe_sum {ι : Type*} (s : Finset ι) (f : ι → ℝ) : ∑ i ∈ s, (f i : EReal) = ((∑ i ∈ s, f i : ℝ) : EReal) :=
  (map_sum (⟨⟨fun x : ℝ => (x : EReal), rfl⟩, fun x y => EReal.coe_add x y⟩ : ℝ →+ EReal) f s).symm

/-- The pattern of `-∞`. -/
theorem ofBits_neg_inf : Ideal.ofBits .f32 0xFF800000#32 = ⊥ := by simp [Ideal.ofBits, Ideal.ieee]

end Cert.Mean

end
-- ==== Proof.Head.lean ====
module

public import proofs.«01_k».proof.Proof.Running

/-! One head's row: divided by its root mean square, weighted, and rotated by the tables. -/

@[expose] public section

noncomputable section

namespace Cert.Head

open Idealize.ShloMosaic

/-- The lane 64 away, round the 128. -/
def half (d : Fin 128) : Fin 128 := ⟨(d.val + 128 - 64) % 128, Nat.mod_lt _ (by norm_num)⟩

/-- The root mean square's reciprocal. -/
def inv (x : Fin 128 → EReal) : EReal :=
  Ideal.rsqrt (Ideal.div (∑ k, x k * x k) (Ideal.ofBits .f32 0x43000000#32) + Ideal.ofBits .f32 0x358637BD#32)

/-- A row normalised and weighted. -/
def nrm (x g : Fin 128 → EReal) (d : Fin 128) : EReal := x d * inv x * g d

/-- A row rotated, by tables over all its lanes. -/
def rot (y c s : Fin 128 → EReal) (d : Fin 128) : EReal := y d * c d + y (half d) * s d

/-- The cosines over all lanes: the table twice. -/
def cosf (c : Fin 64 → EReal) (d : Fin 128) : EReal := c ⟨d.val % 64, Nat.mod_lt _ (by norm_num)⟩

/-- The signed sines over all lanes: the table negated, then the table. -/
def sinf (s : Fin 64 → EReal) (d : Fin 128) : EReal :=
  if d.val < 64 then -s ⟨d.val % 64, Nat.mod_lt _ (by norm_num)⟩ else s ⟨d.val % 64, Nat.mod_lt _ (by norm_num)⟩

/-- A head's row as the attention uses it. -/
def head (x g : Fin 128 → EReal) (c s : Fin 64 → EReal) (d : Fin 128) : EReal := rot (nrm x g) (cosf c) (sinf s) d

/-- Not infinite. -/
abbrev Fin' (x : EReal) : Prop := ∃ r : ℝ, x = r

theorem fin_mul {x y : EReal} : Fin' x → Fin' y → Fin' (x * y) := by
  rintro ⟨a, rfl⟩ ⟨b, rfl⟩; exact ⟨a * b, (EReal.coe_mul a b).symm⟩

theorem fin_add {x y : EReal} : Fin' x → Fin' y → Fin' (x + y) := by
  rintro ⟨a, rfl⟩ ⟨b, rfl⟩; exact ⟨a + b, (EReal.coe_add a b).symm⟩

theorem fin_neg {x : EReal} : Fin' x → Fin' (-x) := by
  rintro ⟨a, rfl⟩; exact ⟨-a, (EReal.coe_neg a).symm⟩

theorem fin_toReal {x : EReal} : Fin' x → x = (x.toReal : ℝ) := by
  rintro ⟨a, rfl⟩; rfl

/-- 128. -/
theorem ofBits_128 : Ideal.ofBits .f32 0x43000000#32 = ((128 : ℝ) : EReal) := by
  simp [Ideal.ofBits, Ideal.ieee, -EReal.coe_mul]; norm_num

/-- The constant under the root is positive. -/
theorem ofBits_eps : ∃ e : ℝ, 0 < e ∧ Ideal.ofBits .f32 0x358637BD#32 = (e : EReal) :=
  ⟨8796093 / 8796093022208, by norm_num, by simp [Ideal.ofBits, Ideal.ieee, -EReal.coe_mul]; norm_num⟩

theorem fin_inv {x : Fin 128 → EReal} (hx : ∀ k, Fin' (x k)) : Fin' (inv x) := by
  choose r hr using hx
  obtain ⟨e, he, h⟩ := ofBits_eps
  rw [inv, ofBits_128, h, Ideal.div_coe (by norm_num)]
  simp only [hr, ← EReal.coe_mul, Mean.coe_sum, ← EReal.coe_add]
  have h0 : 0 < (∑ k, r k * r k) * (1 / 128) + e := by
    have : 0 ≤ ∑ k, r k * r k := Finset.sum_nonneg fun k _ => mul_self_nonneg _
    positivity
  exact ⟨_, by rw [Ideal.rsqrt_coe, if_neg (not_lt.2 h0.le), if_neg h0.ne']⟩

/-- A head's row over real data is real. -/
theorem fin_head {x g : Fin 128 → EReal} {c s : Fin 64 → EReal} (hx : ∀ k, Fin' (x k)) (hg : ∀ k, Fin' (g k))
    (hc : ∀ k, Fin' (c k)) (hs : ∀ k, Fin' (s k)) (d : Fin 128) : Fin' (head x g c s d) := by
  have hn : ∀ d, Fin' (nrm x g d) := fun d => fin_mul (fin_mul (hx d) (fin_inv hx)) (hg d)
  refine fin_add (fin_mul (hn d) (hc _)) (fin_mul (hn _) ?_)
  unfold sinf
  split_ifs
  · exact fin_neg (hs _)
  · exact hs _

end Cert.Head

end
-- ==== Proof.Attn.lean ====
module

public import proofs.«01_k».proof.Proof.Head
public import Idealize.ShloMosaic.Lib.Pointwise

/-! The attention of the sample rows, as mathematics: of the projected rows, the context's keys and values, the two
    weights and the tables, the queries, keys, values and gates it takes, and the mean it makes of them. -/

@[expose] public section

noncomputable section

namespace Cert.Attn

open Idealize.ShloMosaic Cert.Head Cert.Mean

/-- What the attention is computed from. -/
structure Data where
  p : (⟨2, ![36864, 30720]⟩ : Shape).Idx → EReal
  ck : (⟨5, ![8, 4, 256, 4, 128]⟩ : Shape).Idx → EReal
  cv : (⟨5, ![8, 4, 256, 4, 128]⟩ : Shape).Idx → EReal
  gq : (⟨1, ![128]⟩ : Shape).Idx → EReal
  gk : (⟨1, ![128]⟩ : Shape).Idx → EReal
  co : (⟨2, ![4096, 64]⟩ : Shape).Idx → EReal
  si : (⟨2, ![4096, 64]⟩ : Shape).Idx → EReal

namespace Data
variable (D : Data)

/-- The row of the projection a sample's position has. -/
abbrev row (b : Fin 8) (j : Fin 4096) : Fin 36864 := ⟨4096 + (4096 * b.val + j.val), by omega⟩

/-- The query of a sample's position, of one of the sixteen heads. -/
def q (b : Fin 8) (h : Fin 16) (j : Fin 4096) (d : Fin 128) : EReal :=
  head (fun k => D.p (ix2 (row b j) ⟨13312 + (128 * h.val + k.val), by omega⟩)) (fun k => D.gq (ix1 k))
    (fun k => D.co (ix2 j k)) (fun k => D.si (ix2 j k)) d

/-- The key of a sample's position, of one of the four groups. -/
def kSelf (b : Fin 8) (h : Fin 4) (j : Fin 4096) (d : Fin 128) : EReal :=
  head (fun k => D.p (ix2 (row b j) ⟨15360 + (128 * h.val + k.val), by omega⟩)) (fun k => D.gk (ix1 k))
    (fun k => D.co (ix2 j k)) (fun k => D.si (ix2 j k)) d

/-- The keys: the sample's positions, then the context's. -/
def k (b : Fin 8) (h : Fin 4) (j : Fin 4352) (d : Fin 128) : EReal :=
  if hj : j.val < 4096 then D.kSelf b h ⟨j.val, hj⟩ d else D.ck (ix5 b 0 ⟨j.val - 4096, by omega⟩ h d)

/-- The values: the sample's positions, then the context's. -/
def v (b : Fin 8) (h : Fin 4) (j : Fin 4352) (d : Fin 128) : EReal :=
  if hj : j.val < 4096 then D.p (ix2 (row b ⟨j.val, hj⟩) ⟨15872 + (128 * h.val + d.val), by omega⟩)
    else D.cv (ix5 b 0 ⟨j.val - 4096, by omega⟩ h d)

/-- The gate. -/
def z (b : Fin 8) (h : Fin 16) (j : Fin 4096) (d : Fin 128) : EReal :=
  D.p (ix2 (row b j) ⟨16384 + (128 * h.val + d.val), by omega⟩)

/-- What the attention reads is real. -/
structure Real' : Prop where
  p : ∀ (b : Fin 8) (j : Fin 4096) (c : Fin 3072), Fin' (D.p (ix2 (row b j) ⟨13312 + c.val, by omega⟩))
  ck : ∀ b j h d, Fin' (D.ck (ix5 b 0 j h d))
  cv : ∀ b j h d, Fin' (D.cv (ix5 b 0 j h d))
  gq : ∀ d, Fin' (D.gq (ix1 d))
  gk : ∀ d, Fin' (D.gk (ix1 d))
  co : ∀ j d, Fin' (D.co (ix2 j d))
  si : ∀ j d, Fin' (D.si (ix2 j d))

/-- The queries, keys and values as reals. -/
def qR (b : Fin 8) (h : Fin 16) (j : Fin 4096) (d : Fin 128) : ℝ := (D.q b h j d).toReal
def kR (b : Fin 8) (h : Fin 4) (j : ℕ) (d : Fin 128) : ℝ := if hj : j < 4352 then (D.k b h ⟨j, hj⟩ d).toReal else 0
def vR (b : Fin 8) (h : Fin 4) (j : ℕ) (d : Fin 128) : ℝ := if hj : j < 4352 then (D.v b h ⟨j, hj⟩ d).toReal else 0

/-- The group a head shares its keys and values with. -/
abbrev group (h : Fin 16) : Fin 4 := ⟨h.val / 4, by omega⟩

/-- The mean of the values under the weights of the scores. -/
def mean (b : Fin 8) (h : Fin 16) (j : Fin 4096) (d : Fin 128) : ℝ :=
  avg 4352 (fun i => (∑ e, D.qR b h j e * D.kR b (group h) i e) * (Real.sqrt 128)⁻¹) (fun i => D.vR b (group h) i d)

/-- The gated mean. -/
def out (b : Fin 8) (h : Fin 16) (j : Fin 4096) (d : Fin 128) : EReal :=
  (D.mean b h j d : EReal) * (D.z b h j d * Ideal.logistic (D.z b h j d))

/-- The whole array: the other rows as they were, the sample rows the gated mean. -/
def whole (y : (⟨2, ![36864, 2048]⟩ : Shape).Idx → EReal) (i : (⟨2, ![36864, 2048]⟩ : Shape).Idx) : EReal :=
  if h : (i 0).val < 4096 then y i
  else D.out ⟨((i 0).val - 4096) / 4096, by have : (i 0).val < 36864 := (i 0).isLt; omega⟩
    ⟨(i 1).val / 128, by have : (i 1).val < 2048 := (i 1).isLt; omega⟩
    ⟨((i 0).val - 4096) % 4096, by omega⟩ ⟨(i 1).val % 128, by omega⟩

theorem whole_low (y : (⟨2, ![36864, 2048]⟩ : Shape).Idx → EReal) (i : (⟨2, ![36864, 2048]⟩ : Shape).Idx) (h : (i 0).val < 4096) :
    D.whole y i = y i := dif_pos h

theorem whole_row (y : (⟨2, ![36864, 2048]⟩ : Shape).Idx → EReal) (b : Fin 8) (h : Fin 16) (j : Fin 4096) (d : Fin 128) :
    D.whole y (ix2 (row b j) ⟨128 * h.val + d.val, by omega⟩) = D.out b h j d := by
  unfold whole
  rw [dif_neg (by show ¬4096 + (4096 * b.val + j.val) < 4096; omega)]
  have e1 : (⟨(4096 + (4096 * b.val + j.val) - 4096) / 4096, by omega⟩ : Fin 8) = b := Fin.ext (by dsimp only; omega)
  have e2 : (⟨(128 * h.val + d.val) / 128, by omega⟩ : Fin 16) = h := Fin.ext (by dsimp only; omega)
  have e3 : (⟨(4096 + (4096 * b.val + j.val) - 4096) % 4096, by omega⟩ : Fin 4096) = j := Fin.ext (by dsimp only; omega)
  have e4 : (⟨(128 * h.val + d.val) % 128, by omega⟩ : Fin 128) = d := Fin.ext (by dsimp only; omega)
  show D.out (⟨(4096 + (4096 * b.val + j.val) - 4096) / 4096, by omega⟩ : Fin 8) (⟨(128 * h.val + d.val) / 128, by omega⟩ : Fin 16)
    (⟨(4096 + (4096 * b.val + j.val) - 4096) % 4096, by omega⟩ : Fin 4096) (⟨(128 * h.val + d.val) % 128, by omega⟩ : Fin 128) = _
  rw [e1, e2, e3, e4]

variable {D} (hD : D.Real')
include hD

theorem q_eq (b : Fin 8) (h : Fin 16) (j : Fin 4096) (d : Fin 128) : D.q b h j d = (D.qR b h j d : EReal) := by
  refine fin_toReal (fin_head (fun k => ?_) (fun k => hD.gq k) (fun k => hD.co j k) (fun k => hD.si j k) d)
  exact hD.p b j ⟨128 * h.val + k.val, by omega⟩

theorem kSelf_fin (b : Fin 8) (h : Fin 4) (j : Fin 4096) (d : Fin 128) : Fin' (D.kSelf b h j d) := by
  refine fin_head (fun k => ?_) (fun k => hD.gk k) (fun k => hD.co j k) (fun k => hD.si j k) d
  have := hD.p b j ⟨2048 + (128 * h.val + k.val), by omega⟩
  convert this using 3
  exact Fin.ext (by dsimp only; omega)

theorem k_eq (b : Fin 8) (h : Fin 4) (j : Fin 4352) (d : Fin 128) : D.k b h j d = (D.kR b h j.val d : EReal) := by
  rw [kR, dif_pos j.isLt]
  refine fin_toReal ?_
  unfold k
  split_ifs
  · exact kSelf_fin hD ..
  · exact hD.ck ..

theorem v_eq (b : Fin 8) (h : Fin 4) (j : Fin 4352) (d : Fin 128) : D.v b h j d = (D.vR b h j.val d : EReal) := by
  rw [vR, dif_pos j.isLt]
  refine fin_toReal ?_
  unfold v
  split_ifs with hj
  · have := hD.p b ⟨j.val, hj⟩ ⟨2560 + (128 * h.val + d.val), by omega⟩
    convert this using 3
    exact Fin.ext (by dsimp only; omega)
  · exact hD.cv ..

theorem kSelf_eq (b : Fin 8) (h : Fin 4) (j : Fin 4096) (d : Fin 128) : D.kSelf b h j d = (D.kR b h j.val d : EReal) := by
  rw [← k_eq hD b h ⟨j.val, by omega⟩ d, k, dif_pos j.isLt]

theorem kCtx_eq (b : Fin 8) (h : Fin 4) (j : Fin 256) (d : Fin 128) : D.ck (ix5 b 0 j h d) = (D.kR b h (4096 + j.val) d : EReal) := by
  rw [← k_eq hD b h ⟨4096 + j.val, by omega⟩ d, k, dif_neg (by simp)]
  exact congrArg (fun i => D.ck (ix5 b 0 i h d)) (Fin.ext (by simp))

theorem vSelf_eq (b : Fin 8) (h : Fin 4) (j : Fin 4096) (d : Fin 128) :
    D.p (ix2 (row b j) ⟨15872 + (128 * h.val + d.val), by omega⟩) = (D.vR b h j.val d : EReal) := by
  rw [← v_eq hD b h ⟨j.val, by omega⟩ d, v, dif_pos j.isLt]

theorem vCtx_eq (b : Fin 8) (h : Fin 4) (j : Fin 256) (d : Fin 128) : D.cv (ix5 b 0 j h d) = (D.vR b h (4096 + j.val) d : EReal) := by
  rw [← v_eq hD b h ⟨4096 + j.val, by omega⟩ d, v, dif_neg (by simp)]
  exact congrArg (fun i => D.cv (ix5 b 0 i h d)) (Fin.ext (by simp))

end Data

end Cert.Attn

end
-- ==== Proof.Blocks.lean ====
module

public import proofs.«01_k».proof.Proof.Gen.KernelIdeal.Frame
public import proofs.«01_k».proof.Proof.Attn
public import Idealize.ShloMosaic.Lib.Pipeline.ValueKit

/-! What a point's blocks hold, read off the arguments. -/

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)
open Cert.Head

variable (m : (ℓ : Loc nD τ sig) → Buf (Elt Ideal) ℓ)

/-- What the attention is computed from: the arguments. -/
def data (c : Dev nD) : Attn.Data where
  p := m ((c.tc : Thread nD τ).loc main_arg0)
  ck := m ((c.tc : Thread nD τ).loc main_arg2)
  cv := m ((c.tc : Thread nD τ).loc main_arg3)
  gq := m ((c.tc : Thread nD τ).loc main_arg4)
  gk := m ((c.tc : Thread nD τ).loc main_arg5)
  co := m ((c.tc : Thread nD τ).loc main_arg6)
  si := m ((c.tc : Thread nD τ).loc main_arg7)

/-- The blocks a point works on. -/
theorem blocks : ∀ t : Fin cfg0.N, win0_0.index t = ![8 + 8 * (t.val / 32) + t.val % 8, 26 + t.val / 8 % 4]
    ∧ win0_1.index t = ![1 + t.val / 32, 120 + t.val / 8 % 4] ∧ win0_2.index t = ![1 + t.val / 32, 124 + t.val / 8 % 4]
    ∧ win0_3.index t = ![8 + 8 * (t.val / 32) + t.val % 8, 32 + t.val / 8 % 4]
    ∧ win0_4.index t = ![t.val / 32, 0, 0, t.val / 8 % 4] ∧ win0_5.index t = ![t.val / 32, 0, 0, t.val / 8 % 4]
    ∧ win0_6.index t = ![0, 0] ∧ win0_7.index t = ![0, 0] ∧ win0_8.index t = ![t.val % 8, 0] ∧ win0_9.index t = ![t.val % 8, 0]
    ∧ win0_10.index t = ![0, 0] ∧ win0_11.index t = ![0, 0]
    ∧ win0_12.index t = ![8 + 8 * (t.val / 32) + t.val % 8, t.val / 8 % 4] :=
  (by decide +kernel : ∀ t : Fin grid0.N, _)

theorem points (t : Fin cfg0.N) : t.val < 256 := t.isLt

/-- The sample a point works on, the group of heads, and the position of a row of its block. -/
abbrev smp (t : Fin cfg0.N) : Fin 8 := ⟨t.val / 32, by have := points t; omega⟩
abbrev grp (t : Fin cfg0.N) : Fin 4 := ⟨t.val / 8 % 4, by omega⟩
abbrev pos (t : Fin cfg0.N) (a : Fin 512) : Fin 4096 := ⟨512 * (t.val % 8) + a.val, by omega⟩
abbrev hd (t : Fin cfg0.N) (g : Fin 4) : Fin 16 := ⟨4 * (t.val / 8 % 4) + g.val, by omega⟩

theorem blk0 (c : Dev nD) (t : Fin cfg0.N) (a : Fin 512) (g : Fin 4) (k : Fin 128) :
    iblk m c 0 t (ix2 a (⟨128 * g.val + k.val, by omega⟩ : Fin 512))
      = (data m c).p (ix2 (Attn.Data.row (smp t) (pos t a)) ⟨13312 + (128 * (hd t g).val + k.val), by have := (hd t g).isLt; omega⟩) := by
  unfold data
  blk_point [iblk, V, blocks t]

theorem blk3 (c : Dev nD) (t : Fin cfg0.N) (a : Fin 512) (g : Fin 4) (d : Fin 128) :
    iblk m c 3 t (ix2 a (⟨128 * g.val + d.val, by omega⟩ : Fin 512)) = (data m c).z (smp t) (hd t g) (pos t a) d := by
  unfold data Attn.Data.z
  blk_point [iblk, V, blocks t]

theorem blk1 (c : Dev nD) (t : Fin cfg0.N) (i : Fin 4096) (k : Fin 128) :
    iblk m c 1 t (ix2 i k) = (data m c).p (ix2 (Attn.Data.row (smp t) i) ⟨15360 + (128 * (grp t).val + k.val), by have := (grp t).isLt; omega⟩) := by
  unfold data
  blk_point [iblk, V, blocks t]

theorem blk2 (c : Dev nD) (t : Fin cfg0.N) (i : Fin 4096) (k : Fin 128) :
    iblk m c 2 t (ix2 i k) = (data m c).p (ix2 (Attn.Data.row (smp t) i) ⟨15872 + (128 * (grp t).val + k.val), by have := (grp t).isLt; omega⟩) := by
  unfold data
  blk_point [iblk, V, blocks t]

theorem blk4 (c : Dev nD) (t : Fin cfg0.N) (i : Fin 256) (d : Fin 128) :
    iblk m c 4 t (ix4 0 0 i d) = (data m c).ck (ix5 (smp t) 0 i (grp t) d) := by
  unfold data
  blk_point [iblk, V, blocks t]

theorem blk5 (c : Dev nD) (t : Fin cfg0.N) (i : Fin 256) (d : Fin 128) :
    iblk m c 5 t (ix4 0 0 i d) = (data m c).cv (ix5 (smp t) 0 i (grp t) d) := by
  unfold data
  blk_point [iblk, V, blocks t]

theorem blk6 (c : Dev nD) (t : Fin cfg0.N) (d : Fin 128) : iblk m c 6 t (ix2 0 d) = (data m c).gq (ix1 d) := by
  unfold data
  blk_point [iblk, V, blocks t]

theorem blk7 (c : Dev nD) (t : Fin cfg0.N) (d : Fin 128) : iblk m c 7 t (ix2 0 d) = (data m c).gk (ix1 d) := by
  unfold data
  blk_point [iblk, V, blocks t]

/-- The cosines' table over all lanes. -/
theorem cosTable (c : Dev nD) (j : Fin 4096) (d : Fin 128) :
    V m c main_v0 (ix2 j d) = cosf (fun k => (data m c).co (ix2 j k)) d := by
  unfold data cosf
  entry_read
  pointwise
  split_ifs
  all_goals exact congrArg (fun k => m (c, Proc.tc.devRef main_arg6) (ix2 j k)) (Fin.ext (by dsimp only; omega))

/-- The signed sines' table over all lanes. -/
theorem sinTable (c : Dev nD) (j : Fin 4096) (d : Fin 128) :
    V m c main_v2 (ix2 j d) = sinf (fun k => (data m c).si (ix2 j k)) d := by
  unfold data sinf
  entry_read
  pointwise
  split_ifs
  · exact congrArg (fun k => (Neg.neg : EReal → EReal) (m (c, Proc.tc.devRef main_arg7) (ix2 j k))) (Fin.ext (by dsimp only; omega))
  all_goals exact congrArg (fun k => m (c, Proc.tc.devRef main_arg7) (ix2 j k)) (Fin.ext (by dsimp only; omega))

theorem blk8 (c : Dev nD) (t : Fin cfg0.N) (a : Fin 512) (d : Fin 128) :
    iblk m c 8 t (ix2 a d) = cosf (fun k => (data m c).co (ix2 (pos t a) k)) d := by
  have he : ((cfg0.win 8).blk t).view.emb (ix2 a d) = (ix2 (pos t a) d : S4096x128.Idx) := by
    funext e
    fin_cases e <;> (apply Fin.ext; blk_simp [blocks t]) <;> simp [ix2] <;> omega
  exact (congrArg (V m c main_v0) he).trans (cosTable m c _ d)

theorem blk9 (c : Dev nD) (t : Fin cfg0.N) (a : Fin 512) (d : Fin 128) :
    iblk m c 9 t (ix2 a d) = sinf (fun k => (data m c).si (ix2 (pos t a) k)) d := by
  have he : ((cfg0.win 9).blk t).view.emb (ix2 a d) = (ix2 (pos t a) d : S4096x128.Idx) := by
    funext e
    fin_cases e <;> (apply Fin.ext; blk_simp [blocks t]) <;> simp [ix2] <;> omega
  exact (congrArg (V m c main_v2) he).trans (sinTable m c _ d)

theorem blk10 (c : Dev nD) (t : Fin cfg0.N) (i : Fin 4096) (d : Fin 128) :
    iblk m c 10 t (ix2 i d) = cosf (fun k => (data m c).co (ix2 i k)) d := by
  have he : ((cfg0.win 10).blk t).view.emb (ix2 i d) = (ix2 i d : S4096x128.Idx) := by
    funext e
    fin_cases e <;> (apply Fin.ext; blk_simp [blocks t])
  exact (congrArg (V m c main_v0) he).trans (cosTable m c _ d)

theorem blk11 (c : Dev nD) (t : Fin cfg0.N) (i : Fin 4096) (d : Fin 128) :
    iblk m c 11 t (ix2 i d) = sinf (fun k => (data m c).si (ix2 i k)) d := by
  have he : ((cfg0.win 11).blk t).view.emb (ix2 i d) = (ix2 i d : S4096x128.Idx) := by
    funext e
    fin_cases e <;> (apply Fin.ext; blk_simp [blocks t])
  exact (congrArg (V m c main_v2) he).trans (sinTable m c _ d)

end Cert.KernelIdeal.Block

end
-- ==== Proof.Finite.lean ====
/- What the precondition says: the rows, the context's keys and values, the weights and the tables the attention
   reads are real. -/
module

public import proofs.«01_k».proof.Proof.Gen.Pre_finite
public import proofs.«01_k».proof.Proof.Blocks
public import proofs.«01_k».proof.Defs
public import Idealize.ShloMosaic.Lib.ReduceAll
public import Idealize.ShloMosaic.Lib.Pointwise

@[expose] public section

set_option maxRecDepth 16384

noncomputable section

namespace Cert.Finite

open Idealize.ShloMosaic Cert.Head Cert.Pre_finite
open Cert.KernelIdeal (nD τ sig)

/-- Less than infinity in magnitude is real. -/
theorem fin_of_abs {x : EReal} (h : Ideal.cmp .olt (max x (-x)) (Ideal.ofBits .f32 0x7F800000#32) = 1#1) : Fin' x := by
  have htop : Ideal.ofBits .f32 0x7F800000#32 = ⊤ := by simp [Ideal.ofBits, Ideal.ieee]
  have hlt : max x (-x) < ⊤ := by
    by_contra hn
    rw [htop, Ideal.cmp] at h
    simp [hn] at h
  induction x with
  | bot => simp at hlt
  | top => simp at hlt
  | coe r => exact ⟨r, rfl⟩

instance : Subsingleton S_.Idx := ⟨fun i j => funext fun a => a.elim0⟩

/-- Every element of an array that passes is real. -/
theorem fin_of_all {s : Shape} {axes : List (Fin s.rank)} (x : FVec Ideal s .f32) (hb : S_.BroadcastsInDim s (![] : Fin 0 → Fin s.rank))
    (hr : s.ReducesTo axes S_) (h0 : 0 < S_.numel) (j : S_.Idx)
    (e : Host.reduce IntOp.andi (cmpf .olt (Host.absf x) (broadcastInDim s ![] hb (constant S_ .f32 0x7F800000#32)))
      (constantI S_ 1 1#1) hr h0 j = 1#1) (i : s.Idx) : Fin' (x i) :=
  fin_of_abs (Host.reduce_andi_all _ _ hr h0 j e i)

/-- Both of two that are met together. -/
theorem both {x y : IVec S_ 1} {j : S_.Idx} (h : andi x y j = 1#1) : x j = 1#1 ∧ y j = 1#1 := by
  revert h
  show x j &&& y j = 1#1 → _
  generalize x j = a
  generalize y j = b
  revert a b
  decide

/-- The precondition, element by element. -/
theorem real (m : (ℓ : Loc nD τ sig) → Buf (Elt Ideal) ℓ) (h : Cert.Pre_KernelIdeal_finite m) (c : Dev nD) :
    (Cert.KernelIdeal.Block.data m c).Real' := by
  have h := congrFun (h c) (Shape.Idx.first Gen.h_S_)
  dsimp only [fn, fn_part1, fn_part2] at h
  obtain ⟨h, hsi⟩ := both h
  obtain ⟨h, hco⟩ := both h
  obtain ⟨h, hgk⟩ := both h
  obtain ⟨h, hgq⟩ := both h
  obtain ⟨h, hcv⟩ := both h
  obtain ⟨hp, hck⟩ := both h
  refine ⟨fun b j k => ?_, fun b j h d => ?_, fun b j h d => ?_, fun d => fin_of_all _ _ _ _ _ hgq _, fun d => fin_of_all _ _ _ _ _ hgk _,
    fun j d => fin_of_all _ _ _ _ _ hco _, fun j d => fin_of_all _ _ _ _ _ hsi _⟩
  · have := fin_of_all _ _ _ _ _ hp (ix2 (⟨4096 * b.val + j.val, by omega⟩ : Fin 32768) k)
    revert this
    pointwise []
    exact id
  · have := fin_of_all _ _ _ _ _ hck (ix4 b j h d)
    revert this
    pointwise []
    exact id
  · have := fin_of_all _ _ _ _ _ hcv (ix4 b j h d)
    revert this
    pointwise []
    exact id

end Cert.Finite

end
-- ==== Proof.Block.lean ====
module

public import proofs.«01_k».proof.Proof.Gen.KernelIdeal.Skeleton
public import Idealize.ShloMosaic.Lib.Pipeline.ValueKit

/-! The attention of one sub-block, in one vocabulary: the normalised, rotated and scaled queries of one head, the scores
    of a run of keys, the running maximum and accumulator after each run, and the gated tile that is stored. The printed
    body cuts this same text into payloads differently for each of its four sub-blocks. -/

@[expose] public section

set_option maxRecDepth 16384

noncomputable section

namespace Cert.KernelIdeal.Block

open Cert.KernelIdeal Cert.KernelIdeal.Gen Idealize.ShloMosaic Idealize.SL.Sem

variable {F : FTy → Type} [FloatOps F] [Named F]

/-- The rows of one head divided by their root mean square and multiplied by the weight. -/
def normed (x : Vec F S128x128 .f32) (g : Vec F S1x128 .f32) : FVec F S128x128 .f32 :=
  mulf (mulf x (broadcastTo S128x128 (rsqrt (addf (divf (shapeCast S128x1
      (multiReduction .add [1] S128 (mulf x x) 0x00000000#32 reduces_S128x128_S128 (.inl rfl) rfl) shapeCasts_S128_S128x1)
      (broadcast S128x1 (Scalar.ofBits .f32 0x43000000#32))) (broadcast S128x1 (Scalar.ofBits .f32 0x358637BD#32))))
      broadcasts_S128x1_S128x128))
    (broadcastTo S128x128 (shapeCast S1x128 g shapeCasts_S1x128_S1x128) broadcasts_S1x128_S128x128)

/-- One head's queries: normalised, rotated by the tables and scaled. -/
def qhead (x : Vec F S128x128 .f32) (g : Vec F S1x128 .f32) (c s : Vec F S128x128 .f32) : FVec F S128x128 .bf16 :=
  truncf .bf16 (mulf (addf (mulf (normed x g) (shapeCast S128x128 c shapeCasts_S128x128_S128x128))
      (mulf (dynamicRotate 1 64#32 none (normed x g) rotates_S128x128_d1) (shapeCast S128x128 s shapeCasts_S128x128_S128x128)))
    (broadcast S128x128 (Named.named κ "qscale" 0x3E0293EE#32))) bitsLt_bf16_f32

/-- The four heads' queries, one above the other. -/
def qcat (a b c d : FVec F S128x128 .bf16) : FVec F S512x128 .bf16 :=
  concatenate S512x128 0 [⟨S128x128, a⟩, ⟨S128x128, b⟩, ⟨S128x128, c⟩, ⟨S128x128, d⟩]
    concatenates_S128x128_S128x128_S128x128_S128x128_S512x128_d0

/-- The scores of 512 keys. -/
def score (q : FVec F S512x128 .bf16) (k : Vec F S512x128 .bf16) : FVec F S512x512 .f32 :=
  matmul dot_S512x128_S512x128_S512x512_1_1_0_0_n_n none q k (constant S512x512 .f32 0x00000000#32)

/-- The scores of the 256 keys of the context. -/
def scoreC (q : FVec F S512x128 .bf16) (k : Vec F S256x128 .bf16) : FVec F S512x256 .f32 :=
  matmul dot_S512x128_S256x128_S512x256_1_1_0_0_n_n none q k (constant S512x256 .f32 0x00000000#32)

/-- Each row's largest score of 512. -/
def rowMax (s : FVec F S512x512 .f32) : FVec F S512x1 .f32 :=
  shapeCast S512x1 (multiReduction .maximumf [1] S512 s 0xFF800000#32 reduces_S512x512_S512 (.inl rfl) rfl) shapeCasts_S512_S512x1

/-- Each row's largest score of 256. -/
def rowMaxC (s : FVec F S512x256 .f32) : FVec F S512x1 .f32 :=
  shapeCast S512x1 (multiReduction .maximumf [1] S512 s 0xFF800000#32 reduces_S512x256_S512 (.inl rfl) rfl) shapeCasts_S512_S512x1

/-- The weighted sum of 512 rows of values, the weights relative to the maximum `m`. -/
def part (s : FVec F S512x512 .f32) (m : FVec F S512x1 .f32) (v : Vec F S512x256 .bf16) : FVec F S512x256 .f32 :=
  matmul dot_S512x512_S512x256_S512x256_1_0_0_1_n_n none
    (truncf .bf16 (exp2 (subf s (broadcastTo S512x512 m broadcasts_S512x1_S512x512))) bitsLt_bf16_f32) v
    (constant S512x256 .f32 0x00000000#32)

/-- The weighted sum of the context's 256 rows of values. -/
def partC (s : FVec F S512x256 .f32) (m : FVec F S512x1 .f32) (v : Vec F S256x256 .bf16) : FVec F S512x256 .f32 :=
  matmul dot_S512x256_S256x256_S512x256_1_0_0_1_n_n none
    (truncf .bf16 (exp2 (subf s (broadcastTo S512x256 m broadcasts_S512x1_S512x256))) bitsLt_bf16_f32) v
    (constant S512x256 .f32 0x00000000#32)

/-- The accumulator carried from the maximum `m` to the maximum `m'`, and a new part added. -/
def carry (m m' : FVec F S512x1 .f32) (a p : FVec F S512x256 .f32) : FVec F S512x256 .f32 :=
  addf (mulf (broadcastTo S512x256 (exp2 (subf m m')) broadcasts_S512x1_S512x256) a) p

/-- The maximum and accumulator of a row of queries over the keys seen so far. -/
structure Acc (F : FTy → Type) where
  m : FVec F S512x1 .f32
  a : FVec F S512x256 .f32

/-- After the first 512 keys. -/
def first (q : FVec F S512x128 .bf16) (k : Vec F S512x128 .bf16) (v : Vec F S512x256 .bf16) : Acc F :=
  ⟨rowMax (score q k), part (score q k) (rowMax (score q k)) v⟩

/-- After 512 more keys. -/
def next (q : FVec F S512x128 .bf16) (A : Acc F) (k : Vec F S512x128 .bf16) (v : Vec F S512x256 .bf16) : Acc F :=
  ⟨maximumf A.m (rowMax (score q k)), carry A.m (maximumf A.m (rowMax (score q k))) A.a
    (part (score q k) (maximumf A.m (rowMax (score q k))) v)⟩

/-- After the context's 256 keys. -/
def nextC (q : FVec F S512x128 .bf16) (A : Acc F) (k : Vec F S256x128 .bf16) (v : Vec F S256x256 .bf16) : Acc F :=
  ⟨maximumf A.m (rowMaxC (scoreC q k)), carry A.m (maximumf A.m (rowMaxC (scoreC q k))) A.a
    (partC (scoreC q k) (maximumf A.m (rowMaxC (scoreC q k))) v)⟩

/-- The accumulator's first 128 columns over its column 128. -/
def quot (a : FVec F S512x256 .f32) : FVec F S512x128 .f32 :=
  divf (extractStridedSlice S512x128 ![0, 0] a slices_S512x256_o0_0_S512x128)
    (broadcastTo S512x128 (extractStridedSlice S512x1 ![0, 128] a slices_S512x256_o0_128_S512x1) broadcasts_S512x1_S512x128)

/-- The attention of one sub-block's queries over the keys and values of the two scratches, read 512 rows at a time and
    the last 256. -/
def attend (q : FVec F S512x128 .bf16) (k : Fin 8 → Vec F S512x128 .bf16) (kc : Vec F S256x128 .bf16)
    (v : Fin 8 → Vec F S512x256 .bf16) (vc : Vec F S256x256 .bf16) : FVec F S512x128 .f32 :=
  quot (nextC q (next q (next q (next q (next q (next q (next q (next q (first q (k 0) (v 0)) (k 1) (v 1)) (k 2) (v 2))
    (k 3) (v 3)) (k 4) (v 4)) (k 5) (v 5)) (k 6) (v 6)) (k 7) (v 7)) kc vc).a

/-- A head's rows of the attention under its gate. -/
def gate (o : FVec F S128x128 .f32) (z : Vec F S128x128 .f32) : FVec F S128x128 .bf16 :=
  truncf .bf16 (mulf o (mulf z (logistic z))) bitsLt_bf16_f32

/-! ## The loads of a point and what it stores -/

/-- Tile `(s, g)` of a block of 512 by 512: rows `128 s`, columns `128 g`. -/
def tile (x : Vec F S512x512 .f32) (s g : Fin 4) : Vec F S128x128 .f32 :=
  View.ld x (Rect.unit (s := S512x512) ![128 * s.val, 128 * g.val] ![128, 128]
    (by have := s.isLt; have := g.isLt; intro a; fin_cases a <;> simp <;> omega))

/-- Rows `128 s` of a block of 512 rows. -/
def rows (x : Vec F S512x128 .f32) (s : Fin 4) : Vec F S128x128 .f32 :=
  View.ld x (Rect.unit (s := S512x128) ![128 * s.val, 0] ![128, 128]
    (by have := s.isLt; intro a; fin_cases a <;> simp <;> omega))

/-- Rows `512 j` of the keys' scratch, as a rectangle. -/
abbrev kRect (j : Fin 8) : Rect S4352x128 := Rect.unit (s := S4352x128) ![512 * j.val, 0] ![512, 128]
    (by have := j.isLt; intro a; fin_cases a <;> simp <;> omega)

/-- Its last 256 rows. -/
abbrev kRectC : Rect S4352x128 := Rect.unit (s := S4352x128) ![4096, 0] ![256, 128] (by intro a; fin_cases a <;> simp)

/-- Rows `512 j` of the values' scratch. -/
abbrev vRect (j : Fin 8) : Rect S4352x256 := Rect.unit (s := S4352x256) ![512 * j.val, 0] ![512, 256]
    (by have := j.isLt; intro a; fin_cases a <;> simp <;> omega)

/-- Its last 256 rows. -/
abbrev vRectC : Rect S4352x256 := Rect.unit (s := S4352x256) ![4096, 0] ![256, 256] (by intro a; fin_cases a <;> simp)

/-- Rows `512 j` of the keys. -/
def keys (x : Vec F S4352x128 .bf16) (j : Fin 8) : Vec F S512x128 .bf16 := View.ld x (kRect j)

/-- The last 256 rows of the keys. -/
def keysC (x : Vec F S4352x128 .bf16) : Vec F S256x128 .bf16 :=
  View.ld x kRectC

/-- Rows `512 j` of the values. -/
def vals (x : Vec F S4352x256 .bf16) (j : Fin 8) : Vec F S512x256 .bf16 :=
  View.ld x (vRect j)

/-- The last 256 rows of the values. -/
def valsC (x : Vec F S4352x256 .bf16) : Vec F S256x256 .bf16 :=
  View.ld x vRectC

/-- The queries of sub-block `s`. -/
def queries (x0 : Vec F S512x512 .f32) (x6 : Vec F S1x128 .f32) (x8 x9 : Vec F S512x128 .f32) (s : Fin 4) : FVec F S512x128 .bf16 :=
  qcat (qhead (tile x0 s 0) x6 (rows x8 s) (rows x9 s)) (qhead (tile x0 s 1) x6 (rows x8 s) (rows x9 s))
    (qhead (tile x0 s 2) x6 (rows x8 s) (rows x9 s)) (qhead (tile x0 s 3) x6 (rows x8 s) (rows x9 s))

/-- Head `g`'s 128 rows of a sub-block's attention. -/
def head (o : FVec F S512x128 .f32) (g : Fin 4) : FVec F S128x128 .f32 :=
  extractStridedSlice S128x128 ![128 * g.val, 0] o (by have := g.isLt; exact ⟨rfl, by intro a; fin_cases a <;> simp <;> omega⟩)

/-- What a point stores: tile `(s, g)` of the output. -/
def piece (x0 x3 : Vec F S512x512 .f32) (x6 : Vec F S1x128 .f32) (x8 x9 : Vec F S512x128 .f32)
    (k : Fin 8 → Vec F S512x128 .bf16) (kc : Vec F S256x128 .bf16) (v : Fin 8 → Vec F S512x256 .bf16) (vc : Vec F S256x256 .bf16)
    (s g : Fin 4) : View.Piece (Elt F) S512x512 .bf16 :=
  ⟨Rect.unit (s := S512x512) ![128 * s.val, 128 * g.val] ![128, 128]
    (by have := s.isLt; have := g.isLt; intro a; fin_cases a <;> simp <;> omega),
   gate (head (attend (queries x0 x6 x8 x9 s) k kc v vc) g) (tile x3 s g)⟩

/-- All a point stores, the last first. -/
def pieces (x0 x3 : Vec F S512x512 .f32) (x6 : Vec F S1x128 .f32) (x8 x9 : Vec F S512x128 .f32)
    (k : Fin 8 → Vec F S512x128 .bf16) (kc : Vec F S256x128 .bf16) (v : Fin 8 → Vec F S512x256 .bf16) (vc : Vec F S256x256 .bf16) :
    List (View.Piece (Elt F) S512x512 .bf16) :=
  ([3, 2, 1, 0] : List (Fin 4)).flatMap fun s => ([3, 2, 1, 0] : List (Fin 4)).map fun g => piece x0 x3 x6 x8 x9 k kc v vc s g

/-! ## The scratch the first point of a run fills -/

/-- A block whose lane 0 is one and whose other lanes are zero. -/
def ones : FVec F S4096x128 .bf16 := k0_pay9 k0_pay6 (k0_pay7 (F := F)) (k0_pay8 (F := F))

/-- The stores into the keys' scratch, the last first. -/
def kStores (x1 : Vec F S4096x128 .f32) (x4 : Vec F S1x1x256x128 .f32) (x7 : Vec F S1x128 .f32) (x10 x11 : Vec F S4096x128 .f32) :
    List (View.Piece (Elt F) S4352x128 .bf16) :=
  [⟨Rect.unit ![4096, 0] ![256, 128] inb_S4352x128_S256x128_4096_0, k0_pay10 x4⟩,
    ⟨Rect.unit ![0, 0] ![4096, 128] inb_S4352x128_S4096x128_0_0, k0_pay4 x1 x7 x10 x11⟩]

/-- The stores into the values' scratch, the last first. -/
def vStores (x2 : Vec F S4096x128 .f32) (x5 : Vec F S1x1x256x128 .f32) : List (View.Piece (Elt F) S4352x256 .bf16) :=
  [⟨Rect.unit ![4096, 128] ![256, 128] inb_S4352x256_S256x128_4096_128, k0_pay12 (F := F)⟩,
    ⟨Rect.unit ![4096, 0] ![256, 128] inb_S4352x256_S256x128_4096_0, k0_pay11 x5⟩,
    ⟨Rect.unit ![0, 128] ![4096, 128] inb_S4352x256_S4096x128_0_128, ones⟩,
    ⟨Rect.unit ![0, 0] ![4096, 128] inb_S4352x256_S4096x128_0_0, k0_pay5 x2⟩]

end Cert.KernelIdeal.Block

end
-- ==== Proof.Point.lean ====
module

public import proofs.«01_k».proof.Proof.Gen.KernelIdeal.Frame
public import proofs.«01_k».proof.Proof.Block
public import Idealize.ShloMosaic.Lib.Pipeline.ValueKit
public import Idealize.ShloMosaic.Lib.Pipeline.ReadBack

/-! What a point of the grid stores, whichever way it was printed: the first of a run, which fills the scratch, and the
    others, which read it. -/

@[expose] public section

set_option maxRecDepth 1000000

noncomputable section

namespace Cert.KernelIdeal.Block

open Cert.KernelIdeal Cert.KernelIdeal.Gen Idealize.ShloMosaic Idealize.ShloMosaic.TcCoe Idealize.SL.Sem

/-- A run's first point stores the pieces over the scratch it has just filled. -/
theorem outA  (c : Dev nD) (i : grid0.Coords) (arg3 : Memref sig .tc .vmem S512x512 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x512 .f32) (harg6 : arg6.IsWhole) (arg7 : Memref sig .tc .vmem S1x1x256x128 .f32) (harg7 : arg7.IsWhole) (arg8 : Memref sig .tc .vmem S1x1x256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S4096x128 .f32) (harg13 : arg13.IsWhole) (arg14 : Memref sig .tc .vmem S4096x128 .f32) (harg14 : arg14.IsWhole) (arg16 : Memref sig .tc .vmem S512x512 .bf16) (harg16 : arg16.IsWhole) (arg17 : Memref sig .tc .vmem S4352x128 .bf16) (harg17 : arg17.IsWhole) (arg18 : Memref sig .tc .vmem S4352x256 .bf16) (harg18 : arg18.IsWhole) (hc0 : cond0_0 i)
    (x0 : Vec Ideal S512x512 .f32) (x1 : Vec Ideal S4096x128 .f32) (x2 : Vec Ideal S4096x128 .f32) (x3 : Vec Ideal S512x512 .f32) (x4 : Vec Ideal S1x1x256x128 .f32) (x5 : Vec Ideal S1x1x256x128 .f32) (x6 : Vec Ideal S1x128 .f32) (x7 : Vec Ideal S1x128 .f32) (x8 : Vec Ideal S512x128 .f32) (x9 : Vec Ideal S512x128 .f32) (x10 : Vec Ideal S4096x128 .f32) (x11 : Vec Ideal S4096x128 .f32)  (y : S512x512.Idx) : out0_A_12 c i arg3 harg3 arg4 harg4 arg5 harg5 arg6 harg6 arg7 harg7 arg8 harg8 arg9 harg9 arg10 harg10 arg11 harg11 arg12 harg12 arg13 harg13 arg14 harg14 arg16 harg16 arg17 harg17 arg18 harg18 hc0 x0 x1 x2 x3 x4 x5 x6 x7 x8 x9 x10 x11 y =
    View.canon (pieces x0 x3 x6 x8 x9 (fun j => arg17.view.readCov (kStores x1 x4 x7 x10 x11) (kRect j).toLoadRect)
      (arg17.view.readCov (kStores x1 x4 x7 x10 x11) kRectC.toLoadRect)
      (fun j => arg18.view.readCov (vStores x2 x5) (vRect j).toLoadRect) (arg18.view.readCov (vStores x2 x5) vRectC.toLoadRect)) y := by
  frame_out
  refine congrArg (fun l => View.canon l y) ?_
  rfl

/-- A later point stores the pieces over the scratch it finds. -/
theorem outB  (c : Dev nD) (i : grid0.Coords) (arg3 : Memref sig .tc .vmem S512x512 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x512 .f32) (harg6 : arg6.IsWhole) (arg7 : Memref sig .tc .vmem S1x1x256x128 .f32) (harg7 : arg7.IsWhole) (arg8 : Memref sig .tc .vmem S1x1x256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S4096x128 .f32) (harg13 : arg13.IsWhole) (arg14 : Memref sig .tc .vmem S4096x128 .f32) (harg14 : arg14.IsWhole) (arg16 : Memref sig .tc .vmem S512x512 .bf16) (harg16 : arg16.IsWhole) (arg17 : Memref sig .tc .vmem S4352x128 .bf16) (harg17 : arg17.IsWhole) (arg18 : Memref sig .tc .vmem S4352x256 .bf16) (harg18 : arg18.IsWhole) (hc0 : ¬cond0_0 i)
    (x0 : Vec Ideal S512x512 .f32) (x1 : Vec Ideal S4096x128 .f32) (x2 : Vec Ideal S4096x128 .f32) (x3 : Vec Ideal S512x512 .f32) (x4 : Vec Ideal S1x1x256x128 .f32) (x5 : Vec Ideal S1x1x256x128 .f32) (x6 : Vec Ideal S1x128 .f32) (x7 : Vec Ideal S1x128 .f32) (x8 : Vec Ideal S512x128 .f32) (x9 : Vec Ideal S512x128 .f32) (x10 : Vec Ideal S4096x128 .f32) (x11 : Vec Ideal S4096x128 .f32) (xs0 : Vec Ideal S4352x128 .bf16) (xs1 : Vec Ideal S4352x256 .bf16)  (y : S512x512.Idx) : out0_B_12 c i arg3 harg3 arg4 harg4 arg5 harg5 arg6 harg6 arg7 harg7 arg8 harg8 arg9 harg9 arg10 harg10 arg11 harg11 arg12 harg12 arg13 harg13 arg14 harg14 arg16 harg16 arg17 harg17 arg18 harg18 hc0 x0 x1 x2 x3 x4 x5 x6 x7 x8 x9 x10 x11 xs0 xs1 y =
    View.canon (pieces x0 x3 x6 x8 x9 (keys xs0) (keysC xs0) (vals xs1) (valsC xs1)) y := by
  frame_out
  refine congrArg (fun l => View.canon l y) ?_
  rfl

/-- The keys' scratch after a run's first point. -/
theorem scrA0  (c : Dev nD) (i : grid0.Coords) (arg3 : Memref sig .tc .vmem S512x512 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x512 .f32) (harg6 : arg6.IsWhole) (arg7 : Memref sig .tc .vmem S1x1x256x128 .f32) (harg7 : arg7.IsWhole) (arg8 : Memref sig .tc .vmem S1x1x256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S4096x128 .f32) (harg13 : arg13.IsWhole) (arg14 : Memref sig .tc .vmem S4096x128 .f32) (harg14 : arg14.IsWhole) (arg16 : Memref sig .tc .vmem S512x512 .bf16) (harg16 : arg16.IsWhole) (arg17 : Memref sig .tc .vmem S4352x128 .bf16) (harg17 : arg17.IsWhole) (arg18 : Memref sig .tc .vmem S4352x256 .bf16) (harg18 : arg18.IsWhole) (hc0 : cond0_0 i)
    (x0 : Vec Ideal S512x512 .f32) (x1 : Vec Ideal S4096x128 .f32) (x2 : Vec Ideal S4096x128 .f32) (x3 : Vec Ideal S512x512 .f32) (x4 : Vec Ideal S1x1x256x128 .f32) (x5 : Vec Ideal S1x1x256x128 .f32) (x6 : Vec Ideal S1x128 .f32) (x7 : Vec Ideal S1x128 .f32) (x8 : Vec Ideal S512x128 .f32) (x9 : Vec Ideal S512x128 .f32) (x10 : Vec Ideal S4096x128 .f32) (x11 : Vec Ideal S4096x128 .f32) (y : S4352x128.Idx) : sout0_A_0 c i arg3 harg3 arg4 harg4 arg5 harg5 arg6 harg6 arg7 harg7 arg8 harg8 arg9 harg9 arg10 harg10 arg11 harg11 arg12 harg12 arg13 harg13 arg14 harg14 arg16 harg16 arg17 harg17 arg18 harg18 hc0 x0 x1 x2 x3 x4 x5 x6 x7 x8 x9 x10 x11 y = View.canon (kStores x1 x4 x7 x10 x11) y := by
  frame_out
  refine congrArg (fun l => View.canon l y) ?_
  rfl

/-- The values' scratch after a run's first point. -/
theorem scrA1  (c : Dev nD) (i : grid0.Coords) (arg3 : Memref sig .tc .vmem S512x512 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x512 .f32) (harg6 : arg6.IsWhole) (arg7 : Memref sig .tc .vmem S1x1x256x128 .f32) (harg7 : arg7.IsWhole) (arg8 : Memref sig .tc .vmem S1x1x256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S4096x128 .f32) (harg13 : arg13.IsWhole) (arg14 : Memref sig .tc .vmem S4096x128 .f32) (harg14 : arg14.IsWhole) (arg16 : Memref sig .tc .vmem S512x512 .bf16) (harg16 : arg16.IsWhole) (arg17 : Memref sig .tc .vmem S4352x128 .bf16) (harg17 : arg17.IsWhole) (arg18 : Memref sig .tc .vmem S4352x256 .bf16) (harg18 : arg18.IsWhole) (hc0 : cond0_0 i)
    (x0 : Vec Ideal S512x512 .f32) (x1 : Vec Ideal S4096x128 .f32) (x2 : Vec Ideal S4096x128 .f32) (x3 : Vec Ideal S512x512 .f32) (x4 : Vec Ideal S1x1x256x128 .f32) (x5 : Vec Ideal S1x1x256x128 .f32) (x6 : Vec Ideal S1x128 .f32) (x7 : Vec Ideal S1x128 .f32) (x8 : Vec Ideal S512x128 .f32) (x9 : Vec Ideal S512x128 .f32) (x10 : Vec Ideal S4096x128 .f32) (x11 : Vec Ideal S4096x128 .f32) (y : S4352x256.Idx) : sout0_A_1 c i arg3 harg3 arg4 harg4 arg5 harg5 arg6 harg6 arg7 harg7 arg8 harg8 arg9 harg9 arg10 harg10 arg11 harg11 arg12 harg12 arg13 harg13 arg14 harg14 arg16 harg16 arg17 harg17 arg18 harg18 hc0 x0 x1 x2 x3 x4 x5 x6 x7 x8 x9 x10 x11 y = View.canon (vStores x2 x5) y := by
  frame_out
  refine congrArg (fun l => View.canon l y) ?_
  rfl

end Cert.KernelIdeal.Block

end
-- ==== Proof.HeadRead.lean ====
module

public import proofs.«01_k».proof.Proof.Block
public import proofs.«01_k».proof.Proof.Head
public import Idealize.ShloMosaic.Lib.Pipeline.ValueKit
public import Idealize.ShloMosaic.Lib.ValueIdx
public import Idealize.ShloMosaic.Lib.Pointwise

/-! The kernel's queries, keys and values read at an element. -/

@[expose] public section

set_option maxRecDepth 16384

noncomputable section

namespace Cert.KernelIdeal.Block

open Cert.KernelIdeal Cert.KernelIdeal.Gen Idealize.ShloMosaic Idealize.SL.Sem
open Cert.Head

theorem normed_apply (x : Vec Ideal S128x128 .f32) (g : Vec Ideal S1x128 .f32) (r d : Fin 128) :
    normed x g (ix2 r d) = nrm (fun k => x (ix2 r k)) (fun k => g (ix2 0 k)) d := by
  pointwise [normed]
  rfl

theorem qhead_apply (x : Vec Ideal S128x128 .f32) (g : Vec Ideal S1x128 .f32) (c s : Vec Ideal S128x128 .f32) (r d : Fin 128) :
    qhead x g c s (ix2 r d)
      = rot (nrm (fun k => x (ix2 r k)) (fun k => g (ix2 0 k))) (fun k => c (ix2 r k)) (fun k => s (ix2 r k)) d
        * ((((Real.sqrt 128) * (Real.log 2))⁻¹ : ℝ) : EReal) := by
  rw [rot, ← normed_apply, ← normed_apply]
  pointwise [qhead]
  exact congrArg₂ (· * ·) rfl (IdealRules.named_const.ideal_named_scalar _ _ _ _ rfl)

theorem kRow_apply (x : Vec Ideal S4096x128 .f32) (g : Vec Ideal S1x128 .f32) (c s : Vec Ideal S4096x128 .f32) (r : Fin 4096) (d : Fin 128) :
    k0_pay4 x g c s (ix2 r d)
      = rot (nrm (fun k => x (ix2 r k)) (fun k => g (ix2 0 k))) (fun k => c (ix2 r k)) (fun k => s (ix2 r k)) d := by
  pointwise [k0_pay4]
  rfl

theorem vRow_apply (x : Vec Ideal S4096x128 .f32)  (r : Fin 4096) (d : Fin 128) :
    k0_pay5 x (ix2 r d) = x (ix2 r d) := by
  pointwise [k0_pay5]

theorem kCtx_apply (x : Vec Ideal S1x1x256x128 .f32) (r : Fin 256) (d : Fin 128) :
    k0_pay10 x (ix2 r d) = x (ix4 0 0 r d) := by
  pointwise [k0_pay10]

theorem vCtx_apply (x : Vec Ideal S1x1x256x128 .f32) (r : Fin 256) (d : Fin 128) :
    k0_pay11 x (ix2 r d) = x (ix4 0 0 r d) := by
  pointwise [k0_pay11]

/-- One at lane 0 and zero elsewhere. -/
theorem lane (l : Fin 128) : Scalar.select (IntOp.cmpi .eq (BitVec.ofNat 32 l.val) 0#32) (1 : EReal) 0 = ((if l = 0 then 1 else 0 : ℝ) : EReal) := by
  have h : ∀ l : Fin 128, IntOp.cmpi .eq (BitVec.ofNat 32 l.val) 0#32 = if l = 0 then 1#1 else 0#1 := by decide
  rw [h]
  split_ifs <;> simp [Scalar.select]

theorem ones_apply (r : Fin 4096) (l : Fin 128) : ones (F := Ideal) (ix2 r l) = ((if l = 0 then 1 else 0 : ℝ) : EReal) := by
  pointwise [ones, k0_pay6, k0_pay7, k0_pay8, k0_pay9]
  exact lane l

theorem onesC_apply (r : Fin 256) (l : Fin 128) : k0_pay12 (F := Ideal) (ix2 r l) = ((if l = 0 then 1 else 0 : ℝ) : EReal) := by
  pointwise [k0_pay12]
  exact lane l

theorem gate_apply (o : FVec Ideal S128x128 .f32) (z : Vec Ideal S128x128 .f32) (a b : Fin 128) :
    gate o z (ix2 a b) = o (ix2 a b) * (z (ix2 a b) * Ideal.logistic (z (ix2 a b))) := by
  pointwise [gate]

theorem head_apply (o : FVec Ideal S512x128 .f32) (g : Fin 4) (a b : Fin 128) :
    Block.head o g (ix2 a b) = o (ix2 ⟨128 * g.val + a.val, by omega⟩ b) := by
  pointwise [Block.head]

theorem qcat_apply (x : Fin 4 → FVec Ideal S128x128 .bf16) (g : Fin 4) (a b : Fin 128) :
    qcat (x 0) (x 1) (x 2) (x 3) (ix2 ⟨128 * g.val + a.val, by omega⟩ b) = x g (ix2 a b) := by
  pointwise [qcat]
  fin_cases g <;> simp
  all_goals
    split_ifs
    all_goals first
      | omega
      | exact congrArg (x _) (congrArg (ix2 · b) (Fin.ext (by dsimp only; omega)))

theorem tile_apply (x : Vec Ideal S512x512 .f32) (s g : Fin 4) (a b : Fin 128) :
    tile x s g (ix2 a b) = x (ix2 ⟨128 * s.val + a.val, by omega⟩ ⟨128 * g.val + b.val, by omega⟩) := by
  refine View.ld_unit_apply_of _ _ _ _ _ _ fun e => ?_
  fin_cases e <;> simp [ix2]

theorem rows_apply (x : Vec Ideal S512x128 .f32) (s : Fin 4) (a b : Fin 128) :
    rows x s (ix2 a b) = x (ix2 ⟨128 * s.val + a.val, by omega⟩ b) := by
  refine View.ld_unit_apply_of _ _ _ _ _ _ fun e => ?_
  fin_cases e <;> simp [ix2]

end Cert.KernelIdeal.Block

end
-- ==== Proof.Steps.lean ====
module

public import proofs.«01_k».proof.Proof.Block
public import proofs.«01_k».proof.Proof.Running
public import Idealize.ShloMosaic.Lib.Pipeline.ValueKit
public import Idealize.ShloMosaic.Lib.ValueIdx
public import Idealize.ShloMosaic.Lib.Pointwise

/-! A sub-block's attention read at an element: over real queries, keys and values, and values whose column 128 is one,
    the running maximum and accumulator give the softmax-weighted mean of the values. -/

@[expose] public section

set_option maxRecDepth 16384

noncomputable section

namespace Cert.KernelIdeal.Block

open Cert.KernelIdeal Cert.KernelIdeal.Gen Idealize.ShloMosaic Idealize.SL.Sem
open Cert.Mean

/-! ## Each step at an element -/

theorem score_apply (q : FVec Ideal S512x128 .bf16) (k : Vec Ideal S512x128 .bf16) (r j : Fin 512) :
    score q k (ix2 r j) = ∑ d : Fin 128, q (ix2 r d) * k (ix2 j d) := by
  pointwise [score]

theorem scoreC_apply (q : FVec Ideal S512x128 .bf16) (k : Vec Ideal S256x128 .bf16) (r : Fin 512) (j : Fin 256) :
    scoreC q k (ix2 r j) = ∑ d : Fin 128, q (ix2 r d) * k (ix2 j d) := by
  pointwise [scoreC]

theorem part_apply (s : FVec Ideal S512x512 .f32) (m : FVec Ideal S512x1 .f32) (v : Vec Ideal S512x256 .bf16) (r : Fin 512) (c : Fin 256) :
    part s m v (ix2 r c) = ∑ j : Fin 512, Ideal.exp2 (s (ix2 r j) - m (ix2 r 0)) * v (ix2 j c) := by
  pointwise [part]; rfl

theorem partC_apply (s : FVec Ideal S512x256 .f32) (m : FVec Ideal S512x1 .f32) (v : Vec Ideal S256x256 .bf16) (r : Fin 512) (c : Fin 256) :
    partC s m v (ix2 r c) = ∑ j : Fin 256, Ideal.exp2 (s (ix2 r j) - m (ix2 r 0)) * v (ix2 j c) := by
  pointwise [partC]; rfl

theorem quot_apply (a : FVec Ideal S512x256 .f32) (r : Fin 512) (c : Fin 128) :
    quot a (ix2 r c) = Ideal.div (a (ix2 r ⟨c, by omega⟩)) (a (ix2 r 128)) := by
  pointwise [quot]

theorem carry_apply (m m' : FVec Ideal S512x1 .f32) (a p : FVec Ideal S512x256 .f32) (r : Fin 512) (c : Fin 256) :
    carry m m' a p (ix2 r c) = Ideal.exp2 (m (ix2 r 0) - m' (ix2 r 0)) * a (ix2 r c) + p (ix2 r c) := by
  pointwise [carry]; rfl

theorem rowMax_apply (s : FVec Ideal S512x512 .f32) (r : Fin 512) :
    rowMax s (ix2 r 0) = (Finset.univ : Finset (Fin 512)).fold max ⊥ fun j => s (ix2 r j) := by
  rw [← ofBits_neg_inf]; pointwise [rowMax]

theorem rowMaxC_apply (s : FVec Ideal S512x256 .f32) (r : Fin 512) :
    rowMaxC s (ix2 r 0) = (Finset.univ : Finset (Fin 256)).fold max ⊥ fun j => s (ix2 r j) := by
  rw [← ofBits_neg_inf]; pointwise [rowMaxC]

/-! ## The invariant -/

/-- The scores of row `r`, from real queries and keys. -/
def scores (Q : Fin 512 → Fin 128 → ℝ) (K : ℕ → Fin 128 → ℝ) (r : Fin 512) (j : ℕ) : ℝ := ∑ d : Fin 128, Q r d * K j d

/-- After `n` keys: some real maximum, and the values summed relative to it. -/
def Holds (A : Acc Ideal) (n : ℕ) (S : Fin 512 → ℕ → ℝ) (W : ℕ → Fin 256 → ℝ) : Prop :=
  ∀ r, ∃ μ : ℝ, A.m (ix2 r 0) = μ ∧ ∀ c, A.a (ix2 r c) = (upto n (S r) (fun j => W j c) μ : ℝ)

theorem coe_max' (x y : ℝ) : max (x : EReal) (y : EReal) = ((max x y : ℝ) : EReal) := (EReal.coe_strictMono.monotone.map_max).symm

/-- A part's sum over real scores, maximum and values. -/
theorem sum_part {k : ℕ} (s : Fin k → ℝ) (μ : ℝ) (w : Fin k → ℝ) :
    ∑ j : Fin k, Ideal.exp2 ((s j : EReal) - (μ : EReal)) * (w j : EReal) = ((∑ j : Fin k, (2 : ℝ) ^ (s j - μ) * w j : ℝ) : EReal) := by
  rw [← coe_sum]
  refine Finset.sum_congr rfl fun j _ => ?_
  rw [← EReal.coe_sub, Ideal.exp2_coe, ← EReal.coe_mul]; rfl

section
variable (q : FVec Ideal S512x128 .bf16) (Q : Fin 512 → Fin 128 → ℝ) (hq : ∀ r d, q (ix2 r d) = Q r d)
  (K : ℕ → Fin 128 → ℝ) (W : ℕ → Fin 256 → ℝ) (n : ℕ)
include hq

theorem score_real (k : Vec Ideal S512x128 .bf16) (hk : ∀ i d, k (ix2 i d) = (K (n + i.val) d : ℝ)) (r j : Fin 512) :
    score q k (ix2 r j) = (scores Q K r (n + j) : ℝ) := by
  rw [score_apply, scores, ← coe_sum]
  exact Finset.sum_congr rfl fun d _ => by rw [hq, hk, ← EReal.coe_mul]

theorem scoreC_real (k : Vec Ideal S256x128 .bf16) (hk : ∀ i d, k (ix2 i d) = (K (n + i.val) d : ℝ)) (r : Fin 512) (j : Fin 256) :
    scoreC q k (ix2 r j) = (scores Q K r (n + j) : ℝ) := by
  rw [scoreC_apply, scores, ← coe_sum]
  exact Finset.sum_congr rfl fun d _ => by rw [hq, hk, ← EReal.coe_mul]

theorem first_holds (k : Vec Ideal S512x128 .bf16) (hk : ∀ i d, k (ix2 i d) = (K i.val d : ℝ))
    (v : Vec Ideal S512x256 .bf16) (hv : ∀ i c, v (ix2 i c) = (W i.val c : ℝ)) :
    Holds (first q k v) 512 (scores Q K) W := by
  intro r
  have hs := score_real q Q hq K 0 k (fun i d => by rw [Nat.zero_add]; exact hk i d) r
  obtain ⟨μ, hμ⟩ := fold_max (n := 512) (by norm_num) (fun j => score q k (ix2 r j)) fun j => ⟨_, hs j⟩
  have hm : rowMax (score q k) (ix2 r 0) = μ := (rowMax_apply _ r).trans hμ
  refine ⟨μ, ?_, fun c => ?_⟩
  · rw [first]
    dsimp only
    exact hm
  rw [first]
  show part (score q k) (rowMax (score q k)) v (ix2 r c) = _
  rw [part_apply]
  simp only [hs, hv, hm, sum_part]
  rw [upto, Fin.sum_univ_eq_sum_range (fun j => (2 : ℝ) ^ (scores Q K r (0 + j) - μ) * W j c) 512]
  simp only [zero_add]

theorem next_holds (A : Acc Ideal) (hA : Holds A n (scores Q K) W) (k : Vec Ideal S512x128 .bf16)
    (hk : ∀ i d, k (ix2 i d) = (K (n + i.val) d : ℝ)) (v : Vec Ideal S512x256 .bf16) (hv : ∀ i c, v (ix2 i c) = (W (n + i.val) c : ℝ)) :
    Holds (next q A k v) (n + 512) (scores Q K) W := by
  intro r
  have hs := score_real q Q hq K n k hk r
  obtain ⟨μ, hμ, ha⟩ := hA r
  obtain ⟨μ', hμ'⟩ := fold_max (n := 512) (by norm_num) (fun j => score q k (ix2 r j)) fun j => ⟨_, hs j⟩
  have hm : maximumf A.m (rowMax (score q k)) (ix2 r 0) = ((max μ μ' : ℝ) : EReal) := by
    show max (A.m (ix2 r 0)) (rowMax (score q k) (ix2 r 0)) = _
    rw [rowMax_apply, hμ', hμ, coe_max']
  refine ⟨max μ μ', hm, fun c => ?_⟩
  show carry A.m (maximumf A.m (rowMax (score q k))) A.a (part (score q k) (maximumf A.m (rowMax (score q k))) v) (ix2 r c) = _
  rw [carry_apply, part_apply]
  simp only [hs, hv, hm, hμ, ha, sum_part]
  rw [← EReal.coe_sub, Ideal.exp2_coe, ← EReal.coe_mul, ← EReal.coe_add]
  exact congrArg _ (upto_add n 512 (scores Q K r) (fun j => W j c) μ (max μ μ'))

theorem nextC_holds (A : Acc Ideal) (hA : Holds A n (scores Q K) W) (k : Vec Ideal S256x128 .bf16)
    (hk : ∀ i d, k (ix2 i d) = (K (n + i.val) d : ℝ)) (v : Vec Ideal S256x256 .bf16) (hv : ∀ i c, v (ix2 i c) = (W (n + i.val) c : ℝ)) :
    Holds (nextC q A k v) (n + 256) (scores Q K) W := by
  intro r
  have hs := scoreC_real q Q hq K n k hk r
  obtain ⟨μ, hμ, ha⟩ := hA r
  obtain ⟨μ', hμ'⟩ := fold_max (n := 256) (by norm_num) (fun j => scoreC q k (ix2 r j)) fun j => ⟨_, hs j⟩
  have hm : maximumf A.m (rowMaxC (scoreC q k)) (ix2 r 0) = ((max μ μ' : ℝ) : EReal) := by
    show max (A.m (ix2 r 0)) (rowMaxC (scoreC q k) (ix2 r 0)) = _
    rw [rowMaxC_apply, hμ', hμ, coe_max']
  refine ⟨max μ μ', hm, fun c => ?_⟩
  show carry A.m (maximumf A.m (rowMaxC (scoreC q k))) A.a (partC (scoreC q k) (maximumf A.m (rowMaxC (scoreC q k))) v) (ix2 r c) = _
  rw [carry_apply, partC_apply]
  simp only [hs, hv, hm, hμ, ha, sum_part]
  rw [← EReal.coe_sub, Ideal.exp2_coe, ← EReal.coe_mul, ← EReal.coe_add]
  exact congrArg _ (upto_add n 256 (scores Q K r) (fun j => W j c) μ (max μ μ'))

/-- The attention of a sub-block is the mean of the values under the weights of its scores. -/
theorem attend_apply (k : Fin 8 → Vec Ideal S512x128 .bf16) (hk : ∀ j i d, k j (ix2 i d) = (K (512 * j.val + i.val) d : ℝ))
    (kc : Vec Ideal S256x128 .bf16) (hkc : ∀ i d, kc (ix2 i d) = (K (4096 + i.val) d : ℝ))
    (v : Fin 8 → Vec Ideal S512x256 .bf16) (hv : ∀ j i c, v j (ix2 i c) = (W (512 * j.val + i.val) c : ℝ))
    (vc : Vec Ideal S256x256 .bf16) (hvc : ∀ i c, vc (ix2 i c) = (W (4096 + i.val) c : ℝ)) (hW : ∀ j, W j 128 = 1)
    (r : Fin 512) (c : Fin 128) :
    attend q k kc v vc (ix2 r c)
      = (avg 4352 (fun j => Real.log 2 * scores Q K r j) (fun j => W j ⟨c, by omega⟩) : ℝ) := by
  have h0 := first_holds q Q hq K W (k 0) (fun i d => (hk 0 i d).trans (by rw [show 512 * (0 : Fin 8).val + i.val = i.val from Nat.zero_add _])) (v 0) (fun i c => (hv 0 i c).trans (by rw [show 512 * (0 : Fin 8).val + i.val = i.val from Nat.zero_add _]))
  have h1 := next_holds q Q hq K W _ _ h0 (k 1) (hk 1) (v 1) (hv 1)
  have h2 := next_holds q Q hq K W _ _ h1 (k 2) (hk 2) (v 2) (hv 2)
  have h3 := next_holds q Q hq K W _ _ h2 (k 3) (hk 3) (v 3) (hv 3)
  have h4 := next_holds q Q hq K W _ _ h3 (k 4) (hk 4) (v 4) (hv 4)
  have h5 := next_holds q Q hq K W _ _ h4 (k 5) (hk 5) (v 5) (hv 5)
  have h6 := next_holds q Q hq K W _ _ h5 (k 6) (hk 6) (v 6) (hv 6)
  have h7 := next_holds q Q hq K W _ _ h6 (k 7) (hk 7) (v 7) (hv 7)
  have h8 := nextC_holds q Q hq K W _ _ h7 kc hkc vc hvc
  obtain ⟨μ, -, ha⟩ := h8 r
  rw [attend, quot_apply, ha, ha]
  simp only [hW]
  rw [Ideal.div_coe (upto_one_ne (by norm_num) _ _), ← EReal.coe_mul, mul_one_div, upto_div]
end

end Cert.KernelIdeal.Block

end
-- ==== Proof.Scratch.lean ====
module

public import proofs.«01_k».proof.Proof.HeadRead
public import proofs.«01_k».proof.Proof.Steps

/-! The scratch of keys and values at an element, and a tile of the output at an element. -/

@[expose] public section

set_option maxRecDepth 16384

noncomputable section

namespace Cert.KernelIdeal.Block

open Cert.KernelIdeal Cert.KernelIdeal.Gen Idealize.ShloMosaic Idealize.SL.Sem
open Cert.Head Cert.Mean

theorem pair_idx {m n : ℕ} (x : (⟨2, ![m, n]⟩ : Shape).Idx) : ∃ (a : Fin m) (b : Fin n), x = ix2 a b :=
  ⟨x 0, x 1, by funext e; fin_cases e <;> rfl⟩

/-- The columns of the values' scratch: the values, a column of ones, and zeros. -/
def wide (V : ℕ → Fin 128 → ℝ) (j : ℕ) (c : Fin 256) : ℝ :=
  if h : c.val < 128 then V j ⟨c.val, h⟩ else if c.val = 128 then 1 else 0

theorem wide_low (V : ℕ → Fin 128 → ℝ) (j : ℕ) (c : Fin 128) : wide V j ⟨c.val, by omega⟩ = V j c := by
  rw [wide, dif_pos c.isLt]

theorem wide_one (V : ℕ → Fin 128 → ℝ) (j : ℕ) : wide V j 128 = 1 := by
  rw [wide, dif_neg (by decide), if_pos (by decide)]

theorem wide_high (V : ℕ → Fin 128 → ℝ) (j : ℕ) (l : Fin 128) (h : 128 + l.val < 256) : wide V j ⟨128 + l.val, h⟩ = if l = 0 then 1 else 0 := by
  have e : (128 + l.val = 128) = (l = 0) := propext ⟨fun e => Fin.ext (show l.val = 0 by omega), fun e => by rw [e]; rfl⟩
  rw [wide, dif_neg (show ¬128 + l.val < 128 by omega)]
  show (if 128 + l.val = 128 then 1 else 0 : ℝ) = _
  simp only [e]

section
variable (x1 x2 : Vec Ideal S4096x128 .f32) (x4 x5 : Vec Ideal S1x1x256x128 .f32) (x7 : Vec Ideal S1x128 .f32) (x10 x11 : Vec Ideal S4096x128 .f32)
  (K V : ℕ → Fin 128 → ℝ)

/-- The keys' scratch holds the keys. -/
theorem kStores_apply
    (hK : ∀ (i : Fin 4096) d, rot (nrm (fun k => x1 (ix2 i k)) (fun k => x7 (ix2 0 k))) (fun k => x10 (ix2 i k)) (fun k => x11 (ix2 i k)) d = K i.val d)
    (hC : ∀ (i : Fin 256) d, x4 (ix4 0 0 i d) = K (4096 + i.val) d) (i : Fin 4352) (d : Fin 128) :
    View.canon (kStores x1 x4 x7 x10 x11) (ix2 i d) = (K i.val d : EReal) := by
  refine View.canon_apply_of_pieces (Val := Elt Ideal) (S := S4352x128) (e := .bf16)
    (fun y => ((K (y 0).val (⟨(y 1).val, (y 1).isLt⟩ : Fin 128) : ℝ) : EReal)) _ ?_ _ ?_
  · intro p hp x
    simp only [kStores, List.mem_cons, List.mem_nil_iff, or_false] at hp
    rcases hp with rfl | rfl
    · obtain ⟨a, b, rfl⟩ := pair_idx (m := 256) (n := 128) x
      refine (kCtx_apply x4 a b).trans ((hC a b).trans ?_)
      refine congrArg _ (congrArg₂ K ?_ (Fin.ext ?_))
      · exact (Rect.idx_unit_val (s := S4352x128) ![4096, 0] ![256, 128] inb_S4352x128_S256x128_4096_0 (ix2 a b) 0).symm
      · exact ((Rect.idx_unit_val (s := S4352x128) ![4096, 0] ![256, 128] inb_S4352x128_S256x128_4096_0 (ix2 a b) 1).trans (Nat.zero_add _)).symm
    · obtain ⟨a, b, rfl⟩ := pair_idx (m := 4096) (n := 128) x
      refine (kRow_apply x1 x7 x10 x11 a b).trans ((hK a b).trans ?_)
      refine congrArg _ (congrArg₂ K ?_ (Fin.ext ?_))
      · exact ((Rect.idx_unit_val (s := S4352x128) ![0, 0] ![4096, 128] inb_S4352x128_S4096x128_0_0 (ix2 a b) 0).trans (Nat.zero_add _)).symm
      · exact ((Rect.idx_unit_val (s := S4352x128) ![0, 0] ![4096, 128] inb_S4352x128_S4096x128_0_0 (ix2 a b) 1).trans (Nat.zero_add _)).symm
  · simp only [kStores, List.exists_mem_cons_iff]
    by_cases h : i.val < 4096
    · refine Or.inr (Or.inl (Rect.mem_set_unit.2 fun e => ?_))
      fin_cases e <;> simp [ix2] <;> omega
    · refine Or.inl (Rect.mem_set_unit.2 fun e => ?_)
      fin_cases e <;> simp [ix2] <;> omega

/-- The values' scratch holds the values and the column of ones. -/
theorem vStores_apply (hV : ∀ (i : Fin 4096) d, x2 (ix2 i d) = V i.val d)
    (hC : ∀ (i : Fin 256) d, x5 (ix4 0 0 i d) = V (4096 + i.val) d) (i : Fin 4352) (c : Fin 256) :
    View.canon (vStores x2 x5) (ix2 i c) = (wide V i.val c : EReal) := by
  have low : ∀ (j : ℕ) (b : Fin 128) (c : Fin 256), c.val = b.val → V j b = wide V j c := fun j b c h => by
    rw [← wide_low V j b]; exact congrArg _ (Fin.ext h.symm)
  have high : ∀ (j : ℕ) (b : Fin 128) (c : Fin 256), c.val = 128 + b.val → (if b = 0 then 1 else 0 : ℝ) = wide V j c := fun j b c h => by
    rw [← wide_high V j b (by omega)]; exact congrArg _ (Fin.ext h.symm)
  refine View.canon_apply_of_pieces (Val := Elt Ideal) (S := S4352x256) (e := .bf16)
    (fun y => ((wide V (y 0).val (⟨(y 1).val, (y 1).isLt⟩ : Fin 256) : ℝ) : EReal)) _ ?_ _ ?_
  · intro p hp x
    simp only [vStores, List.mem_cons, List.mem_nil_iff, or_false] at hp
    rcases hp with rfl | rfl | rfl | rfl
    · obtain ⟨a, b, rfl⟩ := pair_idx (m := 256) (n := 128) x
      refine (onesC_apply a b).trans (congrArg _ (high _ _ _ ?_))
      exact Rect.idx_unit_val (s := S4352x256) ![4096, 128] ![256, 128] inb_S4352x256_S256x128_4096_128 (ix2 a b) 1
    · obtain ⟨a, b, rfl⟩ := pair_idx (m := 256) (n := 128) x
      refine (vCtx_apply x5 a b).trans ((hC a b).trans (congrArg _ ?_))
      rw [low (4096 + a.val) b ⟨b.val, by omega⟩ rfl]
      refine congrArg₂ (wide V) ?_ (Fin.ext ?_)
      · exact (Rect.idx_unit_val (s := S4352x256) ![4096, 0] ![256, 128] inb_S4352x256_S256x128_4096_0 (ix2 a b) 0).symm
      · exact ((Rect.idx_unit_val (s := S4352x256) ![4096, 0] ![256, 128] inb_S4352x256_S256x128_4096_0 (ix2 a b) 1).trans (Nat.zero_add _)).symm
    · obtain ⟨a, b, rfl⟩ := pair_idx (m := 4096) (n := 128) x
      refine (ones_apply a b).trans (congrArg _ (high _ _ _ ?_))
      exact Rect.idx_unit_val (s := S4352x256) ![0, 128] ![4096, 128] inb_S4352x256_S4096x128_0_128 (ix2 a b) 1
    · obtain ⟨a, b, rfl⟩ := pair_idx (m := 4096) (n := 128) x
      refine (vRow_apply x2 a b).trans ((hV a b).trans (congrArg _ ?_))
      rw [low a.val b ⟨b.val, by omega⟩ rfl]
      refine congrArg₂ (wide V) ?_ (Fin.ext ?_)
      · exact ((Rect.idx_unit_val (s := S4352x256) ![0, 0] ![4096, 128] inb_S4352x256_S4096x128_0_0 (ix2 a b) 0).trans (Nat.zero_add _)).symm
      · exact ((Rect.idx_unit_val (s := S4352x256) ![0, 0] ![4096, 128] inb_S4352x256_S4096x128_0_0 (ix2 a b) 1).trans (Nat.zero_add _)).symm
  · simp only [vStores, List.exists_mem_cons_iff]
    have hi := i.isLt
    have hc := c.isLt
    by_cases h : i.val < 4096 <;> by_cases h' : c.val < 128
    · refine Or.inr (Or.inr (Or.inr (Or.inl (Rect.mem_set_unit.2 fun e => ?_))))
      fin_cases e <;> simp [ix2] <;> omega
    · refine Or.inr (Or.inr (Or.inl (Rect.mem_set_unit.2 fun e => ?_)))
      fin_cases e <;> simp [ix2] <;> omega
    · refine Or.inr (Or.inl (Rect.mem_set_unit.2 fun e => ?_))
      fin_cases e <;> simp [ix2] <;> omega
    · refine Or.inl (Rect.mem_set_unit.2 fun e => ?_)
      fin_cases e <;> simp [ix2] <;> omega
end

section
variable (x0 x3 : Vec Ideal S512x512 .f32) (x6 : Vec Ideal S1x128 .f32) (x8 x9 : Vec Ideal S512x128 .f32)
  (sk : Vec Ideal S4352x128 .bf16) (sv : Vec Ideal S4352x256 .bf16)
  (Q : Fin 512 → Fin 4 → Fin 128 → ℝ) (K V : ℕ → Fin 128 → ℝ)

/-- A row of the four heads stacked: its head and its row of the sub-block. -/
theorem stack (r : Fin 512) : ∃ (g : Fin 4) (a : Fin 128), r = ⟨128 * g.val + a.val, by omega⟩ :=
  ⟨⟨r.val / 128, by omega⟩, ⟨r.val % 128, by omega⟩, Fin.ext (by dsimp only; omega)⟩

/-- The queries of a sub-block at an element. -/
theorem queries_apply (hQ : ∀ (a : Fin 512) (g : Fin 4) d,
      rot (nrm (fun k : Fin 128 => x0 (ix2 a ⟨128 * g.val + k.val, by omega⟩)) (fun k => x6 (ix2 0 k))) (fun k => x8 (ix2 a k)) (fun k => x9 (ix2 a k)) d = Q a g d)
    (s g : Fin 4) (a d : Fin 128) :
    queries x0 x6 x8 x9 s (ix2 ⟨128 * g.val + a.val, by omega⟩ d)
      = ((Q ⟨128 * s.val + a.val, by omega⟩ g d * (Real.sqrt 128 * Real.log 2)⁻¹ : ℝ) : EReal) := by
  rw [queries, qcat_apply (fun g => qhead (tile x0 s g) x6 (rows x8 s) (rows x9 s)), qhead_apply]
  simp only [tile_apply, rows_apply]
  rw [hQ, ← EReal.coe_mul]

/-- The factor the scores are taken with. -/
theorem factor (x : ℝ) : Real.log 2 * (x * (Real.sqrt 128 * Real.log 2)⁻¹) = x * (Real.sqrt 128)⁻¹ := by
  have h : Real.log 2 ≠ 0 := (Real.log_pos (by norm_num)).ne'
  field_simp

/-- What a point leaves at an element of its block: the mean of the values under the gate. -/
theorem pieces_apply (hQ : ∀ (a : Fin 512) (g : Fin 4) d,
      rot (nrm (fun k : Fin 128 => x0 (ix2 a ⟨128 * g.val + k.val, by omega⟩)) (fun k => x6 (ix2 0 k))) (fun k => x8 (ix2 a k)) (fun k => x9 (ix2 a k)) d = Q a g d)
    (hK : ∀ (i : Fin 4352) d, sk (ix2 i d) = (K i.val d : EReal)) (hV : ∀ (i : Fin 4352) c, sv (ix2 i c) = (wide V i.val c : EReal))
    (a : Fin 512) (g : Fin 4) (b : Fin 128) :
    View.canon (pieces x0 x3 x6 x8 x9 (keys sk) (keysC sk) (vals sv) (valsC sv)) (ix2 a ⟨128 * g.val + b.val, by omega⟩)
      = ((avg 4352 (fun j => (∑ d, Q a g d * K j d) * (Real.sqrt 128)⁻¹) (fun j => V j b) : ℝ) : EReal)
        * (x3 (ix2 a ⟨128 * g.val + b.val, by omega⟩) * Ideal.logistic (x3 (ix2 a ⟨128 * g.val + b.val, by omega⟩))) := by
  let G : S512x512.Idx → EReal := fun y =>
    ((avg 4352 (fun j => (∑ d, Q (⟨(y 0).val, (y 0).isLt⟩ : Fin 512) ⟨(y 1).val / 128, by have : (y 1).val < 512 := (y 1).isLt; omega⟩ d * K j d) * (Real.sqrt 128)⁻¹)
      (fun j => V j (⟨(y 1).val % 128, by omega⟩ : Fin 128)) : ℝ) : EReal) * (x3 y * Ideal.logistic (x3 y))
  have hG : ∀ (a : Fin 512) (g : Fin 4) (b : Fin 128), G (ix2 a ⟨128 * g.val + b.val, by omega⟩) = ((avg 4352 (fun j => (∑ d, Q a g d * K j d) * (Real.sqrt 128)⁻¹) (fun j => V j b) : ℝ) : EReal)
        * (x3 (ix2 a ⟨128 * g.val + b.val, by omega⟩) * Ideal.logistic (x3 (ix2 a ⟨128 * g.val + b.val, by omega⟩))) := by
    intro a g b
    have h1 : (⟨(128 * g.val + b.val) / 128, by omega⟩ : Fin 4) = g := Fin.ext (by dsimp only; omega)
    have h2 : (⟨(128 * g.val + b.val) % 128, by omega⟩ : Fin 128) = b := Fin.ext (by dsimp only; omega)
    show ((avg 4352 (fun j => (∑ d, Q a (⟨(128 * g.val + b.val) / 128, by omega⟩ : Fin 4) d * K j d) * (Real.sqrt 128)⁻¹)
      (fun j => V j (⟨(128 * g.val + b.val) % 128, by omega⟩ : Fin 128)) : ℝ) : EReal) * _ = _
    rw [h1, h2]
  rw [← hG]
  refine View.canon_apply_of_pieces (Val := Elt Ideal) (S := S512x512) (e := .bf16) G _ ?_ _ ?_
  · intro p hp x
    obtain ⟨s, g, rfl⟩ : ∃ s g : Fin 4, p = piece x0 x3 x6 x8 x9 (keys sk) (keysC sk) (vals sv) (valsC sv) s g := by
      simp only [pieces, List.mem_flatMap, List.mem_map] at hp
      obtain ⟨s, -, g, -, rfl⟩ := hp
      exact ⟨s, g, rfl⟩
    obtain ⟨a, b, rfl⟩ := pair_idx (m := 128) (n := 128) x
    have he : (piece x0 x3 x6 x8 x9 (keys sk) (keysC sk) (vals sv) (valsC sv) s g).1.emb (ix2 a b)
        = ix2 (⟨128 * s.val + a.val, by omega⟩ : Fin 512) (⟨128 * g.val + b.val, by omega⟩ : Fin 512) := by
      have inb : ∀ a, ![128 * s.val, 128 * g.val] a + ![128, 128] a ≤ S512x512.size a := by
        have := s.isLt; have := g.isLt; intro a; fin_cases a <;> simp <;> omega
      funext e
      refine Fin.ext ((Rect.idx_unit_val (s := S512x512) ![128 * s.val, 128 * g.val] ![128, 128] inb (ix2 a b) e).trans ?_)
      fin_cases e <;> rfl
    refine Eq.trans ?_ (congrArg G he).symm
    rw [hG]
    refine (gate_apply _ _ a b).trans ?_
    rw [tile_apply, head_apply]
    refine congrArg₂ (· * ·) ?_ rfl
    let Q' : Fin 512 → Fin 128 → ℝ := fun r d =>
      Q ⟨128 * s.val + r.val % 128, by omega⟩ ⟨r.val / 128, by omega⟩ d * (Real.sqrt 128 * Real.log 2)⁻¹
    have hQ' : ∀ (g : Fin 4) (a d : Fin 128), Q' ⟨128 * g.val + a.val, by omega⟩ d = Q ⟨128 * s.val + a.val, by omega⟩ g d * (Real.sqrt 128 * Real.log 2)⁻¹ := by
      intro g a d
      have h1 : (⟨(128 * g.val + a.val) / 128, by omega⟩ : Fin 4) = g := Fin.ext (by dsimp only; omega)
      have h2 : (⟨128 * s.val + (128 * g.val + a.val) % 128, by omega⟩ : Fin 512) = ⟨128 * s.val + a.val, by omega⟩ := Fin.ext (by dsimp only; omega)
      show Q (⟨128 * s.val + (128 * g.val + a.val) % 128, by omega⟩ : Fin 512) (⟨(128 * g.val + a.val) / 128, by omega⟩ : Fin 4) d * _ = _
      rw [h1, h2]
    rw [attend_apply (queries x0 x6 x8 x9 s) Q' (fun r d => ?_) K (wide V) (keys sk) (fun j i d => ?_) (keysC sk) (fun i d => ?_)
      (vals sv) (fun j i c => ?_) (valsC sv) (fun i c => ?_) (wide_one V)]
    · refine congrArg _ (congrArg₂ (avg 4352) (funext fun j => ?_) (funext fun j => wide_low V j b))
      rw [scores]
      simp only [hQ']
      rw [← factor, Finset.sum_mul]
      exact congrArg _ (Finset.sum_congr rfl fun d _ => by ring)
    · obtain ⟨g, a, rfl⟩ := stack r
      rw [queries_apply x0 x6 x8 x9 Q hQ, hQ']
    · exact (View.ld_unit_apply_of sk _ _ _ _ (ix2 (⟨512 * j.val + i.val, by omega⟩ : Fin 4352) d) fun e => by fin_cases e <;> simp [ix2]).trans (hK _ _)
    · exact (View.ld_unit_apply_of sk _ _ _ _ (ix2 (⟨4096 + i.val, by omega⟩ : Fin 4352) d) fun e => by fin_cases e <;> simp [ix2]).trans (hK _ _)
    · exact (View.ld_unit_apply_of sv _ _ _ _ (ix2 (⟨512 * j.val + i.val, by omega⟩ : Fin 4352) c) fun e => by fin_cases e <;> simp [ix2]).trans (hV _ _)
    · exact (View.ld_unit_apply_of sv _ _ _ _ (ix2 (⟨4096 + i.val, by omega⟩ : Fin 4352) c) fun e => by fin_cases e <;> simp [ix2]).trans (hV _ _)
  · have inb : ∀ e, ![128 * (a.val / 128), 128 * g.val] e + ![128, 128] e ≤ S512x512.size e := by
      intro e; fin_cases e <;> simp <;> omega
    refine ⟨piece x0 x3 x6 x8 x9 (keys sk) (keysC sk) (vals sv) (valsC sv) ⟨a.val / 128, by omega⟩ g, ?_,
      (Rect.mem_set_unit (s := S512x512) (off := ![128 * (a.val / 128), 128 * g.val]) (size := ![128, 128]) (inb := inb)).2 fun e => ?_⟩
    · simp only [pieces, List.mem_flatMap, List.mem_map]
      have hm : ∀ g : Fin 4, g ∈ ([3, 2, 1, 0] : List (Fin 4)) := by decide
      exact ⟨_, hm _, _, hm _, rfl⟩
    · fin_cases e <;> simp [ix2] <;> omega
end

end Cert.KernelIdeal.Block

end
-- ==== Proof.Walk.lean ====
module

public import proofs.«01_k».proof.Proof.Point
public import proofs.«01_k».proof.Proof.Scratch
public import proofs.«01_k».proof.Proof.Blocks
public import Idealize.ShloMosaic.Lib.Pipeline.ReadBack

/-! The walk over the grid: the scratch holds the keys and values of the point's group, and the point leaves the gated mean. -/

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)
open Cert.Head

variable (m : (ℓ : Loc nD τ sig) → Buf (Elt Ideal) ℓ) (c : Dev nD) (hD : (data m c).Real')
include hD

/-- The keys a run's first point stores. -/
theorem storedK (t : Fin cfg0.N) (i : Fin 4352) (d : Fin 128) :
    View.canon (kStores (iblk m c 1 t) (iblk m c 4 t) (iblk m c 7 t) (iblk m c 10 t) (iblk m c 11 t)) (ix2 i d)
      = ((data m c).kR (smp t) (grp t) i.val d : EReal) := by
  refine kStores_apply _ _ _ _ _ _ (fun i d => ?_) (fun i d => ?_) i d
  · simp only [blk1, blk7, blk10, blk11]
    exact Attn.Data.kSelf_eq hD (smp t) (grp t) i d
  · exact (blk4 m c t i d).trans (Attn.Data.kCtx_eq hD (smp t) (grp t) i d)

/-- The values it stores. -/
theorem storedV (t : Fin cfg0.N) (i : Fin 4352) (k : Fin 256) :
    View.canon (vStores (iblk m c 2 t) (iblk m c 5 t)) (ix2 i k) = (wide ((data m c).vR (smp t) (grp t)) i.val k : EReal) := by
  refine vStores_apply _ _ _ (fun i d => ?_) (fun i d => ?_) i k
  · exact (blk2 m c t i d).trans (Attn.Data.vSelf_eq hD (smp t) (grp t) i d)
  · exact (blk5 m c t i d).trans (Attn.Data.vCtx_eq hD (smp t) (grp t) i d)

/-- The scratch after a point. -/
theorem scratch (n : ℕ) : ∀ hn : n < cfg0.N,
    (∀ i d, (outsAt0 m c n hn).2.1 (ix2 i d) = ((data m c).kR (smp ⟨n, hn⟩) (grp ⟨n, hn⟩) i.val d : EReal))
    ∧ (∀ i k, (outsAt0 m c n hn).2.2 (ix2 i k) = (wide ((data m c).vR (smp ⟨n, hn⟩) (grp ⟨n, hn⟩)) i.val k : EReal)) := by
  induction n using Nat.strong_induction_on with
  | _ n ih =>
    intro hn
    by_cases h0 : n % 8 = 0
    · rw [outsAt0_A m c ⟨n, hn⟩ h0]
      dsimp only
      exact ⟨fun i d => (scrA0 ..).trans (storedK m c hD ⟨n, hn⟩ i d), fun i k => (scrA1 ..).trans (storedV m c hD ⟨n, hn⟩ i k)⟩
    · rw [outsAt0_B m c ⟨n, hn⟩ h0]
      have h := ih (n - 1) (by omega) (by omega)
      have e1 : smp ⟨n - 1, by omega⟩ = smp ⟨n, hn⟩ := Fin.ext (by dsimp only; omega)
      have e2 : grp ⟨n - 1, by omega⟩ = grp ⟨n, hn⟩ := Fin.ext (by dsimp only; omega)
      rw [e1, e2] at h
      exact h

/-- What a point leaves in its block, over scratch that holds the keys and values. -/
theorem left (t : Fin cfg0.N) (sk : Vec Ideal S4352x128 .bf16) (sv : Vec Ideal S4352x256 .bf16)
    (hK : ∀ i d, sk (ix2 i d) = ((data m c).kR (smp t) (grp t) i.val d : EReal))
    (hV : ∀ i k, sv (ix2 i k) = (wide ((data m c).vR (smp t) (grp t)) i.val k : EReal))
    (a : Fin 512) (g : Fin 4) (b : Fin 128) :
    View.canon (pieces (iblk m c 0 t) (iblk m c 3 t) (iblk m c 6 t) (iblk m c 8 t) (iblk m c 9 t) (keys sk) (keysC sk) (vals sv) (valsC sv))
      (ix2 a (⟨128 * g.val + b.val, by omega⟩ : Fin 512)) = (data m c).out (smp t) (hd t g) (pos t a) b := by
  have hg : Attn.Data.group (hd t g) = grp t := Fin.ext (by dsimp only; omega)
  rw [pieces_apply _ _ _ _ _ sk sv (fun a g d => (data m c).qR (smp t) (hd t g) (pos t a) d) _ _ (fun a g d => ?_) hK hV a g b]
  · rw [blk3, Attn.Data.out, Attn.Data.mean, hg]
  · simp only [blk0, blk6, blk8, blk9]
    exact Attn.Data.q_eq hD (smp t) (hd t g) (pos t a) d

/-- What a point leaves in its block. -/
theorem point (t : Fin cfg0.N) (a : Fin 512) (g : Fin 4) (b : Fin 128) :
    (outsAt0 m c t.val t.isLt).1 (ix2 a (⟨128 * g.val + b.val, by omega⟩ : Fin 512)) = (data m c).out (smp t) (hd t g) (pos t a) b := by
  by_cases h0 : t.val % 8 = 0
  · rw [outsAt0_A m c t h0]
    dsimp only
    refine (outA ..).trans ?_
    simp only [View.readCov_eq_canon']
    exact left m c hD t _ _ (storedK m c hD t) (storedV m c hD t) a g b
  · rw [outsAt0_B m c t h0]
    dsimp only
    refine (outB ..).trans ?_
    have ht := points t
    have h := scratch m c hD (t.val - 1) (Nat.lt_of_le_of_lt (Nat.sub_le _ _) t.isLt)
    have e1 : smp ⟨t.val - 1, Nat.lt_of_le_of_lt (Nat.sub_le _ _) t.isLt⟩ = smp t := Fin.ext (by dsimp only; omega)
    have e2 : grp ⟨t.val - 1, Nat.lt_of_le_of_lt (Nat.sub_le _ _) t.isLt⟩ = grp t := Fin.ext (by dsimp only; omega)
    rw [e1, e2] at h
    exact left m c hD t _ _ h.1 h.2 a g b

end Cert.KernelIdeal.Block

end
-- ==== Proof.Array.lean ====
module

public import proofs.«01_k».proof.Proof.Walk
public import proofs.«01_k».proof.Proof.Gen.KernelIdeal.Value

/-! The array the kernel leaves: the sample rows hold the gated mean, the other rows what was there. -/

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD) (hD : (data m c).Real')
include hD

/-- The array at the end of the run. -/
theorem final : (dats m 0 c).arrAt 12 (cfgs 0).N = (data m c).whole (m ((c.tc : Thread nD τ).loc main_arg1)) := by
  refine (dats m 0 c).arrAt_eq_of_coversWhere_of_agree 12 _ (fun β => 8 ≤ β (0 : Fin _)) (by decide +kernel) (fun t hf y => ?_) (fun j hj => ?_)
  · rw [after0_12]
    obtain ⟨a, b, rfl⟩ := pair_idx (m := 512) (n := 512) y
    obtain ⟨g, b, rfl⟩ := stack b
    have he : ((cfg0.win 12).blk t).view.emb (ix2 a (⟨128 * g.val + b.val, by omega⟩ : Fin 512))
        = (ix2 (Attn.Data.row (smp t) (pos t a)) (⟨128 * (hd t g).val + b.val, by have := (hd t g).isLt; omega⟩ : Fin 2048) : S36864x2048.Idx) := by
      funext e
      fin_cases e <;> (apply Fin.ext; blk_simp [blocks t]) <;> simp [ix2] <;> omega
    refine (point m c hD t a g b).trans ?_
    exact ((congrArg _ he).trans (Attn.Data.whole_row (data m c) _ (smp t) (hd t g) (pos t a) b)).symm
  · have hj' : ¬8 ≤ (j 0).val / 512 := hj
    have hl : (j 0).val < 4096 := by omega
    refine Eq.trans ?_ (Attn.Data.whole_low (data m c) _ j hl).symm
    rw [A_eq]
    show V m c main_v7 j = _
    entry_read
    rfl

end Cert.KernelIdeal.Block

end
-- ==== Proof.RefRead.lean ====
module

public import proofs.«01_k».proof.Proof.Gen.ReferenceIdeal.Read
public import proofs.«01_k».proof.Proof.Attn
public import Idealize.ShloMosaic.Lib.Pipeline.ValueKit
public import Idealize.ShloMosaic.Lib.Pointwise

/-! The reference's queries, keys and values read at an element. -/

@[expose] public section

set_option maxRecDepth 16384

noncomputable section

namespace Cert.ReferenceIdeal.Read

open Cert.ReferenceIdeal Cert.ReferenceIdeal.Gen Idealize.ShloMosaic Idealize.SL.Sem
open Cert.Head Cert.Attn

variable (D : Data)

/-- The rotation taken half by half. -/
theorem rot_halves (y : Fin 128 → EReal) (c s : Fin 64 → EReal) (d : Fin 128) :
    (if h : d.val < 64 then y d * c ⟨d.val, h⟩ - y ⟨64 + d.val, by omega⟩ * s ⟨d.val, h⟩
      else y ⟨d.val - 64, by omega⟩ * s ⟨d.val - 64, by omega⟩ + y ⟨64 + (d.val - 64), by omega⟩ * c ⟨d.val - 64, by omega⟩)
      = rot y (cosf c) (sinf s) d := by
  unfold rot cosf sinf half
  split_ifs with h
  · rw [sub_eq_add_neg, ← mul_neg]
    refine congrArg₂ (· + ·) (congrArg (y d * c ·) (Fin.ext ?_)) (congrArg₂ (y · * -s ·) (Fin.ext ?_) (Fin.ext ?_)) <;> dsimp only <;> omega
  · rw [add_comm]
    refine congrArg₂ (· + ·) (congrArg₂ (y · * c ·) (Fin.ext ?_) (Fin.ext ?_)) (congrArg₂ (y · * s ·) (Fin.ext ?_) (Fin.ext ?_)) <;> dsimp only <;> omega

theorem q_raw (b : Fin 8) (j : Fin 4096) (h : Fin 16) (k : Fin 128) :
    val_main_v3 (F := Ideal) D.p (ix4 b j h k) = D.p (ix2 (Data.row b j) ⟨13312 + (128 * h.val + k.val), by omega⟩) := by
  pointwise [val_main_v3, val_main_v2, val_main_v1, val_main_v0]
  blk_point []

theorem q_normed (b : Fin 8) (j : Fin 4096) (h : Fin 16) (d : Fin 128) :
    val_main_v16 (F := Ideal) D.p D.gq (ix4 b j h d)
      = nrm (fun k => val_main_v3 (F := Ideal) D.p (ix4 b j h k)) (fun k => D.gq (ix1 k)) d := by
  pointwise [val_main_v16, val_main_v15, val_main_v14, val_main_v13, val_main_v12, val_main_v11, val_main_v10, val_main_v9, val_main_v8, val_main_v7, val_main_v6, val_main_v5, val_main_v4, val_main_cst, val_main_cst_0, val_main_cst_1]
  rfl

theorem q_rot (b : Fin 8) (j : Fin 4096) (h : Fin 16) (d : Fin 128) :
    val_main_v31 (F := Ideal) D.p D.gq D.co D.si (ix4 b j h d)
      = rot (fun k => val_main_v16 (F := Ideal) D.p D.gq (ix4 b j h k)) (cosf fun k => D.co (ix2 j k)) (sinf fun k => D.si (ix2 j k)) d := by
  rw [← rot_halves]
  pointwise [val_main_v31, val_main_v30, val_main_v29, val_main_v28, val_main_v27, val_main_v26, val_main_v25, val_main_v24, val_main_v23, val_main_v22, val_main_v21, val_main_v20, val_main_v19, val_main_v18, val_main_v17]

theorem k_raw (b : Fin 8) (j : Fin 4096) (h : Fin 4) (k : Fin 128) :
    val_main_v33 (F := Ideal) D.p (ix4 b j h k) = D.p (ix2 (Data.row b j) ⟨15360 + (128 * h.val + k.val), by omega⟩) := by
  pointwise [val_main_v33, val_main_v32, val_main_v1, val_main_v0]
  blk_point []

theorem k_normed (b : Fin 8) (j : Fin 4096) (h : Fin 4) (d : Fin 128) :
    val_main_v46 (F := Ideal) D.p D.gk (ix4 b j h d)
      = nrm (fun k => val_main_v33 (F := Ideal) D.p (ix4 b j h k)) (fun k => D.gk (ix1 k)) d := by
  pointwise [val_main_v46, val_main_v45, val_main_v44, val_main_v43, val_main_v42, val_main_v41, val_main_v40, val_main_v39, val_main_v38, val_main_v37, val_main_v36, val_main_v35, val_main_v34, val_main_cst_2, val_main_cst_3, val_main_cst_4]
  rfl

theorem k_rot (b : Fin 8) (j : Fin 4096) (h : Fin 4) (d : Fin 128) :
    val_main_v61 (F := Ideal) D.p D.gk D.co D.si (ix4 b j h d)
      = rot (fun k => val_main_v46 (F := Ideal) D.p D.gk (ix4 b j h k)) (cosf fun k => D.co (ix2 j k)) (sinf fun k => D.si (ix2 j k)) d := by
  rw [← rot_halves]
  pointwise [val_main_v61, val_main_v60, val_main_v59, val_main_v58, val_main_v57, val_main_v56, val_main_v55, val_main_v54, val_main_v53, val_main_v52, val_main_v51, val_main_v50, val_main_v49, val_main_v48, val_main_v47]

/-- The reference's queries. -/
theorem q_apply (b : Fin 8) (j : Fin 4096) (h : Fin 16) (d : Fin 128) :
    val_main_v31 (F := Ideal) D.p D.gq D.co D.si (ix4 b j h d) = D.q b h j d := by
  rw [q_rot]
  simp only [q_normed, q_raw]
  rfl

/-- Its keys of the sample's positions. -/
theorem kSelf_apply (b : Fin 8) (j : Fin 4096) (h : Fin 4) (d : Fin 128) :
    val_main_v61 (F := Ideal) D.p D.gk D.co D.si (ix4 b j h d) = D.kSelf b h j d := by
  rw [k_rot]
  simp only [k_normed, k_raw]
  rfl

/-- Its keys. -/
theorem k_apply (b : Fin 8) (j : Fin 4352) (h : Fin 4) (d : Fin 128) :
    val_main_v67 (F := Ideal) D.p D.ck D.gk D.co D.si (ix4 b j h d) = D.k b h j d := by
  unfold Data.k
  pointwise [val_main_v67, val_main_v66, val_main_v65]
  split_ifs
  · exact kSelf_apply D ..
  all_goals rfl

/-- Its values. -/
theorem v_apply (b : Fin 8) (j : Fin 4352) (h : Fin 4) (d : Fin 128) :
    val_main_v70 (F := Ideal) D.p D.cv (ix4 b j h d) = D.v b h j d := by
  unfold Data.v
  pointwise [val_main_v70, val_main_v69, val_main_v68, val_main_v63, val_main_v62, val_main_v1, val_main_v0]
  blk_point []

/-- Its gates. -/
theorem z_apply (b : Fin 8) (j : Fin 4096) (h : Fin 16) (d : Fin 128) :
    val_main_v64 (F := Ideal) D.p (ix3 b j (⟨128 * h.val + d.val, by omega⟩ : Fin 2048)) = D.z b h j d := by
  unfold Data.z
  pointwise [val_main_v64, val_main_v1, val_main_v0]
  blk_point []

/-- Its scores. -/
theorem s_apply (b : Fin 8) (h g : Fin 4) (i : Fin 4096) (j : Fin 4352) :
    val_main_v76 (F := Ideal) D.p D.ck D.gq D.gk D.co D.si (ix5 b h g i j)
      = (∑ d, D.k b h j d * D.q b ⟨4 * h.val + g.val, by omega⟩ i d) * Ideal.rsqrt (Ideal.ofBits .f32 0x43000000#32) := by
  simp only [← k_apply, ← q_apply]
  pointwise [val_main_v76, val_main_v75, val_main_v74, val_main_v73, val_main_v72, val_main_v71, val_main_cst_5]
  blk_point []

/-- Its gated output, by head and position. -/
theorem o_apply (b : Fin 8) (h g : Fin 4) (i : Fin 4096) (d : Fin 128) :
    val_main_v92 (F := Ideal) D.p D.ck D.cv D.gq D.gk D.co D.si (ix3 b i (⟨128 * (4 * h.val + g.val) + d.val, by omega⟩ : Fin 2048))
      = (∑ j, D.v b h j d * val_main_v87 (F := Ideal) D.p D.ck D.gq D.gk D.co D.si (ix5 b h g i j))
        * (D.z b ⟨4 * h.val + g.val, by omega⟩ i d * Ideal.logistic (D.z b ⟨4 * h.val + g.val, by omega⟩ i d)) := by
  rw [← z_apply]
  simp only [← v_apply, Ideal.logistic]
  pointwise [val_main_v92, val_main_v91, val_main_v90, val_main_v89, val_main_v88, val_main_call0_v5, val_main_call0_v4, val_main_call0_v3,
    val_main_call0_v2, val_main_call0_v1, val_main_call0_v0, val_main_call0_cst, val_main_call0_cst_0]

/-- Its result, by row and column. -/
theorem y_apply (y : Vec Ideal S36864x2048 .bf16) (r : Fin 36864) (k : Fin 2048) :
    val_main_v96 (F := Ideal) D.p y D.ck D.cv D.gq D.gk D.co D.si (ix2 r k)
      = if h : r.val < 4096 then y (ix2 r k)
        else val_main_v92 (F := Ideal) D.p D.ck D.cv D.gq D.gk D.co D.si
          (ix3 (⟨(r.val - 4096) / 4096, by omega⟩ : Fin 8) (⟨(r.val - 4096) % 4096, by omega⟩ : Fin 4096) k) := by
  pointwise [val_main_v96, val_main_v95, val_main_v94, val_main_v93]

end Cert.ReferenceIdeal.Read

end
-- ==== Proof.RefMean.lean ====
module

public import proofs.«01_k».proof.Proof.RefRead
public import Idealize.ShloMosaic.Lib.Pipeline.ValueKit
public import Idealize.ShloMosaic.Lib.Pointwise

/-! The reference's weights, and its whole result as the mean of the values. -/

@[expose] public section

set_option maxRecDepth 16384

noncomputable section

namespace Cert.ReferenceIdeal.Read

open Cert.ReferenceIdeal Cert.ReferenceIdeal.Gen Idealize.ShloMosaic Idealize.SL.Sem
open Cert.Head Cert.Attn Cert.Mean

/-- Real scores, one maximum subtracted, exponentiated and divided by their sum, weigh real values to their mean. -/
theorem soft_mean {n : ℕ} (hn : 0 < n) (T W : ℕ → ℝ) (s v w : Fin n → EReal) (M : EReal) (hs : ∀ j, s j = (T j : EReal))
    (hv : ∀ j, v j = (W j : EReal)) (hM : M = max ⊥ ((Finset.univ : Finset (Fin n)).fold max ⊥ s))
    (hw : ∀ j, w j = Ideal.div (Ideal.exp (s j - M)) (∑ x, Ideal.exp (s x - M))) :
    ∑ j, v j * w j = (avg n T W : EReal) := by
  obtain ⟨μ, hμ⟩ := fold_max hn s fun j => ⟨_, hs j⟩
  rw [hμ, max_eq_right bot_le] at hM
  have he : ∀ j : Fin n, Ideal.exp (s j - M) = (Real.exp (T j - μ) : EReal) := fun j => by
    rw [hs, hM, ← EReal.coe_sub, Ideal.exp_coe]
  have hpos : 0 < ∑ j : Fin n, Real.exp (T j - μ) :=
    Finset.sum_pos (fun _ _ => Real.exp_pos _) ⟨⟨0, hn⟩, Finset.mem_univ _⟩
  rw [← avg_shift n T W μ, ← coe_sum]
  refine Finset.sum_congr rfl fun j _ => ?_
  rw [hw, hv]
  simp only [he]
  rw [coe_sum, Ideal.div_coe hpos.ne', ← EReal.coe_mul, ← EReal.coe_mul]
  exact congrArg _ (by ring)

variable (D : Data)

/-- The maximum of the scores of a query. -/
theorem m_apply (b : Fin 8) (h g : Fin 4) (i : Fin 4096) :
    val_main_v77 (F := Ideal) D.p D.ck D.gq D.gk D.co D.si (ix4 b h g i)
      = Finset.univ.fold max (Ideal.ofBits .f32 0xFF800000#32) (fun j : Fin 4352 => val_main_v76 (F := Ideal) D.p D.ck D.gq D.gk D.co D.si (ix5 b h g i j)) := by
  pointwise [val_main_v77, val_main_cst_6]

/-- What is subtracted from the scores. -/
theorem top_apply (b : Fin 8) (h g : Fin 4) (i : Fin 4096) :
    val_main_v79 (F := Ideal) D.p D.ck D.gq D.gk D.co D.si (ix4 b h g i)
      = max (Ideal.ofBits .f32 0xFF800000#32) (val_main_v77 (F := Ideal) D.p D.ck D.gq D.gk D.co D.si (ix4 b h g i)) := by
  rw [val_main_v79_apply, val_main_v78_apply, val_main_cst_7_apply]
  generalize val_main_v77 (F := Ideal) D.p D.ck D.gq D.gk D.co D.si (ix4 b h g i) = x
  rfl

theorem wide_apply (b : Fin 8) (h g : Fin 4) (i : Fin 4096) (j : Fin 4352) :
    val_main_v81 (F := Ideal) D.p D.ck D.gq D.gk D.co D.si (ix5 b h g i j) = val_main_v79 (F := Ideal) D.p D.ck D.gq D.gk D.co D.si (ix4 b h g i) := by
  pointwise [val_main_v81, val_main_v80]

/-- The exponential of a score. -/
theorem e_apply (b : Fin 8) (h g : Fin 4) (i : Fin 4096) (j : Fin 4352) :
    val_main_v83 (F := Ideal) D.p D.ck D.gq D.gk D.co D.si (ix5 b h g i j)
      = Ideal.exp (val_main_v76 (F := Ideal) D.p D.ck D.gq D.gk D.co D.si (ix5 b h g i j) - val_main_v79 (F := Ideal) D.p D.ck D.gq D.gk D.co D.si (ix4 b h g i)) := by
  rw [← wide_apply D b h g i j]
  pointwise [val_main_v83, val_main_v82]

/-- Their sum. -/
theorem sum_apply (b : Fin 8) (h g : Fin 4) (i : Fin 4096) :
    val_main_v84 (F := Ideal) D.p D.ck D.gq D.gk D.co D.si (ix4 b h g i) = ∑ j : Fin 4352, val_main_v83 (F := Ideal) D.p D.ck D.gq D.gk D.co D.si (ix5 b h g i j) := by
  rw [val_main_v84_apply]
  pointwise [val_main_cst_8]
  refine Finset.sum_congr rfl fun k _ => congrArg _ ?_
  funext a
  rcases a with ⟨a, ha⟩
  have ha' : a < 5 := ha
  interval_cases a <;> rfl

/-- The weight of a key. -/
theorem w_apply (b : Fin 8) (h g : Fin 4) (i : Fin 4096) (j : Fin 4352) :
    val_main_v87 (F := Ideal) D.p D.ck D.gq D.gk D.co D.si (ix5 b h g i j)
      = Ideal.div (val_main_v83 (F := Ideal) D.p D.ck D.gq D.gk D.co D.si (ix5 b h g i j)) (val_main_v84 (F := Ideal) D.p D.ck D.gq D.gk D.co D.si (ix4 b h g i)) := by
  pointwise [val_main_v87, val_main_v86, val_main_v85]

/-- The reciprocal root of 128. -/
theorem rsqrt_128 : Ideal.rsqrt (Ideal.ofBits .f32 0x43000000#32) = (((Real.sqrt 128)⁻¹ : ℝ) : EReal) := by
  rw [ofBits_128, Ideal.rsqrt_coe, if_neg (by norm_num), if_neg (by norm_num)]

variable {D} (hD : D.Real')
include hD

/-- A score is real. -/
theorem s_eq (b : Fin 8) (h g : Fin 4) (i : Fin 4096) (j : Fin 4352) :
    val_main_v76 (F := Ideal) D.p D.ck D.gq D.gk D.co D.si (ix5 b h g i j)
      = (((∑ e, D.qR b ⟨4 * h.val + g.val, by omega⟩ i e * D.kR b h j.val e) * (Real.sqrt 128)⁻¹ : ℝ) : EReal) := by
  rw [s_apply, rsqrt_128, EReal.coe_mul, ← coe_sum]
  refine congrArg (· * _) (Finset.sum_congr rfl fun d _ => ?_)
  rw [Data.k_eq hD, Data.q_eq hD, mul_comm, ← EReal.coe_mul]

/-- The gated mean of a head. -/
theorem out_eq (b : Fin 8) (h g : Fin 4) (i : Fin 4096) (d : Fin 128) :
    val_main_v92 (F := Ideal) D.p D.ck D.cv D.gq D.gk D.co D.si (ix3 b i (⟨128 * (4 * h.val + g.val) + d.val, by omega⟩ : Fin 2048))
      = D.out b ⟨4 * h.val + g.val, by omega⟩ i d := by
  have hg : Data.group ⟨4 * h.val + g.val, by omega⟩ = h := Fin.ext (by dsimp only; omega)
  rw [o_apply, Data.out, Data.mean, hg]
  refine congrArg (· * _) (soft_mean (by norm_num) _ _ (fun j => val_main_v76 (F := Ideal) D.p D.ck D.gq D.gk D.co D.si (ix5 b h g i j)) _ _
    (val_main_v79 (F := Ideal) D.p D.ck D.gq D.gk D.co D.si (ix4 b h g i)) (s_eq hD b h g i) (fun j => Data.v_eq hD b h j d) ?_ fun j => ?_)
  · rw [top_apply, m_apply, ofBits_neg_inf]
  · rw [w_apply, sum_apply, e_apply]
    exact congrArg _ (Finset.sum_congr rfl fun x _ => e_apply ..)

/-- The reference's result. -/
theorem result (y : Vec Ideal S36864x2048 .bf16) :
    val_main_v96 (F := Ideal) D.p y D.ck D.cv D.gq D.gk D.co D.si = D.whole y := by
  funext i
  obtain ⟨r, k, rfl⟩ : ∃ (r : Fin 36864) (k : Fin 2048), i = ix2 r k := ⟨i 0, i 1, by funext e; fin_cases e <;> rfl⟩
  rw [y_apply]
  split_ifs with hr
  · exact (D.whole_low y _ hr).symm
  · have := out_eq hD ⟨(r.val - 4096) / 4096, by omega⟩ ⟨k.val / 512, by omega⟩ ⟨k.val / 128 % 4, by omega⟩ ⟨(r.val - 4096) % 4096, by omega⟩
      ⟨k.val % 128, by omega⟩
    rw [show (⟨128 * (4 * (k.val / 512) + k.val / 128 % 4) + k.val % 128, by omega⟩ : Fin 2048) = k from Fin.ext (by dsimp only; omega)] at this
    rw [this]
    unfold Data.whole
    rw [dif_neg (by show ¬r.val < 4096; exact hr)]
    exact congrArg (fun h => D.out _ h _ _) (Fin.ext (by show 4 * (k.val / 512) + k.val / 128 % 4 = k.val / 128; omega))

end Cert.ReferenceIdeal.Read

end
-- ==== Proof.Attention.lean ====
/- The attention: the kernel's array and the reference's are the same gated mean. -/
module

public import proofs.«01_k».proof.Proof.Finite
public import proofs.«01_k».proof.Proof.Array
public import proofs.«01_k».proof.Proof.RefMean
public import proofs.«01_k».proof.Proof.Gen.KernelIdeal.Value

@[expose] public section

set_option maxRecDepth 16384

noncomputable section

namespace Cert.Attention

open Idealize.ShloMosaic Idealize.SL.Sem

theorem algebraic : Cert.algebraic_KernelIdeal_ReferenceIdeal_pre_finite := by
  intro m g m' g' hpre hagree
  refine ⟨fun c => (Cert.KernelIdeal.Block.data m c).whole
      (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Value.run_blocks m g)
    exact ⟨(h c).1.trans (Cert.KernelIdeal.Block.final m c (Cert.Finite.real m hpre c)), (h c).2⟩
  · refine (θ_run Cert.ReferenceIdeal.defs _ _).mono (fun r h c => ?_) (Cert.ReferenceIdeal.Value.run (F := Ideal) m' g')
    refine ⟨(h c).1.trans ?_, (h c).2⟩
    obtain ⟨h0, h1, h2, h3, h4, h5, h6, h7⟩ := hagree c
    rw [Cert.ReferenceIdeal.Read.val_main_v96_eq, h0, h1, h2, h3, h4, h5, h6, h7]
    exact Cert.ReferenceIdeal.Read.result (Cert.Finite.real m hpre c) _

end Cert.Attention

end
-- ==== Proof.GlobBlock.lean ====
module

public import proofs.«01_k».proof.Proof.Gen.CtxGlobIdeal.Frame
public import Idealize.ShloMosaic.Lib.Pipeline.ValueKit
public import Idealize.ShloMosaic.Lib.Pipeline.ReadBack

/-! The prompt's global attention: what a point of the grid stores, as operations on the blocks it loads. -/

@[expose] public section

set_option maxRecDepth 1000000

noncomputable section

namespace Cert.CtxGlobIdeal.Block

open Cert.CtxGlobIdeal Cert.CtxGlobIdeal.Gen Idealize.ShloMosaic Idealize.ShloMosaic.TcCoe Idealize.SL.Sem

section
variable {F : FTy → Type} [FloatOps F] [Named F]

/-- One head's queries: normalised and scaled. -/
def qhead (x : Vec F S256x128 .f32) (g : Vec F S1x128 .f32) : FVec F S256x128 .bf16 :=
  truncf .bf16 (mulf (k0_pay1 x g) (broadcast S256x128 (Named.named κ "qscale" 0x3E0293EE#32))) bitsLt_bf16_f32

/-- The four heads' queries, one above the other. -/
def qcat (a b c d : FVec F S256x128 .bf16) : FVec F S1024x128 .bf16 :=
  concatenate S1024x128 0 [⟨S256x128, a⟩, ⟨S256x128, b⟩, ⟨S256x128, c⟩, ⟨S256x128, d⟩]
    concatenates_S256x128_S256x128_S256x128_S256x128_S1024x128_d0

/-- The scores of the 256 keys. -/
def score (q : FVec F S1024x128 .bf16) (k : Vec F S256x128 .bf16) : FVec F S1024x256 .f32 :=
  matmul dot_S1024x128_S256x128_S1024x256_1_1_0_0_n_n none q k (constant S1024x256 .f32 0x00000000#32)

/-- Each row's largest score. -/
def rowMax (s : FVec F S1024x256 .f32) : FVec F S1024x1 .f32 :=
  shapeCast S1024x1 (multiReduction .maximumf [1] S1024 s 0xFF800000#32 reduces_S1024x256_S1024 (.inl rfl) rfl) shapeCasts_S1024_S1024x1

/-- The weighted sums of the values' rows, the weights relative to the maximum `m`. -/
def part (s : FVec F S1024x256 .f32) (m : FVec F S1024x1 .f32) (v : Vec F S256x256 .bf16) : FVec F S1024x256 .f32 :=
  matmul dot_S1024x256_S256x256_S1024x256_1_0_0_1_n_n none
    (truncf .bf16 (exp2 (subf s (broadcastTo S1024x256 m broadcasts_S1024x1_S1024x256))) bitsLt_bf16_f32) v
    (constant S1024x256 .f32 0x00000000#32)

/-- The first 128 columns over column 128. -/
def quot (a : FVec F S1024x256 .f32) : FVec F S1024x128 .f32 :=
  divf (extractStridedSlice S1024x128 ![0, 0] a slices_S1024x256_o0_0_S1024x128)
    (broadcastTo S1024x128 (extractStridedSlice S1024x1 ![0, 128] a slices_S1024x256_o0_128_S1024x1) broadcasts_S1024x1_S1024x128)

/-- The attention over the scores `s` and the values. -/
def attend (s : FVec F S1024x256 .f32) (v : Vec F S256x256 .bf16) : FVec F S1024x128 .f32 := quot (part s (rowMax s) v)

/-- A head's rows under its gate. -/
def gate (o : FVec F S256x128 .f32) (z : Vec F S256x128 .f32) : FVec F S256x128 .bf16 :=
  truncf .bf16 (mulf o (mulf z (logistic z))) bitsLt_bf16_f32

theorem cols (g : Fin 4) : ∀ a, (![0, 128 * g.val] : Fin 2 → ℕ) a + (![256, 128] : Fin 2 → ℕ) a ≤ S256x512.size a := by
  have := g.isLt; intro a; fin_cases a <;> simp <;> omega

theorem heads (g : Fin 4) : S1024x128.Slices ![256 * g.val, 0] S256x128 := by
  fin_cases g
  · exact slices_S1024x128_o0_0_S256x128
  · exact slices_S1024x128_o256_0_S256x128
  · exact slices_S1024x128_o512_0_S256x128
  · exact slices_S1024x128_o768_0_S256x128

/-- A head's columns of a block. -/
def tile (x : Vec F S256x512 .f32) (g : Fin 4) : Vec F S256x128 .f32 :=
  View.ld x (Rect.unit (s := S256x512) ![0, 128 * g.val] ![256, 128] (cols g))

/-- A head's rows of the attention. -/
def head (o : FVec F S1024x128 .f32) (g : Fin 4) : FVec F S256x128 .f32 :=
  extractStridedSlice S256x128 ![256 * g.val, 0] o (heads g)

/-- The queries of a point. -/
def queries (x0 : Vec F S256x512 .f32) (x4 : Vec F S1x128 .f32) : FVec F S1024x128 .bf16 :=
  qcat (qhead (tile x0 0) x4) (qhead (tile x0 1) x4) (qhead (tile x0 2) x4) (qhead (tile x0 3) x4)

/-- What a point stores of a head. -/
def piece (x0 x3 : Vec F S256x512 .f32) (x4 : Vec F S1x128 .f32) (k : Vec F S256x128 .bf16) (v : Vec F S256x256 .bf16) (g : Fin 4) :
    View.Piece (Elt F) S256x512 .bf16 :=
  ⟨Rect.unit (s := S256x512) ![0, 128 * g.val] ![256, 128] (cols g),
    gate (head (attend (score (queries x0 x4) k) v) g) (tile x3 g)⟩

/-- What a point stores, the last first. -/
def pieces (x0 x3 : Vec F S256x512 .f32) (x4 : Vec F S1x128 .f32) (k : Vec F S256x128 .bf16) (v : Vec F S256x256 .bf16) :
    List (View.Piece (Elt F) S256x512 .bf16) :=
  ([3, 2, 1, 0] : List (Fin 4)).map (piece x0 x3 x4 k v)

/-- The store into the keys' scratch. -/
def kStores (x1 : Vec F S256x128 .f32) (x5 : Vec F S1x128 .f32) : List (View.Piece (Elt F) S256x128 .bf16) :=
  [⟨Rect.unit ![0, 0] ![256, 128] inb_S256x128_S256x128_0_0, k0_pay3 x1 x5⟩]

/-- The stores into the values' scratch, the last first. -/
def vStores (x2 : Vec F S256x128 .f32) : List (View.Piece (Elt F) S256x256 .bf16) :=
  [⟨Rect.unit ![0, 128] ![256, 128] inb_S256x256_S256x128_0_128, k0_pay6 (k0_pay5 (F := F))⟩,
    ⟨Rect.unit ![0, 0] ![256, 128] inb_S256x256_S256x128_0_0, k0_pay4 x2⟩]
end

variable (c : Dev nD) (i : grid0.Coords) (arg3 : Memref sig .tc .vmem S256x512 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x512 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S256x512 .bf16) (harg9 : arg9.IsWhole) (arg10 : Memref sig .tc .vmem S1x256x128 .f32) (harg10 : arg10.IsWhole) (arg11 : Memref sig .tc .vmem S256x128 .bf16) (harg11 : arg11.IsWhole) (arg12 : Memref sig .tc .vmem S256x256 .bf16) (harg12 : arg12.IsWhole) (hc0 : cond0_0 i)
  (x0 : Vec Ideal S256x512 .f32) (x1 : Vec Ideal S256x128 .f32) (x2 : Vec Ideal S256x128 .f32) (x3 : Vec Ideal S256x512 .f32) (x4 : Vec Ideal S1x128 .f32) (x5 : Vec Ideal S1x128 .f32)

/-- A point stores the keys. -/
theorem outK (y : S1x256x128.Idx) : out0_A_7 c i arg3 harg3 arg4 harg4 arg5 harg5 arg6 harg6 arg7 harg7 arg8 harg8 arg9 harg9 arg10 harg10 arg11 harg11 arg12 harg12 hc0 x0 x1 x2 x3 x4 x5 y
    = k0_pay2 x1 x5 y := by
  frame_out
  rfl

/-- A point stores the heads' pieces over the scratch it has just filled. -/
theorem outY (y : S256x512.Idx) : out0_A_6 c i arg3 harg3 arg4 harg4 arg5 harg5 arg6 harg6 arg7 harg7 arg8 harg8 arg9 harg9 arg10 harg10 arg11 harg11 arg12 harg12 hc0 x0 x1 x2 x3 x4 x5 y
    = View.canon (Val := Elt Ideal) (pieces (F := Ideal) x0 x3 x4
        (arg11.view.readCov (kStores (F := Ideal) x1 x5) (Rect.unit (s := S256x128) ![0, 0] S256x128.size inb_S256x128_S256x128_0_0).toLoadRect)
        (arg12.view.readCov (vStores (F := Ideal) x2) (Rect.unit (s := S256x256) ![0, 0] S256x256.size inb_S256x256_S256x256_0_0).toLoadRect)) y := by
  frame_open
  simp (disch := decide) only [View.read_writes_junk_eq_canon, View.ld_unit_lit', View.readAt_eq_ld, Memref.IsWhole.read_unread]
  refine congrArg (fun l => View.canon (Val := Elt Ideal) l y) ?_
  rfl

end Cert.CtxGlobIdeal.Block

end
-- ==== Proof.Glob.lean ====
module

public import proofs.«01_k».proof.Proof.Head
public import Idealize.ShloMosaic.Lib.Pointwise

/-! The prompt's global attention, as mathematics: of the projected rows and the two weights, the queries, keys, values
    and gates it takes, and the mean it makes of them, a sequence of 256 positions at a time. -/

@[expose] public section

noncomputable section

namespace Cert.Glob

open Idealize.ShloMosaic Cert.Head Cert.Mean

theorem fin_nrm {x g : Fin 128 → EReal} (hx : ∀ k, Fin' (x k)) (hg : ∀ k, Fin' (g k)) (d : Fin 128) : Fin' (nrm x g d) :=
  fin_mul (fin_mul (hx d) (fin_inv hx)) (hg d)

/-- What the attention is computed from. -/
structure Data where
  p : (⟨2, ![36864, 30720]⟩ : Shape).Idx → EReal
  gq : (⟨1, ![128]⟩ : Shape).Idx → EReal
  gk : (⟨1, ![128]⟩ : Shape).Idx → EReal

namespace Data
variable (D : Data)

/-- The row of the projection a sequence's position has. -/
abbrev row (b : Fin 16) (j : Fin 256) : Fin 36864 := ⟨256 * b.val + j.val, by omega⟩

/-- The query of a position, of one of the sixteen heads. -/
def q (b : Fin 16) (h : Fin 16) (j : Fin 256) (d : Fin 128) : EReal :=
  nrm (fun k => D.p (ix2 (row b j) ⟨13312 + (128 * h.val + k.val), by omega⟩)) (fun k => D.gq (ix1 k)) d

/-- The key of a position, of one of the four groups. -/
def k (b : Fin 16) (h : Fin 4) (j : Fin 256) (d : Fin 128) : EReal :=
  nrm (fun k => D.p (ix2 (row b j) ⟨15360 + (128 * h.val + k.val), by omega⟩)) (fun k => D.gk (ix1 k)) d

/-- The value of a position. -/
def v (b : Fin 16) (h : Fin 4) (j : Fin 256) (d : Fin 128) : EReal :=
  D.p (ix2 (row b j) ⟨15872 + (128 * h.val + d.val), by omega⟩)

/-- The gate. -/
def z (b : Fin 16) (h : Fin 16) (j : Fin 256) (d : Fin 128) : EReal :=
  D.p (ix2 (row b j) ⟨16384 + (128 * h.val + d.val), by omega⟩)

/-- What the attention reads is real. -/
structure Real' : Prop where
  p : ∀ (b : Fin 16) (j : Fin 256) (c : Fin 3072), Fin' (D.p (ix2 (row b j) ⟨13312 + c.val, by omega⟩))
  gq : ∀ d, Fin' (D.gq (ix1 d))
  gk : ∀ d, Fin' (D.gk (ix1 d))

/-- The queries, keys and values as reals. -/
def qR (b : Fin 16) (h : Fin 16) (j : Fin 256) (d : Fin 128) : ℝ := (D.q b h j d).toReal
def kR (b : Fin 16) (h : Fin 4) (j : ℕ) (d : Fin 128) : ℝ := if hj : j < 256 then (D.k b h ⟨j, hj⟩ d).toReal else 0
def vR (b : Fin 16) (h : Fin 4) (j : ℕ) (d : Fin 128) : ℝ := if hj : j < 256 then (D.v b h ⟨j, hj⟩ d).toReal else 0

/-- The group a head shares its keys and values with. -/
abbrev group (h : Fin 16) : Fin 4 := ⟨h.val / 4, by omega⟩

/-- The mean of the values under the weights of the scores. -/
def mean (b : Fin 16) (h : Fin 16) (j : Fin 256) (d : Fin 128) : ℝ :=
  avg 256 (fun i => (∑ e, D.qR b h j e * D.kR b (group h) i e) * (Real.sqrt 128)⁻¹) (fun i => D.vR b (group h) i d)

/-- The gated mean. -/
def out (b : Fin 16) (h : Fin 16) (j : Fin 256) (d : Fin 128) : EReal :=
  (D.mean b h j d : EReal) * (D.z b h j d * Ideal.logistic (D.z b h j d))

/-- The result's rows: the gated mean. -/
def y (r : Fin 4096) (c : Fin 2048) : EReal :=
  D.out ⟨r.val / 256, by omega⟩ ⟨c.val / 128, by omega⟩ ⟨r.val % 256, by omega⟩ ⟨c.val % 128, by omega⟩

theorem y_row (b : Fin 16) (h : Fin 16) (j : Fin 256) (d : Fin 128) (r : Fin 4096) (c : Fin 2048)
    (hr : r.val = 256 * b.val + j.val) (hc : c.val = 128 * h.val + d.val) : D.y r c = D.out b h j d := by
  unfold y
  have e1 : (⟨r.val / 256, by omega⟩ : Fin 16) = b := Fin.ext (by dsimp only; omega)
  have e2 : (⟨c.val / 128, by omega⟩ : Fin 16) = h := Fin.ext (by dsimp only; omega)
  have e3 : (⟨r.val % 256, by omega⟩ : Fin 256) = j := Fin.ext (by dsimp only; omega)
  have e4 : (⟨c.val % 128, by omega⟩ : Fin 128) = d := Fin.ext (by dsimp only; omega)
  rw [e1, e2, e3, e4]

variable {D} (hD : D.Real')
include hD

theorem q_eq (b : Fin 16) (h : Fin 16) (j : Fin 256) (d : Fin 128) : D.q b h j d = (D.qR b h j d : EReal) := by
  refine fin_toReal (fin_nrm (fun k => ?_) (fun k => hD.gq k) d)
  exact hD.p b j ⟨128 * h.val + k.val, by omega⟩

theorem k_eq (b : Fin 16) (h : Fin 4) (j : Fin 256) (d : Fin 128) : D.k b h j d = (D.kR b h j.val d : EReal) := by
  rw [kR, dif_pos j.isLt]
  refine fin_toReal (fin_nrm (fun k => ?_) (fun k => hD.gk k) d)
  have := hD.p b j ⟨2048 + (128 * h.val + k.val), by omega⟩
  convert this using 3
  exact Fin.ext (by dsimp only; omega)

theorem v_eq (b : Fin 16) (h : Fin 4) (j : Fin 256) (d : Fin 128) : D.v b h j d = (D.vR b h j.val d : EReal) := by
  rw [vR, dif_pos j.isLt]
  refine fin_toReal ?_
  have := hD.p b j ⟨2560 + (128 * h.val + d.val), by omega⟩
  unfold v
  convert this using 3
  exact Fin.ext (by dsimp only; omega)

end Data

end Cert.Glob

end
-- ==== Proof.GlobRead.lean ====
module

public import proofs.«01_k».proof.Proof.GlobBlock
public import proofs.«01_k».proof.Proof.Glob
public import proofs.«01_k».proof.Proof.HeadRead
public import proofs.«01_k».proof.Proof.Scratch
public import Idealize.ShloMosaic.Lib.Pipeline.ValueKit
public import Idealize.ShloMosaic.Lib.ValueIdx
public import Idealize.ShloMosaic.Lib.Pointwise

/-! The prompt's global attention read at an element: over real queries, keys and values, and values whose column 128 is
    one, a point stores the softmax-weighted means of the values, under the gates. -/

@[expose] public section

set_option maxRecDepth 16384

noncomputable section

namespace Cert.CtxGlobIdeal.Block

open Cert.CtxGlobIdeal Cert.CtxGlobIdeal.Gen Idealize.ShloMosaic Idealize.SL.Sem
open Cert.Head Cert.Mean
open Cert.KernelIdeal.Block (pair_idx wide wide_low wide_one wide_high lane factor sum_part)

theorem normed_apply (x : Vec Ideal S256x128 .f32) (g : Vec Ideal S1x128 .f32) (r : Fin 256) (d : Fin 128) :
    k0_pay1 x g (ix2 r d) = nrm (fun k => x (ix2 r k)) (fun k => g (ix2 0 k)) d := by
  pointwise [k0_pay1]
  rfl

theorem qhead_apply (x : Vec Ideal S256x128 .f32) (g : Vec Ideal S1x128 .f32) (r : Fin 256) (d : Fin 128) :
    qhead x g (ix2 r d)
      = nrm (fun k => x (ix2 r k)) (fun k => g (ix2 0 k)) d * ((((Real.sqrt 128) * (Real.log 2))⁻¹ : ℝ) : EReal) := by
  rw [← normed_apply]
  pointwise [qhead]
  exact congrArg₂ (· * ·) rfl (IdealRules.named_const.ideal_named_scalar _ _ _ _ rfl)

theorem kept_apply (x : Vec Ideal S256x128 .f32) (g : Vec Ideal S1x128 .f32) (r : Fin 256) (d : Fin 128) :
    k0_pay3 x g (ix2 r d) = nrm (fun k => x (ix2 r k)) (fun k => g (ix2 0 k)) d := by
  rw [← normed_apply]
  pointwise [k0_pay3]

theorem shown_apply (x : Vec Ideal S256x128 .f32) (g : Vec Ideal S1x128 .f32) (r : Fin 256) (d : Fin 128) :
    k0_pay2 x g (ix3 0 r d) = nrm (fun k => x (ix2 r k)) (fun k => g (ix2 0 k)) d := by
  rw [← normed_apply]
  pointwise [k0_pay2]

theorem value_apply (x : Vec Ideal S256x128 .f32) (r : Fin 256) (d : Fin 128) : k0_pay4 x (ix2 r d) = x (ix2 r d) := by
  pointwise [k0_pay4]

theorem ones_apply (r : Fin 256) (l : Fin 128) :
    k0_pay6 (k0_pay5 (F := Ideal)) (ix2 r l) = ((if l = 0 then 1 else 0 : ℝ) : EReal) := by
  pointwise [k0_pay6, k0_pay5]
  exact lane l

theorem gate_apply (o : FVec Ideal S256x128 .f32) (z : Vec Ideal S256x128 .f32) (a : Fin 256) (b : Fin 128) :
    gate o z (ix2 a b) = o (ix2 a b) * (z (ix2 a b) * Ideal.logistic (z (ix2 a b))) := by
  pointwise [gate]

theorem head_apply (o : FVec Ideal S1024x128 .f32) (g : Fin 4) (a : Fin 256) (b : Fin 128) :
    Block.head o g (ix2 a b) = o (ix2 ⟨256 * g.val + a.val, by omega⟩ b) := by
  pointwise [Block.head]

theorem qcat_apply (x : Fin 4 → FVec Ideal S256x128 .bf16) (g : Fin 4) (a : Fin 256) (b : Fin 128) :
    qcat (x 0) (x 1) (x 2) (x 3) (ix2 ⟨256 * g.val + a.val, by omega⟩ b) = x g (ix2 a b) := by
  pointwise [qcat]
  fin_cases g <;> simp
  all_goals
    split_ifs
    all_goals first
      | omega
      | exact congrArg (x _) (congrArg (ix2 · b) (Fin.ext (by dsimp only; omega)))

theorem tile_apply (x : Vec Ideal S256x512 .f32) (g : Fin 4) (a : Fin 256) (b : Fin 128) :
    tile x g (ix2 a b) = x (ix2 a ⟨128 * g.val + b.val, by omega⟩) := by
  refine View.ld_unit_apply_of _ _ _ _ _ _ fun e => ?_
  fin_cases e <;> simp [ix2]

theorem score_apply (q : FVec Ideal S1024x128 .bf16) (k : Vec Ideal S256x128 .bf16) (r : Fin 1024) (j : Fin 256) :
    score q k (ix2 r j) = ∑ d : Fin 128, q (ix2 r d) * k (ix2 j d) := by
  pointwise [score]

theorem rowMax_apply (s : FVec Ideal S1024x256 .f32) (r : Fin 1024) :
    rowMax s (ix2 r 0) = (Finset.univ : Finset (Fin 256)).fold max ⊥ fun j => s (ix2 r j) := by
  rw [← ofBits_neg_inf]; pointwise [rowMax]

theorem part_apply (s : FVec Ideal S1024x256 .f32) (m : FVec Ideal S1024x1 .f32) (v : Vec Ideal S256x256 .bf16) (r : Fin 1024) (c : Fin 256) :
    part s m v (ix2 r c) = ∑ j : Fin 256, Ideal.exp2 (s (ix2 r j) - m (ix2 r 0)) * v (ix2 j c) := by
  pointwise [part]; rfl

theorem quot_apply (a : FVec Ideal S1024x256 .f32) (r : Fin 1024) (c : Fin 128) :
    quot a (ix2 r c) = Ideal.div (a (ix2 r ⟨c, by omega⟩)) (a (ix2 r 128)) := by
  pointwise [quot]

/-- The attention of one row is the mean of the values under the weights of its scores. -/
theorem attend_apply (s : FVec Ideal S1024x256 .f32) (v : Vec Ideal S256x256 .bf16) (r : Fin 1024) (S : ℕ → ℝ) (W : ℕ → Fin 256 → ℝ)
    (hs : ∀ j : Fin 256, s (ix2 r j) = (S j : EReal)) (hv : ∀ (i : Fin 256) c, v (ix2 i c) = (W i.val c : EReal)) (hW : ∀ j, W j 128 = 1)
    (c : Fin 128) : attend s v (ix2 r c) = ((avg 256 (fun j => Real.log 2 * S j) (fun j => W j ⟨c, by omega⟩) : ℝ) : EReal) := by
  obtain ⟨μ, hμ⟩ := fold_max (n := 256) (by norm_num) (fun j => s (ix2 r j)) fun j => ⟨_, hs j⟩
  have hm : rowMax s (ix2 r 0) = μ := (rowMax_apply _ r).trans hμ
  have ha : ∀ c, part s (rowMax s) v (ix2 r c) = ((upto 256 S (fun j => W j c) μ : ℝ) : EReal) := fun c => by
    rw [part_apply]
    simp only [hs, hv, hm, sum_part]
    rw [upto, Fin.sum_univ_eq_sum_range (fun j => (2 : ℝ) ^ (S j - μ) * W j c) 256]
  rw [attend, quot_apply, ha, ha]
  simp only [hW]
  rw [Ideal.div_coe (upto_one_ne (by norm_num) _ _), ← EReal.coe_mul, mul_one_div, upto_div]

section
variable (x0 x3 : Vec Ideal S256x512 .f32) (x1 x2 : Vec Ideal S256x128 .f32) (x4 x5 : Vec Ideal S1x128 .f32)
  (k : Vec Ideal S256x128 .bf16) (v : Vec Ideal S256x256 .bf16) (Q : Fin 256 → Fin 4 → Fin 128 → ℝ) (K V : ℕ → Fin 128 → ℝ)

/-- The keys' scratch holds the keys. -/
theorem kStores_apply (i : Fin 256) (d : Fin 128) :
    View.canon (Val := Elt Ideal) (kStores (F := Ideal) x1 x5) (ix2 i d) = nrm (fun k => x1 (ix2 i k)) (fun k => x5 (ix2 0 k)) d := by
  let G : S256x128.Idx → EReal := fun y => k0_pay3 x1 x5 y
  refine (View.canon_apply_of_pieces (Val := Elt Ideal) (S := S256x128) (e := .bf16) G _ ?_ _ ?_).trans (kept_apply x1 x5 i d)
  · intro p hp x
    simp only [kStores, List.mem_cons, List.mem_nil_iff, or_false] at hp
    rcases hp with rfl
    refine congrArg (k0_pay3 x1 x5) (funext fun e => Fin.ext ?_)
    refine Eq.trans ?_ (Rect.idx_unit_val (s := S256x128) ![0, 0] ![256, 128] inb_S256x128_S256x128_0_0 x e).symm
    fin_cases e <;> exact (Nat.zero_add _).symm
  · simp only [kStores, List.exists_mem_cons_iff]
    refine Or.inl (Rect.mem_set_unit.2 fun e => ?_)
    fin_cases e <;> simp [ix2] <;> omega

/-- The values' scratch holds the values and the column of ones. -/
theorem vStores_apply (hV : ∀ (i : Fin 256) d, x2 (ix2 i d) = V i.val d) (i c : Fin 256) :
    View.canon (Val := Elt Ideal) (vStores (F := Ideal) x2) (ix2 i c) = (wide V i.val c : EReal) := by
  refine View.canon_apply_of_pieces (Val := Elt Ideal) (S := S256x256) (e := .bf16)
    (fun y => ((wide V (y 0).val (⟨(y 1).val, (y 1).isLt⟩ : Fin 256) : ℝ) : EReal)) _ ?_ _ ?_
  · intro p hp x
    simp only [vStores, List.mem_cons, List.mem_nil_iff, or_false] at hp
    rcases hp with rfl | rfl
    · obtain ⟨a, b, rfl⟩ := pair_idx (m := 256) (n := 128) x
      refine (ones_apply a b).trans (congrArg _ ?_)
      rw [← wide_high V a.val b (by omega)]
      refine congrArg₂ (wide V) ?_ (Fin.ext ?_)
      · exact ((Rect.idx_unit_val (s := S256x256) ![0, 128] ![256, 128] inb_S256x256_S256x128_0_128 (ix2 a b) 0).trans (Nat.zero_add _)).symm
      · exact (Rect.idx_unit_val (s := S256x256) ![0, 128] ![256, 128] inb_S256x256_S256x128_0_128 (ix2 a b) 1).symm
    · obtain ⟨a, b, rfl⟩ := pair_idx (m := 256) (n := 128) x
      refine (value_apply x2 a b).trans ((hV a b).trans (congrArg _ ?_))
      rw [← wide_low V a.val b]
      refine congrArg₂ (wide V) ?_ (Fin.ext ?_)
      · exact ((Rect.idx_unit_val (s := S256x256) ![0, 0] ![256, 128] inb_S256x256_S256x128_0_0 (ix2 a b) 0).trans (Nat.zero_add _)).symm
      · exact ((Rect.idx_unit_val (s := S256x256) ![0, 0] ![256, 128] inb_S256x256_S256x128_0_0 (ix2 a b) 1).trans (Nat.zero_add _)).symm
  · simp only [vStores, List.exists_mem_cons_iff]
    have hi := i.isLt
    have hc := c.isLt
    by_cases h' : c.val < 128
    · refine Or.inr (Or.inl (Rect.mem_set_unit.2 fun e => ?_))
      fin_cases e <;> simp [ix2] <;> omega
    · refine Or.inl (Rect.mem_set_unit.2 fun e => ?_)
      fin_cases e <;> simp [ix2] <;> omega

/-- The queries of a point at an element. -/
theorem queries_apply (hQ : ∀ (a : Fin 256) (g : Fin 4) d,
      nrm (fun k : Fin 128 => x0 (ix2 a ⟨128 * g.val + k.val, by omega⟩)) (fun k => x4 (ix2 0 k)) d = Q a g d)
    (g : Fin 4) (a : Fin 256) (d : Fin 128) :
    queries x0 x4 (ix2 ⟨256 * g.val + a.val, by omega⟩ d) = ((Q a g d * (Real.sqrt 128 * Real.log 2)⁻¹ : ℝ) : EReal) := by
  rw [queries, qcat_apply (fun g => qhead (tile x0 g) x4), qhead_apply]
  simp only [tile_apply]
  rw [hQ, ← EReal.coe_mul]

/-- What a point stores at an element of its block: the mean of the values under the gate. -/
theorem pieces_apply (hQ : ∀ (a : Fin 256) (g : Fin 4) d,
      nrm (fun k : Fin 128 => x0 (ix2 a ⟨128 * g.val + k.val, by omega⟩)) (fun k => x4 (ix2 0 k)) d = Q a g d)
    (hK : ∀ (i : Fin 256) d, k (ix2 i d) = (K i.val d : EReal)) (hV : ∀ (i : Fin 256) c, v (ix2 i c) = (wide V i.val c : EReal))
    (a : Fin 256) (g : Fin 4) (b : Fin 128) :
    View.canon (Val := Elt Ideal) (pieces (F := Ideal) x0 x3 x4 k v) (ix2 a ⟨128 * g.val + b.val, by omega⟩)
      = ((avg 256 (fun j => (∑ d, Q a g d * K j d) * (Real.sqrt 128)⁻¹) (fun j => V j b) : ℝ) : EReal)
        * (x3 (ix2 a ⟨128 * g.val + b.val, by omega⟩) * Ideal.logistic (x3 (ix2 a ⟨128 * g.val + b.val, by omega⟩))) := by
  let G : S256x512.Idx → EReal := fun y =>
    ((avg 256 (fun j => (∑ d, Q (⟨(y 0).val, (y 0).isLt⟩ : Fin 256) ⟨(y 1).val / 128, by have : (y 1).val < 512 := (y 1).isLt; omega⟩ d * K j d) * (Real.sqrt 128)⁻¹)
      (fun j => V j (⟨(y 1).val % 128, by omega⟩ : Fin 128)) : ℝ) : EReal) * (x3 y * Ideal.logistic (x3 y))
  have hG : ∀ (a : Fin 256) (g : Fin 4) (b : Fin 128), G (ix2 a ⟨128 * g.val + b.val, by omega⟩) = ((avg 256 (fun j => (∑ d, Q a g d * K j d) * (Real.sqrt 128)⁻¹) (fun j => V j b) : ℝ) : EReal)
        * (x3 (ix2 a ⟨128 * g.val + b.val, by omega⟩) * Ideal.logistic (x3 (ix2 a ⟨128 * g.val + b.val, by omega⟩))) := by
    intro a g b
    have h1 : (⟨(128 * g.val + b.val) / 128, by omega⟩ : Fin 4) = g := Fin.ext (by dsimp only; omega)
    have h2 : (⟨(128 * g.val + b.val) % 128, by omega⟩ : Fin 128) = b := Fin.ext (by dsimp only; omega)
    show ((avg 256 (fun j => (∑ d, Q a (⟨(128 * g.val + b.val) / 128, by omega⟩ : Fin 4) d * K j d) * (Real.sqrt 128)⁻¹)
      (fun j => V j (⟨(128 * g.val + b.val) % 128, by omega⟩ : Fin 128)) : ℝ) : EReal) * _ = _
    rw [h1, h2]
  rw [← hG]
  refine View.canon_apply_of_pieces (Val := Elt Ideal) (S := S256x512) (e := .bf16) G _ ?_ _ ?_
  · intro p hp x
    obtain ⟨g, rfl⟩ : ∃ g : Fin 4, p = piece x0 x3 x4 k v g := by
      simp only [pieces, List.mem_map] at hp
      obtain ⟨g, -, rfl⟩ := hp
      exact ⟨g, rfl⟩
    obtain ⟨a, b, rfl⟩ := pair_idx (m := 256) (n := 128) x
    have he : (piece (F := Ideal) x0 x3 x4 k v g).1.emb (ix2 a b) = ix2 a (⟨128 * g.val + b.val, by omega⟩ : Fin 512) := by
      funext e
      refine Fin.ext ((Rect.idx_unit_val (s := S256x512) ![0, 128 * g.val] ![256, 128] (cols g) (ix2 a b) e).trans ?_)
      fin_cases e
      · exact Nat.zero_add _
      · rfl
    refine Eq.trans ?_ (congrArg G he).symm
    rw [hG]
    refine (gate_apply _ _ a b).trans ?_
    rw [tile_apply, head_apply]
    refine congrArg₂ (· * ·) ?_ rfl
    rw [attend_apply _ v _ (fun j => ∑ d, Q a g d * (Real.sqrt 128 * Real.log 2)⁻¹ * K j d) (wide V) (fun j => ?_) hV (wide_one V)]
    · refine congrArg _ (congrArg₂ (avg 256) (funext fun j => ?_) (funext fun j => wide_low V j b))
      rw [← factor, Finset.sum_mul]
      exact congrArg _ (Finset.sum_congr rfl fun d _ => by ring)
    · rw [score_apply, ← coe_sum]
      exact Finset.sum_congr rfl fun d _ => by rw [queries_apply x0 x4 Q hQ, hK, ← EReal.coe_mul]
  · refine ⟨piece (F := Ideal) x0 x3 x4 k v g, ?_,
      (Rect.mem_set_unit (s := S256x512) (off := ![0, 128 * g.val]) (size := ![256, 128]) (inb := cols g)).2 fun e => ?_⟩
    · simp only [pieces, List.mem_map]
      have hm : ∀ g : Fin 4, g ∈ ([3, 2, 1, 0] : List (Fin 4)) := by decide
      exact ⟨_, hm _, rfl⟩
    · have := a.isLt
      fin_cases e <;> simp [ix2] <;> omega
end

end Cert.CtxGlobIdeal.Block

end
-- ==== Proof.GlobArray.lean ====
module

public import proofs.«01_k».proof.Proof.GlobRead
public import Idealize.ShloMosaic.Lib.Pipeline.FrameSuffix

/-! What the prompt's global attention leaves: the blocks its points work on, the arrays at the end of the run, and what
    the lines after it keep of them. -/

@[expose] public section

set_option maxRecDepth 16384

noncomputable section

namespace Cert.CtxGlobIdeal.Block

open Cert.CtxGlobIdeal Cert.CtxGlobIdeal.Gen Idealize.ShloMosaic Idealize.ShloMosaic.TcCoe Idealize.SL.Sem
open Idealize.ShloMosaic.Pipeline (Dat)
open Cert.Head Cert.Mean
open Cert.KernelIdeal.Block (pair_idx wide)

variable (m : (ℓ : Loc nD τ sig) → Buf (Elt Ideal) ℓ)

/-- What the attention is computed from: the arguments. -/
def data (c : Dev nD) : Glob.Data where
  p := m ((c.tc : Thread nD τ).loc main_arg0)
  gq := m ((c.tc : Thread nD τ).loc main_arg1)
  gk := m ((c.tc : Thread nD τ).loc main_arg2)

/-- The blocks a point works on. -/
theorem blocks : ∀ t : Fin cfg0.N, win0_0.index t = ![t.val / 4, 26 + t.val % 4] ∧ win0_1.index t = ![t.val / 4, 120 + t.val % 4]
    ∧ win0_2.index t = ![t.val / 4, 124 + t.val % 4] ∧ win0_3.index t = ![t.val / 4, 32 + t.val % 4]
    ∧ win0_4.index t = ![0, 0] ∧ win0_5.index t = ![0, 0] ∧ win0_6.index t = ![t.val / 4, t.val % 4]
    ∧ win0_7.index t = ![t.val / 4, 0, t.val % 4] :=
  (by decide +kernel : ∀ t : Fin grid0.N, _)

theorem points (t : Fin cfg0.N) : t.val < 64 := t.isLt

/-- The sequence a point works on, the group of heads, and a head of the group. -/
abbrev smp (t : Fin cfg0.N) : Fin 16 := ⟨t.val / 4, by have := points t; omega⟩
abbrev grp (t : Fin cfg0.N) : Fin 4 := ⟨t.val % 4, by omega⟩
abbrev hd (t : Fin cfg0.N) (g : Fin 4) : Fin 16 := ⟨4 * (t.val % 4) + g.val, by omega⟩

theorem blk0 (c : Dev nD) (t : Fin cfg0.N) (a : Fin 256) (g : Fin 4) (k : Fin 128) :
    iblk m c 0 t (ix2 a (⟨128 * g.val + k.val, by omega⟩ : Fin 512))
      = (data m c).p (ix2 (Glob.Data.row (smp t) a) ⟨13312 + (128 * (hd t g).val + k.val), by have := (hd t g).isLt; omega⟩) := by
  unfold data
  blk_point [iblk, V, blocks t]

theorem blk3 (c : Dev nD) (t : Fin cfg0.N) (a : Fin 256) (g : Fin 4) (d : Fin 128) :
    iblk m c 3 t (ix2 a (⟨128 * g.val + d.val, by omega⟩ : Fin 512)) = (data m c).z (smp t) (hd t g) a d := by
  unfold data Glob.Data.z
  blk_point [iblk, V, blocks t]

theorem blk1 (c : Dev nD) (t : Fin cfg0.N) (i : Fin 256) (k : Fin 128) :
    iblk m c 1 t (ix2 i k) = (data m c).p (ix2 (Glob.Data.row (smp t) i) ⟨15360 + (128 * (grp t).val + k.val), by have := (grp t).isLt; omega⟩) := by
  unfold data
  blk_point [iblk, V, blocks t]

theorem blk2 (c : Dev nD) (t : Fin cfg0.N) (i : Fin 256) (d : Fin 128) :
    iblk m c 2 t (ix2 i d) = (data m c).v (smp t) (grp t) i d := by
  unfold data Glob.Data.v
  blk_point [iblk, V, blocks t]

/-- The two weights as rows. -/
theorem weight4 (c : Dev nD) (d : Fin 128) : V m c main_v0 (ix2 0 d) = (data m c).gq (ix1 d) := by
  have h : V m c main_v0 = shapeCast S1x128 (m ((c.tc : Thread nD τ).loc main_arg1)) shapeCasts_S128_S1x128 := by
    unfold V V0
    simp only [List.flatten_cons, List.flatten_nil, List.append_nil]
    after_results
    rfl
  rw [h]
  unfold data
  pointwise

theorem blk4 (c : Dev nD) (t : Fin cfg0.N) (d : Fin 128) : iblk m c 4 t (ix2 0 d) = (data m c).gq (ix1 d) := by
  have he : ((cfg0.win 4).blk t).view.emb (ix2 0 d) = (ix2 0 d : S1x128.Idx) := by
    funext e
    fin_cases e <;> (apply Fin.ext; blk_simp [blocks t])
  exact (congrArg (V m c main_v0) he).trans (weight4 m c d)

theorem weight5 (c : Dev nD) (d : Fin 128) : V m c main_v1 (ix2 0 d) = (data m c).gk (ix1 d) := by
  have h : V m c main_v1 = shapeCast S1x128 (m ((c.tc : Thread nD τ).loc main_arg2)) shapeCasts_S128_S1x128 := by
    unfold V V0
    simp only [List.flatten_cons, List.flatten_nil, List.append_nil]
    after_results
    rfl
  rw [h]
  unfold data
  pointwise

theorem blk5 (c : Dev nD) (t : Fin cfg0.N) (d : Fin 128) : iblk m c 5 t (ix2 0 d) = (data m c).gk (ix1 d) := by
  have he : ((cfg0.win 5).blk t).view.emb (ix2 0 d) = (ix2 0 d : S1x128.Idx) := by
    funext e
    fin_cases e <;> (apply Fin.ext; blk_simp [blocks t])
  exact (congrArg (V m c main_v1) he).trans (weight5 m c d)

/-- The keys of a point. -/
theorem keyed (c : Dev nD) (t : Fin cfg0.N) (i : Fin 256) (d : Fin 128) :
    nrm (fun k : Fin 128 => iblk m c 1 t (ix2 i k)) (fun k => iblk m c 5 t (ix2 0 k)) d = (data m c).k (smp t) (grp t) i d := by
  simp only [blk1, blk5]
  rfl

/-- A column of a block is a head's lane. -/
theorem stack (b : Fin 512) : ∃ (g : Fin 4) (d : Fin 128), b = ⟨128 * g.val + d.val, by omega⟩ :=
  ⟨⟨b.val / 128, by omega⟩, ⟨b.val % 128, by omega⟩, Fin.ext (by dsimp only; omega)⟩

/-- The result's rows, over what the other rows of the array hold. -/
def yArr (c : Dev nD) : Vec Ideal S36864x2048 .bf16 := fun i =>
  if h : (i 0).val < 4096 then (data m c).y ⟨(i 0).val, h⟩ (⟨(i 1).val, (i 1).isLt⟩ : Fin 2048) else V m c main_v2_0 i

/-- The keys of every position, group and lane. -/
def kArr (c : Dev nD) : Vec Ideal S16x256x512 .f32 := fun i =>
  (data m c).k (⟨(i 0).val, (i 0).isLt⟩ : Fin 16) ⟨(i 2).val / 128, by have : (i 2).val < 512 := (i 2).isLt; omega⟩
    (⟨(i 1).val, (i 1).isLt⟩ : Fin 256) ⟨(i 2).val % 128, by omega⟩

theorem kArr_apply (c : Dev nD) (b : Fin 16) (i : Fin 256) (h : Fin 4) (d : Fin 128) :
    kArr m c (ix3 b i (⟨128 * h.val + d.val, by omega⟩ : Fin 512)) = (data m c).k b h i d := by
  have e1 : (⟨(128 * h.val + d.val) / 128, by omega⟩ : Fin 4) = h := Fin.ext (by dsimp only; omega)
  have e2 : (⟨(128 * h.val + d.val) % 128, by omega⟩ : Fin 128) = d := Fin.ext (by dsimp only; omega)
  show (data m c).k b (⟨(128 * h.val + d.val) / 128, by omega⟩ : Fin 4) i (⟨(128 * h.val + d.val) % 128, by omega⟩ : Fin 128) = _
  rw [e1, e2]

/-- The keys' array at the end of the run. -/
theorem finalK (c : Dev nD) : (dats m 0 c).arrAt 7 (cfgs 0).N = kArr m c := by
  refine (dats m 0 c).arrAt_eq_of_covers 7 _ (by decide +kernel) fun t _ y => ?_
  rw [after0_7]
  obtain ⟨a, b, rfl⟩ : ∃ (a : Fin 256) (b : Fin 128), y = (ix3 0 a b : S1x256x128.Idx) :=
    ⟨y 1, y 2, by
      funext e
      fin_cases e
      · exact Fin.ext (by have : (y 0).val < 1 := (y 0).isLt; show (y 0).val = 0; omega)
      all_goals rfl⟩
  have he : ((cfg0.win 7).blk t).view.emb (ix3 0 a b : S1x256x128.Idx)
      = (ix3 (smp t) a (⟨128 * (grp t).val + b.val, by have := (grp t).isLt; omega⟩ : Fin 512) : S16x256x512.Idx) := by
    funext e
    fin_cases e <;> (apply Fin.ext; blk_simp [blocks t]) <;> simp [ix3] <;> omega
  refine Eq.trans ?_ ((congrArg (kArr m c) he).trans (kArr_apply m c ..)).symm
  unfold outsAt0
  dsimp only
  exact (outK ..).trans ((shown_apply ..).trans (keyed m c t a b))

variable (c : Dev nD) (hD : (data m c).Real')
include hD

/-- What a point leaves in its block. -/
theorem point (t : Fin cfg0.N) (a : Fin 256) (g : Fin 4) (b : Fin 128) :
    (outsAt0 m c t).1 (ix2 a (⟨128 * g.val + b.val, by omega⟩ : Fin 512)) = (data m c).out (smp t) (hd t g) a b := by
  have hg : Glob.Data.group (hd t g) = grp t := Fin.ext (by dsimp only; omega)
  unfold outsAt0
  dsimp only
  refine (outY ..).trans ?_
  simp only [View.readCov_eq_canon']
  rw [pieces_apply _ _ _ _ _ (fun a g d => (data m c).qR (smp t) (hd t g) a d) ((data m c).kR (smp t) (grp t)) ((data m c).vR (smp t) (grp t))
    (fun a g d => ?_) (fun i d => ?_) (fun i k => ?_) a g b]
  · rw [blk3, Glob.Data.out, Glob.Data.mean, hg]
  · simp only [blk0, blk4]
    exact Glob.Data.q_eq hD (smp t) (hd t g) a d
  · refine Eq.trans (View.ld_unit_apply_of _ _ _ _ _ (ix2 i d) fun e => ?_) ?_
    · fin_cases e <;> simp [ix2]
    exact (kStores_apply ..).trans ((keyed m c t i d).trans (Glob.Data.k_eq hD ..))
  · refine Eq.trans (View.ld_unit_apply_of _ _ _ _ _ (ix2 i k) fun e => ?_) ?_
    · fin_cases e <;> simp [ix2]
    exact vStores_apply _ _ (fun i d => (blk2 m c t i d).trans (Glob.Data.v_eq hD ..)) i k

/-- The result's array at the end of the run. -/
theorem finalY : (dats m 0 c).arrAt 6 (cfgs 0).N = yArr m c := by
  refine (dats m 0 c).arrAt_eq_of_coversWhere_of_agree 6 _ (fun β => β (0 : Fin _) < 16) (by decide +kernel) (fun t hf y => ?_) (fun j hj => ?_)
  · rw [after0_6]
    obtain ⟨a, b, rfl⟩ := pair_idx (m := 256) (n := 512) y
    obtain ⟨g, b, rfl⟩ := stack b
    have ht := points t
    have he : ((cfg0.win 6).blk t).view.emb (ix2 a (⟨128 * g.val + b.val, by omega⟩ : Fin 512))
        = (ix2 (⟨256 * (t.val / 4) + a.val, by omega⟩ : Fin 36864) (⟨128 * (hd t g).val + b.val, by have := (hd t g).isLt; omega⟩ : Fin 2048) : S36864x2048.Idx) := by
      funext e
      fin_cases e <;> (apply Fin.ext; blk_simp [blocks t]) <;> simp [ix2] <;> omega
    refine (point m c hD t a g b).trans (Eq.symm ((congrArg (yArr m c) he).trans ?_))
    unfold yArr
    rw [dif_pos (by show 256 * (t.val / 4) + a.val < 4096; omega)]
    exact Glob.Data.y_row (data m c) (smp t) (hd t g) a b _ _ rfl rfl
  · have hj' : ¬(j 0).val / 256 < 16 := hj
    have hl : ¬(j 0).val < 4096 := by omega
    rw [A_eq]
    show V m c main_v2_0 j = yArr m c j
    unfold yArr
    rw [dif_neg hl]

end Cert.CtxGlobIdeal.Block

end
-- ==== Proof.GlobRef.lean ====
module

public import proofs.«01_k».proof.Proof.Gen.CtxGlobRefIdeal.Read
public import proofs.«01_k».proof.Proof.Glob
public import proofs.«01_k».proof.Proof.RefMean
public import Idealize.ShloMosaic.Lib.Pipeline.ValueKit
public import Idealize.ShloMosaic.Lib.Pointwise

/-! The prompt's global attention as its reference computes it, read at an element. -/

@[expose] public section

set_option maxRecDepth 16384

noncomputable section

namespace Cert.CtxGlobRefIdeal.Read

open Cert.CtxGlobRefIdeal Cert.CtxGlobRefIdeal.Gen Idealize.ShloMosaic Idealize.SL.Sem
open Cert.Head Cert.Glob Cert.Mean
open Cert.ReferenceIdeal.Read (soft_mean rsqrt_128)

variable (D : Data)

theorem q_raw (b : Fin 16) (j : Fin 256) (h : Fin 16) (k : Fin 128) :
    val_main_v5 (F := Ideal) D.p (ix4 b j h k) = D.p (ix2 (Data.row b j) ⟨13312 + (128 * h.val + k.val), by omega⟩) := by
  pointwise [val_main_v5, val_main_v2, val_main_v1, val_main_v0]
  blk_point []

theorem q_normed (b : Fin 16) (j : Fin 256) (h : Fin 16) (d : Fin 128) :
    val_main_v21 (F := Ideal) D.p D.gq (ix4 b j h d)
      = nrm (fun k => val_main_v5 (F := Ideal) D.p (ix4 b j h k)) (fun k => D.gq (ix1 k)) d := by
  pointwise [val_main_v21, val_main_v20, val_main_v19, val_main_v18, val_main_v17, val_main_v16, val_main_v15, val_main_v14, val_main_v13, val_main_v12, val_main_v11, val_main_v10, val_main_v9, val_main_cst, val_main_cst_0, val_main_cst_1]
  rfl

/-- The reference's queries. -/
theorem q_apply (b : Fin 16) (j : Fin 256) (h : Fin 16) (d : Fin 128) : val_main_v21 (F := Ideal) D.p D.gq (ix4 b j h d) = D.q b h j d := by
  rw [q_normed]
  simp only [q_raw]
  rfl

theorem k_raw (b : Fin 16) (j : Fin 256) (h : Fin 4) (k : Fin 128) :
    val_main_v6 (F := Ideal) D.p (ix4 b j h k) = D.p (ix2 (Data.row b j) ⟨15360 + (128 * h.val + k.val), by omega⟩) := by
  pointwise [val_main_v6, val_main_v3, val_main_v1, val_main_v0]
  blk_point []

theorem k_normed (b : Fin 16) (j : Fin 256) (h : Fin 4) (d : Fin 128) :
    val_main_v34 (F := Ideal) D.p D.gk (ix4 b j h d)
      = nrm (fun k => val_main_v6 (F := Ideal) D.p (ix4 b j h k)) (fun k => D.gk (ix1 k)) d := by
  pointwise [val_main_v34, val_main_v33, val_main_v32, val_main_v31, val_main_v30, val_main_v29, val_main_v28, val_main_v27, val_main_v26, val_main_v25, val_main_v24, val_main_v23, val_main_v22, val_main_cst_2, val_main_cst_3, val_main_cst_4]
  rfl

/-- Its keys, which are a result. -/
theorem k_apply (b : Fin 16) (j : Fin 256) (h : Fin 4) (d : Fin 128) : val_main_v34 (F := Ideal) D.p D.gk (ix4 b j h d) = D.k b h j d := by
  rw [k_normed]
  simp only [k_raw]
  rfl

/-- Its values. -/
theorem v_apply (b : Fin 16) (j : Fin 256) (h : Fin 4) (d : Fin 128) : val_main_v7 (F := Ideal) D.p (ix4 b j h d) = D.v b h j d := by
  unfold Data.v
  pointwise [val_main_v7, val_main_v4, val_main_v1, val_main_v0]
  blk_point []

/-- Its gates. -/
theorem z_apply (b : Fin 16) (j : Fin 256) (h : Fin 16) (d : Fin 128) :
    val_main_v8 (F := Ideal) D.p (ix3 b j (⟨128 * h.val + d.val, by omega⟩ : Fin 2048)) = D.z b h j d := by
  unfold Data.z
  pointwise [val_main_v8, val_main_v1, val_main_v0]
  blk_point []

/-- Its scores. -/
theorem s_apply (b : Fin 16) (h g : Fin 4) (i : Fin 256) (j : Fin 256) :
    val_main_v40 (F := Ideal) D.p D.gq D.gk (ix5 b h g i j)
      = (∑ d, D.k b h j d * D.q b ⟨4 * h.val + g.val, by omega⟩ i d) * Ideal.rsqrt (Ideal.ofBits .f32 0x43000000#32) := by
  simp only [← k_apply, ← q_apply]
  pointwise [val_main_v40, val_main_v39, val_main_v38, val_main_v37, val_main_v36, val_main_v35, val_main_cst_5]
  blk_point []

/-- Its gated output, by head and position. -/
theorem o_apply (b : Fin 16) (h g : Fin 4) (i : Fin 256) (d : Fin 128) :
    val_main_v56 (F := Ideal) D.p D.gq D.gk (ix3 b i (⟨128 * (4 * h.val + g.val) + d.val, by omega⟩ : Fin 2048))
      = (∑ j, D.v b h j d * val_main_v51 (F := Ideal) D.p D.gq D.gk (ix5 b h g i j))
        * (D.z b ⟨4 * h.val + g.val, by omega⟩ i d * Ideal.logistic (D.z b ⟨4 * h.val + g.val, by omega⟩ i d)) := by
  rw [← z_apply]
  simp only [← v_apply, Ideal.logistic]
  pointwise [val_main_v56, val_main_v55, val_main_v54, val_main_v53, val_main_v52, val_main_call0_v5, val_main_call0_v4, val_main_call0_v3,
    val_main_call0_v2, val_main_call0_v1, val_main_call0_v0, val_main_call0_cst, val_main_call0_cst_0]

/-- Its result, by row and column. -/
theorem y_apply (r : Fin 4096) (k : Fin 2048) :
    val_main_v58 (F := Ideal) D.p D.gq D.gk (ix2 r k)
      = val_main_v56 (F := Ideal) D.p D.gq D.gk (ix3 (⟨r.val / 256, by omega⟩ : Fin 16) (⟨r.val % 256, by omega⟩ : Fin 256) k) := by
  pointwise [val_main_v58, val_main_v57]

/-- The maximum of the scores of a query. -/
theorem m_apply (b : Fin 16) (h g : Fin 4) (i : Fin 256) :
    val_main_v41 (F := Ideal) D.p D.gq D.gk (ix4 b h g i)
      = Finset.univ.fold max (Ideal.ofBits .f32 0xFF800000#32) (fun j : Fin 256 => val_main_v40 (F := Ideal) D.p D.gq D.gk (ix5 b h g i j)) := by
  pointwise [val_main_v41, val_main_cst_6]

/-- What is subtracted from the scores. -/
theorem top_apply (b : Fin 16) (h g : Fin 4) (i : Fin 256) :
    val_main_v43 (F := Ideal) D.p D.gq D.gk (ix4 b h g i)
      = max (Ideal.ofBits .f32 0xFF800000#32) (val_main_v41 (F := Ideal) D.p D.gq D.gk (ix4 b h g i)) := by
  rw [val_main_v43_apply, val_main_v42_apply, val_main_cst_7_apply]
  generalize val_main_v41 (F := Ideal) D.p D.gq D.gk (ix4 b h g i) = x
  rfl

theorem wide_apply (b : Fin 16) (h g : Fin 4) (i : Fin 256) (j : Fin 256) :
    val_main_v45 (F := Ideal) D.p D.gq D.gk (ix5 b h g i j) = val_main_v43 (F := Ideal) D.p D.gq D.gk (ix4 b h g i) := by
  pointwise [val_main_v45, val_main_v44]

/-- The exponential of a score. -/
theorem e_apply (b : Fin 16) (h g : Fin 4) (i : Fin 256) (j : Fin 256) :
    val_main_v47 (F := Ideal) D.p D.gq D.gk (ix5 b h g i j)
      = Ideal.exp (val_main_v40 (F := Ideal) D.p D.gq D.gk (ix5 b h g i j) - val_main_v43 (F := Ideal) D.p D.gq D.gk (ix4 b h g i)) := by
  rw [← wide_apply D b h g i j]
  pointwise [val_main_v47, val_main_v46]

/-- Their sum. -/
theorem sum_apply (b : Fin 16) (h g : Fin 4) (i : Fin 256) :
    val_main_v48 (F := Ideal) D.p D.gq D.gk (ix4 b h g i) = ∑ j : Fin 256, val_main_v47 (F := Ideal) D.p D.gq D.gk (ix5 b h g i j) := by
  rw [val_main_v48_apply]
  pointwise [val_main_cst_8]
  refine Finset.sum_congr rfl fun k _ => congrArg _ ?_
  funext a
  rcases a with ⟨a, ha⟩
  have ha' : a < 5 := ha
  interval_cases a <;> rfl

/-- The weight of a key. -/
theorem w_apply (b : Fin 16) (h g : Fin 4) (i : Fin 256) (j : Fin 256) :
    val_main_v51 (F := Ideal) D.p D.gq D.gk (ix5 b h g i j)
      = Ideal.div (val_main_v47 (F := Ideal) D.p D.gq D.gk (ix5 b h g i j)) (val_main_v48 (F := Ideal) D.p D.gq D.gk (ix4 b h g i)) := by
  pointwise [val_main_v51, val_main_v50, val_main_v49]

variable {D} (hD : D.Real')
include hD

/-- A score is real. -/
theorem s_eq (b : Fin 16) (h g : Fin 4) (i : Fin 256) (j : Fin 256) :
    val_main_v40 (F := Ideal) D.p D.gq D.gk (ix5 b h g i j)
      = (((∑ e, D.qR b ⟨4 * h.val + g.val, by omega⟩ i e * D.kR b h j.val e) * (Real.sqrt 128)⁻¹ : ℝ) : EReal) := by
  rw [s_apply, rsqrt_128, EReal.coe_mul, ← coe_sum]
  refine congrArg (· * _) (Finset.sum_congr rfl fun d _ => ?_)
  rw [Data.k_eq hD, Data.q_eq hD, mul_comm, ← EReal.coe_mul]

/-- The gated mean of a head. -/
theorem out_eq (b : Fin 16) (h g : Fin 4) (i : Fin 256) (d : Fin 128) :
    val_main_v56 (F := Ideal) D.p D.gq D.gk (ix3 b i (⟨128 * (4 * h.val + g.val) + d.val, by omega⟩ : Fin 2048))
      = D.out b ⟨4 * h.val + g.val, by omega⟩ i d := by
  have hg : Data.group ⟨4 * h.val + g.val, by omega⟩ = h := Fin.ext (by dsimp only; omega)
  rw [o_apply, Data.out, Data.mean, hg]
  refine congrArg (· * _) (soft_mean (by norm_num) _ _ (fun j => val_main_v40 (F := Ideal) D.p D.gq D.gk (ix5 b h g i j)) _ _
    (val_main_v43 (F := Ideal) D.p D.gq D.gk (ix4 b h g i)) (s_eq hD b h g i) (fun j => Data.v_eq hD b h j d) ?_ fun j => ?_)
  · rw [top_apply, m_apply, ofBits_neg_inf]
  · rw [w_apply, sum_apply, e_apply]
    exact congrArg _ (Finset.sum_congr rfl fun x _ => e_apply ..)

/-- The reference's result at an element. -/
theorem result (r : Fin 4096) (k : Fin 2048) : val_main_v58 (F := Ideal) D.p D.gq D.gk (ix2 r k) = D.y r k := by
  have := out_eq hD ⟨r.val / 256, by omega⟩ ⟨k.val / 512, by omega⟩ ⟨k.val / 128 % 4, by omega⟩ ⟨r.val % 256, by omega⟩ ⟨k.val % 128, by omega⟩
  rw [show (⟨128 * (4 * (k.val / 512) + k.val / 128 % 4) + k.val % 128, by omega⟩ : Fin 2048) = k from Fin.ext (by dsimp only; omega)] at this
  rw [y_apply, this]
  exact (Data.y_row D _ _ _ _ r k (by dsimp only; omega) (by dsimp only; omega)).symm

end Cert.CtxGlobRefIdeal.Read

end
-- ==== Proof.GlobValue.lean ====
/- The prompt's global attention: what the lines after the region keep of its arrays, and that they are what the reference
   computes, given that what it reads is finite. -/
module

public import proofs.«01_k».proof.Proof.GlobArray
public import proofs.«01_k».proof.Proof.GlobRef
public import proofs.«01_k».proof.Proof.Finite
public import proofs.«01_k».proof.Proof.Gen.Pre_finite_glob
public import proofs.«01_k».proof.Proof.Gen.CtxGlobRefIdeal.Run
public import proofs.«01_k».proof.Defs

@[expose] public section

set_option maxRecDepth 16384

noncomputable section

namespace Cert.CtxGlobIdeal.Block

open Cert.CtxGlobIdeal Cert.CtxGlobIdeal.Gen Idealize.ShloMosaic Idealize.ShloMosaic.TcCoe Idealize.SL.Sem
open Cert.Head Cert.Finite

variable (m : (ℓ : Loc nD τ sig) → Buf (Elt Ideal) ℓ)

/-- The precondition, element by element. -/
theorem real (h : Cert.Pre_CtxGlobIdeal_finite_glob m) (c : Dev nD) : (data m c).Real' := by
  have h := congrFun (h c) (Shape.Idx.first Cert.Pre_finite_glob.Gen.h_S_)
  dsimp only [Cert.Pre_finite_glob.fn] at h
  obtain ⟨h, hgk⟩ := both h
  obtain ⟨hp, hgq⟩ := both h
  refine ⟨fun b j k => ?_, fun d => fin_of_all _ _ _ _ _ hgq _, fun d => fin_of_all _ _ _ _ _ hgk _⟩
  have := fin_of_all _ _ _ _ _ hp (ix2 (⟨256 * b.val + j.val, by omega⟩ : Fin 4096) k)
  revert this
  pointwise []
  exact id

/-- The two results: the gated means, and the keys. -/
def yOut (D : Glob.Data) : FVec Ideal S4096x2048 .bf16 := fun i => D.y (⟨(i 0).val, (i 0).isLt⟩ : Fin 4096) (⟨(i 1).val, (i 1).isLt⟩ : Fin 2048)
def kOut (D : Glob.Data) : FVec Ideal S16x256x4x128 .f32 := fun i =>
  D.k (⟨(i 0).val, (i 0).isLt⟩ : Fin 16) (⟨(i 2).val, (i 2).isLt⟩ : Fin 4) (⟨(i 1).val, (i 1).isLt⟩ : Fin 256) (⟨(i 3).val, (i 3).isLt⟩ : Fin 128)

/-- What the region leaves, read by the lines after it. -/
theorem leftK (c : Dev nD) : Pipeline.withArrays (cfgs 0).spec c (V0 m c) (fun w => (dats m 0 c).arrAt w (cfgs 0).N) (Proc.devRef .tc main_v2_1)
    = kArr m c :=
  (Pipeline.withArrays_arr_shared spec0 c _ _ ((dats m 0 c).arrAt_sharedIn sharedIn0 (V0 m c) (A_eq m c) _) 7).trans (finalK m c)

theorem leftY (c : Dev nD) (hD : (data m c).Real') :
    Pipeline.withArrays (cfgs 0).spec c (V0 m c) (fun w => (dats m 0 c).arrAt w (cfgs 0).N) (Proc.devRef .tc main_v2_0) = yArr m c :=
  (Pipeline.withArrays_arr_shared spec0 c _ _ ((dats m 0 c).arrAt_sharedIn sharedIn0 (V0 m c) (A_eq m c) _) 6).trans (finalY m c hD)

/-- What the lines after the region leave: the keys. -/
theorem tailK (c : Dev nD) : Pipeline.afterTail₀ cfgs (dats m) 0 (V0 m) [hostOps1] c main_v4 = kOut (data m c) := by
  have h : Pipeline.afterTail₀ cfgs (dats m) 0 (V0 m) [hostOps1] c main_v4 = shapeCast S16x256x4x128 (kArr m c) shapeCasts_S16x256x512_S16x256x4x128 := by
    rw [← leftK m c]
    unfold Pipeline.afterTail₀
    simp only [List.flatten_cons, List.flatten_nil, List.append_nil]
    after_results
    rfl
  rw [h]
  funext i
  obtain ⟨b, j, g, d, rfl⟩ : ∃ (b : Fin 16) (j : Fin 256) (g : Fin 4) (d : Fin 128), i = ix4 b j g d :=
    ⟨i 0, i 1, i 2, i 3, by funext e; fin_cases e <;> rfl⟩
  refine Eq.trans ?_ (kArr_apply m c b j g d)
  pointwise
  exact congrArg (fun k => kArr m c (ix3 b j k)) (Fin.ext (by dsimp only; omega))

/-- What the lines after the region leave: the gated means. -/
theorem tailY (c : Dev nD) (hD : (data m c).Real') : Pipeline.afterTail₀ cfgs (dats m) 0 (V0 m) [hostOps1] c main_v3 = yOut (data m c) := by
  have h : Pipeline.afterTail₀ cfgs (dats m) 0 (V0 m) [hostOps1] c main_v3
      = extractStridedSlice S4096x2048 ![0, 0] (yArr m c) slices_S36864x2048_S4096x2048_0_0 := by
    rw [← leftY m c hD]
    unfold Pipeline.afterTail₀
    simp only [List.flatten_cons, List.flatten_nil, List.append_nil]
    after_results
  rw [h]
  funext i
  obtain ⟨r, k, rfl⟩ : ∃ (r : Fin 4096) (k : Fin 2048), i = ix2 r k := ⟨i 0, i 1, by funext e; fin_cases e <;> rfl⟩
  have e : extractStridedSlice S4096x2048 ![0, 0] (yArr m c) slices_S36864x2048_S4096x2048_0_0 (ix2 r k)
      = yArr m c (ix2 (⟨r.val, by omega⟩ : Fin 36864) k) := by
    pointwise
  rw [e]
  unfold yArr
  exact dif_pos r.isLt

/-- The kernel's results and the reference's are the same gated means and keys. -/
theorem algebraic : Cert.algebraic_CtxGlobIdeal_CtxGlobRefIdeal_pre_finite_glob := by
  intro m g m' g' hpre hagree
  refine ⟨fun c => yOut (data m c), fun c => kOut (data m c), ?_, ?_⟩
  · refine (θ_run Cert.CtxGlobIdeal.defs _ _).mono (fun r h c => ?_) (θ_run_and (run_main m g) (unchanged m g))
    exact ⟨((h.1 c).2 main_v3 (Pipeline.mem_restRefs_of main_v3 (by decide) (by decide))).trans (tailY m c (real m hpre c)),
      ((h.1 c).2 main_v4 (Pipeline.mem_restRefs_of main_v4 (by decide) (by decide))).trans (tailK m c), h.2 c⟩
  · refine (θ_run Cert.CtxGlobRefIdeal.defs _ _).mono (fun r h c => ?_) (Cert.CtxGlobRefIdeal.Value.run (F := Ideal) m' g')
    obtain ⟨h0, h1, h2⟩ := hagree c
    refine ⟨(h c).1.trans ?_, (h c).2.1.trans ?_, (h c).2.2⟩
    · rw [Cert.CtxGlobRefIdeal.Read.val_main_v58_eq, h0, h1, h2]
      funext i
      obtain ⟨r, k, rfl⟩ : ∃ (r : Fin 4096) (k : Fin 2048), i = ix2 r k := ⟨i 0, i 1, by funext e; fin_cases e <;> rfl⟩
      exact Cert.CtxGlobRefIdeal.Read.result (real m hpre c) r k
    · rw [Cert.CtxGlobRefIdeal.Read.val_main_v34_eq, h0, h2]
      funext i
      obtain ⟨b, j, h, d, rfl⟩ : ∃ (b : Fin 16) (j : Fin 256) (h : Fin 4) (d : Fin 128), i = ix4 b j h d :=
        ⟨i 0, i 1, i 2, i 3, by funext e; fin_cases e <;> rfl⟩
      exact Cert.CtxGlobRefIdeal.Read.k_apply (data m c) b j h d

end Cert.CtxGlobIdeal.Block

end
-- ==== Proof.WinBlock.lean ====
module

public import proofs.«01_k».proof.Proof.Gen.CtxWinIdeal.Frame
public import Idealize.ShloMosaic.Lib.Pipeline.ValueKit
public import Idealize.ShloMosaic.Lib.Pipeline.ReadBack

/-! The prompt's attention with a sink: what a point of the grid stores, as operations on the blocks it loads. -/

@[expose] public section

set_option maxRecDepth 1000000

noncomputable section

namespace Cert.CtxWinIdeal.Block

open Cert.CtxWinIdeal Cert.CtxWinIdeal.Gen Idealize.ShloMosaic Idealize.ShloMosaic.TcCoe Idealize.SL.Sem

section
variable {F : FTy → Type} [FloatOps F] [Named F]

/-- The number of each row. -/
def rows : IVec S1024x1 32 := iota .tc S1024x1 32 [0] iota_S1024x1_d0_w32

/-- Each row's sink, of its head's. -/
def sinks (a b c d : Elt F .f32) : FVec F S1024x1 .f32 := k0_pay12 rows (k0_pay10 a) k0_pay11 b c d

/-- Each row's maximum: of its scores and its sink. -/
def top (q : FVec F S1024x128 .bf16) (a b c d : Elt F .f32) (k : Vec F S256x128 .bf16) : FVec F S1024x1 .f32 :=
  k0_pay15 q rows (k0_pay10 a) k0_pay11 b c d k

/-- The weighted sums of the values' rows, the weights relative to the maximum. -/
def part (q : FVec F S1024x128 .bf16) (a b c d : Elt F .f32) (k : Vec F S256x128 .bf16) (v : Vec F S256x256 .bf16) : FVec F S1024x256 .f32 :=
  k0_pay16 q rows (k0_pay10 a) k0_pay11 b c d k v

/-- The attention of the four heads, one above the other. -/
def attend (q : FVec F S1024x128 .bf16) (a b c d : Elt F .f32) (k : Vec F S256x128 .bf16) (v : Vec F S256x256 .bf16) : FVec F S1024x128 .f32 :=
  k0_pay1 (sinks a b c d) k0_pay13 (top q a b c d k) (part q a b c d k v)

/-- A head's rows under its gate. -/
def gate (o : FVec F S256x128 .f32) (z : Vec F S256x128 .f32) : FVec F S256x128 .bf16 :=
  truncf .bf16 (mulf o (mulf z (logistic z))) bitsLt_bf16_f32

theorem cols (g : Fin 4) : ∀ a, (![0, 128 * g.val] : Fin 2 → ℕ) a + (![256, 128] : Fin 2 → ℕ) a ≤ S256x512.size a := by
  have := g.isLt; intro a; fin_cases a <;> simp <;> omega

theorem heads (g : Fin 4) : S1024x128.Slices ![256 * g.val, 0] S256x128 := by
  fin_cases g
  · exact slices_S1024x128_o0_0_S256x128
  · exact slices_S1024x128_o256_0_S256x128
  · exact slices_S1024x128_o512_0_S256x128
  · exact slices_S1024x128_o768_0_S256x128

/-- A head's columns of a block. -/
def tile (x : Vec F S256x512 .f32) (g : Fin 4) : Vec F S256x128 .f32 :=
  View.ld x (Rect.unit (s := S256x512) ![0, 128 * g.val] ![256, 128] (cols g))

/-- A head's rows of the attention. -/
def head (o : FVec F S1024x128 .f32) (g : Fin 4) : FVec F S256x128 .f32 :=
  extractStridedSlice S256x128 ![256 * g.val, 0] o (heads g)

/-- The queries of a point. -/
def queries (x1 : Vec F S256x512 .f32) : FVec F S1024x128 .bf16 := k0_pay9 (tile x1 0) (tile x1 1) (tile x1 2) (tile x1 3)

/-- The sink a point reads for a head. -/
def sinkAt (i : grid0.Coords) (x0 : Vec F S16 .f32) (g : Fin 4) : Elt F .f32 :=
  View.ld x0 (Rect.unit (s := S16) (k0_off1 i (BitVec.ofNat 32 g.val)) S1.size (k0_off1_inb i g)) (Shape.Idx.first (show 0 < S1.numel by decide))

/-- What a point stores of a head. -/
def piece (i : grid0.Coords) (x0 : Vec F S16 .f32) (x1 x4 : Vec F S256x512 .f32) (k : Vec F S256x128 .bf16) (v : Vec F S256x256 .bf16) (g : Fin 4) :
    View.Piece (Elt F) S256x512 .bf16 :=
  ⟨Rect.unit (s := S256x512) ![0, 128 * g.val] ![256, 128] (cols g),
    gate (head (attend (queries x1) (sinkAt i x0 0) (sinkAt i x0 1) (sinkAt i x0 2) (sinkAt i x0 3) k v) g) (tile x4 g)⟩

/-- What a point stores, the last first. -/
def pieces (i : grid0.Coords) (x0 : Vec F S16 .f32) (x1 x4 : Vec F S256x512 .f32) (k : Vec F S256x128 .bf16) (v : Vec F S256x256 .bf16) :
    List (View.Piece (Elt F) S256x512 .bf16) :=
  ([3, 2, 1, 0] : List (Fin 4)).map (piece i x0 x1 x4 k v)

/-- The store into the keys' scratch. -/
def kStores (x2 : Vec F S256x128 .f32) : List (View.Piece (Elt F) S256x128 .bf16) :=
  [⟨Rect.unit ![0, 0] ![256, 128] inb_S256x128_S256x128_0_0, k0_pay6 x2⟩]

/-- The stores into the values' scratch, the last first. -/
def vStores (x3 : Vec F S256x128 .f32) : List (View.Piece (Elt F) S256x256 .bf16) :=
  [⟨Rect.unit ![0, 128] ![256, 128] inb_S256x256_S256x128_0_128, k0_pay8 (F := F)⟩,
    ⟨Rect.unit ![0, 0] ![256, 128] inb_S256x256_S256x128_0_0, k0_pay7 x3⟩]
end

variable (c : Dev nD) (i : grid0.Coords) (arg3 : Memref sig .tc .smem S16 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x128 .bf16) (harg9 : arg9.IsWhole) (arg10 : Memref sig .tc .vmem S256x256 .bf16) (harg10 : arg10.IsWhole) (hc0 : cond0_0 i)
    (x0 : Vec Ideal S16 .f32) (x1 : Vec Ideal S256x512 .f32) (x2 : Vec Ideal S256x128 .f32) (x3 : Vec Ideal S256x128 .f32) (x4 : Vec Ideal S256x512 .f32)

/-- A point stores the heads' pieces over the scratch it has just filled. -/
theorem outY (y : S256x512.Idx) : out0_A_5 c i arg3 harg3 arg4 harg4 arg5 harg5 arg6 harg6 arg7 harg7 arg8 harg8 arg9 harg9 arg10 harg10 hc0 x0 x1 x2 x3 x4 y
    = View.canon (Val := Elt Ideal) (pieces (F := Ideal) i x0 x1 x4
        (arg9.view.readCov (kStores (F := Ideal) x2) (Rect.unit (s := S256x128) ![0, 0] S256x128.size inb_S256x128_S256x128_0_0).toLoadRect)
        (arg10.view.readCov (vStores (F := Ideal) x3) (Rect.unit (s := S256x256) ![0, 0] S256x256.size inb_S256x256_S256x256_0_0).toLoadRect)) y := by
  frame_open
  simp (disch := decide) only [View.read_writes_junk_eq_canon, View.ld_unit_lit', View.readAt_eq_ld, Memref.IsWhole.read_unread]
  refine congrArg (fun l => View.canon (Val := Elt Ideal) l y) ?_
  rfl

end Cert.CtxWinIdeal.Block

end
-- ==== Proof.Win.lean ====
module

public import proofs.«01_k».proof.Proof.Head
public import Idealize.ShloMosaic.Lib.Pointwise

/-! The prompt's attention with a sink, as mathematics: of the projected rows and the sinks, the queries, keys, values and
    gates it takes, and the mean it makes of them. The sink is one more key, before the others, whose value is zero. -/

@[expose] public section

noncomputable section

namespace Cert.Win

open Idealize.ShloMosaic Cert.Head Cert.Mean

/-- A number put before a sequence. -/
def cons (x : ℝ) (f : ℕ → ℝ) (j : ℕ) : ℝ := if j = 0 then x else f (j - 1)

theorem cons_zero (x : ℝ) (f : ℕ → ℝ) : cons x f 0 = x := if_pos rfl
theorem cons_succ (x : ℝ) (f : ℕ → ℝ) (j : ℕ) : cons x f (j + 1) = f j := by simp [cons]
theorem cons_add (x : ℝ) (f : ℕ → ℝ) (j : ℕ) : cons x f (1 + j) = f j := by simp [cons]

/-- One before ones. -/
theorem cons_one (f : ℕ → ℝ) (hf : ∀ j, f j = 1) : cons 1 f = fun _ => 1 := by
  funext j
  rw [cons]
  split_ifs
  · rfl
  · exact hf _

/-- The sums relative to the sink, carried to another maximum, and the other keys' added. -/
theorem upto_cons (k : ℕ) (σ : ℝ) (S : ℕ → ℝ) (w : ℝ) (W : ℕ → ℝ) (ν : ℝ) :
    (2 : ℝ) ^ (σ - ν) * w + ∑ i : Fin k, (2 : ℝ) ^ (S i - ν) * W i = upto (1 + k) (cons σ S) (cons w W) ν := by
  rw [← upto_add 1 k (cons σ S) (cons w W) σ ν]
  simp only [cons_add]
  refine congrArg (· + _) (congrArg _ ?_)
  simp [upto, cons_zero]

/-- Real scores and a sink, the largest subtracted, exponentiated and divided by their sum, weigh real values to the mean
    in which the sink has the value zero. -/
theorem sink_mean {n : ℕ} (hn : 0 < n) (T W : ℕ → ℝ) (σ : ℝ) (s v w : Fin n → EReal) (M : EReal) (hs : ∀ j, s j = (T j : EReal))
    (hv : ∀ j, v j = (W j : EReal)) (hM : M = max ((Finset.univ : Finset (Fin n)).fold max ⊥ s) (σ : EReal))
    (hw : ∀ j, w j = Ideal.div (Ideal.exp (s j - M)) ((∑ x, Ideal.exp (s x - M)) + Ideal.exp ((σ : EReal) - M))) :
    ∑ j, v j * w j = (avg (n + 1) (cons σ T) (cons 0 W) : EReal) := by
  obtain ⟨μ₀, hμ⟩ := fold_max hn s fun j => ⟨_, hs j⟩
  obtain ⟨μ, rfl⟩ : ∃ μ : ℝ, M = μ := ⟨max μ₀ σ, by rw [hM, hμ]; exact (EReal.coe_strictMono.monotone.map_max).symm⟩
  have he : ∀ j : Fin n, Ideal.exp (s j - μ) = (Real.exp (T j - μ) : EReal) := fun j => by
    rw [hs, ← EReal.coe_sub, Ideal.exp_coe]
  have hσ : Ideal.exp ((σ : EReal) - μ) = (Real.exp (σ - μ) : EReal) := by rw [← EReal.coe_sub, Ideal.exp_coe]
  have hpos : 0 < (∑ j : Fin n, Real.exp (T j - μ)) + Real.exp (σ - μ) :=
    add_pos_of_nonneg_of_pos (Finset.sum_nonneg fun _ _ => (Real.exp_pos _).le) (Real.exp_pos _)
  have hsum : ∑ i : Fin (n + 1), Real.exp (cons σ T i - μ) = (∑ j : Fin n, Real.exp (T j - μ)) + Real.exp (σ - μ) := by
    rw [Fin.sum_univ_succ, add_comm]
    simp only [Fin.val_succ, cons_succ, Fin.val_zero, cons_zero]
  rw [← avg_shift (n + 1) (cons σ T) (cons 0 W) μ, hsum, Fin.sum_univ_succ]
  simp only [Fin.val_succ, cons_succ, Fin.val_zero, cons_zero, mul_zero, zero_add]
  rw [← coe_sum]
  refine Finset.sum_congr rfl fun j _ => ?_
  rw [hw, hv]
  simp only [he, hσ]
  rw [coe_sum, ← EReal.coe_add, Ideal.div_coe hpos.ne', ← EReal.coe_mul, ← EReal.coe_mul]
  exact congrArg _ (by ring)

/-- What the attention is computed from. -/
structure Data where
  p : (⟨2, ![36864, 30720]⟩ : Shape).Idx → EReal
  sink : (⟨1, ![16]⟩ : Shape).Idx → EReal

namespace Data
variable (D : Data)

/-- The row of the projection a sequence's position has. -/
abbrev row (b : Fin 16) (j : Fin 256) : Fin 36864 := ⟨256 * b.val + j.val, by omega⟩

/-- The query of a position, of one of the sixteen heads. -/
def q (b : Fin 16) (h : Fin 16) (j : Fin 256) (d : Fin 128) : EReal :=
  D.p (ix2 (row b j) ⟨8192 + (128 * h.val + d.val), by omega⟩)

/-- The key of a position, of one of the four groups. -/
def k (b : Fin 16) (h : Fin 4) (j : Fin 256) (d : Fin 128) : EReal :=
  D.p (ix2 (row b j) ⟨10240 + (128 * h.val + d.val), by omega⟩)

/-- The value of a position. -/
def v (b : Fin 16) (h : Fin 4) (j : Fin 256) (d : Fin 128) : EReal :=
  D.p (ix2 (row b j) ⟨10752 + (128 * h.val + d.val), by omega⟩)

/-- The gate. -/
def z (b : Fin 16) (h : Fin 16) (j : Fin 256) (d : Fin 128) : EReal :=
  D.p (ix2 (row b j) ⟨11264 + (128 * h.val + d.val), by omega⟩)

/-- What the attention reads is real. -/
structure Real' : Prop where
  p : ∀ (b : Fin 16) (j : Fin 256) (c : Fin 3072), Fin' (D.p (ix2 (row b j) ⟨8192 + c.val, by omega⟩))
  sink : ∀ h, Fin' (D.sink (ix1 h))

/-- The queries, keys, values and sinks as reals. -/
def qR (b : Fin 16) (h : Fin 16) (j : Fin 256) (d : Fin 128) : ℝ := (D.q b h j d).toReal
def kR (b : Fin 16) (h : Fin 4) (j : ℕ) (d : Fin 128) : ℝ := if hj : j < 256 then (D.k b h ⟨j, hj⟩ d).toReal else 0
def vR (b : Fin 16) (h : Fin 4) (j : ℕ) (d : Fin 128) : ℝ := if hj : j < 256 then (D.v b h ⟨j, hj⟩ d).toReal else 0
def sinkR (h : Fin 16) : ℝ := (D.sink (ix1 h)).toReal

/-- The group a head shares its keys and values with. -/
abbrev group (h : Fin 16) : Fin 4 := ⟨h.val / 4, by omega⟩

/-- The mean of the values under the weights of the scores, and the sink's. -/
def mean (b : Fin 16) (h : Fin 16) (j : Fin 256) (d : Fin 128) : ℝ :=
  avg 257 (cons (D.sinkR h) fun i => (∑ e, D.qR b h j e * D.kR b (group h) i e) * (Real.sqrt 128)⁻¹) (cons 0 fun i => D.vR b (group h) i d)

/-- The gated mean. -/
def out (b : Fin 16) (h : Fin 16) (j : Fin 256) (d : Fin 128) : EReal :=
  (D.mean b h j d : EReal) * (D.z b h j d * Ideal.logistic (D.z b h j d))

/-- The result's rows: the gated mean. -/
def y (r : Fin 4096) (c : Fin 2048) : EReal :=
  D.out ⟨r.val / 256, by omega⟩ ⟨c.val / 128, by omega⟩ ⟨r.val % 256, by omega⟩ ⟨c.val % 128, by omega⟩

theorem y_row (b : Fin 16) (h : Fin 16) (j : Fin 256) (d : Fin 128) (r : Fin 4096) (c : Fin 2048)
    (hr : r.val = 256 * b.val + j.val) (hc : c.val = 128 * h.val + d.val) : D.y r c = D.out b h j d := by
  unfold y
  have e1 : (⟨r.val / 256, by omega⟩ : Fin 16) = b := Fin.ext (by dsimp only; omega)
  have e2 : (⟨c.val / 128, by omega⟩ : Fin 16) = h := Fin.ext (by dsimp only; omega)
  have e3 : (⟨r.val % 256, by omega⟩ : Fin 256) = j := Fin.ext (by dsimp only; omega)
  have e4 : (⟨c.val % 128, by omega⟩ : Fin 128) = d := Fin.ext (by dsimp only; omega)
  rw [e1, e2, e3, e4]

variable {D} (hD : D.Real')
include hD

theorem sink_eq (h : Fin 16) : D.sink (ix1 h) = (D.sinkR h : EReal) := fin_toReal (hD.sink h)

theorem q_eq (b : Fin 16) (h : Fin 16) (j : Fin 256) (d : Fin 128) : D.q b h j d = (D.qR b h j d : EReal) :=
  fin_toReal (hD.p b j ⟨128 * h.val + d.val, by omega⟩)

theorem k_eq (b : Fin 16) (h : Fin 4) (j : Fin 256) (d : Fin 128) : D.k b h j d = (D.kR b h j.val d : EReal) := by
  rw [kR, dif_pos j.isLt]
  refine fin_toReal ?_
  have := hD.p b j ⟨2048 + (128 * h.val + d.val), by omega⟩
  unfold k
  convert this using 3
  exact Fin.ext (by dsimp only; omega)

theorem v_eq (b : Fin 16) (h : Fin 4) (j : Fin 256) (d : Fin 128) : D.v b h j d = (D.vR b h j.val d : EReal) := by
  rw [vR, dif_pos j.isLt]
  refine fin_toReal ?_
  have := hD.p b j ⟨2560 + (128 * h.val + d.val), by omega⟩
  unfold v
  convert this using 3
  exact Fin.ext (by dsimp only; omega)

end Data

end Cert.Win

end
-- ==== Proof.WinRead.lean ====
module

public import proofs.«01_k».proof.Proof.WinBlock
public import proofs.«01_k».proof.Proof.Win
public import proofs.«01_k».proof.Proof.HeadRead
public import proofs.«01_k».proof.Proof.Scratch
public import Idealize.ShloMosaic.Lib.Pipeline.ValueKit
public import Idealize.ShloMosaic.Lib.ValueIdx
public import Idealize.ShloMosaic.Lib.Pointwise

/-! The prompt's attention with a sink read at an element: over real queries, keys, values and sinks, and values whose
    column 128 is one, a point stores the means of the values under the weights of the scores and the sink, gated. -/

@[expose] public section

set_option maxRecDepth 16384

noncomputable section

namespace Cert.CtxWinIdeal.Block

open Cert.CtxWinIdeal Cert.CtxWinIdeal.Gen Idealize.ShloMosaic Idealize.SL.Sem
open Cert.Head Cert.Mean Cert.Win
open Cert.KernelIdeal.Block (pair_idx wide wide_low wide_one wide_high lane factor sum_part coe_max')

theorem kept_apply (x : Vec Ideal S256x128 .f32) (r : Fin 256) (d : Fin 128) : k0_pay6 x (ix2 r d) = x (ix2 r d) := by
  pointwise [k0_pay6]

theorem value_apply (x : Vec Ideal S256x128 .f32) (r : Fin 256) (d : Fin 128) : k0_pay7 x (ix2 r d) = x (ix2 r d) := by
  pointwise [k0_pay7]

theorem ones_apply (r : Fin 256) (l : Fin 128) : k0_pay8 (F := Ideal) (ix2 r l) = ((if l = 0 then 1 else 0 : ℝ) : EReal) := by
  pointwise [k0_pay8]
  exact lane l

theorem gate_apply (o : FVec Ideal S256x128 .f32) (z : Vec Ideal S256x128 .f32) (a : Fin 256) (b : Fin 128) :
    gate o z (ix2 a b) = o (ix2 a b) * (z (ix2 a b) * Ideal.logistic (z (ix2 a b))) := by
  pointwise [gate]

theorem head_apply (o : FVec Ideal S1024x128 .f32) (g : Fin 4) (a : Fin 256) (b : Fin 128) :
    Block.head o g (ix2 a b) = o (ix2 ⟨256 * g.val + a.val, by omega⟩ b) := by
  pointwise [Block.head]

theorem tile_apply (x : Vec Ideal S256x512 .f32) (g : Fin 4) (a : Fin 256) (b : Fin 128) :
    tile x g (ix2 a b) = x (ix2 a ⟨128 * g.val + b.val, by omega⟩) := by
  refine View.ld_unit_apply_of _ _ _ _ _ _ fun e => ?_
  fin_cases e <;> simp [ix2]

/-- The scale of the queries, and of the sinks. -/
theorem qscale : Named.named (F := Ideal) (φ := .f32) κ "qscale" 0x3E0293EE#32 = ((((Real.sqrt 128) * (Real.log 2))⁻¹ : ℝ) : EReal) :=
  IdealRules.named_const.ideal_named_scalar _ _ _ _ rfl
theorem log2e : Named.named (F := Ideal) (φ := .f32) κ "log2e" 0x3FB8AA3B#32 = (((Real.log 2)⁻¹ : ℝ) : EReal) :=
  IdealRules.named_const.ideal_named_scalar _ _ _ _ rfl

theorem stacked_apply (x : Fin 4 → Vec Ideal S256x128 .f32) (g : Fin 4) (a : Fin 256) (b : Fin 128) :
    k0_pay9 (x 0) (x 1) (x 2) (x 3) (ix2 ⟨256 * g.val + a.val, by omega⟩ b)
      = x g (ix2 a b) * ((((Real.sqrt 128) * (Real.log 2))⁻¹ : ℝ) : EReal) := by
  rw [← qscale]
  pointwise [k0_pay9]
  fin_cases g <;> simp
  all_goals
    split_ifs
    all_goals first
      | omega
      | exact congrArg (fun i => x _ (ix2 i b) * _) (Fin.ext (by dsimp only; omega))

/-- A row's head is at least another. -/
theorem from_head (g g' : Fin 4) (a : Fin 256) :
    IntOp.cmpi .sge (BitVec.ofNat 32 (256 * g.val + a.val)) (BitVec.ofNat 32 (256 * g'.val)) = if g' ≤ g then 1#1 else 0#1 := by
  revert g g' a
  decide +kernel

theorem sinks_apply (x : Fin 4 → Elt Ideal .f32) (g : Fin 4) (a : Fin 256) :
    sinks (F := Ideal) (x 0) (x 1) (x 2) (x 3) (ix2 ⟨256 * g.val + a.val, by omega⟩ 0) = x g * (((Real.log 2)⁻¹ : ℝ) : EReal) := by
  rw [← log2e]
  pointwise [sinks, rows, k0_pay10, k0_pay11, k0_pay12]
  have h0 := from_head g 0 a
  have h1 := from_head g 1 a
  have h2 := from_head g 2 a
  have h3 := from_head g 3 a
  simp at h0 h1 h2 h3
  rw [h0, h1, h2, h3]
  fin_cases g <;> simp [Scalar.select]

theorem score_apply (q : FVec Ideal S1024x128 .bf16) (k : Vec Ideal S256x128 .bf16) (r : Fin 1024) (j : Fin 256) :
    k0_pay14 q k (ix2 r j) = ∑ d : Fin 128, q (ix2 r d) * k (ix2 j d) := by
  pointwise [k0_pay14]

theorem top_apply (q : FVec Ideal S1024x128 .bf16) (w x y z : Elt Ideal .f32) (k : Vec Ideal S256x128 .bf16) (r : Fin 1024) :
    top q w x y z k (ix2 r 0)
      = max (sinks w x y z (ix2 r 0)) ((Finset.univ : Finset (Fin 256)).fold max ⊥ fun j => k0_pay14 q k (ix2 r j)) := by
  rw [← ofBits_neg_inf, sinks]
  unfold top k0_pay15
  generalize k0_pay14 q k = s
  generalize k0_pay12 (F := Ideal) rows (k0_pay10 w) k0_pay11 x y z = t
  pointwise []

theorem part_apply (q : FVec Ideal S1024x128 .bf16) (w x y z : Elt Ideal .f32) (k : Vec Ideal S256x128 .bf16) (v : Vec Ideal S256x256 .bf16)
    (r : Fin 1024) (c : Fin 256) :
    part q w x y z k v (ix2 r c)
      = ∑ j : Fin 256, Ideal.exp2 (k0_pay14 q k (ix2 r j) - top q w x y z k (ix2 r 0)) * v (ix2 j c) := by
  unfold part k0_pay16 top
  generalize k0_pay14 q k = s
  generalize k0_pay15 (F := Ideal) q rows (k0_pay10 w) k0_pay11 x y z k = t
  pointwise []
  rfl

/-- The column of the weights' sum. -/
theorem mark_apply (r : Fin 1024) (c : Fin 256) : k0_pay13 (F := Ideal) (ix2 r c) = ((if c = 128 then 1 else 0 : ℝ) : EReal) := by
  pointwise [k0_pay13]
  have hc : ∀ c : Fin 256, IntOp.cmpi .eq (BitVec.ofNat 32 c.val) 128#32 = if c = 128 then 1#1 else 0#1 := by decide +kernel
  rw [hc]
  split_ifs <;> simp [Scalar.select]

theorem quot_apply (m m' : FVec Ideal S1024x1 .f32) (u p : FVec Ideal S1024x256 .f32) (r : Fin 1024) (c : Fin 128) :
    k0_pay1 m u m' p (ix2 r c)
      = Ideal.div (Ideal.exp2 (m (ix2 r 0) - m' (ix2 r 0)) * u (ix2 r ⟨c, by omega⟩) + p (ix2 r ⟨c, by omega⟩))
          (Ideal.exp2 (m (ix2 r 0) - m' (ix2 r 0)) * u (ix2 r 128) + p (ix2 r 128)) := by
  pointwise [k0_pay1]
  rfl

/-- The attention of one row is the mean of the values under the weights of its scores and its sink. -/
theorem attend_apply (q : FVec Ideal S1024x128 .bf16) (w x y z : Elt Ideal .f32) (k : Vec Ideal S256x128 .bf16) (v : Vec Ideal S256x256 .bf16)
    (r : Fin 1024) (σ : ℝ) (S : ℕ → ℝ) (W : ℕ → Fin 256 → ℝ) (hσ : sinks w x y z (ix2 r 0) = (σ : EReal))
    (hs : ∀ j : Fin 256, k0_pay14 q k (ix2 r j) = (S j : EReal)) (hv : ∀ (i : Fin 256) c, v (ix2 i c) = (W i.val c : EReal)) (hW : ∀ j, W j 128 = 1)
    (c : Fin 128) : attend q w x y z k v (ix2 r c)
      = ((avg 257 (fun j => Real.log 2 * cons σ S j) (cons 0 fun j => W j ⟨c, by omega⟩) : ℝ) : EReal) := by
  obtain ⟨μ, hμ⟩ := fold_max (n := 256) (by norm_num) (fun j => k0_pay14 q k (ix2 r j)) fun j => ⟨_, hs j⟩
  have hm : top q w x y z k (ix2 r 0) = ((max σ μ : ℝ) : EReal) := by rw [top_apply, hμ, hσ, coe_max']
  have ha : ∀ (c : Fin 256) (b : ℝ), Ideal.exp2 (sinks w x y z (ix2 r 0) - top q w x y z k (ix2 r 0)) * (b : EReal) + part q w x y z k v (ix2 r c)
      = ((upto 257 (cons σ S) (cons b fun j => W j c) (max σ μ) : ℝ) : EReal) := fun c b => by
    rw [part_apply]
    simp only [hs, hv, hm, hσ, sum_part]
    rw [← EReal.coe_sub, Ideal.exp2_coe, ← EReal.coe_mul, ← EReal.coe_add]
    exact congrArg _ (upto_cons 256 σ S b (fun j => W j c) (max σ μ))
  rw [attend, quot_apply, mark_apply, mark_apply, ha, ha, if_pos rfl, if_neg (by have := c.isLt; simp [Fin.ext_iff]; omega), cons_one _ hW,
    Ideal.div_coe (upto_one_ne (by norm_num) _ _), ← EReal.coe_mul, mul_one_div, upto_div]

section
variable (i : grid0.Coords) (x0 : Vec Ideal S16 .f32) (x1 x4 : Vec Ideal S256x512 .f32) (x2 x3 : Vec Ideal S256x128 .f32)
  (k : Vec Ideal S256x128 .bf16) (v : Vec Ideal S256x256 .bf16) (Q : Fin 256 → Fin 4 → Fin 128 → ℝ) (σ : Fin 4 → ℝ) (K V : ℕ → Fin 128 → ℝ)

/-- The keys' scratch holds the keys. -/
theorem kStores_apply (j : Fin 256) (d : Fin 128) : View.canon (Val := Elt Ideal) (kStores (F := Ideal) x2) (ix2 j d) = x2 (ix2 j d) := by
  let G : S256x128.Idx → EReal := fun y => k0_pay6 x2 y
  refine (View.canon_apply_of_pieces (Val := Elt Ideal) (S := S256x128) (e := .bf16) G _ ?_ _ ?_).trans (kept_apply x2 j d)
  · intro p hp x
    simp only [kStores, List.mem_cons, List.mem_nil_iff, or_false] at hp
    rcases hp with rfl
    refine congrArg (k0_pay6 x2) (funext fun e => Fin.ext ?_)
    refine Eq.trans ?_ (Rect.idx_unit_val (s := S256x128) ![0, 0] ![256, 128] inb_S256x128_S256x128_0_0 x e).symm
    fin_cases e <;> exact (Nat.zero_add _).symm
  · simp only [kStores, List.exists_mem_cons_iff]
    refine Or.inl (Rect.mem_set_unit.2 fun e => ?_)
    fin_cases e <;> simp [ix2] <;> omega

/-- The values' scratch holds the values and the column of ones. -/
theorem vStores_apply (hV : ∀ (j : Fin 256) d, x3 (ix2 j d) = V j.val d) (j c : Fin 256) :
    View.canon (Val := Elt Ideal) (vStores (F := Ideal) x3) (ix2 j c) = (wide V j.val c : EReal) := by
  refine View.canon_apply_of_pieces (Val := Elt Ideal) (S := S256x256) (e := .bf16)
    (fun y => ((wide V (y 0).val (⟨(y 1).val, (y 1).isLt⟩ : Fin 256) : ℝ) : EReal)) _ ?_ _ ?_
  · intro p hp x
    simp only [vStores, List.mem_cons, List.mem_nil_iff, or_false] at hp
    rcases hp with rfl | rfl
    · obtain ⟨a, b, rfl⟩ := pair_idx (m := 256) (n := 128) x
      refine (ones_apply a b).trans (congrArg _ ?_)
      rw [← wide_high V a.val b (by omega)]
      refine congrArg₂ (wide V) ?_ (Fin.ext ?_)
      · exact ((Rect.idx_unit_val (s := S256x256) ![0, 128] ![256, 128] inb_S256x256_S256x128_0_128 (ix2 a b) 0).trans (Nat.zero_add _)).symm
      · exact (Rect.idx_unit_val (s := S256x256) ![0, 128] ![256, 128] inb_S256x256_S256x128_0_128 (ix2 a b) 1).symm
    · obtain ⟨a, b, rfl⟩ := pair_idx (m := 256) (n := 128) x
      refine (value_apply x3 a b).trans ((hV a b).trans (congrArg _ ?_))
      rw [← wide_low V a.val b]
      refine congrArg₂ (wide V) ?_ (Fin.ext ?_)
      · exact ((Rect.idx_unit_val (s := S256x256) ![0, 0] ![256, 128] inb_S256x256_S256x128_0_0 (ix2 a b) 0).trans (Nat.zero_add _)).symm
      · exact ((Rect.idx_unit_val (s := S256x256) ![0, 0] ![256, 128] inb_S256x256_S256x128_0_0 (ix2 a b) 1).trans (Nat.zero_add _)).symm
  · simp only [vStores, List.exists_mem_cons_iff]
    have hj := j.isLt
    have hc := c.isLt
    by_cases h' : c.val < 128
    · refine Or.inr (Or.inl (Rect.mem_set_unit.2 fun e => ?_))
      fin_cases e <;> simp [ix2] <;> omega
    · refine Or.inl (Rect.mem_set_unit.2 fun e => ?_)
      fin_cases e <;> simp [ix2] <;> omega

/-- The queries of a point at an element. -/
theorem queries_apply (hQ : ∀ (a : Fin 256) (g : Fin 4) (d : Fin 128), x1 (ix2 a ⟨128 * g.val + d.val, by omega⟩) = (Q a g d : EReal))
    (g : Fin 4) (a : Fin 256) (d : Fin 128) :
    queries x1 (ix2 ⟨256 * g.val + a.val, by omega⟩ d) = ((Q a g d * (Real.sqrt 128 * Real.log 2)⁻¹ : ℝ) : EReal) := by
  rw [queries, stacked_apply (fun g => tile x1 g), tile_apply, hQ, ← EReal.coe_mul]

/-- The weights' exponents, in the scores and the sink. -/
theorem exponents (a : Fin 256) (g : Fin 4) :
    (fun j => Real.log 2 * cons (σ g * (Real.log 2)⁻¹) (fun j => ∑ d, Q a g d * (Real.sqrt 128 * Real.log 2)⁻¹ * K j d) j)
      = cons (σ g) fun j => (∑ d, Q a g d * K j d) * (Real.sqrt 128)⁻¹ := by
  funext j
  have h2 : Real.log 2 ≠ 0 := (Real.log_pos one_lt_two).ne'
  unfold cons
  split_ifs
  · field_simp
  · dsimp only
    rw [← factor, Finset.sum_mul]
    exact congrArg _ (Finset.sum_congr rfl fun d _ => by ring)

/-- What a point stores at an element of its block: the mean of the values under the gate. -/
theorem pieces_apply (hQ : ∀ (a : Fin 256) (g : Fin 4) (d : Fin 128), x1 (ix2 a ⟨128 * g.val + d.val, by omega⟩) = (Q a g d : EReal))
    (hσ : ∀ g, sinkAt i x0 g = (σ g : EReal))
    (hK : ∀ (j : Fin 256) d, k (ix2 j d) = (K j.val d : EReal)) (hV : ∀ (j : Fin 256) c, v (ix2 j c) = (wide V j.val c : EReal))
    (a : Fin 256) (g : Fin 4) (b : Fin 128) :
    View.canon (Val := Elt Ideal) (pieces (F := Ideal) i x0 x1 x4 k v) (ix2 a ⟨128 * g.val + b.val, by omega⟩)
      = ((avg 257 (cons (σ g) fun j => (∑ d, Q a g d * K j d) * (Real.sqrt 128)⁻¹) (cons 0 fun j => V j b) : ℝ) : EReal)
        * (x4 (ix2 a ⟨128 * g.val + b.val, by omega⟩) * Ideal.logistic (x4 (ix2 a ⟨128 * g.val + b.val, by omega⟩))) := by
  let H : Fin 256 → Fin 4 → Fin 128 → EReal := fun a g b =>
    ((avg 257 (cons (σ g) fun j => (∑ d, Q a g d * K j d) * (Real.sqrt 128)⁻¹) (cons 0 fun j => V j b) : ℝ) : EReal)
  let G : S256x512.Idx → EReal := fun y =>
    H (⟨(y 0).val, (y 0).isLt⟩ : Fin 256) ⟨(y 1).val / 128, by have : (y 1).val < 512 := (y 1).isLt; omega⟩ (⟨(y 1).val % 128, by omega⟩ : Fin 128)
      * (x4 y * Ideal.logistic (x4 y))
  have hG : ∀ (a : Fin 256) (g : Fin 4) (b : Fin 128), G (ix2 a ⟨128 * g.val + b.val, by omega⟩)
      = H a g b * (x4 (ix2 a ⟨128 * g.val + b.val, by omega⟩) * Ideal.logistic (x4 (ix2 a ⟨128 * g.val + b.val, by omega⟩))) := by
    intro a g b
    have h1 : (⟨(128 * g.val + b.val) / 128, by omega⟩ : Fin 4) = g := Fin.ext (by dsimp only; omega)
    have h2 : (⟨(128 * g.val + b.val) % 128, by omega⟩ : Fin 128) = b := Fin.ext (by dsimp only; omega)
    show H a (⟨(128 * g.val + b.val) / 128, by omega⟩ : Fin 4) (⟨(128 * g.val + b.val) % 128, by omega⟩ : Fin 128) * _ = _
    rw [h1, h2]
  refine Eq.trans ?_ (hG a g b)
  refine View.canon_apply_of_pieces (Val := Elt Ideal) (S := S256x512) (e := .bf16) G _ ?_ _ ?_
  · intro p hp x
    obtain ⟨g, rfl⟩ : ∃ g : Fin 4, p = piece i x0 x1 x4 k v g := by
      simp only [pieces, List.mem_map] at hp
      obtain ⟨g, -, rfl⟩ := hp
      exact ⟨g, rfl⟩
    obtain ⟨a, b, rfl⟩ := pair_idx (m := 256) (n := 128) x
    have he : (piece (F := Ideal) i x0 x1 x4 k v g).1.emb (ix2 a b) = ix2 a (⟨128 * g.val + b.val, by omega⟩ : Fin 512) := by
      funext e
      refine Fin.ext ((Rect.idx_unit_val (s := S256x512) ![0, 128 * g.val] ![256, 128] (cols g) (ix2 a b) e).trans ?_)
      fin_cases e
      · exact Nat.zero_add _
      · rfl
    refine Eq.trans ?_ (congrArg G he).symm
    rw [hG]
    refine (gate_apply _ _ a b).trans ?_
    rw [tile_apply, head_apply]
    refine congrArg₂ (· * ·) ?_ rfl
    rw [attend_apply _ _ _ _ _ k v _ (σ g * (Real.log 2)⁻¹) (fun j => ∑ d, Q a g d * (Real.sqrt 128 * Real.log 2)⁻¹ * K j d) (wide V)
      ((sinks_apply (sinkAt i x0) g a).trans (by rw [hσ, ← EReal.coe_mul])) (fun j => ?_) hV (wide_one V), exponents]
    · exact congrArg _ (congrArg (avg 257 _) (congrArg (cons 0) (funext fun j => wide_low V j b)))
    · rw [score_apply, ← coe_sum]
      exact Finset.sum_congr rfl fun d _ => by rw [queries_apply x1 Q hQ, hK, ← EReal.coe_mul]
  · refine ⟨piece (F := Ideal) i x0 x1 x4 k v g, ?_,
      (Rect.mem_set_unit (s := S256x512) (off := ![0, 128 * g.val]) (size := ![256, 128]) (inb := cols g)).2 fun e => ?_⟩
    · simp only [pieces, List.mem_map]
      have hm : ∀ g : Fin 4, g ∈ ([3, 2, 1, 0] : List (Fin 4)) := by decide
      exact ⟨_, hm _, rfl⟩
    · have := a.isLt
      fin_cases e <;> simp [ix2] <;> omega
end

end Cert.CtxWinIdeal.Block

end
-- ==== Proof.WinArray.lean ====
module

public import proofs.«01_k».proof.Proof.WinRead
public import Idealize.ShloMosaic.Lib.Pipeline.FrameSuffix

/-! What the prompt's attention with a sink leaves: the blocks its points work on, and the array at the end of the run. -/

@[expose] public section

set_option maxRecDepth 16384

noncomputable section

namespace Cert.CtxWinIdeal.Block

open Cert.CtxWinIdeal Cert.CtxWinIdeal.Gen Idealize.ShloMosaic Idealize.ShloMosaic.TcCoe Idealize.SL.Sem
open Idealize.ShloMosaic.Pipeline (Dat)
open Cert.Head Cert.Mean
open Cert.KernelIdeal.Block (pair_idx wide)

variable (m : (ℓ : Loc nD τ sig) → Buf (Elt Ideal) ℓ)

/-- What the attention is computed from: the arguments. -/
def data (c : Dev nD) : Win.Data where
  p := m ((c.tc : Thread nD τ).loc main_arg0)
  sink := m ((c.tc : Thread nD τ).loc main_arg1)

/-- The blocks a point works on. -/
theorem blocks : ∀ t : Fin cfg0.N, win0_0.index t = ![0] ∧ win0_1.index t = ![t.val / 4, 16 + t.val % 4]
    ∧ win0_2.index t = ![t.val / 4, 80 + t.val % 4] ∧ win0_3.index t = ![t.val / 4, 84 + t.val % 4]
    ∧ win0_4.index t = ![t.val / 4, 22 + t.val % 4] ∧ win0_5.index t = ![t.val / 4, t.val % 4] :=
  (by decide +kernel : ∀ t : Fin grid0.N, _)

/-- Where a point reads a head's sink. -/
theorem sinkOff : ∀ (t : Fin cfg0.N) (g : Fin 4), k0_off1 (grid0.coords t) (BitVec.ofNat 32 g.val) = ![4 * (t.val % 4) + g.val] :=
  (by decide +kernel : ∀ (t : Fin grid0.N) (g : Fin 4), _)

theorem points (t : Fin cfg0.N) : t.val < 64 := t.isLt

/-- The sequence a point works on, the group of heads, and a head of the group. -/
abbrev smp (t : Fin cfg0.N) : Fin 16 := ⟨t.val / 4, by have := points t; omega⟩
abbrev grp (t : Fin cfg0.N) : Fin 4 := ⟨t.val % 4, by omega⟩
abbrev hd (t : Fin cfg0.N) (g : Fin 4) : Fin 16 := ⟨4 * (t.val % 4) + g.val, by omega⟩

theorem blk1 (c : Dev nD) (t : Fin cfg0.N) (a : Fin 256) (g : Fin 4) (d : Fin 128) :
    iblk m c 1 t (ix2 a (⟨128 * g.val + d.val, by omega⟩ : Fin 512)) = (data m c).q (smp t) (hd t g) a d := by
  unfold data Win.Data.q
  blk_point [iblk, V, blocks t]

theorem blk4 (c : Dev nD) (t : Fin cfg0.N) (a : Fin 256) (g : Fin 4) (d : Fin 128) :
    iblk m c 4 t (ix2 a (⟨128 * g.val + d.val, by omega⟩ : Fin 512)) = (data m c).z (smp t) (hd t g) a d := by
  unfold data Win.Data.z
  blk_point [iblk, V, blocks t]

theorem blk2 (c : Dev nD) (t : Fin cfg0.N) (i : Fin 256) (d : Fin 128) :
    iblk m c 2 t (ix2 i d) = (data m c).k (smp t) (grp t) i d := by
  unfold data Win.Data.k
  blk_point [iblk, V, blocks t]

theorem blk3 (c : Dev nD) (t : Fin cfg0.N) (i : Fin 256) (d : Fin 128) :
    iblk m c 3 t (ix2 i d) = (data m c).v (smp t) (grp t) i d := by
  unfold data Win.Data.v
  blk_point [iblk, V, blocks t]

theorem blk0 (c : Dev nD) (t : Fin cfg0.N) (h : Fin 16) : iblk m c 0 t (ix1 h) = (data m c).sink (ix1 h) := by
  unfold data
  blk_point [iblk, V, blocks t]

/-- The sink of a head of a point. -/
theorem sinkAt_eq (c : Dev nD) (t : Fin cfg0.N) (g : Fin 4) :
    sinkAt (grid0.coords t) (iblk m c 0 t) g = (data m c).sink (ix1 (hd t g)) := by
  refine Eq.trans (View.ld_unit_apply_of _ _ _ _ _ (ix1 (hd t g)) fun e => ?_) (blk0 m c t (hd t g))
  refine Eq.trans ?_ (congrArg (· + _) (congrFun (sinkOff t g) e).symm)
  fin_cases e
  rfl

/-- A column of a block is a head's lane. -/
theorem stack (b : Fin 512) : ∃ (g : Fin 4) (d : Fin 128), b = ⟨128 * g.val + d.val, by omega⟩ :=
  ⟨⟨b.val / 128, by omega⟩, ⟨b.val % 128, by omega⟩, Fin.ext (by dsimp only; omega)⟩

/-- The result's rows, over what the other rows of the array hold. -/
def yArr (c : Dev nD) : Vec Ideal S36864x2048 .bf16 := fun i =>
  if h : (i 0).val < 4096 then (data m c).y ⟨(i 0).val, h⟩ (⟨(i 1).val, (i 1).isLt⟩ : Fin 2048) else V m c main_v0 i

variable (c : Dev nD) (hD : (data m c).Real')
include hD

/-- What a point leaves in its block. -/
theorem point (t : Fin cfg0.N) (a : Fin 256) (g : Fin 4) (b : Fin 128) :
    outsAt0 m c t (ix2 a (⟨128 * g.val + b.val, by omega⟩ : Fin 512)) = (data m c).out (smp t) (hd t g) a b := by
  have hg : Win.Data.group (hd t g) = grp t := Fin.ext (by dsimp only; omega)
  unfold outsAt0
  refine (outY ..).trans ?_
  simp only [View.readCov_eq_canon']
  rw [pieces_apply _ _ _ _ _ _ (fun a g d => (data m c).qR (smp t) (hd t g) a d) (fun g => (data m c).sinkR (hd t g))
    ((data m c).kR (smp t) (grp t)) ((data m c).vR (smp t) (grp t))
    (fun a g d => ?_) (fun g => ?_) (fun i d => ?_) (fun i k => ?_) a g b]
  · rw [blk4, Win.Data.out, Win.Data.mean, hg]
  · exact (blk1 m c t a g d).trans (Win.Data.q_eq hD ..)
  · exact (sinkAt_eq m c t g).trans (Win.Data.sink_eq hD _)
  · refine Eq.trans (View.ld_unit_apply_of _ _ _ _ _ (ix2 i d) fun e => ?_) ?_
    · fin_cases e <;> simp [ix2]
    exact (kStores_apply ..).trans ((blk2 m c t i d).trans (Win.Data.k_eq hD ..))
  · refine Eq.trans (View.ld_unit_apply_of _ _ _ _ _ (ix2 i k) fun e => ?_) ?_
    · fin_cases e <;> simp [ix2]
    exact vStores_apply _ _ (fun i d => (blk3 m c t i d).trans (Win.Data.v_eq hD ..)) i k

/-- The result's array at the end of the run. -/
theorem finalY : (dats m 0 c).arrAt 5 (cfgs 0).N = yArr m c := by
  refine (dats m 0 c).arrAt_eq_of_coversWhere_of_agree 5 _ (fun β => β (0 : Fin _) < 16) (by decide +kernel) (fun t hf y => ?_) (fun j hj => ?_)
  · rw [after0_5]
    obtain ⟨a, b, rfl⟩ := pair_idx (m := 256) (n := 512) y
    obtain ⟨g, b, rfl⟩ := stack b
    have ht := points t
    have he : ((cfg0.win 5).blk t).view.emb (ix2 a (⟨128 * g.val + b.val, by omega⟩ : Fin 512))
        = (ix2 (⟨256 * (t.val / 4) + a.val, by omega⟩ : Fin 36864) (⟨128 * (hd t g).val + b.val, by have := (hd t g).isLt; omega⟩ : Fin 2048) : S36864x2048.Idx) := by
      funext e
      fin_cases e <;> (apply Fin.ext; blk_simp [blocks t]) <;> simp [ix2] <;> omega
    refine (point m c hD t a g b).trans (Eq.symm ((congrArg (yArr m c) he).trans ?_))
    unfold yArr
    rw [dif_pos (by show 256 * (t.val / 4) + a.val < 4096; omega)]
    exact Win.Data.y_row (data m c) (smp t) (hd t g) a b _ _ rfl rfl
  · have hj' : ¬(j 0).val / 256 < 16 := hj
    have hl : ¬(j 0).val < 4096 := by omega
    rw [A_eq]
    show V m c main_v0 j = yArr m c j
    unfold yArr
    rw [dif_neg hl]

end Cert.CtxWinIdeal.Block

end
-- ==== Proof.WinRef.lean ====
module

public import proofs.«01_k».proof.Proof.Gen.CtxWinRefIdeal.Read
public import proofs.«01_k».proof.Proof.Win
public import proofs.«01_k».proof.Proof.RefMean
public import Idealize.ShloMosaic.Lib.Pipeline.ValueKit
public import Idealize.ShloMosaic.Lib.Pointwise

/-! The prompt's attention with a sink as its reference computes it, read at an element. -/

@[expose] public section

set_option maxRecDepth 16384

noncomputable section

namespace Cert.CtxWinRefIdeal.Read

open Cert.CtxWinRefIdeal Cert.CtxWinRefIdeal.Gen Idealize.ShloMosaic Idealize.SL.Sem
open Cert.Head Cert.Win Cert.Mean
open Cert.ReferenceIdeal.Read (rsqrt_128)

variable (D : Data)

/-- The reference's queries. -/
theorem q_apply (b : Fin 16) (j : Fin 256) (h : Fin 16) (d : Fin 128) : val_main_v5 (F := Ideal) D.p (ix4 b j h d) = D.q b h j d := by
  unfold Data.q
  pointwise [val_main_v5, val_main_v2, val_main_v1, val_main_v0]
  blk_point []

/-- Its keys. -/
theorem k_apply (b : Fin 16) (j : Fin 256) (h : Fin 4) (d : Fin 128) : val_main_v6 (F := Ideal) D.p (ix4 b j h d) = D.k b h j d := by
  unfold Data.k
  pointwise [val_main_v6, val_main_v3, val_main_v1, val_main_v0]
  blk_point []

/-- Its values. -/
theorem v_apply (b : Fin 16) (j : Fin 256) (h : Fin 4) (d : Fin 128) : val_main_v7 (F := Ideal) D.p (ix4 b j h d) = D.v b h j d := by
  unfold Data.v
  pointwise [val_main_v7, val_main_v4, val_main_v1, val_main_v0]
  blk_point []

/-- Its gates. -/
theorem z_apply (b : Fin 16) (j : Fin 256) (h : Fin 16) (d : Fin 128) :
    val_main_v8 (F := Ideal) D.p (ix3 b j (⟨128 * h.val + d.val, by omega⟩ : Fin 2048)) = D.z b h j d := by
  unfold Data.z
  pointwise [val_main_v8, val_main_v1, val_main_v0]
  blk_point []

/-- Its scores. -/
theorem s_apply (b : Fin 16) (h g : Fin 4) (i : Fin 256) (j : Fin 256) :
    val_main_v14 (F := Ideal) D.p (ix5 b h g i j)
      = (∑ d, D.k b h j d * D.q b ⟨4 * h.val + g.val, by omega⟩ i d) * Ideal.rsqrt (Ideal.ofBits .f32 0x43000000#32) := by
  simp only [← k_apply, ← q_apply]
  pointwise [val_main_v14, val_main_v13, val_main_v12, val_main_v11, val_main_v10, val_main_v9, val_main_cst]
  blk_point []

/-- Its sinks, against the maxima and against the sums. -/
theorem sink_apply (b : Fin 16) (h g : Fin 4) (i : Fin 256) :
    val_main_v18 (F := Ideal) D.sink (ix5 b h g i (0 : Fin 1)) = D.sink (ix1 (⟨4 * h.val + g.val, by omega⟩ : Fin 16)) := by
  pointwise [val_main_v18, val_main_v15]
  exact congrArg (fun h => D.sink (ix1 h)) (Fin.ext (by dsimp only; omega))

theorem sink_apply' (b : Fin 16) (h g : Fin 4) (i : Fin 256) :
    val_main_v25 (F := Ideal) D.sink (ix5 b h g i (0 : Fin 1)) = D.sink (ix1 (⟨4 * h.val + g.val, by omega⟩ : Fin 16)) := by
  pointwise [val_main_v25, val_main_v15]
  exact congrArg (fun h => D.sink (ix1 h)) (Fin.ext (by dsimp only; omega))

/-- Its gated output, by head and position. -/
theorem o_apply (b : Fin 16) (h g : Fin 4) (i : Fin 256) (d : Fin 128) :
    val_main_v35 (F := Ideal) D.p D.sink (ix3 b i (⟨128 * (4 * h.val + g.val) + d.val, by omega⟩ : Fin 2048))
      = (∑ j, D.v b h j d * val_main_v30 (F := Ideal) D.p D.sink (ix5 b h g i j))
        * (D.z b ⟨4 * h.val + g.val, by omega⟩ i d * Ideal.logistic (D.z b ⟨4 * h.val + g.val, by omega⟩ i d)) := by
  rw [← z_apply]
  simp only [← v_apply, Ideal.logistic]
  pointwise [val_main_v35, val_main_v34, val_main_v33, val_main_v32, val_main_v31, val_main_call0_v5, val_main_call0_v4, val_main_call0_v3,
    val_main_call0_v2, val_main_call0_v1, val_main_call0_v0, val_main_call0_cst, val_main_call0_cst_0]

/-- Its result, by row and column. -/
theorem y_apply (r : Fin 4096) (k : Fin 2048) :
    val_main_v37 (F := Ideal) D.p D.sink (ix2 r k)
      = val_main_v35 (F := Ideal) D.p D.sink (ix3 (⟨r.val / 256, by omega⟩ : Fin 16) (⟨r.val % 256, by omega⟩ : Fin 256) k) := by
  pointwise [val_main_v37, val_main_v36]

/-- The maximum of the scores of a query. -/
theorem m_apply (b : Fin 16) (h g : Fin 4) (i : Fin 256) :
    val_main_v16 (F := Ideal) D.p (ix4 b h g i)
      = Finset.univ.fold max (Ideal.ofBits .f32 0xFF800000#32) (fun j : Fin 256 => val_main_v14 (F := Ideal) D.p (ix5 b h g i j)) := by
  pointwise [val_main_v16, val_main_cst_0]

/-- What is subtracted from the scores. -/
theorem top_apply (b : Fin 16) (h g : Fin 4) (i : Fin 256) :
    val_main_v19 (F := Ideal) D.p D.sink (ix5 b h g i (0 : Fin 1))
      = max (val_main_v16 (F := Ideal) D.p (ix4 b h g i)) (D.sink (ix1 (⟨4 * h.val + g.val, by omega⟩ : Fin 16))) := by
  rw [← sink_apply D b h g i, val_main_v19_apply, val_main_v17_apply]
  have e : idx_main_v17 (ix5 b h g i (0 : Fin 1)) = ix4 b h g i := by funext a; fin_cases a <;> rfl
  rw [e]
  generalize val_main_v16 (F := Ideal) D.p (ix4 b h g i) = x
  rfl

theorem wide_apply (b : Fin 16) (h g : Fin 4) (i : Fin 256) (j : Fin 256) :
    val_main_v20 (F := Ideal) D.p D.sink (ix5 b h g i j) = val_main_v19 (F := Ideal) D.p D.sink (ix5 b h g i (0 : Fin 1)) := by
  pointwise [val_main_v20]

/-- The exponential of a score. -/
theorem e_apply (b : Fin 16) (h g : Fin 4) (i : Fin 256) (j : Fin 256) :
    val_main_v22 (F := Ideal) D.p D.sink (ix5 b h g i j)
      = Ideal.exp (val_main_v14 (F := Ideal) D.p (ix5 b h g i j) - val_main_v19 (F := Ideal) D.p D.sink (ix5 b h g i (0 : Fin 1))) := by
  rw [← wide_apply D b h g i j]
  pointwise [val_main_v22, val_main_v21]

/-- Their sum. -/
theorem sum_apply (b : Fin 16) (h g : Fin 4) (i : Fin 256) :
    val_main_v23 (F := Ideal) D.p D.sink (ix4 b h g i) = ∑ j : Fin 256, val_main_v22 (F := Ideal) D.p D.sink (ix5 b h g i j) := by
  rw [val_main_v23_apply]
  pointwise [val_main_cst_1]
  refine Finset.sum_congr rfl fun k _ => congrArg _ ?_
  funext a
  rcases a with ⟨a, ha⟩
  have ha' : a < 5 := ha
  interval_cases a <;> rfl

/-- The sum with the sink's. -/
theorem den_apply (b : Fin 16) (h g : Fin 4) (i : Fin 256) :
    val_main_v28 (F := Ideal) D.p D.sink (ix5 b h g i (0 : Fin 1))
      = val_main_v23 (F := Ideal) D.p D.sink (ix4 b h g i)
        + Ideal.exp (D.sink (ix1 (⟨4 * h.val + g.val, by omega⟩ : Fin 16)) - val_main_v19 (F := Ideal) D.p D.sink (ix5 b h g i (0 : Fin 1))) := by
  rw [← sink_apply' D b h g i]
  pointwise [val_main_v28, val_main_v27, val_main_v26, val_main_v24]

/-- The weight of a key. -/
theorem w_apply (b : Fin 16) (h g : Fin 4) (i : Fin 256) (j : Fin 256) :
    val_main_v30 (F := Ideal) D.p D.sink (ix5 b h g i j)
      = Ideal.div (val_main_v22 (F := Ideal) D.p D.sink (ix5 b h g i j)) (val_main_v28 (F := Ideal) D.p D.sink (ix5 b h g i (0 : Fin 1))) := by
  pointwise [val_main_v30, val_main_v29]

variable {D} (hD : D.Real')
include hD

/-- A score is real. -/
theorem s_eq (b : Fin 16) (h g : Fin 4) (i : Fin 256) (j : Fin 256) :
    val_main_v14 (F := Ideal) D.p (ix5 b h g i j)
      = (((∑ e, D.qR b ⟨4 * h.val + g.val, by omega⟩ i e * D.kR b h j.val e) * (Real.sqrt 128)⁻¹ : ℝ) : EReal) := by
  rw [s_apply, rsqrt_128, EReal.coe_mul, ← coe_sum]
  refine congrArg (· * _) (Finset.sum_congr rfl fun d _ => ?_)
  rw [Data.k_eq hD, Data.q_eq hD, mul_comm, ← EReal.coe_mul]

/-- The gated mean of a head. -/
theorem out_eq (b : Fin 16) (h g : Fin 4) (i : Fin 256) (d : Fin 128) :
    val_main_v35 (F := Ideal) D.p D.sink (ix3 b i (⟨128 * (4 * h.val + g.val) + d.val, by omega⟩ : Fin 2048))
      = D.out b ⟨4 * h.val + g.val, by omega⟩ i d := by
  have hg : Data.group ⟨4 * h.val + g.val, by omega⟩ = h := Fin.ext (by dsimp only; omega)
  rw [o_apply, Data.out, Data.mean, hg]
  refine congrArg (· * _) (sink_mean (by norm_num) _ _ (D.sinkR ⟨4 * h.val + g.val, by omega⟩)
    (fun j => val_main_v14 (F := Ideal) D.p (ix5 b h g i j)) _ _
    (val_main_v19 (F := Ideal) D.p D.sink (ix5 b h g i (0 : Fin 1))) (s_eq hD b h g i) (fun j => Data.v_eq hD b h j d) ?_ fun j => ?_)
  · rw [top_apply, m_apply, ofBits_neg_inf, Data.sink_eq hD]
  · rw [w_apply, den_apply, sum_apply, e_apply, Data.sink_eq hD, Finset.sum_congr rfl fun x _ => e_apply D b h g i x]

/-- The reference's result at an element. -/
theorem result (r : Fin 4096) (k : Fin 2048) : val_main_v37 (F := Ideal) D.p D.sink (ix2 r k) = D.y r k := by
  have := out_eq hD ⟨r.val / 256, by omega⟩ ⟨k.val / 512, by omega⟩ ⟨k.val / 128 % 4, by omega⟩ ⟨r.val % 256, by omega⟩ ⟨k.val % 128, by omega⟩
  rw [show (⟨128 * (4 * (k.val / 512) + k.val / 128 % 4) + k.val % 128, by omega⟩ : Fin 2048) = k from Fin.ext (by dsimp only; omega)] at this
  rw [y_apply, this]
  exact (Data.y_row D _ _ _ _ r k (by dsimp only; omega) (by dsimp only; omega)).symm

end Cert.CtxWinRefIdeal.Read

end
-- ==== Proof.WinValue.lean ====
/- The prompt's attention with a sink: what the line after the region keeps of its array, and that it is what the reference
   computes, given that what it reads is finite. -/
module

public import proofs.«01_k».proof.Proof.WinArray
public import proofs.«01_k».proof.Proof.WinRef
public import proofs.«01_k».proof.Proof.Finite
public import proofs.«01_k».proof.Proof.Gen.Pre_finite_win
public import proofs.«01_k».proof.Proof.Gen.CtxWinRefIdeal.Run
public import proofs.«01_k».proof.Defs

@[expose] public section

set_option maxRecDepth 16384

noncomputable section

namespace Cert.CtxWinIdeal.Block

open Cert.CtxWinIdeal Cert.CtxWinIdeal.Gen Idealize.ShloMosaic Idealize.ShloMosaic.TcCoe Idealize.SL.Sem
open Cert.Head Cert.Finite

variable (m : (ℓ : Loc nD τ sig) → Buf (Elt Ideal) ℓ)

/-- The precondition, element by element. -/
theorem real (h : Cert.Pre_CtxWinIdeal_finite_win m) (c : Dev nD) : (data m c).Real' := by
  have h := congrFun (h c) (Shape.Idx.first Cert.Pre_finite_win.Gen.h_S_)
  dsimp only [Cert.Pre_finite_win.fn] at h
  obtain ⟨hp, hs⟩ := both h
  refine ⟨fun b j k => ?_, fun d => fin_of_all _ _ _ _ _ hs _⟩
  have := fin_of_all _ _ _ _ _ hp (ix2 (⟨256 * b.val + j.val, by omega⟩ : Fin 4096) k)
  revert this
  pointwise []
  exact id

/-- The result: the gated means. -/
def yOut (D : Win.Data) : FVec Ideal S4096x2048 .bf16 := fun i => D.y (⟨(i 0).val, (i 0).isLt⟩ : Fin 4096) (⟨(i 1).val, (i 1).isLt⟩ : Fin 2048)

/-- What the region leaves, read by the line after it. -/
theorem leftY (c : Dev nD) (hD : (data m c).Real') :
    Pipeline.withArrays (cfgs 0).spec c (V0 m c) (fun w => (dats m 0 c).arrAt w (cfgs 0).N) (Proc.devRef .tc main_v0) = yArr m c :=
  (Pipeline.withArrays_arr_shared spec0 c _ _ ((dats m 0 c).arrAt_sharedIn sharedIn0 (V0 m c) (A_eq m c) _) 5).trans (finalY m c hD)

/-- What the line after the region leaves: the gated means. -/
theorem tailY (c : Dev nD) (hD : (data m c).Real') : Pipeline.afterTail₀ cfgs (dats m) 0 (V0 m) [hostOps1] c main_v1 = yOut (data m c) := by
  have h : Pipeline.afterTail₀ cfgs (dats m) 0 (V0 m) [hostOps1] c main_v1
      = extractStridedSlice S4096x2048 ![0, 0] (yArr m c) slices_S36864x2048_S4096x2048_0_0 := by
    rw [← leftY m c hD]
    unfold Pipeline.afterTail₀
    simp only [List.flatten_cons, List.flatten_nil, List.append_nil]
    after_results
  rw [h]
  funext i
  obtain ⟨r, k, rfl⟩ : ∃ (r : Fin 4096) (k : Fin 2048), i = ix2 r k := ⟨i 0, i 1, by funext e; fin_cases e <;> rfl⟩
  have e : extractStridedSlice S4096x2048 ![0, 0] (yArr m c) slices_S36864x2048_S4096x2048_0_0 (ix2 r k)
      = yArr m c (ix2 (⟨r.val, by omega⟩ : Fin 36864) k) := by
    pointwise
  rw [e]
  unfold yArr
  exact dif_pos r.isLt

/-- The kernel's result and the reference's are the same gated means. -/
theorem algebraic : Cert.algebraic_CtxWinIdeal_CtxWinRefIdeal_pre_finite_win := by
  intro m g m' g' hpre hagree
  refine ⟨fun c => yOut (data m c), ?_, ?_⟩
  · refine (θ_run Cert.CtxWinIdeal.defs _ _).mono (fun r h c => ?_) (θ_run_and (run_main m g) (unchanged m g))
    exact ⟨((h.1 c).2 main_v1 (Pipeline.mem_restRefs_of main_v1 (by decide) (by decide))).trans (tailY m c (real m hpre c)), h.2 c⟩
  · refine (θ_run Cert.CtxWinRefIdeal.defs _ _).mono (fun r h c => ?_) (Cert.CtxWinRefIdeal.Value.run (F := Ideal) m' g')
    obtain ⟨h0, h1⟩ := hagree c
    refine ⟨(h c).1.trans ?_, (h c).2⟩
    rw [Cert.CtxWinRefIdeal.Read.val_main_v37_eq, h0, h1]
    funext i
    obtain ⟨r, k, rfl⟩ : ∃ (r : Fin 4096) (k : Fin 2048), i = ix2 r k := ⟨i 0, i 1, by funext e; fin_cases e <;> rfl⟩
    exact Cert.CtxWinRefIdeal.Read.result (real m hpre c) r k

end Cert.CtxWinIdeal.Block

end
-- ==== Proof.LatBlock.lean ====
module

public import proofs.«01_k».proof.Proof.Gen.LatWinIdeal.Frame
public import proofs.«01_k».proof.Proof.Block
public import Idealize.ShloMosaic.Lib.Pipeline.ValueKit
public import Idealize.ShloMosaic.Lib.Pipeline.ReadBack

/-! The samples' windowed attention: what a point of the grid stores, as operations on the blocks it loads. -/

@[expose] public section

set_option maxRecDepth 1000000

noncomputable section

namespace Cert.LatWinIdeal.Block

open Cert.LatWinIdeal Cert.LatWinIdeal.Gen Idealize.ShloMosaic Idealize.ShloMosaic.TcCoe Idealize.SL.Sem
open Cert.KernelIdeal.Block (tile rows head gate qcat scoreC partC rowMaxC carry quot)

section
variable {F : FTy → Type} [FloatOps F] [Named F]

/-- A head's queries, or rows of keys: rotated by the tables, and scaled. -/
def qhead (x c s : Vec F S128x128 .f32) : FVec F S128x128 .bf16 := k0_pay15 x c s

/-- The queries of sub-block `s`. -/
def queries (x1 : Vec F S512x512 .f32) (x7 x8 : Vec F S512x128 .f32) (s : Fin 4) : FVec F S512x128 .bf16 :=
  qcat (qhead (tile x1 s 0) (rows x7 s) (rows x8 s)) (qhead (tile x1 s 1) (rows x7 s) (rows x8 s))
    (qhead (tile x1 s 2) (rows x7 s) (rows x8 s)) (qhead (tile x1 s 3) (rows x7 s) (rows x8 s))

/-- The number of sub-block `s` of a point. -/
def number (i : grid0.Coords) (s : Fin 4) : BitVec 32 :=
  Scalar.addi (Scalar.muli (BitVec.ofNat 32 (i 2).val) 4#32) (BitVec.ofNat 32 s.val)

/-- Which of a sub-block's columns are keys near enough to a row. -/
def valid (n : BitVec 32) : IVec S512x384 1 := k0_pay38 k0_pay13 k0_pay14 n

/-- Each row's sink, of its head's. -/
def sinks (a b c d : Elt F .f32) : FVec F S512x1 .f32 := k0_pay24 a b c d

/-- The scores of the 384 columns, the ones that are not near put out. -/
def scoreB (q : FVec F S512x128 .bf16) (ok : IVec S512x384 1) (k : Vec F S384x128 .bf16) : FVec F S512x384 .f32 :=
  select ok (matmul dot_S512x128_S384x128_S512x384_1_1_0_0_n_n none q k (constant S512x384 .f32 0x00000000#32))
    (broadcast S512x384 (Named.named κ "mask" 0xF149F2CA#32))

/-- Each row's largest score of 384, or its sink. -/
def topB (σ : FVec F S512x1 .f32) (s : FVec F S512x384 .f32) : FVec F S512x1 .f32 :=
  maximumf σ (shapeCast S512x1 (multiReduction .maximumf [1] S512 s 0xFF800000#32 reduces_S512x384_S512 (.inl rfl) rfl) shapeCasts_S512_S512x1)

/-- The weighted sum of 384 rows of values, the weights relative to the maximum `m`. -/
def partB (s : FVec F S512x384 .f32) (m : FVec F S512x1 .f32) (v : Vec F S384x256 .bf16) : FVec F S512x256 .f32 :=
  matmul dot_S512x384_S384x256_S512x256_1_0_0_1_n_n none
    (truncf .bf16 (exp2 (subf s (broadcastTo S512x384 m broadcasts_S512x1_S512x384))) bitsLt_bf16_f32) v
    (constant S512x256 .f32 0x00000000#32)

/-- What the accumulator starts from: the column of the weights' sum. -/
def marks : FVec F S512x256 .f32 := k0_pay57

/-- The accumulator after the sink and the 384 columns. -/
def accB (σ : FVec F S512x1 .f32) (s : FVec F S512x384 .f32) (v : Vec F S384x256 .bf16) : FVec F S512x256 .f32 :=
  carry σ (topB σ s) marks (partB s (topB σ s) v)

/-- The attention of a sub-block over its sink, its 384 columns and the context's 256 keys. -/
def attend (q : FVec F S512x128 .bf16) (ok : IVec S512x384 1) (σ : FVec F S512x1 .f32) (k : Vec F S384x128 .bf16) (v : Vec F S384x256 .bf16)
    (kc : Vec F S256x128 .bf16) (vc : Vec F S256x256 .bf16) : FVec F S512x128 .f32 :=
  quot (carry (topB σ (scoreB q ok k)) (maximumf (topB σ (scoreB q ok k)) (rowMaxC (scoreC q kc))) (accB σ (scoreB q ok k) v)
    (partC (scoreC q kc) (maximumf (topB σ (scoreB q ok k)) (rowMaxC (scoreC q kc))) vc))

/-- The sink a point reads for a head. -/
def sinkAt (i : grid0.Coords) (x0 : Vec F S16 .f32) (g : Fin 4) : Elt F .f32 :=
  View.ld x0 (Rect.unit (s := S16) (k0_off1 i (BitVec.ofNat 32 g.val)) S1.size (k0_off1_inb i g)) (Shape.Idx.first (show 0 < S1.numel by decide))

/-- The rows of the keys' scratch sub-block `s` reads. -/
abbrev kBand (i : grid0.Coords) (s : Fin 4) : Rect S4608x128 :=
  Rect.unit (s := S4608x128) (k0_off2 i (BitVec.ofNat 32 s.val)) S384x128.size (k0_off2_inb i s)

/-- The rows of the values' scratch it reads. -/
abbrev vBand (i : grid0.Coords) (s : Fin 4) : Rect S4608x256 :=
  Rect.unit (s := S4608x256) (k0_off3 i (BitVec.ofNat 32 s.val)) S384x256.size (k0_off3_inb i s)

/-- The rows the context's keys are kept in. -/
abbrev kPast : Rect S4608x128 := Rect.unit (s := S4608x128) ![4352, 0] S256x128.size inb_S4608x128_S256x128_4352_0

/-- The rows the context's values are kept in. -/
abbrev vPast : Rect S4608x256 := Rect.unit (s := S4608x256) ![4352, 0] S256x256.size inb_S4608x256_S256x256_4352_0

theorem corner (s g : Fin 4) : ∀ a, (![128 * s.val, 128 * g.val] : Fin 2 → ℕ) a + (![128, 128] : Fin 2 → ℕ) a ≤ S512x512.size a := by
  have := s.isLt; have := g.isLt; intro a; fin_cases a <;> simp <;> omega

/-- What a point stores: tile `(s, g)` of the output. -/
def piece (i : grid0.Coords) (x0 : Vec F S16 .f32) (x1 x4 : Vec F S512x512 .f32) (x7 x8 : Vec F S512x128 .f32)
    (k : Fin 4 → Vec F S384x128 .bf16) (kc : Vec F S256x128 .bf16) (v : Fin 4 → Vec F S384x256 .bf16) (vc : Vec F S256x256 .bf16)
    (s g : Fin 4) : View.Piece (Elt F) S512x512 .bf16 :=
  ⟨Rect.unit (s := S512x512) ![128 * s.val, 128 * g.val] ![128, 128] (corner s g),
    gate (head (attend (queries x1 x7 x8 s) (valid (number i s)) (sinks (sinkAt i x0 0) (sinkAt i x0 1) (sinkAt i x0 2) (sinkAt i x0 3))
      (k s) (v s) kc vc) g) (tile x4 s g)⟩

/-- All a point stores, the last first. -/
def pieces (i : grid0.Coords) (x0 : Vec F S16 .f32) (x1 x4 : Vec F S512x512 .f32) (x7 x8 : Vec F S512x128 .f32)
    (k : Fin 4 → Vec F S384x128 .bf16) (kc : Vec F S256x128 .bf16) (v : Fin 4 → Vec F S384x256 .bf16) (vc : Vec F S256x256 .bf16) :
    List (View.Piece (Elt F) S512x512 .bf16) :=
  ([3, 2, 1, 0] : List (Fin 4)).flatMap fun s => ([3, 2, 1, 0] : List (Fin 4)).map fun g => piece i x0 x1 x4 x7 x8 k kc v vc s g

/-- The stores into the keys' scratch, the last first. -/
def kStores (x2 : Vec F S4096x128 .f32) (x5 : Vec F S1x1x256x128 .f32) (x9 x10 : Vec F S4096x128 .f32) :
    List (View.Piece (Elt F) S4608x128 .bf16) :=
  [⟨Rect.unit ![4352, 0] ![256, 128] inb_S4608x128_S256x128_4352_0, k0_pay9 x5⟩,
    ⟨Rect.unit ![4224, 0] ![128, 128] inb_S4608x128_S128x128_4224_0, k0_pay7 (F := F)⟩,
    ⟨Rect.unit ![0, 0] ![128, 128] inb_S4608x128_S128x128_0_0, k0_pay4 (F := F)⟩,
    ⟨Rect.unit ![128, 0] ![4096, 128] inb_S4608x128_S4096x128_128_0, k0_pay1 x2 x9 x10⟩]

/-- The stores into the values' scratch, the last first. -/
def vStores (x3 : Vec F S4096x128 .f32) (x6 : Vec F S1x1x256x128 .f32) : List (View.Piece (Elt F) S4608x256 .bf16) :=
  [⟨Rect.unit ![4352, 128] ![256, 128] inb_S4608x256_S256x128_4352_128, k0_pay12 (k0_pay11 (F := F))⟩,
    ⟨Rect.unit ![4352, 0] ![256, 128] inb_S4608x256_S256x128_4352_0, k0_pay10 x6⟩,
    ⟨Rect.unit ![4224, 0] ![128, 256] inb_S4608x256_S128x256_4224_0, k0_pay8 (F := F)⟩,
    ⟨Rect.unit ![0, 0] ![128, 256] inb_S4608x256_S128x256_0_0, k0_pay6 (k0_pay5 (F := F))⟩,
    ⟨Rect.unit ![128, 128] ![4096, 128] inb_S4608x256_S4096x128_128_128, k0_pay3 (F := F)⟩,
    ⟨Rect.unit ![128, 0] ![4096, 128] inb_S4608x256_S4096x128_128_0, k0_pay2 x3⟩]
end

variable (c : Dev nD) (i : grid0.Coords) (arg3 : Memref sig .tc .smem S16 .f32) (harg3 : arg3.IsWhole) (arg4 : Memref sig .tc .vmem S512x512 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S512x512 .f32) (harg7 : arg7.IsWhole) (arg8 : Memref sig .tc .vmem S1x1x256x128 .f32) (harg8 : arg8.IsWhole) (arg9 : Memref sig .tc .vmem S1x1x256x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S4096x128 .f32) (harg12 : arg12.IsWhole) (arg13 : Memref sig .tc .vmem S4096x128 .f32) (harg13 : arg13.IsWhole) (arg15 : Memref sig .tc .vmem S512x512 .bf16) (harg15 : arg15.IsWhole) (arg16 : Memref sig .tc .vmem S4608x128 .bf16) (harg16 : arg16.IsWhole) (arg17 : Memref sig .tc .vmem S4608x256 .bf16) (harg17 : arg17.IsWhole)
    (x0 : Vec Ideal S16 .f32) (x1 : Vec Ideal S512x512 .f32) (x2 : Vec Ideal S4096x128 .f32) (x3 : Vec Ideal S4096x128 .f32) (x4 : Vec Ideal S512x512 .f32) (x5 : Vec Ideal S1x1x256x128 .f32) (x6 : Vec Ideal S1x1x256x128 .f32) (x7 : Vec Ideal S512x128 .f32) (x8 : Vec Ideal S512x128 .f32) (x9 : Vec Ideal S4096x128 .f32) (x10 : Vec Ideal S4096x128 .f32)

/-- A run's first point stores the pieces over the scratch it has just filled. -/
theorem outA (hc0 : cond0_0 i) (y : S512x512.Idx) : out0_A_11 c i arg3 harg3 arg4 harg4 arg5 harg5 arg6 harg6 arg7 harg7 arg8 harg8 arg9 harg9 arg10 harg10 arg11 harg11 arg12 harg12 arg13 harg13 arg15 harg15 arg16 harg16 arg17 harg17 hc0 x0 x1 x2 x3 x4 x5 x6 x7 x8 x9 x10 y
    = View.canon (Val := Elt Ideal) (pieces (F := Ideal) i x0 x1 x4 x7 x8
        (fun s => View.ld (View.canon (Val := Elt Ideal) (kStores (F := Ideal) x2 x5 x9 x10)) (kBand i s))
        (arg16.view.readCov (kStores (F := Ideal) x2 x5 x9 x10) kPast.toLoadRect)
        (fun s => View.ld (View.canon (Val := Elt Ideal) (vStores (F := Ideal) x3 x6)) (vBand i s))
        (arg17.view.readCov (vStores (F := Ideal) x3 x6) vPast.toLoadRect)) y := by
  frame_open
  simp (disch := decide) only [View.read_writes_junk_eq_canon, View.ld_unit_lit', View.readAt_eq_ld, Memref.IsWhole.read_unread]
  refine congrArg (fun l => View.canon (Val := Elt Ideal) l y) ?_
  rfl

/-- A later point stores the pieces over the scratch it finds. -/
theorem outB (hc0 : ¬cond0_0 i) (xs0 : Vec Ideal S4608x128 .bf16) (xs1 : Vec Ideal S4608x256 .bf16) (y : S512x512.Idx) : out0_B_11 c i arg3 harg3 arg4 harg4 arg5 harg5 arg6 harg6 arg7 harg7 arg8 harg8 arg9 harg9 arg10 harg10 arg11 harg11 arg12 harg12 arg13 harg13 arg15 harg15 arg16 harg16 arg17 harg17 hc0 x0 x1 x2 x3 x4 x5 x6 x7 x8 x9 x10 xs0 xs1 y
    = View.canon (Val := Elt Ideal) (pieces (F := Ideal) i x0 x1 x4 x7 x8 (fun s => View.ld xs0 (kBand i s)) (View.ld xs0 kPast)
        (fun s => View.ld xs1 (vBand i s)) (View.ld xs1 vPast)) y := by
  frame_open
  simp (disch := decide) only [View.read_writes_junk_eq_canon, View.ld_unit_lit', View.readAt_eq_ld, Memref.IsWhole.read_unread]
  refine congrArg (fun l => View.canon (Val := Elt Ideal) l y) ?_
  rfl

/-- The keys' scratch after a run's first point. -/
theorem scrA0 (hc0 : cond0_0 i) (y : S4608x128.Idx) : sout0_A_0 c i arg3 harg3 arg4 harg4 arg5 harg5 arg6 harg6 arg7 harg7 arg8 harg8 arg9 harg9 arg10 harg10 arg11 harg11 arg12 harg12 arg13 harg13 arg15 harg15 arg16 harg16 arg17 harg17 hc0 x0 x1 x2 x3 x4 x5 x6 x7 x8 x9 x10 y = View.canon (Val := Elt Ideal) (kStores (F := Ideal) x2 x5 x9 x10) y := by
  frame_open
  simp (disch := decide) only [View.read_writes_junk_eq_canon, View.ld_unit_lit', View.readAt_eq_ld, Memref.IsWhole.read_unread]
  refine congrArg (fun l => View.canon (Val := Elt Ideal) l y) ?_
  rfl

/-- The values' scratch after a run's first point. -/
theorem scrA1 (hc0 : cond0_0 i) (y : S4608x256.Idx) : sout0_A_1 c i arg3 harg3 arg4 harg4 arg5 harg5 arg6 harg6 arg7 harg7 arg8 harg8 arg9 harg9 arg10 harg10 arg11 harg11 arg12 harg12 arg13 harg13 arg15 harg15 arg16 harg16 arg17 harg17 hc0 x0 x1 x2 x3 x4 x5 x6 x7 x8 x9 x10 y = View.canon (Val := Elt Ideal) (vStores (F := Ideal) x3 x6) y := by
  frame_open
  simp (disch := decide) only [View.read_writes_junk_eq_canon, View.ld_unit_lit', View.readAt_eq_ld, Memref.IsWhole.read_unread]
  refine congrArg (fun l => View.canon (Val := Elt Ideal) l y) ?_
  rfl

end Cert.LatWinIdeal.Block

end
-- ==== Proof.Lat.lean ====
module

public import proofs.«01_k».proof.Proof.Head
public import Idealize.ShloMosaic.Lib.Pointwise

/-! The samples' windowed attention, as mathematics: of the projected rows, the context's keys and values, the sinks and
    the tables, the queries, keys, values and gates it takes, and the mean it makes of them. A position sees the positions
    within 128 of it, the context's keys, and a sink whose value is zero. -/

@[expose] public section

set_option maxRecDepth 16384

noncomputable section

namespace Cert.Lat

open Idealize.ShloMosaic Cert.Head Cert.Mean

/-- Within 128 of each other. -/
abbrev Close (i x : ℕ) : Prop := i ≤ x + 128 ∧ x ≤ i + 128

/-- The positions of a sample a position sees. -/
def near (i : ℕ) : Finset ℕ := (Finset.range 4096).filter fun x => Close i x

/-- The weighted sum over what a position sees: the sink, the near positions and the context. -/
def mass (i : ℕ) (σ w : ℝ) (T W : ℕ → ℝ) : ℝ :=
  Real.exp σ * w + ∑ x ∈ near i, Real.exp (T x) * W x + ∑ x ∈ Finset.range 256, Real.exp (T (4096 + x)) * W (4096 + x)

/-- The mean of the values under the weights of the scores, the sink's value zero. -/
def mean (i : ℕ) (σ : ℝ) (T W : ℕ → ℝ) : ℝ := mass i σ 0 T W / mass i σ 1 T fun _ => 1

theorem mass_pos (i : ℕ) (σ : ℝ) (T : ℕ → ℝ) : 0 < mass i σ 1 T fun _ => 1 := by
  have h1 : 0 ≤ ∑ x ∈ near i, Real.exp (T x) * 1 := Finset.sum_nonneg fun _ _ => by positivity
  have h2 : 0 ≤ ∑ x ∈ Finset.range 256, Real.exp (T (4096 + x)) * 1 := Finset.sum_nonneg fun _ _ => by positivity
  have h3 := Real.exp_pos σ
  unfold mass
  linarith

/-- The sums relative to two maxima, in powers of two. -/
theorem mass_two (i : ℕ) (σ w μ ν : ℝ) (S W : ℕ → ℝ) :
    (2 : ℝ) ^ (μ - ν) * ((2 : ℝ) ^ (σ - μ) * w + ∑ x ∈ near i, (2 : ℝ) ^ (S x - μ) * W x)
        + ∑ j : Fin 256, (2 : ℝ) ^ (S (4096 + j) - ν) * W (4096 + j)
      = (2 : ℝ) ^ (-ν) * mass i (Real.log 2 * σ) w (fun x => Real.log 2 * S x) W := by
  have h : ∀ x κ : ℝ, (2 : ℝ) ^ (x - κ) = (2 : ℝ) ^ (-κ) * Real.exp (Real.log 2 * x) := fun x κ => by
    rw [← Real.rpow_def_of_pos two_pos, ← Real.rpow_add two_pos]
    exact congrArg _ (by ring)
  have h' : (2 : ℝ) ^ (μ - ν) * (2 : ℝ) ^ (-μ) = (2 : ℝ) ^ (-ν) := by
    rw [← Real.rpow_add two_pos]
    exact congrArg _ (by ring)
  rw [Fin.sum_univ_eq_sum_range (fun j => (2 : ℝ) ^ (S (4096 + j) - ν) * W (4096 + j)) 256, mass]
  simp only [h _ μ, h (S _) ν, mul_assoc, ← Finset.mul_sum]
  rw [← h']
  ring

/-- The near positions, as the 384 columns a sub-block reads: 128 before it, its own and 128 after it. -/
theorem band {n a : ℕ} (hn : n < 32) (ha : a < 128) (f : ℕ → ℝ) :
    (∑ c : Fin 384, if 128 ≤ 128 * n + c.val ∧ 128 * n + c.val < 4224 ∧ a ≤ c.val ∧ c.val ≤ a + 256 then f (128 * n + c.val - 128) else 0)
      = ∑ x ∈ near (128 * n + a), f x := by
  rw [← Finset.sum_filter]
  refine Finset.sum_nbij (fun c => 128 * n + c.val - 128) (fun c hc => ?_) (fun c hc d hd h => ?_) (fun x hx => ?_) fun c hc => rfl
  · simp only [Finset.mem_filter, near, Finset.mem_range, Finset.mem_univ, true_and] at hc ⊢
    omega
  · simp only [Finset.coe_filter, Set.mem_setOf_eq, Finset.mem_univ, true_and] at hc hd
    have h : 128 * n + c.val - 128 = 128 * n + d.val - 128 := h
    exact Fin.ext (by omega)
  · simp only [Finset.mem_coe, Finset.mem_filter, near, Finset.mem_range] at hx
    refine ⟨⟨x + 128 - 128 * n, by omega⟩, ?_, ?_⟩
    · simp only [Finset.coe_filter, Set.mem_setOf_eq, Finset.mem_univ, true_and]
      omega
    · show 128 * n + (x + 128 - 128 * n) - 128 = x
      omega

/-- The larger of a real number and the largest of some that are not infinite is real. -/
theorem max_real {n : ℕ} (σ : ℝ) (f : Fin n → EReal) (hf : ∀ j, f j < ⊤) :
    ∃ μ : ℝ, max (σ : EReal) ((Finset.univ : Finset (Fin n)).fold max ⊥ f) = (μ : EReal) := by
  refine ⟨_, (EReal.coe_toReal (ne_of_lt ?_) (ne_of_gt ?_)).symm⟩
  · exact max_lt (EReal.coe_lt_top σ) ((Finset.fold_max_lt ⊤).2 ⟨bot_lt_top, fun j _ => hf j⟩)
  · exact lt_max_of_lt_left (EReal.bot_lt_coe σ)

/-- One of real numbers where a condition holds, and minus infinity elsewhere, exponentiated below a maximum. -/
theorem exp_masked (p : Prop) [Decidable p] (x μ : ℝ) :
    Ideal.exp ((if p then ((x : ℝ) : EReal) else ⊥) - (μ : EReal)) = ((if p then Real.exp (x - μ) else 0 : ℝ) : EReal) := by
  split_ifs
  · rw [← EReal.coe_sub, Ideal.exp_coe]
  · rw [EReal.bot_sub, Ideal.exp_bot, EReal.coe_zero]

theorem exp2_masked (p : Prop) [Decidable p] (x μ : ℝ) :
    Ideal.exp2 ((if p then ((x : ℝ) : EReal) else ⊥) - (μ : EReal)) = ((if p then (2 : ℝ) ^ (x - μ) else 0 : ℝ) : EReal) := by
  split_ifs
  · rw [← EReal.coe_sub, Ideal.exp2_coe]
    rfl
  · rw [EReal.bot_sub, Ideal.exp2_bot, EReal.coe_zero]

/-- Scores that are real where a position sees the key, and a sink, the largest subtracted, exponentiated and divided by
    their sum, weigh real values to the mean. -/
theorem weigh (i : ℕ) (T W : ℕ → ℝ) (σ : ℝ) (s w : Fin 4352 → EReal) (v : Fin 4096 → EReal) (vc : Fin 256 → EReal) (M : EReal)
    (hs : ∀ j, s j = if j.val < 4096 → Close i j.val then ((T j.val : ℝ) : EReal) else ⊥)
    (hv : ∀ j, v j = (W j.val : EReal)) (hc : ∀ j, vc j = (W (4096 + j.val) : EReal))
    (hM : M = max ((Finset.univ : Finset (Fin 4352)).fold max ⊥ s) (σ : EReal))
    (hw : ∀ j, w j = Ideal.div (Ideal.exp (s j - M)) ((∑ x, Ideal.exp (s x - M)) + Ideal.exp ((σ : EReal) - M))) :
    (∑ j : Fin 4096, v j * w ⟨j.val, by omega⟩) + ∑ j : Fin 256, vc j * w ⟨4096 + j.val, by omega⟩ = (mean i σ T W : EReal) := by
  obtain ⟨μ, hμ⟩ := max_real σ s fun j => by
    rw [hs]
    split_ifs
    · exact EReal.coe_lt_top _
    · exact bot_lt_top
  obtain rfl : M = μ := by rw [hM, max_comm, hμ]
  have he : ∀ j : Fin 4352, Ideal.exp (s j - μ) = ((if j.val < 4096 → Close i j.val then Real.exp (T j.val - μ) else 0 : ℝ) : EReal) :=
    fun j => by rw [hs, exp_masked]
  have hσ : Ideal.exp ((σ : EReal) - μ) = (Real.exp (σ - μ) : EReal) := by rw [← EReal.coe_sub, Ideal.exp_coe]
  have hx : ∀ x : ℝ, Real.exp (x - μ) = Real.exp (-μ) * Real.exp x := fun x => by rw [← Real.exp_add]; exact congrArg _ (by ring)
  have low : ∀ U : ℕ → ℝ, (∑ j : Fin 4096, (if j.val < 4096 → Close i j.val then Real.exp (T j.val - μ) else 0) * U j.val)
      = Real.exp (-μ) * ∑ x ∈ near i, Real.exp (T x) * U x := fun U => by
    rw [Fin.sum_univ_eq_sum_range (fun j => (if j < 4096 → Close i j then Real.exp (T j - μ) else 0) * U j) 4096, near, Finset.sum_filter,
      Finset.mul_sum]
    refine Finset.sum_congr rfl fun x h => ?_
    have h : x < 4096 := Finset.mem_range.1 h
    simp only [h, true_implies, hx]
    split_ifs <;> ring
  have high : ∀ U : ℕ → ℝ, (∑ j : Fin 256, (if 4096 + j.val < 4096 → Close i (4096 + j.val) then Real.exp (T (4096 + j.val) - μ) else 0) * U (4096 + j.val))
      = Real.exp (-μ) * ∑ x ∈ Finset.range 256, Real.exp (T (4096 + x)) * U (4096 + x) := fun U => by
    rw [Fin.sum_univ_eq_sum_range (fun j => (if 4096 + j < 4096 → Close i (4096 + j) then Real.exp (T (4096 + j) - μ) else 0) * U (4096 + j)) 256,
      Finset.mul_sum]
    refine Finset.sum_congr rfl fun x h => ?_
    rw [if_pos (fun h => absurd h (by omega)), hx, mul_assoc]
  have hsum : (∑ x : Fin 4352, Ideal.exp (s x - μ)) + Ideal.exp ((σ : EReal) - μ) = ((Real.exp (-μ) * mass i σ 1 T fun _ => 1 : ℝ) : EReal) := by
    simp only [he, hσ]
    rw [coe_sum, ← EReal.coe_add]
    refine congrArg _ ?_
    have h1 := low fun _ => 1
    have h2 := high fun _ => 1
    simp only [mul_one] at h1 h2
    rw [Fin.sum_univ_add (a := 4096) (b := 256) fun j : Fin (4096 + 256) => if j.val < 4096 → Close i j.val then Real.exp (T j.val - μ) else 0]
    simp only [Fin.val_castAdd, Fin.val_natAdd]
    rw [h1, h2, hx, mass]
    simp only [mul_one]
    ring
  have hpos : Real.exp (-μ) * mass i σ 1 T (fun _ => 1) ≠ 0 := (mul_pos (Real.exp_pos _) (mass_pos i σ T)).ne'
  have hterm : ∀ j : Fin 4352, ∀ x : ℝ, (x : EReal) * w j
      = (((if j.val < 4096 → Close i j.val then Real.exp (T j.val - μ) else 0) * x * (1 / (Real.exp (-μ) * mass i σ 1 T fun _ => 1)) : ℝ) : EReal) := fun j x => by
    rw [hw, hsum, he, Ideal.div_coe hpos, ← EReal.coe_mul, ← EReal.coe_mul]
    exact congrArg _ (by ring)
  simp only [hv, hc, hterm]
  rw [coe_sum, coe_sum, ← EReal.coe_add]
  refine congrArg _ ?_
  rw [← Finset.sum_mul, ← Finset.sum_mul, low W, high W, mean, mass]
  have he0 := (Real.exp_pos (-μ)).ne'
  have hm0 := (mass_pos i σ T).ne'
  field_simp
  simp only [mass, mul_zero, zero_add]

/-! ## What the attention is computed from -/

/-- What the attention is computed from. -/
structure Data where
  p : (⟨2, ![36864, 30720]⟩ : Shape).Idx → EReal
  ck : (⟨5, ![8, 4, 256, 4, 128]⟩ : Shape).Idx → EReal
  cv : (⟨5, ![8, 4, 256, 4, 128]⟩ : Shape).Idx → EReal
  sink : (⟨1, ![16]⟩ : Shape).Idx → EReal
  co : (⟨2, ![4096, 64]⟩ : Shape).Idx → EReal
  si : (⟨2, ![4096, 64]⟩ : Shape).Idx → EReal

/-- The rotation of real numbers by real tables is real. -/
theorem fin_rot {x : Fin 128 → EReal} {c s : Fin 64 → EReal} (hx : ∀ k, Fin' (x k)) (hc : ∀ k, Fin' (c k)) (hs : ∀ k, Fin' (s k)) (d : Fin 128) :
    Fin' (rot x (cosf c) (sinf s) d) := by
  unfold rot cosf sinf
  refine fin_add (fin_mul (hx _) (hc _)) (fin_mul (hx _) ?_)
  split_ifs
  · exact fin_neg (hs _)
  · exact hs _

namespace Data
variable (D : Data)

/-- The row of the projection a sample's position has. -/
abbrev row (b : Fin 8) (j : Fin 4096) : Fin 36864 := ⟨4096 + (4096 * b.val + j.val), by omega⟩

/-- The query of a sample's position, of one of the sixteen heads. -/
def q (b : Fin 8) (h : Fin 16) (j : Fin 4096) (d : Fin 128) : EReal :=
  rot (fun k => D.p (ix2 (row b j) ⟨8192 + (128 * h.val + k.val), by omega⟩))
    (cosf fun k => D.co (ix2 j k)) (sinf fun k => D.si (ix2 j k)) d

/-- The key of a sample's position, of one of the four groups. -/
def kSelf (b : Fin 8) (h : Fin 4) (j : Fin 4096) (d : Fin 128) : EReal :=
  rot (fun k => D.p (ix2 (row b j) ⟨10240 + (128 * h.val + k.val), by omega⟩))
    (cosf fun k => D.co (ix2 j k)) (sinf fun k => D.si (ix2 j k)) d

/-- The keys: the sample's positions, then the context's. -/
def k (b : Fin 8) (h : Fin 4) (j : Fin 4352) (d : Fin 128) : EReal :=
  if hj : j.val < 4096 then D.kSelf b h ⟨j.val, hj⟩ d else D.ck (ix5 b 0 ⟨j.val - 4096, by omega⟩ h d)

/-- The values: the sample's positions, then the context's. -/
def v (b : Fin 8) (h : Fin 4) (j : Fin 4352) (d : Fin 128) : EReal :=
  if hj : j.val < 4096 then D.p (ix2 (row b ⟨j.val, hj⟩) ⟨10752 + (128 * h.val + d.val), by omega⟩)
    else D.cv (ix5 b 0 ⟨j.val - 4096, by omega⟩ h d)

/-- The gate. -/
def z (b : Fin 8) (h : Fin 16) (j : Fin 4096) (d : Fin 128) : EReal :=
  D.p (ix2 (row b j) ⟨11264 + (128 * h.val + d.val), by omega⟩)

/-- What the attention reads is real. -/
structure Real' : Prop where
  p : ∀ (b : Fin 8) (j : Fin 4096) (c : Fin 3072), Fin' (D.p (ix2 (row b j) ⟨8192 + c.val, by omega⟩))
  ck : ∀ b j h d, Fin' (D.ck (ix5 b 0 j h d))
  cv : ∀ b j h d, Fin' (D.cv (ix5 b 0 j h d))
  sink : ∀ h, Fin' (D.sink (ix1 h))
  co : ∀ j d, Fin' (D.co (ix2 j d))
  si : ∀ j d, Fin' (D.si (ix2 j d))

/-- The queries, keys, values and sinks as reals. -/
def qR (b : Fin 8) (h : Fin 16) (j : Fin 4096) (d : Fin 128) : ℝ := (D.q b h j d).toReal
def kR (b : Fin 8) (h : Fin 4) (j : ℕ) (d : Fin 128) : ℝ := if hj : j < 4352 then (D.k b h ⟨j, hj⟩ d).toReal else 0
def vR (b : Fin 8) (h : Fin 4) (j : ℕ) (d : Fin 128) : ℝ := if hj : j < 4352 then (D.v b h ⟨j, hj⟩ d).toReal else 0
def sinkR (h : Fin 16) : ℝ := (D.sink (ix1 h)).toReal

/-- The group a head shares its keys and values with. -/
abbrev group (h : Fin 16) : Fin 4 := ⟨h.val / 4, by omega⟩

/-- The gated mean. -/
def out (b : Fin 8) (h : Fin 16) (j : Fin 4096) (d : Fin 128) : EReal :=
  (mean j.val (D.sinkR h) (fun x => (∑ e, D.qR b h j e * D.kR b (group h) x e) * (Real.sqrt 128)⁻¹) (fun x => D.vR b (group h) x d) : EReal)
    * (D.z b h j d * Ideal.logistic (D.z b h j d))

/-- The whole array: the other rows as they were, the sample rows the gated mean. -/
def whole (y : (⟨2, ![36864, 2048]⟩ : Shape).Idx → EReal) (i : (⟨2, ![36864, 2048]⟩ : Shape).Idx) : EReal :=
  if h : (i 0).val < 4096 then y i
  else D.out ⟨((i 0).val - 4096) / 4096, by have : (i 0).val < 36864 := (i 0).isLt; omega⟩
    ⟨(i 1).val / 128, by have : (i 1).val < 2048 := (i 1).isLt; omega⟩
    ⟨((i 0).val - 4096) % 4096, by omega⟩ ⟨(i 1).val % 128, by omega⟩

theorem whole_low (y : (⟨2, ![36864, 2048]⟩ : Shape).Idx → EReal) (i : (⟨2, ![36864, 2048]⟩ : Shape).Idx) (h : (i 0).val < 4096) :
    D.whole y i = y i := dif_pos h

theorem whole_row (y : (⟨2, ![36864, 2048]⟩ : Shape).Idx → EReal) (b : Fin 8) (h : Fin 16) (j : Fin 4096) (d : Fin 128) :
    D.whole y (ix2 (row b j) ⟨128 * h.val + d.val, by omega⟩) = D.out b h j d := by
  have hr : ¬4096 + (4096 * b.val + j.val) < 4096 := by omega
  have e : ∀ (b' : Fin 8) (h' : Fin 16) (j' : Fin 4096) (d' : Fin 128), b' = b → h' = h → j' = j → d' = d → D.out b' h' j' d' = D.out b h j d := by
    rintro _ _ _ _ rfl rfl rfl rfl
    rfl
  exact (dif_neg hr).trans (e _ _ _ _ (Fin.ext (by dsimp only [ix2]; omega)) (Fin.ext (by dsimp only [ix2]; omega))
    (Fin.ext (by dsimp only [ix2]; omega)) (Fin.ext (by dsimp only [ix2]; omega)))

variable {D} (hD : D.Real')
include hD

theorem sink_eq (h : Fin 16) : D.sink (ix1 h) = (D.sinkR h : EReal) := fin_toReal (hD.sink h)

theorem q_eq (b : Fin 8) (h : Fin 16) (j : Fin 4096) (d : Fin 128) : D.q b h j d = (D.qR b h j d : EReal) :=
  fin_toReal (fin_rot (fun k => hD.p b j ⟨128 * h.val + k.val, by omega⟩) (fun k => hD.co j k) (fun k => hD.si j k) d)

/-- A column past the queries, counted from them. -/
theorem p_fin (b : Fin 8) (j : Fin 4096) (n : ℕ) (hn : n < 11264) (h : 8192 ≤ n) : Fin' (D.p (ix2 (row b j) ⟨n, by omega⟩)) := by
  have := hD.p b j ⟨n - 8192, by omega⟩
  convert this using 3
  exact Fin.ext (by dsimp only; omega)

theorem k_eq (b : Fin 8) (h : Fin 4) (j : Fin 4352) (d : Fin 128) : D.k b h j d = (D.kR b h j.val d : EReal) := by
  rw [kR, dif_pos j.isLt]
  refine fin_toReal ?_
  unfold k
  split_ifs
  · exact fin_rot (fun k => p_fin hD _ _ _ (by omega) (by omega)) (fun k => hD.co _ k) (fun k => hD.si _ k) d
  · exact hD.ck ..

theorem v_eq (b : Fin 8) (h : Fin 4) (j : Fin 4352) (d : Fin 128) : D.v b h j d = (D.vR b h j.val d : EReal) := by
  rw [vR, dif_pos j.isLt]
  refine fin_toReal ?_
  unfold v
  split_ifs
  · exact p_fin hD _ _ _ (by omega) (by omega)
  · exact hD.cv ..

theorem kSelf_eq (b : Fin 8) (h : Fin 4) (j : Fin 4096) (d : Fin 128) : D.kSelf b h j d = (D.kR b h j.val d : EReal) :=
  (dif_pos j.isLt).symm.trans (k_eq hD b h ⟨j.val, by omega⟩ d)

theorem kCtx_eq (b : Fin 8) (h : Fin 4) (j : Fin 256) (d : Fin 128) : D.ck (ix5 b 0 j h d) = (D.kR b h (4096 + j.val) d : EReal) := by
  rw [← k_eq hD b h ⟨4096 + j.val, by omega⟩ d, k, dif_neg (by simp)]
  exact congrArg (fun i => D.ck (ix5 b 0 i h d)) (Fin.ext (by simp))

theorem vSelf_eq (b : Fin 8) (h : Fin 4) (j : Fin 4096) (d : Fin 128) :
    D.p (ix2 (row b j) ⟨10752 + (128 * h.val + d.val), by omega⟩) = (D.vR b h j.val d : EReal) :=
  (dif_pos j.isLt).symm.trans (v_eq hD b h ⟨j.val, by omega⟩ d)

theorem vCtx_eq (b : Fin 8) (h : Fin 4) (j : Fin 256) (d : Fin 128) : D.cv (ix5 b 0 j h d) = (D.vR b h (4096 + j.val) d : EReal) := by
  rw [← v_eq hD b h ⟨4096 + j.val, by omega⟩ d, v, dif_neg (by simp)]
  exact congrArg (fun i => D.cv (ix5 b 0 i h d)) (Fin.ext (by simp))

end Data

end Cert.Lat

end
-- ==== Proof.LatRead.lean ====
module

public import proofs.«01_k».proof.Proof.LatBlock
public import proofs.«01_k».proof.Proof.Lat
public import proofs.«01_k».proof.Proof.HeadRead
public import proofs.«01_k».proof.Proof.Scratch
public import Idealize.ShloMosaic.Lib.Pipeline.ValueKit
public import Idealize.ShloMosaic.Lib.ValueIdx
public import Idealize.ShloMosaic.Lib.Pointwise

/-! The samples' windowed attention read at an element: over real queries, keys, values and sinks, and values whose column
    128 is one, a point stores the means of the values its rows see, gated. -/

@[expose] public section

set_option maxRecDepth 16384

noncomputable section

namespace Cert.LatWinIdeal.Block

open Cert.LatWinIdeal Cert.LatWinIdeal.Gen Idealize.ShloMosaic Idealize.SL.Sem
open Cert.Head Cert.Mean Cert.Lat
open Cert.KernelIdeal.Block (tile rows head gate qcat scoreC partC rowMaxC carry quot gate_apply head_apply qcat_apply tile_apply rows_apply
  scoreC_apply partC_apply quot_apply carry_apply rowMaxC_apply pair_idx wide wide_low wide_one wide_high lane factor sum_part coe_max')

theorem qhead_apply (x c s : Vec Ideal S128x128 .f32) (r d : Fin 128) :
    qhead x c s (ix2 r d) = rot (fun k => x (ix2 r k)) (fun k => c (ix2 r k)) (fun k => s (ix2 r k)) d
        * ((((Real.sqrt 128) * (Real.log 2))⁻¹ : ℝ) : EReal) := by
  pointwise [qhead, k0_pay15]
  exact congrArg₂ (· * ·) rfl (IdealRules.named_const.ideal_named_scalar _ _ _ _ rfl)

theorem kRow_apply (x c s : Vec Ideal S4096x128 .f32) (r : Fin 4096) (d : Fin 128) :
    k0_pay1 x c s (ix2 r d) = rot (fun k => x (ix2 r k)) (fun k => c (ix2 r k)) (fun k => s (ix2 r k)) d := by
  pointwise [k0_pay1]
  rfl

theorem vRow_apply (x : Vec Ideal S4096x128 .f32) (r : Fin 4096) (d : Fin 128) : k0_pay2 x (ix2 r d) = x (ix2 r d) := by
  pointwise [k0_pay2]

theorem ones_apply (r : Fin 4096) (l : Fin 128) : k0_pay3 (F := Ideal) (ix2 r l) = ((if l = 0 then 1 else 0 : ℝ) : EReal) := by
  pointwise [k0_pay3]
  exact lane l

theorem kZero_apply (r l : Fin 128) : k0_pay4 (F := Ideal) (ix2 r l) = ((0 : ℝ) : EReal) := by
  pointwise [k0_pay4]
  simp

theorem kZero_apply' (r l : Fin 128) : k0_pay7 (F := Ideal) (ix2 r l) = ((0 : ℝ) : EReal) := by
  pointwise [k0_pay7]
  simp

theorem vZero_apply (r : Fin 128) (l : Fin 256) : k0_pay6 (F := Ideal) k0_pay5 (ix2 r l) = ((0 : ℝ) : EReal) := by
  pointwise [k0_pay6, k0_pay5]
  simp

theorem vZero_apply' (r : Fin 128) (l : Fin 256) : k0_pay8 (F := Ideal) (ix2 r l) = ((0 : ℝ) : EReal) := by
  pointwise [k0_pay8]
  simp

theorem kCtx_apply (x : Vec Ideal S1x1x256x128 .f32) (r : Fin 256) (d : Fin 128) : k0_pay9 x (ix2 r d) = x (ix4 0 0 r d) := by
  pointwise [k0_pay9]

theorem vCtx_apply (x : Vec Ideal S1x1x256x128 .f32) (r : Fin 256) (d : Fin 128) : k0_pay10 x (ix2 r d) = x (ix4 0 0 r d) := by
  pointwise [k0_pay10]

theorem onesC_apply (r : Fin 256) (l : Fin 128) : k0_pay12 (F := Ideal) k0_pay11 (ix2 r l) = ((if l = 0 then 1 else 0 : ℝ) : EReal) := by
  pointwise [k0_pay12, k0_pay11]
  exact lane l

theorem log2e : Named.named (F := Ideal) (φ := .f32) κ "log2e" 0x3FB8AA3B#32 = (((Real.log 2)⁻¹ : ℝ) : EReal) :=
  IdealRules.named_const.ideal_named_scalar _ _ _ _ rfl
theorem mask : Named.named (F := Ideal) (φ := .f32) κ "mask" 0xF149F2CA#32 = (⊥ : EReal) :=
  IdealRules.named_const.ideal_named_scalar _ _ _ _ rfl

/-- A row's head is at least another. -/
theorem from_head (g g' : Fin 4) (a : Fin 128) :
    IntOp.cmpi .sge (BitVec.ofNat 32 (128 * g.val + a.val)) (BitVec.ofNat 32 (128 * g'.val)) = if g' ≤ g then 1#1 else 0#1 := by
  revert g g' a
  decide +kernel

theorem sinks_apply (x : Fin 4 → Elt Ideal .f32) (g : Fin 4) (a : Fin 128) :
    sinks (F := Ideal) (x 0) (x 1) (x 2) (x 3) (ix2 ⟨128 * g.val + a.val, by omega⟩ 0) = x g * (((Real.log 2)⁻¹ : ℝ) : EReal) := by
  rw [← log2e]
  pointwise [sinks, k0_pay24]
  have h0 := from_head g 0 a
  have h1 := from_head g 1 a
  have h2 := from_head g 2 a
  have h3 := from_head g 3 a
  simp at h0 h1 h2 h3
  rw [h0, h1, h2, h3]
  fin_cases g <;> simp [Scalar.select]

/-- The columns of sub-block `n` that row `a` sees. -/
abbrev Sees (n a : ℕ) (c : Fin 384) : Prop := 128 ≤ 128 * n + c.val ∧ 128 * n + c.val < 4224 ∧ a ≤ c.val ∧ c.val ≤ a + 256

theorem row_apply (g : Fin 4) (a : Fin 128) : IntOp.andi (BitVec.ofNat 32 (128 * g.val + a.val)) 127#32 = BitVec.ofNat 32 a.val := by
  revert g a
  decide +kernel

theorem near_apply (a : Fin 128) (c : Fin 384) :
    IntOp.cmpi .sle (IntOp.absi (IntOp.subi (BitVec.ofNat 32 a.val) (IntOp.subi (BitVec.ofNat 32 c.val) 128#32))) 128#32
      = if a.val ≤ c.val ∧ c.val ≤ a.val + 256 then 1#1 else 0#1 := by
  have key : ∀ e : Fin 640, IntOp.cmpi .sle (IntOp.absi (IntOp.subi (BitVec.ofNat 32 e.val) 384#32)) 128#32
      = if 256 ≤ e.val ∧ e.val ≤ 512 then 1#1 else 0#1 := by decide +kernel
  have e : IntOp.subi (BitVec.ofNat 32 a.val) (IntOp.subi (BitVec.ofNat 32 c.val) 128#32)
      = IntOp.subi (BitVec.ofNat 32 (a.val + 512 - c.val)) 384#32 := by
    show BitVec.ofNat 32 a.val - (BitVec.ofNat 32 c.val - 128#32) = BitVec.ofNat 32 (a.val + 512 - c.val) - 384#32
    apply BitVec.eq_of_toNat_eq
    simp only [BitVec.toNat_sub, BitVec.toNat_ofNat]
    omega
  rw [e, key ⟨a.val + 512 - c.val, by omega⟩]
  exact if_congr (by dsimp only; omega) rfl rfl

theorem start_apply (n : Fin 32) (c : Fin 384) :
    IntOp.cmpi .sge (IntOp.addi (IntOp.subi (BitVec.ofNat 32 c.val) 128#32) (Scalar.muli (BitVec.ofNat 32 n.val) 128#32)) 0#32
      = if 128 ≤ 128 * n.val + c.val then 1#1 else 0#1 := by
  revert n c
  decide +kernel

theorem stop_apply (n : Fin 32) (c : Fin 384) :
    IntOp.cmpi .slt (IntOp.addi (IntOp.subi (BitVec.ofNat 32 c.val) 128#32) (Scalar.muli (BitVec.ofNat 32 n.val) 128#32)) 4096#32
      = if 128 * n.val + c.val < 4224 then 1#1 else 0#1 := by
  revert n c
  decide +kernel

theorem valid_apply (n : Fin 32) (g : Fin 4) (a : Fin 128) (c : Fin 384) :
    valid (BitVec.ofNat 32 n.val) (ix2 ⟨128 * g.val + a.val, by omega⟩ c) = if Sees n.val a.val c then 1#1 else 0#1 := by
  pointwise [valid, k0_pay38, k0_pay13, k0_pay14]
  rw [row_apply, near_apply, start_apply, stop_apply]
  by_cases h1 : a.val ≤ c.val ∧ c.val ≤ a.val + 256 <;> by_cases h2 : 128 ≤ 128 * n.val + c.val <;> by_cases h3 : 128 * n.val + c.val < 4224
  all_goals
    simp only [Sees, h1, h2, h3, and_true, true_and, and_false, false_and, if_true, if_false]
    rfl

theorem scoreB_apply (q : FVec Ideal S512x128 .bf16) (ok : IVec S512x384 1) (k : Vec Ideal S384x128 .bf16) (r : Fin 512) (c : Fin 384) :
    scoreB q ok k (ix2 r c) = Scalar.select (ok (ix2 r c)) (∑ d : Fin 128, q (ix2 r d) * k (ix2 c d)) (⊥ : EReal) := by
  rw [← mask]
  pointwise [scoreB]

theorem topB_apply (σ : FVec Ideal S512x1 .f32) (s : FVec Ideal S512x384 .f32) (r : Fin 512) :
    topB σ s (ix2 r 0) = max (σ (ix2 r 0)) ((Finset.univ : Finset (Fin 384)).fold max ⊥ fun j => s (ix2 r j)) := by
  rw [← ofBits_neg_inf]
  pointwise [topB]

theorem partB_apply (s : FVec Ideal S512x384 .f32) (m : FVec Ideal S512x1 .f32) (v : Vec Ideal S384x256 .bf16) (r : Fin 512) (c : Fin 256) :
    partB s m v (ix2 r c) = ∑ j : Fin 384, Ideal.exp2 (s (ix2 r j) - m (ix2 r 0)) * v (ix2 j c) := by
  pointwise [partB]
  rfl

/-- The column of the weights' sum. -/
theorem marks_apply (r : Fin 512) (c : Fin 256) : marks (F := Ideal) (ix2 r c) = ((if c = 128 then 1 else 0 : ℝ) : EReal) := by
  pointwise [marks, k0_pay57]
  have hc : ∀ c : Fin 256, IntOp.cmpi .eq (BitVec.ofNat 32 c.val) 128#32 = if c = 128 then 1#1 else 0#1 := by decide +kernel
  rw [hc]
  split_ifs <;> simp [Scalar.select]

/-- The attention of one row is the mean of the values it sees under the weights of its scores and its sink. -/
theorem attend_apply (q : FVec Ideal S512x128 .bf16) (ok : IVec S512x384 1) (σ : FVec Ideal S512x1 .f32) (k : Vec Ideal S384x128 .bf16)
    (v : Vec Ideal S384x256 .bf16) (kc : Vec Ideal S256x128 .bf16) (vc : Vec Ideal S256x256 .bf16) (r : Fin 512) {n a : ℕ} (hn : n < 32) (ha : a < 128)
    (τ : ℝ) (S : ℕ → ℝ) (W : ℕ → Fin 256 → ℝ) (U : Fin 384 → Fin 256 → ℝ) (hσ : σ (ix2 r 0) = (τ : EReal))
    (hs : ∀ c, scoreB q ok k (ix2 r c) = if Sees n a c then ((S (128 * n + c.val - 128) : ℝ) : EReal) else ⊥)
    (hv : ∀ c d, v (ix2 c d) = (U c d : EReal)) (hU : ∀ c d, Sees n a c → U c d = W (128 * n + c.val - 128) d)
    (hc : ∀ j, scoreC q kc (ix2 r j) = (S (4096 + j.val) : EReal)) (hvc : ∀ j d, vc (ix2 j d) = (W (4096 + j.val) d : EReal))
    (hW : ∀ j, W j 128 = 1) (c : Fin 128) :
    attend q ok σ k v kc vc (ix2 r c)
      = (mean (128 * n + a) (Real.log 2 * τ) (fun x => Real.log 2 * S x) (fun x => W x ⟨c.val, by omega⟩) : EReal) := by
  obtain ⟨μ, hμ⟩ := max_real τ (fun j => scoreB q ok k (ix2 r j)) fun j => by
    rw [hs]
    split_ifs
    · exact EReal.coe_lt_top _
    · exact bot_lt_top
  have hm : topB σ (scoreB q ok k) (ix2 r 0) = (μ : EReal) := by rw [topB_apply, hσ, hμ]
  obtain ⟨κ, hκ⟩ := fold_max (n := 256) (by norm_num) (fun j => scoreC q kc (ix2 r j)) fun j => ⟨_, hc j⟩
  have hm' : maximumf (topB σ (scoreB q ok k)) (rowMaxC (scoreC q kc)) (ix2 r 0) = ((max μ κ : ℝ) : EReal) := by
    show max (topB σ (scoreB q ok k) (ix2 r 0)) (rowMaxC (scoreC q kc) (ix2 r 0)) = _
    rw [rowMaxC_apply, hκ, hm, coe_max']
  have hp : ∀ d, partB (scoreB q ok k) (topB σ (scoreB q ok k)) v (ix2 r d)
      = ((∑ x ∈ near (128 * n + a), (2 : ℝ) ^ (S x - μ) * W x d : ℝ) : EReal) := fun d => by
    rw [partB_apply, ← band hn ha, ← coe_sum]
    refine Finset.sum_congr rfl fun j _ => ?_
    rw [hs, hm, exp2_masked, hv, ← EReal.coe_mul]
    refine congrArg _ ?_
    split_ifs with h
    · rw [hU j d h]
    · exact zero_mul _
  have hA : ∀ d, accB σ (scoreB q ok k) v (ix2 r d)
      = (((2 : ℝ) ^ (τ - μ) * (if d = 128 then 1 else 0) + ∑ x ∈ near (128 * n + a), (2 : ℝ) ^ (S x - μ) * W x d : ℝ) : EReal) := fun d => by
    rw [accB, carry_apply, hp, hm, hσ, marks_apply, ← EReal.coe_sub, Ideal.exp2_coe, ← EReal.coe_mul, ← EReal.coe_add]
    rfl
  have hC : ∀ d, carry (topB σ (scoreB q ok k)) (maximumf (topB σ (scoreB q ok k)) (rowMaxC (scoreC q kc))) (accB σ (scoreB q ok k) v)
        (partC (scoreC q kc) (maximumf (topB σ (scoreB q ok k)) (rowMaxC (scoreC q kc))) vc) (ix2 r d)
      = (((2 : ℝ) ^ (-max μ κ) * mass (128 * n + a) (Real.log 2 * τ) (if d = 128 then 1 else 0) (fun x => Real.log 2 * S x) (fun x => W x d) : ℝ) : EReal) := fun d => by
    rw [carry_apply, partC_apply, hA, ← mass_two (128 * n + a) τ (if d = 128 then 1 else 0) μ (max μ κ) S fun x => W x d]
    simp only [hc, hvc, hm, hm', sum_part]
    rw [← EReal.coe_sub, Ideal.exp2_coe, ← EReal.coe_mul, ← EReal.coe_add]
    rfl
  have h2 : (2 : ℝ) ^ (-max μ κ) ≠ 0 := (Real.rpow_pos_of_pos two_pos _).ne'
  have h1 := (mass_pos (128 * n + a) (Real.log 2 * τ) fun x => Real.log 2 * S x).ne'
  rw [attend, quot_apply, hC, hC, if_pos rfl, if_neg (by have := c.isLt; simp [Fin.ext_iff]; omega)]
  simp only [hW]
  rw [Ideal.div_coe (mul_ne_zero h2 h1), ← EReal.coe_mul, mean]
  refine congrArg _ ?_
  field_simp

section
variable (i : grid0.Coords) (x0 : Vec Ideal S16 .f32) (x1 x4 : Vec Ideal S512x512 .f32) (x2 x3 : Vec Ideal S4096x128 .f32)
  (x5 x6 : Vec Ideal S1x1x256x128 .f32) (x7 x8 : Vec Ideal S512x128 .f32) (x9 x10 : Vec Ideal S4096x128 .f32)
  (sk : Vec Ideal S4608x128 .bf16) (sv : Vec Ideal S4608x256 .bf16)
  (Q : Fin 512 → Fin 4 → Fin 128 → ℝ) (σ : Fin 4 → ℝ) (K V : ℕ → Fin 128 → ℝ)

/-- What the scratch's rows hold: 128 of zeros, the sample's, 128 of zeros, and the context's. -/
def pad {n : ℕ} (f : ℕ → Fin n → ℝ) (j : ℕ) (d : Fin n) : ℝ :=
  if j < 128 then 0 else if j < 4224 then f (j - 128) d else if j < 4352 then 0 else f (j - 256) d

theorem pad_self {n : ℕ} (f : ℕ → Fin n → ℝ) (j : ℕ) (d : Fin n) (h : 128 ≤ j) (h' : j < 4224) : pad f j d = f (j - 128) d := by
  rw [pad, if_neg (by omega), if_pos h']

theorem pad_past {n : ℕ} (f : ℕ → Fin n → ℝ) (j : ℕ) (d : Fin n) : pad f (4352 + j) d = f (4096 + j) d := by
  rw [pad, if_neg (by omega), if_neg (by omega), if_neg (by omega)]
  exact congrArg (f · d) (by omega)

/-- The keys' scratch holds the keys. -/
theorem kStores_apply (hK : ∀ (i : Fin 4096) d, rot (fun k => x2 (ix2 i k)) (fun k => x9 (ix2 i k)) (fun k => x10 (ix2 i k)) d = K i.val d)
    (hC : ∀ (i : Fin 256) d, x5 (ix4 0 0 i d) = K (4096 + i.val) d) (j : Fin 4608) (d : Fin 128) :
    View.canon (Val := Elt Ideal) (kStores (F := Ideal) x2 x5 x9 x10) (ix2 j d) = (pad K j.val d : EReal) := by
  refine View.canon_apply_of_pieces (Val := Elt Ideal) (S := S4608x128) (e := .bf16)
    (fun y => ((pad K (y 0).val (⟨(y 1).val, (y 1).isLt⟩ : Fin 128) : ℝ) : EReal)) _ ?_ _ ?_
  · intro p hp x
    simp only [kStores, List.mem_cons, List.mem_nil_iff, or_false] at hp
    rcases hp with rfl | rfl | rfl | rfl
    · obtain ⟨a, b, rfl⟩ := pair_idx (m := 256) (n := 128) x
      refine (kCtx_apply x5 a b).trans ((hC a b).trans (congrArg _ ((pad_past K a.val b).symm.trans ?_)))
      refine congrArg₂ (pad K) ?_ (Fin.ext ?_)
      · exact (Rect.idx_unit_val (s := S4608x128) ![4352, 0] ![256, 128] inb_S4608x128_S256x128_4352_0 (ix2 a b) 0).symm
      · exact ((Rect.idx_unit_val (s := S4608x128) ![4352, 0] ![256, 128] inb_S4608x128_S256x128_4352_0 (ix2 a b) 1).trans (Nat.zero_add _)).symm
    · obtain ⟨a, b, rfl⟩ := pair_idx (m := 128) (n := 128) x
      refine (kZero_apply' a b).trans (congrArg _ ?_)
      have h := Rect.idx_unit_val (s := S4608x128) ![4224, 0] ![128, 128] inb_S4608x128_S128x128_4224_0 (ix2 a b) 0
      refine Eq.symm ((congrArg (fun j => pad K j _) h).trans ?_)
      have := a.isLt
      show pad K (4224 + a.val) _ = 0
      rw [pad, if_neg (by omega), if_neg (by omega), if_pos (by omega)]
    · obtain ⟨a, b, rfl⟩ := pair_idx (m := 128) (n := 128) x
      refine (kZero_apply a b).trans (congrArg _ ?_)
      have h := Rect.idx_unit_val (s := S4608x128) ![0, 0] ![128, 128] inb_S4608x128_S128x128_0_0 (ix2 a b) 0
      refine Eq.symm ((congrArg (fun j => pad K j _) h).trans ?_)
      have := a.isLt
      show pad K (0 + a.val) _ = 0
      rw [pad, if_pos (by omega)]
    · obtain ⟨a, b, rfl⟩ := pair_idx (m := 4096) (n := 128) x
      refine (kRow_apply x2 x9 x10 a b).trans ((hK a b).trans (congrArg _ ?_))
      have := a.isLt
      rw [show K a.val b = pad K (128 + a.val) b by
        rw [pad_self K _ _ (by omega) (by omega)]
        exact congrArg (K · b) (by omega)]
      refine congrArg₂ (pad K) ?_ (Fin.ext ?_)
      · exact (Rect.idx_unit_val (s := S4608x128) ![128, 0] ![4096, 128] inb_S4608x128_S4096x128_128_0 (ix2 a b) 0).symm
      · exact ((Rect.idx_unit_val (s := S4608x128) ![128, 0] ![4096, 128] inb_S4608x128_S4096x128_128_0 (ix2 a b) 1).trans (Nat.zero_add _)).symm
  · simp only [kStores, List.exists_mem_cons_iff]
    have hj := j.isLt
    by_cases h1 : j.val < 128
    · refine Or.inr (Or.inr (Or.inl (Rect.mem_set_unit.2 fun e => ?_)))
      fin_cases e <;> simp [ix2] <;> omega
    by_cases h2 : j.val < 4224
    · refine Or.inr (Or.inr (Or.inr (Or.inl (Rect.mem_set_unit.2 fun e => ?_))))
      fin_cases e <;> simp [ix2] <;> omega
    by_cases h3 : j.val < 4352
    · refine Or.inr (Or.inl (Rect.mem_set_unit.2 fun e => ?_))
      fin_cases e <;> simp [ix2] <;> omega
    · refine Or.inl (Rect.mem_set_unit.2 fun e => ?_)
      fin_cases e <;> simp [ix2] <;> omega

/-- The values' scratch holds the values and the column of ones. -/
theorem vStores_apply (hV : ∀ (i : Fin 4096) d, x3 (ix2 i d) = V i.val d)
    (hC : ∀ (i : Fin 256) d, x6 (ix4 0 0 i d) = V (4096 + i.val) d) (j : Fin 4608) (c : Fin 256) :
    View.canon (Val := Elt Ideal) (vStores (F := Ideal) x3 x6) (ix2 j c) = (pad (wide V) j.val c : EReal) := by
  have self : ∀ (n : ℕ) (hn : n < 4096) (j : ℕ) (c c' : Fin 256), j = 128 + n → c' = c → wide V n c = pad (wide V) j c' := by
    rintro n hn _ c _ rfl rfl
    rw [pad_self _ _ _ (Nat.le_add_right 128 n) (by omega)]
    exact congrArg (wide V · _) (by omega)
  have past : ∀ (n j : ℕ) (c c' : Fin 256), j = 4352 + n → c' = c → wide V (4096 + n) c = pad (wide V) j c' := by
    rintro n _ c _ rfl rfl
    exact (pad_past _ _ _).symm
  refine View.canon_apply_of_pieces (Val := Elt Ideal) (S := S4608x256) (e := .bf16)
    (fun y => ((pad (wide V) (y 0).val (⟨(y 1).val, (y 1).isLt⟩ : Fin 256) : ℝ) : EReal)) _ ?_ _ ?_
  · intro p hp x
    simp only [vStores, List.mem_cons, List.mem_nil_iff, or_false] at hp
    rcases hp with rfl | rfl | rfl | rfl | rfl | rfl
    · obtain ⟨a, b, rfl⟩ := pair_idx (m := 256) (n := 128) x
      refine (onesC_apply a b).trans (congrArg _ ((wide_high V (4096 + a.val) b (by omega)).symm.trans (past a.val _ _ _ ?_ (Fin.ext ?_))))
      · exact Rect.idx_unit_val (s := S4608x256) ![4352, 128] ![256, 128] inb_S4608x256_S256x128_4352_128 (ix2 a b) 0
      · exact Rect.idx_unit_val (s := S4608x256) ![4352, 128] ![256, 128] inb_S4608x256_S256x128_4352_128 (ix2 a b) 1
    · obtain ⟨a, b, rfl⟩ := pair_idx (m := 256) (n := 128) x
      refine (vCtx_apply x6 a b).trans ((hC a b).trans (congrArg _ ((wide_low V (4096 + a.val) b).symm.trans (past a.val _ _ _ ?_ (Fin.ext ?_)))))
      · exact Rect.idx_unit_val (s := S4608x256) ![4352, 0] ![256, 128] inb_S4608x256_S256x128_4352_0 (ix2 a b) 0
      · exact (Rect.idx_unit_val (s := S4608x256) ![4352, 0] ![256, 128] inb_S4608x256_S256x128_4352_0 (ix2 a b) 1).trans (Nat.zero_add _)
    · obtain ⟨a, b, rfl⟩ := pair_idx (m := 128) (n := 256) x
      refine (vZero_apply' a b).trans (congrArg _ ?_)
      have h := Rect.idx_unit_val (s := S4608x256) ![4224, 0] ![128, 256] inb_S4608x256_S128x256_4224_0 (ix2 a b) 0
      refine Eq.symm ((congrArg (fun j => pad (wide V) j _) h).trans ?_)
      have := a.isLt
      show pad (wide V) (4224 + a.val) _ = 0
      rw [pad, if_neg (by omega), if_neg (by omega), if_pos (by omega)]
    · obtain ⟨a, b, rfl⟩ := pair_idx (m := 128) (n := 256) x
      refine (vZero_apply a b).trans (congrArg _ ?_)
      have h := Rect.idx_unit_val (s := S4608x256) ![0, 0] ![128, 256] inb_S4608x256_S128x256_0_0 (ix2 a b) 0
      refine Eq.symm ((congrArg (fun j => pad (wide V) j _) h).trans ?_)
      have := a.isLt
      show pad (wide V) (0 + a.val) _ = 0
      rw [pad, if_pos (by omega)]
    · obtain ⟨a, b, rfl⟩ := pair_idx (m := 4096) (n := 128) x
      refine (ones_apply a b).trans (congrArg _ ((wide_high V a.val b (by omega)).symm.trans (self a.val a.isLt _ _ _ ?_ (Fin.ext ?_))))
      · exact Rect.idx_unit_val (s := S4608x256) ![128, 128] ![4096, 128] inb_S4608x256_S4096x128_128_128 (ix2 a b) 0
      · exact Rect.idx_unit_val (s := S4608x256) ![128, 128] ![4096, 128] inb_S4608x256_S4096x128_128_128 (ix2 a b) 1
    · obtain ⟨a, b, rfl⟩ := pair_idx (m := 4096) (n := 128) x
      refine (vRow_apply x3 a b).trans ((hV a b).trans (congrArg _ ((wide_low V a.val b).symm.trans (self a.val a.isLt _ _ _ ?_ (Fin.ext ?_)))))
      · exact Rect.idx_unit_val (s := S4608x256) ![128, 0] ![4096, 128] inb_S4608x256_S4096x128_128_0 (ix2 a b) 0
      · exact (Rect.idx_unit_val (s := S4608x256) ![128, 0] ![4096, 128] inb_S4608x256_S4096x128_128_0 (ix2 a b) 1).trans (Nat.zero_add _)
  · simp only [vStores, List.exists_mem_cons_iff]
    have hj := j.isLt
    have hc := c.isLt
    by_cases h1 : j.val < 128
    · refine Or.inr (Or.inr (Or.inr (Or.inl (Rect.mem_set_unit.2 fun e => ?_))))
      fin_cases e <;> simp [ix2] <;> omega
    by_cases h2 : j.val < 4224
    · by_cases h' : c.val < 128
      · refine Or.inr (Or.inr (Or.inr (Or.inr (Or.inr (Or.inl (Rect.mem_set_unit.2 fun e => ?_))))))
        fin_cases e <;> simp [ix2] <;> omega
      · refine Or.inr (Or.inr (Or.inr (Or.inr (Or.inl (Rect.mem_set_unit.2 fun e => ?_)))))
        fin_cases e <;> simp [ix2] <;> omega
    by_cases h3 : j.val < 4352
    · refine Or.inr (Or.inr (Or.inl (Rect.mem_set_unit.2 fun e => ?_)))
      fin_cases e <;> simp [ix2] <;> omega
    · by_cases h' : c.val < 128
      · refine Or.inr (Or.inl (Rect.mem_set_unit.2 fun e => ?_))
        fin_cases e <;> simp [ix2] <;> omega
      · refine Or.inl (Rect.mem_set_unit.2 fun e => ?_)
        fin_cases e <;> simp [ix2] <;> omega

/-- The queries of a sub-block at an element. -/
theorem queries_apply (hQ : ∀ (a : Fin 512) (g : Fin 4) d,
      rot (fun k : Fin 128 => x1 (ix2 a ⟨128 * g.val + k.val, by omega⟩)) (fun k => x7 (ix2 a k)) (fun k => x8 (ix2 a k)) d = Q a g d)
    (s g : Fin 4) (a d : Fin 128) :
    queries x1 x7 x8 s (ix2 ⟨128 * g.val + a.val, by omega⟩ d)
      = ((Q ⟨128 * s.val + a.val, by omega⟩ g d * (Real.sqrt 128 * Real.log 2)⁻¹ : ℝ) : EReal) := by
  rw [queries, qcat_apply (fun g => qhead (tile x1 s g) (rows x7 s) (rows x8 s)), qhead_apply]
  simp only [tile_apply, rows_apply]
  rw [hQ, ← EReal.coe_mul]

/-- What a point stores at an element of its block: the mean of the values under the gate. -/
theorem pieces_apply (N : Fin 8) (hN : (i 2).val = N.val)
    (hoff : ∀ s : Fin 4, k0_off2 i (BitVec.ofNat 32 s.val) = ![128 * (4 * N.val + s.val), 0])
    (hoff' : ∀ s : Fin 4, k0_off3 i (BitVec.ofNat 32 s.val) = ![128 * (4 * N.val + s.val), 0])
    (hQ : ∀ (a : Fin 512) (g : Fin 4) d,
      rot (fun k : Fin 128 => x1 (ix2 a ⟨128 * g.val + k.val, by omega⟩)) (fun k => x7 (ix2 a k)) (fun k => x8 (ix2 a k)) d = Q a g d)
    (hσ : ∀ g, sinkAt i x0 g = (σ g : EReal))
    (hK : ∀ (j : Fin 4608) d, sk (ix2 j d) = (pad K j.val d : EReal)) (hV : ∀ (j : Fin 4608) c, sv (ix2 j c) = (pad (wide V) j.val c : EReal))
    (a : Fin 512) (g : Fin 4) (b : Fin 128) :
    View.canon (Val := Elt Ideal) (pieces (F := Ideal) i x0 x1 x4 x7 x8 (fun s => View.ld sk (kBand i s)) (View.ld sk kPast)
        (fun s => View.ld sv (vBand i s)) (View.ld sv vPast)) (ix2 a ⟨128 * g.val + b.val, by omega⟩)
      = (mean (512 * N.val + a.val) (σ g) (fun j => (∑ d, Q a g d * K j d) * (Real.sqrt 128)⁻¹) (fun j => V j b) : EReal)
        * (x4 (ix2 a ⟨128 * g.val + b.val, by omega⟩) * Ideal.logistic (x4 (ix2 a ⟨128 * g.val + b.val, by omega⟩))) := by
  let H : Fin 512 → Fin 4 → Fin 128 → EReal := fun a g b =>
    (mean (512 * N.val + a.val) (σ g) (fun j => (∑ d, Q a g d * K j d) * (Real.sqrt 128)⁻¹) (fun j => V j b) : EReal)
  let G : S512x512.Idx → EReal := fun y =>
    H (⟨(y 0).val, (y 0).isLt⟩ : Fin 512) ⟨(y 1).val / 128, by have : (y 1).val < 512 := (y 1).isLt; omega⟩ (⟨(y 1).val % 128, by omega⟩ : Fin 128)
      * (x4 y * Ideal.logistic (x4 y))
  have hG : ∀ (a : Fin 512) (g : Fin 4) (b : Fin 128), G (ix2 a ⟨128 * g.val + b.val, by omega⟩)
      = H a g b * (x4 (ix2 a ⟨128 * g.val + b.val, by omega⟩) * Ideal.logistic (x4 (ix2 a ⟨128 * g.val + b.val, by omega⟩))) := by
    intro a g b
    have h1 : (⟨(128 * g.val + b.val) / 128, by omega⟩ : Fin 4) = g := Fin.ext (by dsimp only; omega)
    have h2 : (⟨(128 * g.val + b.val) % 128, by omega⟩ : Fin 128) = b := Fin.ext (by dsimp only; omega)
    show H a (⟨(128 * g.val + b.val) / 128, by omega⟩ : Fin 4) (⟨(128 * g.val + b.val) % 128, by omega⟩ : Fin 128) * _ = _
    rw [h1, h2]
  have hn : ∀ s, number i s = BitVec.ofNat 32 (4 * N.val + s.val) := by
    have h : ∀ (N : Fin 8) (s : Fin 4), Scalar.addi (Scalar.muli (BitVec.ofNat 32 N.val) 4#32) (BitVec.ofNat 32 s.val) = BitVec.ofNat 32 (4 * N.val + s.val) := by
      decide +kernel
    intro s
    rw [number, hN, h]
  have kb : ∀ (s : Fin 4) (c : Fin 384) (d : Fin 128), View.ld sk (kBand i s) (ix2 c d) = (pad K (128 * (4 * N.val + s.val) + c.val) d : EReal) := by
    intro s c d
    refine (View.ld_unit_apply_of sk _ _ _ _ (ix2 (⟨128 * (4 * N.val + s.val) + c.val, by omega⟩ : Fin 4608) d) fun e => ?_).trans (hK _ _)
    refine Eq.trans ?_ (congrArg (· + _) (congrFun (hoff s) e).symm)
    fin_cases e <;> simp [ix2]
  have vb : ∀ (s : Fin 4) (c : Fin 384) (d : Fin 256), View.ld sv (vBand i s) (ix2 c d) = (pad (wide V) (128 * (4 * N.val + s.val) + c.val) d : EReal) := by
    intro s c d
    refine (View.ld_unit_apply_of sv _ _ _ _ (ix2 (⟨128 * (4 * N.val + s.val) + c.val, by omega⟩ : Fin 4608) d) fun e => ?_).trans (hV _ _)
    refine Eq.trans ?_ (congrArg (· + _) (congrFun (hoff' s) e).symm)
    fin_cases e <;> simp [ix2]
  have kp : ∀ (j : Fin 256) (d : Fin 128), View.ld sk kPast (ix2 j d) = (K (4096 + j.val) d : EReal) := fun j d =>
    (View.ld_unit_apply_of sk _ _ _ _ (ix2 (⟨4352 + j.val, by omega⟩ : Fin 4608) d) fun e => by fin_cases e <;> simp [ix2]).trans
      ((hK _ _).trans (congrArg _ (pad_past K j.val d)))
  have vp : ∀ (j d : Fin 256), View.ld sv vPast (ix2 j d) = (wide V (4096 + j.val) d : EReal) := fun j d =>
    (View.ld_unit_apply_of sv _ _ _ _ (ix2 (⟨4352 + j.val, by omega⟩ : Fin 4608) d) fun e => by fin_cases e <;> simp [ix2]).trans
      ((hV _ _).trans (congrArg _ (pad_past (wide V) j.val d)))
  refine Eq.trans ?_ (hG a g b)
  refine View.canon_apply_of_pieces (Val := Elt Ideal) (S := S512x512) (e := .bf16) G _ ?_ _ ?_
  · intro p hp x
    obtain ⟨s, g, rfl⟩ : ∃ s g : Fin 4, p = piece i x0 x1 x4 x7 x8 (fun s => View.ld sk (kBand i s)) (View.ld sk kPast)
        (fun s => View.ld sv (vBand i s)) (View.ld sv vPast) s g := by
      simp only [pieces, List.mem_flatMap, List.mem_map] at hp
      obtain ⟨s, -, g, -, rfl⟩ := hp
      exact ⟨s, g, rfl⟩
    obtain ⟨a, b, rfl⟩ := pair_idx (m := 128) (n := 128) x
    have he : (piece (F := Ideal) i x0 x1 x4 x7 x8 (fun s => View.ld sk (kBand i s)) (View.ld sk kPast)
        (fun s => View.ld sv (vBand i s)) (View.ld sv vPast) s g).1.emb (ix2 a b)
        = ix2 (⟨128 * s.val + a.val, by omega⟩ : Fin 512) (⟨128 * g.val + b.val, by omega⟩ : Fin 512) := by
      funext e
      refine Fin.ext ((Rect.idx_unit_val (s := S512x512) ![128 * s.val, 128 * g.val] ![128, 128] (corner s g) (ix2 a b) e).trans ?_)
      fin_cases e <;> rfl
    refine Eq.trans ?_ (congrArg G he).symm
    rw [hG]
    refine (gate_apply _ _ a b).trans ?_
    rw [tile_apply, head_apply]
    refine congrArg₂ (· * ·) ?_ rfl
    have hq := fun d => queries_apply x1 x7 x8 Q hQ s g a d
    rw [attend_apply _ _ _ _ _ _ _ _ (n := 4 * N.val + s.val) (a := a.val) (by omega) a.isLt (σ g * (Real.log 2)⁻¹)
      (fun j => ∑ d, Q ⟨128 * s.val + a.val, by omega⟩ g d * (Real.sqrt 128 * Real.log 2)⁻¹ * K j d) (wide V)
      (fun c d => pad (wide V) (128 * (4 * N.val + s.val) + c.val) d)
      ((sinks_apply (sinkAt i x0) g a).trans (by rw [hσ, ← EReal.coe_mul])) (fun c => ?_) (fun c d => vb s c d)
      (fun c d h => pad_self _ _ _ h.1 h.2.1) (fun j => ?_) vp (wide_one V)]
    · refine congrArg _ ?_
      have h2 : Real.log 2 ≠ 0 := (Real.log_pos one_lt_two).ne'
      have e1 : 128 * (4 * N.val + s.val) + a.val = 512 * N.val + (128 * s.val + a.val) := by omega
      have e2 : Real.log 2 * (σ g * (Real.log 2)⁻¹) = σ g := by field_simp
      rw [e1, e2]
      refine congrArg₂ (mean _ _) (funext fun j => ?_) (funext fun j => wide_low V j b)
      rw [← factor, Finset.sum_mul]
      exact congrArg _ (Finset.sum_congr rfl fun d _ => by ring)
    · rw [scoreB_apply, hn, valid_apply ⟨4 * N.val + s.val, by omega⟩ g a c]
      split_ifs with h
      · have e : ∀ x y : EReal, Scalar.select 1#1 x y = x := fun _ _ => rfl
        rw [e, ← coe_sum]
        refine Finset.sum_congr rfl fun d _ => ?_
        rw [hq]
        refine (congrArg _ (kb s c d)).trans ?_
        rw [pad_self _ _ _ h.1 h.2.1, ← EReal.coe_mul]
      · rfl
    · rw [scoreC_apply, ← coe_sum]
      refine Finset.sum_congr rfl fun d _ => ?_
      rw [hq, kp, ← EReal.coe_mul]
  · refine ⟨piece (F := Ideal) i x0 x1 x4 x7 x8 (fun s => View.ld sk (kBand i s)) (View.ld sk kPast)
        (fun s => View.ld sv (vBand i s)) (View.ld sv vPast) ⟨a.val / 128, by omega⟩ g, ?_,
      (Rect.mem_set_unit (s := S512x512) (off := ![128 * (a.val / 128), 128 * g.val]) (size := ![128, 128]) (inb := corner ⟨a.val / 128, by omega⟩ g)).2 fun e => ?_⟩
    · simp only [pieces, List.mem_flatMap, List.mem_map]
      have hm : ∀ g : Fin 4, g ∈ ([3, 2, 1, 0] : List (Fin 4)) := by decide
      exact ⟨_, hm _, _, hm _, rfl⟩
    · fin_cases e <;> simp [ix2] <;> omega
end

end Cert.LatWinIdeal.Block

end
-- ==== Proof.LatArray.lean ====
module

public import proofs.«01_k».proof.Proof.LatRead
public import proofs.«01_k».proof.Proof.Gen.LatWinIdeal.Value

/-! What the samples' windowed attention leaves: the blocks its points work on, the walk over the grid, and the array at the
    end of the run. -/

@[expose] public section

set_option maxRecDepth 16384

noncomputable section

namespace Cert.LatWinIdeal.Block

open Cert.LatWinIdeal Cert.LatWinIdeal.Gen Idealize.ShloMosaic Idealize.ShloMosaic.TcCoe Idealize.SL.Sem
open Idealize.ShloMosaic.Pipeline (Dat)
open Cert.Head Cert.Mean
open Cert.KernelIdeal.Block (pair_idx wide stack)

variable (m : (ℓ : Loc nD τ sig) → Buf (Elt Ideal) ℓ)

/-- What the attention is computed from: the arguments. -/
def data (c : Dev nD) : Lat.Data where
  p := m ((c.tc : Thread nD τ).loc main_arg0)
  ck := m ((c.tc : Thread nD τ).loc main_arg2)
  cv := m ((c.tc : Thread nD τ).loc main_arg3)
  sink := m ((c.tc : Thread nD τ).loc main_arg4)
  co := m ((c.tc : Thread nD τ).loc main_arg5)
  si := m ((c.tc : Thread nD τ).loc main_arg6)

/-- The blocks a point works on. -/
theorem blocks : ∀ t : Fin cfg0.N, win0_0.index t = ![0] ∧ win0_1.index t = ![8 + 8 * (t.val / 32) + t.val % 8, 16 + t.val / 8 % 4]
    ∧ win0_2.index t = ![1 + t.val / 32, 80 + t.val / 8 % 4] ∧ win0_3.index t = ![1 + t.val / 32, 84 + t.val / 8 % 4]
    ∧ win0_4.index t = ![8 + 8 * (t.val / 32) + t.val % 8, 22 + t.val / 8 % 4]
    ∧ win0_5.index t = ![t.val / 32, 0, 0, t.val / 8 % 4] ∧ win0_6.index t = ![t.val / 32, 0, 0, t.val / 8 % 4]
    ∧ win0_7.index t = ![t.val % 8, 0] ∧ win0_8.index t = ![t.val % 8, 0]
    ∧ win0_9.index t = ![0, 0] ∧ win0_10.index t = ![0, 0]
    ∧ win0_11.index t = ![8 + 8 * (t.val / 32) + t.val % 8, t.val / 8 % 4] :=
  (by decide +kernel : ∀ t : Fin grid0.N, _)

/-- Where a point reads a head's sink. -/
theorem sinkOff : ∀ (t : Fin cfg0.N) (g : Fin 4), k0_off1 (grid0.coords t) (BitVec.ofNat 32 g.val) = ![4 * (t.val / 8 % 4) + g.val] :=
  (by decide +kernel : ∀ (t : Fin grid0.N) (g : Fin 4), _)

/-- Where a point reads the keys a sub-block sees. -/
theorem kOff : ∀ (t : Fin cfg0.N) (s : Fin 4), k0_off2 (grid0.coords t) (BitVec.ofNat 32 s.val) = ![128 * (4 * (t.val % 8) + s.val), 0] :=
  (by decide +kernel : ∀ (t : Fin grid0.N) (s : Fin 4), _)

/-- Where a point reads their values. -/
theorem vOff : ∀ (t : Fin cfg0.N) (s : Fin 4), k0_off3 (grid0.coords t) (BitVec.ofNat 32 s.val) = ![128 * (4 * (t.val % 8) + s.val), 0] :=
  (by decide +kernel : ∀ (t : Fin grid0.N) (s : Fin 4), _)

/-- The block of positions a point works on. -/
theorem part_eq : ∀ t : Fin cfg0.N, (grid0.coords t 2).val = t.val % 8 :=
  (by decide +kernel : ∀ t : Fin grid0.N, _)

theorem points (t : Fin cfg0.N) : t.val < 256 := t.isLt

/-- The sample a point works on, the group of heads, the position of a row of its block, and a head of the group. -/
abbrev smp (t : Fin cfg0.N) : Fin 8 := ⟨t.val / 32, by have := points t; omega⟩
abbrev grp (t : Fin cfg0.N) : Fin 4 := ⟨t.val / 8 % 4, by omega⟩
abbrev pos (t : Fin cfg0.N) (a : Fin 512) : Fin 4096 := ⟨512 * (t.val % 8) + a.val, by omega⟩
abbrev hd (t : Fin cfg0.N) (g : Fin 4) : Fin 16 := ⟨4 * (t.val / 8 % 4) + g.val, by omega⟩

theorem blk0 (c : Dev nD) (t : Fin cfg0.N) (h : Fin 16) : iblk m c 0 t (ix1 h) = (data m c).sink (ix1 h) := by
  unfold data
  blk_point [iblk, V, blocks t]

/-- The sink of a head of a point. -/
theorem sinkAt_eq (c : Dev nD) (t : Fin cfg0.N) (g : Fin 4) :
    sinkAt (grid0.coords t) (iblk m c 0 t) g = (data m c).sink (ix1 (hd t g)) := by
  refine Eq.trans (View.ld_unit_apply_of _ _ _ _ _ (ix1 (hd t g)) fun e => ?_) (blk0 m c t (hd t g))
  refine Eq.trans ?_ (congrArg (· + _) (congrFun (sinkOff t g) e).symm)
  fin_cases e
  rfl

theorem blk1 (c : Dev nD) (t : Fin cfg0.N) (a : Fin 512) (g : Fin 4) (k : Fin 128) :
    iblk m c 1 t (ix2 a (⟨128 * g.val + k.val, by omega⟩ : Fin 512))
      = (data m c).p (ix2 (Lat.Data.row (smp t) (pos t a)) ⟨8192 + (128 * (hd t g).val + k.val), by have := (hd t g).isLt; omega⟩) := by
  unfold data
  blk_point [iblk, V, blocks t]

theorem blk4 (c : Dev nD) (t : Fin cfg0.N) (a : Fin 512) (g : Fin 4) (d : Fin 128) :
    iblk m c 4 t (ix2 a (⟨128 * g.val + d.val, by omega⟩ : Fin 512)) = (data m c).z (smp t) (hd t g) (pos t a) d := by
  unfold data Lat.Data.z
  blk_point [iblk, V, blocks t]

theorem blk2 (c : Dev nD) (t : Fin cfg0.N) (i : Fin 4096) (k : Fin 128) :
    iblk m c 2 t (ix2 i k) = (data m c).p (ix2 (Lat.Data.row (smp t) i) ⟨10240 + (128 * (grp t).val + k.val), by have := (grp t).isLt; omega⟩) := by
  unfold data
  blk_point [iblk, V, blocks t]

theorem blk3 (c : Dev nD) (t : Fin cfg0.N) (i : Fin 4096) (k : Fin 128) :
    iblk m c 3 t (ix2 i k) = (data m c).p (ix2 (Lat.Data.row (smp t) i) ⟨10752 + (128 * (grp t).val + k.val), by have := (grp t).isLt; omega⟩) := by
  unfold data
  blk_point [iblk, V, blocks t]

theorem blk5 (c : Dev nD) (t : Fin cfg0.N) (i : Fin 256) (d : Fin 128) :
    iblk m c 5 t (ix4 0 0 i d) = (data m c).ck (ix5 (smp t) 0 i (grp t) d) := by
  unfold data
  blk_point [iblk, V, blocks t]

theorem blk6 (c : Dev nD) (t : Fin cfg0.N) (i : Fin 256) (d : Fin 128) :
    iblk m c 6 t (ix4 0 0 i d) = (data m c).cv (ix5 (smp t) 0 i (grp t) d) := by
  unfold data
  blk_point [iblk, V, blocks t]

/-- The cosines' table over all lanes. -/
theorem cosTable (c : Dev nD) (j : Fin 4096) (d : Fin 128) :
    V m c main_v0 (ix2 j d) = cosf (fun k => (data m c).co (ix2 j k)) d := by
  unfold data cosf
  entry_read
  pointwise
  split_ifs
  all_goals exact congrArg (fun k => m (c, Proc.tc.devRef main_arg5) (ix2 j k)) (Fin.ext (by dsimp only; omega))

/-- The signed sines' table over all lanes. -/
theorem sinTable (c : Dev nD) (j : Fin 4096) (d : Fin 128) :
    V m c main_v2 (ix2 j d) = sinf (fun k => (data m c).si (ix2 j k)) d := by
  unfold data sinf
  entry_read
  pointwise
  split_ifs
  · exact congrArg (fun k => (Neg.neg : EReal → EReal) (m (c, Proc.tc.devRef main_arg6) (ix2 j k))) (Fin.ext (by dsimp only; omega))
  all_goals exact congrArg (fun k => m (c, Proc.tc.devRef main_arg6) (ix2 j k)) (Fin.ext (by dsimp only; omega))

theorem blk7 (c : Dev nD) (t : Fin cfg0.N) (a : Fin 512) (d : Fin 128) :
    iblk m c 7 t (ix2 a d) = cosf (fun k => (data m c).co (ix2 (pos t a) k)) d := by
  have he : ((cfg0.win 7).blk t).view.emb (ix2 a d) = (ix2 (pos t a) d : S4096x128.Idx) := by
    funext e
    fin_cases e <;> (apply Fin.ext; blk_simp [blocks t]) <;> simp [ix2] <;> omega
  exact (congrArg (V m c main_v0) he).trans (cosTable m c _ d)

theorem blk8 (c : Dev nD) (t : Fin cfg0.N) (a : Fin 512) (d : Fin 128) :
    iblk m c 8 t (ix2 a d) = sinf (fun k => (data m c).si (ix2 (pos t a) k)) d := by
  have he : ((cfg0.win 8).blk t).view.emb (ix2 a d) = (ix2 (pos t a) d : S4096x128.Idx) := by
    funext e
    fin_cases e <;> (apply Fin.ext; blk_simp [blocks t]) <;> simp [ix2] <;> omega
  exact (congrArg (V m c main_v2) he).trans (sinTable m c _ d)

theorem blk9 (c : Dev nD) (t : Fin cfg0.N) (i : Fin 4096) (d : Fin 128) :
    iblk m c 9 t (ix2 i d) = cosf (fun k => (data m c).co (ix2 i k)) d := by
  have he : ((cfg0.win 9).blk t).view.emb (ix2 i d) = (ix2 i d : S4096x128.Idx) := by
    funext e
    fin_cases e <;> (apply Fin.ext; blk_simp [blocks t])
  exact (congrArg (V m c main_v0) he).trans (cosTable m c _ d)

theorem blk10 (c : Dev nD) (t : Fin cfg0.N) (i : Fin 4096) (d : Fin 128) :
    iblk m c 10 t (ix2 i d) = sinf (fun k => (data m c).si (ix2 i k)) d := by
  have he : ((cfg0.win 10).blk t).view.emb (ix2 i d) = (ix2 i d : S4096x128.Idx) := by
    funext e
    fin_cases e <;> (apply Fin.ext; blk_simp [blocks t])
  exact (congrArg (V m c main_v2) he).trans (sinTable m c _ d)

variable (c : Dev nD) (hD : (data m c).Real')
include hD

/-- The keys a run's first point stores. -/
theorem storedK (t : Fin cfg0.N) (i : Fin 4608) (d : Fin 128) :
    View.canon (Val := Elt Ideal) (kStores (F := Ideal) (iblk m c 2 t) (iblk m c 5 t) (iblk m c 9 t) (iblk m c 10 t)) (ix2 i d)
      = (pad ((data m c).kR (smp t) (grp t)) i.val d : EReal) := by
  refine kStores_apply _ _ _ _ _ (fun i d => ?_) (fun i d => ?_) i d
  · simp only [blk2, blk9, blk10]
    exact Lat.Data.kSelf_eq hD (smp t) (grp t) i d
  · exact (blk5 m c t i d).trans (Lat.Data.kCtx_eq hD (smp t) (grp t) i d)

/-- The values it stores. -/
theorem storedV (t : Fin cfg0.N) (i : Fin 4608) (k : Fin 256) :
    View.canon (Val := Elt Ideal) (vStores (F := Ideal) (iblk m c 3 t) (iblk m c 6 t)) (ix2 i k)
      = (pad (wide ((data m c).vR (smp t) (grp t))) i.val k : EReal) := by
  refine vStores_apply _ _ _ (fun i d => ?_) (fun i d => ?_) i k
  · exact (blk3 m c t i d).trans (Lat.Data.vSelf_eq hD (smp t) (grp t) i d)
  · exact (blk6 m c t i d).trans (Lat.Data.vCtx_eq hD (smp t) (grp t) i d)

/-- The scratch after a point. -/
theorem scratch (n : ℕ) : ∀ hn : n < cfg0.N,
    (∀ i d, (outsAt0 m c n hn).2.1 (ix2 i d) = (pad ((data m c).kR (smp ⟨n, hn⟩) (grp ⟨n, hn⟩)) i.val d : EReal))
    ∧ (∀ i k, (outsAt0 m c n hn).2.2 (ix2 i k) = (pad (wide ((data m c).vR (smp ⟨n, hn⟩) (grp ⟨n, hn⟩))) i.val k : EReal)) := by
  induction n using Nat.strong_induction_on with
  | _ n ih =>
    intro hn
    by_cases h0 : n % 8 = 0
    · rw [outsAt0_A m c ⟨n, hn⟩ h0]
      dsimp only
      exact ⟨fun i d => (scrA0 ..).trans (storedK m c hD ⟨n, hn⟩ i d), fun i k => (scrA1 ..).trans (storedV m c hD ⟨n, hn⟩ i k)⟩
    · rw [outsAt0_B m c ⟨n, hn⟩ h0]
      have h := ih (n - 1) (by omega) (by omega)
      have e1 : smp ⟨n - 1, by omega⟩ = smp ⟨n, hn⟩ := Fin.ext (by dsimp only; omega)
      have e2 : grp ⟨n - 1, by omega⟩ = grp ⟨n, hn⟩ := Fin.ext (by dsimp only; omega)
      rw [e1, e2] at h
      exact h

/-- What a point leaves in its block, over scratch that holds the keys and values. -/
theorem left (t : Fin cfg0.N) (sk : Vec Ideal S4608x128 .bf16) (sv : Vec Ideal S4608x256 .bf16)
    (hK : ∀ i d, sk (ix2 i d) = (pad ((data m c).kR (smp t) (grp t)) i.val d : EReal))
    (hV : ∀ i k, sv (ix2 i k) = (pad (wide ((data m c).vR (smp t) (grp t))) i.val k : EReal))
    (a : Fin 512) (g : Fin 4) (b : Fin 128) :
    View.canon (Val := Elt Ideal) (pieces (F := Ideal) (grid0.coords t) (iblk m c 0 t) (iblk m c 1 t) (iblk m c 4 t) (iblk m c 7 t) (iblk m c 8 t)
        (fun s => View.ld sk (kBand (grid0.coords t) s)) (View.ld sk kPast) (fun s => View.ld sv (vBand (grid0.coords t) s)) (View.ld sv vPast))
      (ix2 a (⟨128 * g.val + b.val, by omega⟩ : Fin 512)) = (data m c).out (smp t) (hd t g) (pos t a) b := by
  have hg : Lat.Data.group (hd t g) = grp t := Fin.ext (by dsimp only; omega)
  rw [pieces_apply _ _ _ _ _ _ sk sv (fun a g d => (data m c).qR (smp t) (hd t g) (pos t a) d) (fun g => (data m c).sinkR (hd t g)) _ _
    ⟨t.val % 8, by omega⟩ (part_eq t) (kOff t) (vOff t) (fun a g d => ?_) (fun g => ?_) hK hV a g b]
  · rw [blk4, Lat.Data.out, hg]
  · simp only [blk1, blk7, blk8]
    exact Lat.Data.q_eq hD (smp t) (hd t g) (pos t a) d
  · exact (sinkAt_eq m c t g).trans (Lat.Data.sink_eq hD _)

/-- What a point leaves in its block. -/
theorem point (t : Fin cfg0.N) (a : Fin 512) (g : Fin 4) (b : Fin 128) :
    (outsAt0 m c t.val t.isLt).1 (ix2 a (⟨128 * g.val + b.val, by omega⟩ : Fin 512)) = (data m c).out (smp t) (hd t g) (pos t a) b := by
  by_cases h0 : t.val % 8 = 0
  · rw [outsAt0_A m c t h0]
    dsimp only
    refine (outA ..).trans ?_
    simp only [View.readCov_eq_canon']
    exact left m c hD t _ _ (storedK m c hD t) (storedV m c hD t) a g b
  · rw [outsAt0_B m c t h0]
    dsimp only
    refine (outB ..).trans ?_
    have ht := points t
    have h := scratch m c hD (t.val - 1) (Nat.lt_of_le_of_lt (Nat.sub_le _ _) t.isLt)
    have e1 : smp ⟨t.val - 1, Nat.lt_of_le_of_lt (Nat.sub_le _ _) t.isLt⟩ = smp t := Fin.ext (by dsimp only; omega)
    have e2 : grp ⟨t.val - 1, Nat.lt_of_le_of_lt (Nat.sub_le _ _) t.isLt⟩ = grp t := Fin.ext (by dsimp only; omega)
    rw [e1, e2] at h
    exact left m c hD t _ _ h.1 h.2 a g b

/-- The array at the end of the run. -/
theorem final : (dats m 0 c).arrAt 11 (cfgs 0).N = (data m c).whole (m ((c.tc : Thread nD τ).loc main_arg1)) := by
  refine (dats m 0 c).arrAt_eq_of_coversWhere_of_agree 11 _ (fun β => 8 ≤ β (0 : Fin _)) (by decide +kernel) (fun t hf y => ?_) (fun j hj => ?_)
  · rw [after0_11]
    obtain ⟨a, b, rfl⟩ := pair_idx (m := 512) (n := 512) y
    obtain ⟨g, b, rfl⟩ := stack b
    have he : ((cfg0.win 11).blk t).view.emb (ix2 a (⟨128 * g.val + b.val, by omega⟩ : Fin 512))
        = (ix2 (Lat.Data.row (smp t) (pos t a)) (⟨128 * (hd t g).val + b.val, by have := (hd t g).isLt; omega⟩ : Fin 2048) : S36864x2048.Idx) := by
      funext e
      fin_cases e <;> (apply Fin.ext; blk_simp [blocks t]) <;> simp [ix2] <;> omega
    refine (point m c hD t a g b).trans ?_
    exact ((congrArg _ he).trans (Lat.Data.whole_row (data m c) _ (smp t) (hd t g) (pos t a) b)).symm
  · have hj' : ¬8 ≤ (j 0).val / 512 := hj
    have hl : (j 0).val < 4096 := by omega
    refine Eq.trans ?_ (Lat.Data.whole_low (data m c) _ j hl).symm
    rw [A_eq]
    show V m c main_v5 j = _
    entry_read
    rfl

end Cert.LatWinIdeal.Block

end
-- ==== Proof.LatRef.lean ====
module

public import proofs.«01_k».proof.Proof.Gen.LatWinRefIdeal.Read
public import proofs.«01_k».proof.Proof.Lat
public import proofs.«01_k».proof.Proof.RefMean
public import Idealize.ShloMosaic.Lib.Pipeline.ValueKit
public import Idealize.ShloMosaic.Lib.Pointwise

/-! The samples' windowed attention as its reference computes it, read at an element. -/

@[expose] public section

set_option maxRecDepth 16384

noncomputable section

namespace Cert.LatWinRefIdeal.Read

open Cert.LatWinRefIdeal Cert.LatWinRefIdeal.Gen Idealize.ShloMosaic Idealize.SL.Sem
open Cert.Head Cert.Lat Cert.Mean
open Cert.ReferenceIdeal.Read (rsqrt_128 rot_halves)

variable (D : Data)

theorem q_raw (b : Fin 8) (j : Fin 4096) (h : Fin 16) (k : Fin 128) :
    val_main_v3 (F := Ideal) D.p (ix4 b j h k) = D.p (ix2 (Data.row b j) ⟨8192 + (128 * h.val + k.val), by omega⟩) := by
  pointwise [val_main_v3, val_main_v2, val_main_v1, val_main_v0]
  blk_point []

theorem q_left (b : Fin 8) (j : Fin 4096) (h : Fin 16) (d : Fin 64) :
    val_main_v4 (F := Ideal) D.p (ix4 b j h d) = val_main_v3 (F := Ideal) D.p (ix4 b j h ⟨d.val, by omega⟩) := by
  rw [val_main_v4_apply]
  refine congrArg _ ?_
  funext a
  fin_cases a <;> rfl

theorem q_right (b : Fin 8) (j : Fin 4096) (h : Fin 16) (d : Fin 64) :
    val_main_v5 (F := Ideal) D.p (ix4 b j h d) = val_main_v3 (F := Ideal) D.p (ix4 b j h ⟨64 + d.val, by omega⟩) := by
  rw [val_main_v5_apply]
  refine congrArg _ ?_
  funext a
  fin_cases a <;> rfl

theorem q_low (b : Fin 8) (j : Fin 4096) (h : Fin 16) (d : Fin 64) :
    val_main_v12 (F := Ideal) D.p D.co D.si (ix4 b j h d)
      = val_main_v4 (F := Ideal) D.p (ix4 b j h d) * D.co (ix2 j d) - val_main_v5 (F := Ideal) D.p (ix4 b j h d) * D.si (ix2 j d) := by
  unfold val_main_v12 val_main_v11 val_main_v10 val_main_v9 val_main_v8 val_main_v7 val_main_v6
  generalize val_main_v4 (F := Ideal) D.p = x
  generalize val_main_v5 (F := Ideal) D.p = y
  pointwise []

theorem q_high (b : Fin 8) (j : Fin 4096) (h : Fin 16) (d : Fin 64) :
    val_main_v17 (F := Ideal) D.p D.co D.si (ix4 b j h d)
      = val_main_v4 (F := Ideal) D.p (ix4 b j h d) * D.si (ix2 j d) + val_main_v5 (F := Ideal) D.p (ix4 b j h d) * D.co (ix2 j d) := by
  unfold val_main_v17 val_main_v16 val_main_v15 val_main_v14 val_main_v13 val_main_v7 val_main_v6
  generalize val_main_v4 (F := Ideal) D.p = x
  generalize val_main_v5 (F := Ideal) D.p = y
  pointwise []

theorem q_rot (b : Fin 8) (j : Fin 4096) (h : Fin 16) (d : Fin 128) :
    val_main_v18 (F := Ideal) D.p D.co D.si (ix4 b j h d)
      = rot (fun k => val_main_v3 (F := Ideal) D.p (ix4 b j h k)) (cosf fun k => D.co (ix2 j k)) (sinf fun k => D.si (ix2 j k)) d := by
  have e : val_main_v18 (F := Ideal) D.p D.co D.si (ix4 b j h d)
      = if hd : d.val < 64 then val_main_v12 (F := Ideal) D.p D.co D.si (ix4 b j h ⟨d.val, hd⟩)
        else val_main_v17 (F := Ideal) D.p D.co D.si (ix4 b j h ⟨d.val - 64, by omega⟩) := by
    unfold val_main_v18
    generalize val_main_v12 (F := Ideal) D.p D.co D.si = x
    generalize val_main_v17 (F := Ideal) D.p D.co D.si = y
    pointwise []
  rw [← rot_halves, e]
  simp only [q_low, q_high, q_left, q_right]

theorem k_raw (b : Fin 8) (j : Fin 4096) (h : Fin 4) (k : Fin 128) :
    val_main_v20 (F := Ideal) D.p (ix4 b j h k) = D.p (ix2 (Data.row b j) ⟨10240 + (128 * h.val + k.val), by omega⟩) := by
  pointwise [val_main_v20, val_main_v19, val_main_v1, val_main_v0]
  blk_point []

theorem k_left (b : Fin 8) (j : Fin 4096) (h : Fin 4) (d : Fin 64) :
    val_main_v21 (F := Ideal) D.p (ix4 b j h d) = val_main_v20 (F := Ideal) D.p (ix4 b j h ⟨d.val, by omega⟩) := by
  rw [val_main_v21_apply]
  refine congrArg _ ?_
  funext a
  fin_cases a <;> rfl

theorem k_right (b : Fin 8) (j : Fin 4096) (h : Fin 4) (d : Fin 64) :
    val_main_v22 (F := Ideal) D.p (ix4 b j h d) = val_main_v20 (F := Ideal) D.p (ix4 b j h ⟨64 + d.val, by omega⟩) := by
  rw [val_main_v22_apply]
  refine congrArg _ ?_
  funext a
  fin_cases a <;> rfl

theorem k_low (b : Fin 8) (j : Fin 4096) (h : Fin 4) (d : Fin 64) :
    val_main_v29 (F := Ideal) D.p D.co D.si (ix4 b j h d)
      = val_main_v21 (F := Ideal) D.p (ix4 b j h d) * D.co (ix2 j d) - val_main_v22 (F := Ideal) D.p (ix4 b j h d) * D.si (ix2 j d) := by
  unfold val_main_v29 val_main_v28 val_main_v27 val_main_v26 val_main_v25 val_main_v24 val_main_v23
  generalize val_main_v21 (F := Ideal) D.p = x
  generalize val_main_v22 (F := Ideal) D.p = y
  pointwise []

theorem k_high (b : Fin 8) (j : Fin 4096) (h : Fin 4) (d : Fin 64) :
    val_main_v34 (F := Ideal) D.p D.co D.si (ix4 b j h d)
      = val_main_v21 (F := Ideal) D.p (ix4 b j h d) * D.si (ix2 j d) + val_main_v22 (F := Ideal) D.p (ix4 b j h d) * D.co (ix2 j d) := by
  unfold val_main_v34 val_main_v33 val_main_v32 val_main_v31 val_main_v30 val_main_v24 val_main_v23
  generalize val_main_v21 (F := Ideal) D.p = x
  generalize val_main_v22 (F := Ideal) D.p = y
  pointwise []

theorem k_rot (b : Fin 8) (j : Fin 4096) (h : Fin 4) (d : Fin 128) :
    val_main_v35 (F := Ideal) D.p D.co D.si (ix4 b j h d)
      = rot (fun k => val_main_v20 (F := Ideal) D.p (ix4 b j h k)) (cosf fun k => D.co (ix2 j k)) (sinf fun k => D.si (ix2 j k)) d := by
  have e : val_main_v35 (F := Ideal) D.p D.co D.si (ix4 b j h d)
      = if hd : d.val < 64 then val_main_v29 (F := Ideal) D.p D.co D.si (ix4 b j h ⟨d.val, hd⟩)
        else val_main_v34 (F := Ideal) D.p D.co D.si (ix4 b j h ⟨d.val - 64, by omega⟩) := by
    unfold val_main_v35
    generalize val_main_v29 (F := Ideal) D.p D.co D.si = x
    generalize val_main_v34 (F := Ideal) D.p D.co D.si = y
    pointwise []
  rw [← rot_halves, e]
  simp only [k_low, k_high, k_left, k_right]

/-- The reference's queries. -/
theorem q_apply (b : Fin 8) (j : Fin 4096) (h : Fin 16) (d : Fin 128) : val_main_v18 (F := Ideal) D.p D.co D.si (ix4 b j h d) = D.q b h j d := by
  rw [q_rot]
  simp only [q_raw]
  rfl

/-- Its keys of the sample's positions. -/
theorem kSelf_apply (b : Fin 8) (j : Fin 4096) (h : Fin 4) (d : Fin 128) :
    val_main_v35 (F := Ideal) D.p D.co D.si (ix4 b j h d) = D.kSelf b h j d := by
  rw [k_rot]
  simp only [k_raw]
  rfl

/-- Its values of the sample's positions. -/
theorem v_apply (b : Fin 8) (j : Fin 4096) (h : Fin 4) (d : Fin 128) :
    val_main_v37 (F := Ideal) D.p (ix4 b j h d) = D.p (ix2 (Data.row b j) ⟨10752 + (128 * h.val + d.val), by omega⟩) := by
  pointwise [val_main_v37, val_main_v36, val_main_v1, val_main_v0]
  blk_point []

/-- The context's keys. -/
theorem ck_apply (b : Fin 8) (j : Fin 256) (h : Fin 4) (d : Fin 128) : val_main_v57 (F := Ideal) D.ck (ix4 b j h d) = D.ck (ix5 b 0 j h d) := by
  pointwise [val_main_v57, val_main_v56]

/-- The context's values. -/
theorem cv_apply (b : Fin 8) (j : Fin 256) (h : Fin 4) (d : Fin 128) : val_main_v85 (F := Ideal) D.cv (ix4 b j h d) = D.cv (ix5 b 0 j h d) := by
  pointwise [val_main_v85, val_main_v84]

/-- Its gates. -/
theorem z_apply (b : Fin 8) (j : Fin 4096) (h : Fin 16) (d : Fin 128) :
    val_main_v38 (F := Ideal) D.p (ix3 b j (⟨128 * h.val + d.val, by omega⟩ : Fin 2048)) = D.z b h j d := by
  unfold Data.z
  pointwise [val_main_v38, val_main_v1, val_main_v0]
  blk_point []

/-- The scores over the sample's positions. -/
theorem t_apply (b : Fin 8) (h g : Fin 4) (i : Fin 4096) (j : Fin 4096) :
    val_main_v53 (F := Ideal) D.p D.co D.si (ix5 b h g i j)
      = (∑ d, D.kSelf b h j d * D.q b ⟨4 * h.val + g.val, by omega⟩ i d) * Ideal.rsqrt (Ideal.ofBits .f32 0x43000000#32) := by
  simp only [← kSelf_apply, ← q_apply]
  pointwise [val_main_v53, val_main_v52, val_main_v51, val_main_v50, val_main_v49, val_main_v39, val_main_cst]
  blk_point []

/-- The scores over the context. -/
theorem c_apply (b : Fin 8) (h g : Fin 4) (i : Fin 4096) (j : Fin 256) :
    val_main_v62 (F := Ideal) D.p D.ck D.co D.si (ix5 b h g i j)
      = (∑ d, D.ck (ix5 b 0 j h d) * D.q b ⟨4 * h.val + g.val, by omega⟩ i d) * Ideal.rsqrt (Ideal.ofBits .f32 0x43000000#32) := by
  simp only [← ck_apply, ← q_apply]
  pointwise [val_main_v62, val_main_v61, val_main_v60, val_main_v59, val_main_v58, val_main_v39, val_main_cst_1]
  blk_point []

/-- Which positions see which. -/
theorem near_apply (i j : Fin 4096) : val_main_v48 (F := Ideal) (ix2 i j) = if Close i.val j.val then 1#1 else 0#1 := by
  pointwise [val_main_v48, val_main_v47, val_main_v46, val_main_v45, val_main_v44, val_main_v43, val_main_v42, val_main_v41, val_main_v40, val_main_c]
  have key : ∀ e : Fin 8192, IntOp.cmpi .sle (IntOp.absi (IntOp.subi (BitVec.ofNat 32 e.val) 4096#32)) 128#32
      = if 3968 ≤ e.val ∧ e.val ≤ 4224 then 1#1 else 0#1 := by
    decide +kernel
  have e : IntOp.subi (BitVec.ofNat 32 i.val) (BitVec.ofNat 32 j.val) = IntOp.subi (BitVec.ofNat 32 (i.val + 4096 - j.val)) 4096#32 := by
    show BitVec.ofNat 32 i.val - BitVec.ofNat 32 j.val = BitVec.ofNat 32 (i.val + 4096 - j.val) - 4096#32
    apply BitVec.eq_of_toNat_eq
    simp only [BitVec.toNat_sub, BitVec.toNat_ofNat]
    omega
  rw [e, key ⟨i.val + 4096 - j.val, by omega⟩]
  exact if_congr (by dsimp only [Close]; omega) rfl rfl

/-- The scores over the sample's positions, masked. -/
theorem l_apply (b : Fin 8) (h g : Fin 4) (i : Fin 4096) (j : Fin 4096) :
    val_main_v55 (F := Ideal) D.p D.co D.si (ix5 b h g i j)
      = Scalar.select (val_main_v48 (F := Ideal) (ix2 i j)) (val_main_v53 (F := Ideal) D.p D.co D.si (ix5 b h g i j)) (Ideal.ofBits .f32 0xFF800000#32) := by
  pointwise [val_main_v55, val_main_v54, val_main_call0_v0, val_main_call0_v1, val_main_call0_v2, val_main_cst_0]
  rfl

/-- Its scores. -/
theorem s_apply (b : Fin 8) (h g : Fin 4) (i : Fin 4096) (j : Fin 4352) :
    val_main_v63 (F := Ideal) D.p D.ck D.co D.si (ix5 b h g i j)
      = if hj : j.val < 4096 then val_main_v55 (F := Ideal) D.p D.co D.si (ix5 b h g i ⟨j.val, hj⟩)
        else val_main_v62 (F := Ideal) D.p D.ck D.co D.si (ix5 b h g i ⟨j.val - 4096, by omega⟩) := by
  pointwise [val_main_v63]

/-- Its sinks, against the maxima and against the sums. -/
theorem sink_apply (b : Fin 8) (h g : Fin 4) (i : Fin 4096) :
    val_main_v67 (F := Ideal) D.sink (ix5 b h g i (0 : Fin 1)) = D.sink (ix1 (⟨4 * h.val + g.val, by omega⟩ : Fin 16)) := by
  pointwise [val_main_v67, val_main_v64]
  exact congrArg (fun h => D.sink (ix1 h)) (Fin.ext (by dsimp only; omega))

theorem sink_apply' (b : Fin 8) (h g : Fin 4) (i : Fin 4096) :
    val_main_v74 (F := Ideal) D.sink (ix5 b h g i (0 : Fin 1)) = D.sink (ix1 (⟨4 * h.val + g.val, by omega⟩ : Fin 16)) := by
  pointwise [val_main_v74, val_main_v64]
  exact congrArg (fun h => D.sink (ix1 h)) (Fin.ext (by dsimp only; omega))

/-- The means, over the sample's positions and over the context. -/
theorem self_apply (b : Fin 8) (h g : Fin 4) (i : Fin 4096) (d : Fin 128) :
    val_main_v82 (F := Ideal) D.p D.ck D.sink D.co D.si (ix5 b i h g d)
      = ∑ j : Fin 4096, val_main_v37 (F := Ideal) D.p (ix4 b j h d) * val_main_v79 (F := Ideal) D.p D.ck D.sink D.co D.si (ix5 b h g i (⟨j.val, by omega⟩ : Fin 4352)) := by
  pointwise [val_main_v82, val_main_v81, val_main_v80]

theorem past_apply (b : Fin 8) (h g : Fin 4) (i : Fin 4096) (d : Fin 128) :
    val_main_v87 (F := Ideal) D.p D.ck D.cv D.sink D.co D.si (ix5 b i h g d)
      = ∑ j : Fin 256, val_main_v85 (F := Ideal) D.cv (ix4 b j h d) * val_main_v79 (F := Ideal) D.p D.ck D.sink D.co D.si (ix5 b h g i (⟨4096 + j.val, by omega⟩ : Fin 4352)) := by
  pointwise [val_main_v87, val_main_v86, val_main_v83]

/-- Its gated output, by head and position. -/
theorem o_apply (b : Fin 8) (h g : Fin 4) (i : Fin 4096) (d : Fin 128) :
    val_main_v91 (F := Ideal) D.p D.ck D.cv D.sink D.co D.si (ix3 b i (⟨128 * (4 * h.val + g.val) + d.val, by omega⟩ : Fin 2048))
      = (val_main_v82 (F := Ideal) D.p D.ck D.sink D.co D.si (ix5 b i h g d) + val_main_v87 (F := Ideal) D.p D.ck D.cv D.sink D.co D.si (ix5 b i h g d))
        * (D.z b ⟨4 * h.val + g.val, by omega⟩ i d * Ideal.logistic (D.z b ⟨4 * h.val + g.val, by omega⟩ i d)) := by
  rw [← z_apply]
  simp only [Ideal.logistic]
  pointwise [val_main_v91, val_main_v90, val_main_v89, val_main_v88, val_main_call1_v5, val_main_call1_v4, val_main_call1_v3,
    val_main_call1_v2, val_main_call1_v1, val_main_call1_v0, val_main_call1_cst, val_main_call1_cst_0]

/-- Its result, by row and column. -/
theorem y_apply (y : Vec Ideal S36864x2048 .bf16) (r : Fin 36864) (k : Fin 2048) :
    val_main_v95 (F := Ideal) D.p y D.ck D.cv D.sink D.co D.si (ix2 r k)
      = if h : r.val < 4096 then y (ix2 r k)
        else val_main_v91 (F := Ideal) D.p D.ck D.cv D.sink D.co D.si
          (ix3 (⟨(r.val - 4096) / 4096, by omega⟩ : Fin 8) (⟨(r.val - 4096) % 4096, by omega⟩ : Fin 4096) k) := by
  pointwise [val_main_v95, val_main_v94, val_main_v93, val_main_v92]

/-- The maximum of the scores of a query. -/
theorem m_apply (b : Fin 8) (h g : Fin 4) (i : Fin 4096) :
    val_main_v65 (F := Ideal) D.p D.ck D.co D.si (ix4 b h g i)
      = Finset.univ.fold max (Ideal.ofBits .f32 0xFF800000#32) (fun j : Fin 4352 => val_main_v63 (F := Ideal) D.p D.ck D.co D.si (ix5 b h g i j)) := by
  pointwise [val_main_v65, val_main_cst_2]

/-- What is subtracted from the scores. -/
theorem top_apply (b : Fin 8) (h g : Fin 4) (i : Fin 4096) :
    val_main_v68 (F := Ideal) D.p D.ck D.sink D.co D.si (ix5 b h g i (0 : Fin 1))
      = max (val_main_v65 (F := Ideal) D.p D.ck D.co D.si (ix4 b h g i)) (D.sink (ix1 (⟨4 * h.val + g.val, by omega⟩ : Fin 16))) := by
  rw [← sink_apply D b h g i, val_main_v68_apply, val_main_v66_apply]
  have e : idx_main_v66 (ix5 b h g i (0 : Fin 1)) = ix4 b h g i := by funext a; fin_cases a <;> rfl
  rw [e]
  generalize val_main_v65 (F := Ideal) D.p D.ck D.co D.si (ix4 b h g i) = x
  rfl

theorem wide_apply (b : Fin 8) (h g : Fin 4) (i : Fin 4096) (j : Fin 4352) :
    val_main_v69 (F := Ideal) D.p D.ck D.sink D.co D.si (ix5 b h g i j) = val_main_v68 (F := Ideal) D.p D.ck D.sink D.co D.si (ix5 b h g i (0 : Fin 1)) := by
  pointwise [val_main_v69]

/-- The exponential of a score. -/
theorem e_apply (b : Fin 8) (h g : Fin 4) (i : Fin 4096) (j : Fin 4352) :
    val_main_v71 (F := Ideal) D.p D.ck D.sink D.co D.si (ix5 b h g i j)
      = Ideal.exp (val_main_v63 (F := Ideal) D.p D.ck D.co D.si (ix5 b h g i j) - val_main_v68 (F := Ideal) D.p D.ck D.sink D.co D.si (ix5 b h g i (0 : Fin 1))) := by
  rw [← wide_apply D b h g i j]
  pointwise [val_main_v71, val_main_v70]

/-- Their sum. -/
theorem sum_apply (b : Fin 8) (h g : Fin 4) (i : Fin 4096) :
    val_main_v72 (F := Ideal) D.p D.ck D.sink D.co D.si (ix4 b h g i) = ∑ j : Fin 4352, val_main_v71 (F := Ideal) D.p D.ck D.sink D.co D.si (ix5 b h g i j) := by
  rw [val_main_v72_apply]
  pointwise [val_main_cst_3]
  refine Finset.sum_congr rfl fun k _ => congrArg _ ?_
  funext a
  rcases a with ⟨a, ha⟩
  have ha' : a < 5 := ha
  interval_cases a <;> rfl

/-- The sum with the sink's. -/
theorem den_apply (b : Fin 8) (h g : Fin 4) (i : Fin 4096) :
    val_main_v77 (F := Ideal) D.p D.ck D.sink D.co D.si (ix5 b h g i (0 : Fin 1))
      = val_main_v72 (F := Ideal) D.p D.ck D.sink D.co D.si (ix4 b h g i)
        + Ideal.exp (D.sink (ix1 (⟨4 * h.val + g.val, by omega⟩ : Fin 16)) - val_main_v68 (F := Ideal) D.p D.ck D.sink D.co D.si (ix5 b h g i (0 : Fin 1))) := by
  rw [← sink_apply' D b h g i]
  pointwise [val_main_v77, val_main_v76, val_main_v75, val_main_v73]

/-- The weight of a key. -/
theorem w_apply (b : Fin 8) (h g : Fin 4) (i : Fin 4096) (j : Fin 4352) :
    val_main_v79 (F := Ideal) D.p D.ck D.sink D.co D.si (ix5 b h g i j)
      = Ideal.div (val_main_v71 (F := Ideal) D.p D.ck D.sink D.co D.si (ix5 b h g i j)) (val_main_v77 (F := Ideal) D.p D.ck D.sink D.co D.si (ix5 b h g i (0 : Fin 1))) := by
  pointwise [val_main_v79, val_main_v78]

variable {D} (hD : D.Real')
include hD

/-- A score is real where the key is seen, and minus infinity elsewhere. -/
theorem s_eq (b : Fin 8) (h g : Fin 4) (i : Fin 4096) (j : Fin 4352) :
    val_main_v63 (F := Ideal) D.p D.ck D.co D.si (ix5 b h g i j)
      = if j.val < 4096 → Close i.val j.val
        then (((∑ e, D.qR b ⟨4 * h.val + g.val, by omega⟩ i e * D.kR b h j.val e) * (Real.sqrt 128)⁻¹ : ℝ) : EReal) else ⊥ := by
  have key : ∀ x : Fin 128 → EReal, (∀ d, x d = (D.kR b h j.val d : EReal)) →
      (∑ d, x d * D.q b ⟨4 * h.val + g.val, by omega⟩ i d) * Ideal.rsqrt (Ideal.ofBits .f32 0x43000000#32)
        = (((∑ e, D.qR b ⟨4 * h.val + g.val, by omega⟩ i e * D.kR b h j.val e) * (Real.sqrt 128)⁻¹ : ℝ) : EReal) := fun x hx => by
    rw [rsqrt_128, EReal.coe_mul, ← coe_sum]
    refine congrArg (· * _) (Finset.sum_congr rfl fun d _ => ?_)
    rw [hx, Data.q_eq hD, mul_comm, ← EReal.coe_mul]
  rw [s_apply]
  by_cases hj : j.val < 4096
  · rw [dif_pos hj, l_apply, near_apply, t_apply, ofBits_neg_inf, key _ fun d => Data.kSelf_eq hD b h ⟨j.val, hj⟩ d]
    simp only [hj, true_implies]
    by_cases hc : Close i.val j.val
    · rw [if_pos hc, if_pos hc]
      rfl
    · rw [if_neg hc, if_neg hc]
      rfl
  · rw [dif_neg hj, if_pos fun h => absurd h hj, c_apply]
    refine key _ fun d => ?_
    rw [Data.kCtx_eq hD]
    exact congrArg (fun n => (D.kR b h n d : EReal)) (by dsimp only; omega)

/-- The gated mean of a head. -/
theorem out_eq (b : Fin 8) (h g : Fin 4) (i : Fin 4096) (d : Fin 128) :
    val_main_v91 (F := Ideal) D.p D.ck D.cv D.sink D.co D.si (ix3 b i (⟨128 * (4 * h.val + g.val) + d.val, by omega⟩ : Fin 2048))
      = D.out b ⟨4 * h.val + g.val, by omega⟩ i d := by
  have hg : Data.group ⟨4 * h.val + g.val, by omega⟩ = h := Fin.ext (by dsimp only; omega)
  rw [o_apply, self_apply, past_apply, Data.out, hg]
  refine congrArg (· * _) (weigh i.val _ _ (D.sinkR ⟨4 * h.val + g.val, by omega⟩)
    (fun j => val_main_v63 (F := Ideal) D.p D.ck D.co D.si (ix5 b h g i j))
    (fun j => val_main_v79 (F := Ideal) D.p D.ck D.sink D.co D.si (ix5 b h g i j)) _ _
    (val_main_v68 (F := Ideal) D.p D.ck D.sink D.co D.si (ix5 b h g i (0 : Fin 1))) (s_eq hD b h g i)
    (fun j => (v_apply D b j h d).trans (Data.vSelf_eq hD b h j d)) (fun j => (cv_apply D b j h d).trans (Data.vCtx_eq hD b h j d)) ?_ fun j => ?_)
  · rw [top_apply, m_apply, ofBits_neg_inf, Data.sink_eq hD]
  · rw [w_apply, den_apply, sum_apply, e_apply, Data.sink_eq hD, Finset.sum_congr rfl fun x _ => e_apply D b h g i x]

/-- The reference's result. -/
theorem result (y : Vec Ideal S36864x2048 .bf16) :
    val_main_v95 (F := Ideal) D.p y D.ck D.cv D.sink D.co D.si = D.whole y := by
  funext i
  obtain ⟨r, k, rfl⟩ : ∃ (r : Fin 36864) (k : Fin 2048), i = ix2 r k := ⟨i 0, i 1, by funext e; fin_cases e <;> rfl⟩
  rw [y_apply]
  split_ifs with hr
  · exact (D.whole_low y _ hr).symm
  · have := out_eq hD ⟨(r.val - 4096) / 4096, by omega⟩ ⟨k.val / 512, by omega⟩ ⟨k.val / 128 % 4, by omega⟩ ⟨(r.val - 4096) % 4096, by omega⟩
      ⟨k.val % 128, by omega⟩
    rw [show (⟨128 * (4 * (k.val / 512) + k.val / 128 % 4) + k.val % 128, by omega⟩ : Fin 2048) = k from Fin.ext (by dsimp only; omega)] at this
    rw [this]
    unfold Data.whole
    rw [dif_neg (by show ¬r.val < 4096; exact hr)]
    exact congrArg (fun h => D.out _ h _ _) (Fin.ext (by show 4 * (k.val / 512) + k.val / 128 % 4 = k.val / 128; omega))

end Cert.LatWinRefIdeal.Read

end
-- ==== Proof.LatValue.lean ====
/- The samples' windowed attention: the kernel's array and the reference's are the same gated mean, given that what it reads
   is finite. -/
module

public import proofs.«01_k».proof.Proof.LatArray
public import proofs.«01_k».proof.Proof.LatRef
public import proofs.«01_k».proof.Proof.Finite
public import proofs.«01_k».proof.Proof.Gen.Pre_finite_lat
public import proofs.«01_k».proof.Proof.Gen.LatWinRefIdeal.Run
public import proofs.«01_k».proof.Defs

@[expose] public section

set_option maxRecDepth 16384

noncomputable section

namespace Cert.LatWinIdeal.Block

open Cert.LatWinIdeal Cert.LatWinIdeal.Gen Idealize.ShloMosaic Idealize.ShloMosaic.TcCoe Idealize.SL.Sem
open Cert.Head Cert.Finite

/-- The precondition, element by element. -/
theorem real (m : (ℓ : Loc nD τ sig) → Buf (Elt Ideal) ℓ) (h : Cert.Pre_LatWinIdeal_finite_lat m) (c : Dev nD) : (data m c).Real' := by
  have h := congrFun (h c) (Shape.Idx.first Cert.Pre_finite_lat.Gen.h_S_)
  dsimp only [Cert.Pre_finite_lat.fn, Cert.Pre_finite_lat.fn_part1] at h
  obtain ⟨h, hsi⟩ := both h
  obtain ⟨h, hco⟩ := both h
  obtain ⟨h, hs⟩ := both h
  obtain ⟨h, hcv⟩ := both h
  obtain ⟨hp, hck⟩ := both h
  refine ⟨fun b j k => ?_, fun b j h d => ?_, fun b j h d => ?_, fun d => fin_of_all _ _ _ _ _ hs _,
    fun j d => fin_of_all _ _ _ _ _ hco _, fun j d => fin_of_all _ _ _ _ _ hsi _⟩
  · have := fin_of_all _ _ _ _ _ hp (ix2 (⟨4096 * b.val + j.val, by omega⟩ : Fin 32768) k)
    revert this
    pointwise []
    exact id
  · have := fin_of_all _ _ _ _ _ hck (ix4 b j h d)
    revert this
    pointwise []
    exact id
  · have := fin_of_all _ _ _ _ _ hcv (ix4 b j h d)
    revert this
    pointwise []
    exact id

theorem algebraic : Cert.algebraic_LatWinIdeal_LatWinRefIdeal_pre_finite_lat := by
  intro m g m' g' hpre hagree
  refine ⟨fun c => (data m c).whole (m ((c.tc : Thread nD τ).loc main_arg1)), ?_, ?_⟩
  · refine (θ_run Cert.LatWinIdeal.defs _ _).mono (fun r h c => ?_) (Cert.LatWinIdeal.Value.run_blocks m g)
    exact ⟨(h c).1.trans (final m c (real m hpre c)), (h c).2⟩
  · refine (θ_run Cert.LatWinRefIdeal.defs _ _).mono (fun r h c => ?_) (Cert.LatWinRefIdeal.Value.run (F := Ideal) m' g')
    refine ⟨(h c).1.trans ?_, (h c).2⟩
    obtain ⟨h0, h1, h2, h3, h4, h5, h6⟩ := hagree c
    have e {r : Ref Cert.LatWinRefIdeal.sig .tc} {y} (h : m' ((c.tc : Thread Cert.LatWinRefIdeal.nD Cert.LatWinRefIdeal.τ).loc r) = y) :
        StableHlo.launchContents m' c (Proc.devRef .tc r) = y := h
    rw [Cert.LatWinRefIdeal.Read.val_main_v95_eq, e h0, e h1, e h2, e h3, e h4, e h5, e h6]
    exact Cert.LatWinRefIdeal.Read.result (real m hpre c) _

end Cert.LatWinIdeal.Block

end
-- ==== Proof.lean ====
/- The assembly of `Cert.Claim`: the frames of every program, the sanctioned constants, and the value claims
   (the attentions' from `Proof/Attention.lean`, `Proof/GlobValue.lean`, `Proof/WinValue.lean` and `Proof/LatValue.lean`, the other calls' from `Proof/Calls.lean` and
   `Proof/Further.lean`). -/
module

public import proofs.«01_k».proof.Defs
public import proofs.«01_k».proof.Proof.Calls
public import proofs.«01_k».proof.Proof.Further
public import proofs.«01_k».proof.Proof.Gen.Kernel.Frame
public import proofs.«01_k».proof.Proof.Gen.KernelIdeal.Frame
public import proofs.«01_k».proof.Proof.Gen.KernelIdeal.Value
public import proofs.«01_k».proof.Proof.Gen.Reference.Run
public import proofs.«01_k».proof.Proof.Gen.ReferenceIdeal.Run
public import proofs.«01_k».proof.Proof.Gen.Pre_finite
public import proofs.«01_k».proof.Proof.Gen.Pre_finite_glob
public import proofs.«01_k».proof.Proof.Gen.Pre_finite_win
public import proofs.«01_k».proof.Proof.Gen.Pre_finite_lat
public import proofs.«01_k».proof.Proof.Attention
public import proofs.«01_k».proof.Proof.GlobValue
public import proofs.«01_k».proof.Proof.WinValue
public import proofs.«01_k».proof.Proof.LatValue
public import proofs.«01_k».proof.Proof.Gen.ReferenceIdeal.Read
public import proofs.«01_k».proof.Proof.Gen.InProjRefIdeal.Run
public import proofs.«01_k».proof.Proof.Gen.MergeRefIdeal.Run
public import proofs.«01_k».proof.Proof.Gen.OutProjRefIdeal.Run
public import proofs.«01_k».proof.Proof.Gen.FinalPromptRefIdeal.Run
public import proofs.«01_k».proof.Proof.Gen.FinalSampleRefIdeal.Run
public import proofs.«01_k».proof.Proof.Gen.Prep.Frame
public import proofs.«01_k».proof.Proof.Gen.PrepIdeal.Frame
public import proofs.«01_k».proof.Proof.Gen.PrepIdeal.Value
public import proofs.«01_k».proof.Proof.Gen.PrepRefIdeal.Run
public import proofs.«01_k».proof.Proof.Gen.PrepRefIdeal.Read
public import proofs.«01_k».proof.Proof.Gen.InGates.Frame
public import proofs.«01_k».proof.Proof.Gen.InGatesIdeal.Frame
public import proofs.«01_k».proof.Proof.Gen.InGatesIdeal.Value
public import proofs.«01_k».proof.Proof.Gen.InGatesRefIdeal.Run
public import proofs.«01_k».proof.Proof.Gen.InGatesRefIdeal.Read
public import proofs.«01_k».proof.Proof.Gen.Modulation.Frame
public import proofs.«01_k».proof.Proof.Gen.ModulationIdeal.Frame
public import proofs.«01_k».proof.Proof.Gen.ModulationIdeal.Value
public import proofs.«01_k».proof.Proof.Gen.ModulationRefIdeal.Run
public import proofs.«01_k».proof.Proof.Gen.ModulationRefIdeal.Read
public import proofs.«01_k».proof.Proof.Gen.CtxGlob.Frame
public import proofs.«01_k».proof.Proof.Gen.CtxGlobIdeal.Frame
public import proofs.«01_k».proof.Proof.Gen.CtxGlobRefIdeal.Run
public import proofs.«01_k».proof.Proof.Gen.CtxGlobRefIdeal.Read
public import proofs.«01_k».proof.Proof.Gen.CtxWin.Frame
public import proofs.«01_k».proof.Proof.Gen.CtxWinIdeal.Frame
public import proofs.«01_k».proof.Proof.Gen.CtxWinRefIdeal.Run
public import proofs.«01_k».proof.Proof.Gen.CtxWinRefIdeal.Read
public import proofs.«01_k».proof.Proof.Gen.LatWin.Frame
public import proofs.«01_k».proof.Proof.Gen.LatWinIdeal.Frame
public import proofs.«01_k».proof.Proof.Gen.LatWinIdeal.Value
public import proofs.«01_k».proof.Proof.Gen.LatWinRefIdeal.Run
public import proofs.«01_k».proof.Proof.Gen.LatWinRefIdeal.Read
public import proofs.«01_k».proof.Proof.Gen.InProjRefIdeal.Read
public import Idealize.ShloMosaic.Adequacy
public import Idealize.ShloMosaic.Init

@[expose] public section

noncomputable section

namespace Cert.Proof

open Idealize.ShloMosaic Idealize.SL.Sem

/-- The host reference of the attention leaves its arguments alone. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Likewise the reference as written. -/
theorem frame_Reference : Cert.quiescent_Reference := fun m ρ _ =>
  (θ_run Cert.Reference.defs _ _).mono (fun r h => ⟨fun c => (h c).2, sem_eq_zero_of_no_sems (by decide) r.2⟩)
    (Cert.Reference.Value.run m ρ)

theorem claim : Cert.Claim :=
  ⟨Cert.Kernel.Gen.facts, Cert.KernelIdeal.Gen.facts, Cert.ReferenceIdeal.Gen.facts, Cert.Reference.Gen.facts,
    Cert.InProj.Gen.facts, Cert.InProjIdeal.Gen.facts, Cert.InProjRefIdeal.Gen.facts, Cert.Merge.Gen.facts,
    Cert.MergeIdeal.Gen.facts, Cert.MergeRefIdeal.Gen.facts, Cert.OutProj.Gen.facts, Cert.OutProjIdeal.Gen.facts,
    Cert.OutProjRefIdeal.Gen.facts, Cert.FinalPrompt.Gen.facts, Cert.FinalPromptIdeal.Gen.facts, Cert.FinalPromptRefIdeal.Gen.facts,
    Cert.FinalSample.Gen.facts, Cert.FinalSampleIdeal.Gen.facts, Cert.FinalSampleRefIdeal.Gen.facts, Cert.Prep.Gen.facts, Cert.PrepIdeal.Gen.facts, Cert.PrepRefIdeal.Gen.facts, Cert.InGates.Gen.facts, Cert.InGatesIdeal.Gen.facts, Cert.InGatesRefIdeal.Gen.facts, Cert.Modulation.Gen.facts, Cert.ModulationIdeal.Gen.facts, Cert.ModulationRefIdeal.Gen.facts, Cert.CtxGlob.Gen.facts, Cert.CtxGlobIdeal.Gen.facts, Cert.CtxGlobRefIdeal.Gen.facts, Cert.CtxWin.Gen.facts, Cert.CtxWinIdeal.Gen.facts, Cert.CtxWinRefIdeal.Gen.facts, Cert.LatWin.Gen.facts, Cert.LatWinIdeal.Gen.facts, Cert.LatWinRefIdeal.Gen.facts, Cert.Pre_finite.Gen.facts, Cert.Pre_finite_glob.Gen.facts, Cert.Pre_finite_win.Gen.facts, Cert.Pre_finite_lat.Gen.facts,
    fun m ρ _ => Cert.Kernel.Gen.frame m ρ,
    fun m ρ _ => Cert.KernelIdeal.Gen.frame m ρ,
    fun m ρ _ => Cert.KernelIdeal.Gen.frame m ρ,
    frame_ReferenceIdeal,
    fun m ρ _ => frame_ReferenceIdeal m ρ trivial,
    frame_Reference,
    Cert.Calls.frame_InProj,
    Cert.Calls.frame_InProjIdeal,
    Cert.Calls.frame_InProjRefIdeal,
    Cert.Calls.frame_Merge,
    Cert.Calls.frame_MergeIdeal,
    Cert.Calls.frame_MergeRefIdeal,
    Cert.Calls.frame_OutProj,
    Cert.Calls.frame_OutProjIdeal,
    Cert.Calls.frame_OutProjRefIdeal,
    Cert.Calls.frame_FinalPrompt,
    Cert.Calls.frame_FinalPromptIdeal,
    Cert.Calls.frame_FinalPromptRefIdeal,
    Cert.Calls.frame_FinalSample,
    Cert.Calls.frame_FinalSampleIdeal,
    Cert.Calls.frame_FinalSampleRefIdeal,
    Cert.Further.frame_Prep,
    Cert.Further.frame_PrepIdeal,
    Cert.Further.frame_PrepRefIdeal,
    Cert.Further.frame_InGates,
    Cert.Further.frame_InGatesIdeal,
    Cert.Further.frame_InGatesRefIdeal,
    Cert.Further.frame_Modulation,
    Cert.Further.frame_ModulationIdeal,
    Cert.Further.frame_ModulationRefIdeal,
    Cert.Further.frame_CtxGlob,
    Cert.Further.frame_CtxGlobIdeal,
    fun m ρ _ => Cert.CtxGlobIdeal.Gen.frame m ρ,
    Cert.Further.frame_CtxGlobRefIdeal,
    fun m ρ _ => Cert.Further.frame_CtxGlobRefIdeal m ρ trivial,
    Cert.Further.frame_CtxWin,
    Cert.Further.frame_CtxWinIdeal,
    fun m ρ _ => Cert.CtxWinIdeal.Gen.frame m ρ,
    Cert.Further.frame_CtxWinRefIdeal,
    fun m ρ _ => Cert.Further.frame_CtxWinRefIdeal m ρ trivial,
    Cert.Further.frame_LatWin,
    Cert.Further.frame_LatWinIdeal,
    fun m ρ _ => Cert.LatWinIdeal.Gen.frame m ρ,
    Cert.Further.frame_LatWinRefIdeal,
    fun m ρ _ => Cert.Further.frame_LatWinRefIdeal m ρ trivial,
    IdealRules.named_const.statement Cert.KernelIdeal.κ "qscale" .f32 0x3E0293EE#32 ((((Real.sqrt 128) * (Real.log 2))⁻¹ : ℝ) : EReal) rfl,
    trivial,
    Cert.Attention.algebraic,
    trivial,
    Cert.Calls.algebraic_InProj,
    trivial,
    Cert.Calls.algebraic_Merge,
    trivial,
    Cert.Calls.algebraic_OutProj,
    trivial,
    Cert.Calls.algebraic_FinalPrompt,
    trivial,
    Cert.Calls.algebraic_FinalSample,
    trivial,
    Cert.Further.algebraic_Prep,
    trivial,
    Cert.Further.algebraic_InGates,
    trivial,
    Cert.Further.algebraic_Modulation,
    IdealRules.named_const.statement Cert.CtxGlobIdeal.κ "qscale" .f32 0x3E0293EE#32 ((((Real.sqrt 128) * (Real.log 2))⁻¹ : ℝ) : EReal) rfl,
    Cert.CtxGlobIdeal.Block.algebraic,
    ⟨IdealRules.named_const.statement Cert.CtxWinIdeal.κ "qscale" .f32 0x3E0293EE#32 ((((Real.sqrt 128) * (Real.log 2))⁻¹ : ℝ) : EReal) rfl,
      IdealRules.named_const.statement Cert.CtxWinIdeal.κ "log2e" .f32 0x3FB8AA3B#32 (((Real.log 2)⁻¹ : ℝ) : EReal) rfl⟩,
    Cert.CtxWinIdeal.Block.algebraic,
    ⟨IdealRules.named_const.statement Cert.LatWinIdeal.κ "qscale" .f32 0x3E0293EE#32 ((((Real.sqrt 128) * (Real.log 2))⁻¹ : ℝ) : EReal) rfl,
      IdealRules.named_const.statement Cert.LatWinIdeal.κ "log2e" .f32 0x3FB8AA3B#32 (((Real.log 2)⁻¹ : ℝ) : EReal) rfl,
      IdealRules.named_const.statement Cert.LatWinIdeal.κ "mask" .f32 0xF149F2CA#32 ⊥ rfl⟩,
    Cert.LatWinIdeal.Block.algebraic⟩

end Cert.Proof

end
